-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojIdeal_finite_in [hPre_finite_in : Cert.Pre_finite_in.Facts] (m : (ℓ : Loc Cert.InprojIdeal.nD Cert.InprojIdeal.τ Cert.InprojIdeal.sig) → Buf (Elt Ideal) ℓ) : Prop :=
  ∀ c : Dev Cert.InprojIdeal.nD,
    (Cert.Pre_finite_in.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4))).1 = (fun _ => 1#1)
    ∧ (Cert.Pre_finite_in.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4))).2.1 = (fun _ => 1#1)
    ∧ (Cert.Pre_finite_in.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4))).2.2.1 = (fun _ => 1#1)
    ∧ (Cert.Pre_finite_in.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4))).2.2.2.1 = (fun _ => 1#1)
    ∧ (Cert.Pre_finite_in.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4))).2.2.2.2 = (fun _ => 1#1)

def Pre_InprojReferenceIdeal (m : (ℓ : Loc Cert.InprojReferenceIdeal.nD Cert.InprojReferenceIdeal.τ Cert.InprojReferenceIdeal.sig) → Buf (Elt Ideal) ℓ) : Prop :=
  True

def Pre_InprojReferenceIdeal_finite_in [hPre_finite_in : Cert.Pre_finite_in.Facts] (m : (ℓ : Loc Cert.InprojReferenceIdeal.nD Cert.InprojReferenceIdeal.τ Cert.InprojReferenceIdeal.sig) → Buf (Elt Ideal) ℓ) : Prop :=
  ∀ c : Dev Cert.InprojReferenceIdeal.nD,
    (Cert.Pre_finite_in.fn (F := Ideal) (m ((c.tc : Thread Cert.InprojReferenceIdeal.nD Cert.InprojReferenceIdeal.τ).loc Cert.InprojReferenceIdeal.main_arg0)) (m ((c.tc : Thread Cert.InprojReferenceIdeal.nD Cert.InprojReferenceIdeal.τ).loc Cert.InprojReferenceIdeal.main_arg1)) (m ((c.tc : Thread Cert.InprojReferenceIdeal.nD Cert.InprojReferenceIdeal.τ).loc Cert.InprojReferenceIdeal.main_arg2)) (m ((c.tc : Thread Cert.InprojReferenceIdeal.nD Cert.InprojReferenceIdeal.τ).loc Cert.InprojReferenceIdeal.main_arg3)) (m ((c.tc : Thread Cert.InprojReferenceIdeal.nD Cert.InprojReferenceIdeal.τ).loc Cert.InprojReferenceIdeal.main_arg4))).1 = (fun _ => 1#1)
    ∧ (Cert.Pre_finite_in.fn (F := Ideal) (m ((c.tc : Thread Cert.InprojReferenceIdeal.nD Cert.InprojReferenceIdeal.τ).loc Cert.InprojReferenceIdeal.main_arg0)) (m ((c.tc : Thread Cert.InprojReferenceIdeal.nD Cert.InprojReferenceIdeal.τ).loc Cert.InprojReferenceIdeal.main_arg1)) (m ((c.tc : Thread Cert.InprojReferenceIdeal.nD Cert.InprojReferenceIdeal.τ).loc Cert.InprojReferenceIdeal.main_arg2)) (m ((c.tc : Thread Cert.InprojReferenceIdeal.nD Cert.InprojReferenceIdeal.τ).loc Cert.InprojReferenceIdeal.main_arg3)) (m ((c.tc : Thread Cert.InprojReferenceIdeal.nD Cert.InprojReferenceIdeal.τ).loc Cert.InprojReferenceIdeal.main_arg4))).2.1 = (fun _ => 1#1)
    ∧ (Cert.Pre_finite_in.fn (F := Ideal) (m ((c.tc : Thread Cert.InprojReferenceIdeal.nD Cert.InprojReferenceIdeal.τ).loc Cert.InprojReferenceIdeal.main_arg0)) (m ((c.tc : Thread Cert.InprojReferenceIdeal.nD Cert.InprojReferenceIdeal.τ).loc Cert.InprojReferenceIdeal.main_arg1)) (m ((c.tc : Thread Cert.InprojReferenceIdeal.nD Cert.InprojReferenceIdeal.τ).loc Cert.InprojReferenceIdeal.main_arg2)) (m ((c.tc : Thread Cert.InprojReferenceIdeal.nD Cert.InprojReferenceIdeal.τ).loc Cert.InprojReferenceIdeal.main_arg3)) (m ((c.tc : Thread Cert.InprojReferenceIdeal.nD Cert.InprojReferenceIdeal.τ).loc Cert.InprojReferenceIdeal.main_arg4))).2.2.1 = (fun _ => 1#1)
    ∧ (Cert.Pre_finite_in.fn (F := Ideal) (m ((c.tc : Thread Cert.InprojReferenceIdeal.nD Cert.InprojReferenceIdeal.τ).loc Cert.InprojReferenceIdeal.main_arg0)) (m ((c.tc : Thread Cert.InprojReferenceIdeal.nD Cert.InprojReferenceIdeal.τ).loc Cert.InprojReferenceIdeal.main_arg1)) (m ((c.tc : Thread Cert.InprojReferenceIdeal.nD Cert.InprojReferenceIdeal.τ).loc Cert.InprojReferenceIdeal.main_arg2)) (m ((c.tc : Thread Cert.InprojReferenceIdeal.nD Cert.InprojReferenceIdeal.τ).loc Cert.InprojReferenceIdeal.main_arg3)) (m ((c.tc : Thread Cert.InprojReferenceIdeal.nD Cert.InprojReferenceIdeal.τ).loc Cert.InprojReferenceIdeal.main_arg4))).2.2.2.1 = (fun _ => 1#1)
    ∧ (Cert.Pre_finite_in.fn (F := Ideal) (m ((c.tc : Thread Cert.InprojReferenceIdeal.nD Cert.InprojReferenceIdeal.τ).loc Cert.InprojReferenceIdeal.main_arg0)) (m ((c.tc : Thread Cert.InprojReferenceIdeal.nD Cert.InprojReferenceIdeal.τ).loc Cert.InprojReferenceIdeal.main_arg1)) (m ((c.tc : Thread Cert.InprojReferenceIdeal.nD Cert.InprojReferenceIdeal.τ).loc Cert.InprojReferenceIdeal.main_arg2)) (m ((c.tc : Thread Cert.InprojReferenceIdeal.nD Cert.InprojReferenceIdeal.τ).loc Cert.InprojReferenceIdeal.main_arg3)) (m ((c.tc : Thread Cert.InprojReferenceIdeal.nD Cert.InprojReferenceIdeal.τ).loc Cert.InprojReferenceIdeal.main_arg4))).2.2.2.2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_FfnSample (m : (ℓ : Loc Cert.FfnSample.nD Cert.FfnSample.τ Cert.FfnSample.sig) → Buf (Elt Bits) ℓ) : Prop :=
  True

def Pre_FfnSampleIdeal (m : (ℓ : Loc Cert.FfnSampleIdeal.nD Cert.FfnSampleIdeal.τ Cert.FfnSampleIdeal.sig) → Buf (Elt Ideal) ℓ) : Prop :=
  True

def Pre_FfnSampleReferenceIdeal (m : (ℓ : Loc Cert.FfnSampleReferenceIdeal.nD Cert.FfnSampleReferenceIdeal.τ Cert.FfnSampleReferenceIdeal.sig) → Buf (Elt Ideal) ℓ) : Prop :=
  True

def Pre_InprojSample (m : (ℓ : Loc Cert.InprojSample.nD Cert.InprojSample.τ Cert.InprojSample.sig) → Buf (Elt Bits) ℓ) : Prop :=
  True

def Pre_InprojSampleIdeal (m : (ℓ : Loc Cert.InprojSampleIdeal.nD Cert.InprojSampleIdeal.τ Cert.InprojSampleIdeal.sig) → Buf (Elt Ideal) ℓ) : Prop :=
  True

def Pre_InprojSampleIdeal_finite_in_sample [hPre_finite_in_sample : Cert.Pre_finite_in_sample.Facts] (m : (ℓ : Loc Cert.InprojSampleIdeal.nD Cert.InprojSampleIdeal.τ Cert.InprojSampleIdeal.sig) → Buf (Elt Ideal) ℓ) : Prop :=
  ∀ c : Dev Cert.InprojSampleIdeal.nD,
    (Cert.Pre_finite_in_sample.fn (F := Ideal) (m ((c.tc : Thread Cert.InprojSampleIdeal.nD Cert.InprojSampleIdeal.τ).loc Cert.InprojSampleIdeal.main_arg0)) (m ((c.tc : Thread Cert.InprojSampleIdeal.nD Cert.InprojSampleIdeal.τ).loc Cert.InprojSampleIdeal.main_arg1)) (m ((c.tc : Thread Cert.InprojSampleIdeal.nD Cert.InprojSampleIdeal.τ).loc Cert.InprojSampleIdeal.main_arg2)) (m ((c.tc : Thread Cert.InprojSampleIdeal.nD Cert.InprojSampleIdeal.τ).loc Cert.InprojSampleIdeal.main_arg3)) (m ((c.tc : Thread Cert.InprojSampleIdeal.nD Cert.InprojSampleIdeal.τ).loc Cert.InprojSampleIdeal.main_arg4))).1 = (fun _ => 1#1)
    ∧ (Cert.Pre_finite_in_sample.fn (F := Ideal) (m ((c.tc : Thread Cert.InprojSampleIdeal.nD Cert.InprojSampleIdeal.τ).loc Cert.InprojSampleIdeal.main_arg0)) (m ((c.tc : Thread Cert.InprojSampleIdeal.nD Cert.InprojSampleIdeal.τ).loc Cert.InprojSampleIdeal.main_arg1)) (m ((c.tc : Thread Cert.InprojSampleIdeal.nD Cert.InprojSampleIdeal.τ).loc Cert.InprojSampleIdeal.main_arg2)) (m ((c.tc : Thread Cert.InprojSampleIdeal.nD Cert.InprojSampleIdeal.τ).loc Cert.InprojSampleIdeal.main_arg3)) (m ((c.tc : Thread Cert.InprojSampleIdeal.nD Cert.InprojSampleIdeal.τ).loc Cert.InprojSampleIdeal.main_arg4))).2.1 = (fun _ => 1#1)
    ∧ (Cert.Pre_finite_in_sample.fn (F := Ideal) (m ((c.tc : Thread Cert.InprojSampleIdeal.nD Cert.InprojSampleIdeal.τ).loc Cert.InprojSampleIdeal.main_arg0)) (m ((c.tc : Thread Cert.InprojSampleIdeal.nD Cert.InprojSampleIdeal.τ).loc Cert.InprojSampleIdeal.main_arg1)) (m ((c.tc : Thread Cert.InprojSampleIdeal.nD Cert.InprojSampleIdeal.τ).loc Cert.InprojSampleIdeal.main_arg2)) (m ((c.tc : Thread Cert.InprojSampleIdeal.nD Cert.InprojSampleIdeal.τ).loc Cert.InprojSampleIdeal.main_arg3)) (m ((c.tc : Thread Cert.InprojSampleIdeal.nD Cert.InprojSampleIdeal.τ).loc Cert.InprojSampleIdeal.main_arg4))).2.2.1 = (fun _ => 1#1)
    ∧ (Cert.Pre_finite_in_sample.fn (F := Ideal) (m ((c.tc : Thread Cert.InprojSampleIdeal.nD Cert.InprojSampleIdeal.τ).loc Cert.InprojSampleIdeal.main_arg0)) (m ((c.tc : Thread Cert.InprojSampleIdeal.nD Cert.InprojSampleIdeal.τ).loc Cert.InprojSampleIdeal.main_arg1)) (m ((c.tc : Thread Cert.InprojSampleIdeal.nD Cert.InprojSampleIdeal.τ).loc Cert.InprojSampleIdeal.main_arg2)) (m ((c.tc : Thread Cert.InprojSampleIdeal.nD Cert.InprojSampleIdeal.τ).loc Cert.InprojSampleIdeal.main_arg3)) (m ((c.tc : Thread Cert.InprojSampleIdeal.nD Cert.InprojSampleIdeal.τ).loc Cert.InprojSampleIdeal.main_arg4))).2.2.2.1 = (fun _ => 1#1)
    ∧ (Cert.Pre_finite_in_sample.fn (F := Ideal) (m ((c.tc : Thread Cert.InprojSampleIdeal.nD Cert.InprojSampleIdeal.τ).loc Cert.InprojSampleIdeal.main_arg0)) (m ((c.tc : Thread Cert.InprojSampleIdeal.nD Cert.InprojSampleIdeal.τ).loc Cert.InprojSampleIdeal.main_arg1)) (m ((c.tc : Thread Cert.InprojSampleIdeal.nD Cert.InprojSampleIdeal.τ).loc Cert.InprojSampleIdeal.main_arg2)) (m ((c.tc : Thread Cert.InprojSampleIdeal.nD Cert.InprojSampleIdeal.τ).loc Cert.InprojSampleIdeal.main_arg3)) (m ((c.tc : Thread Cert.InprojSampleIdeal.nD Cert.InprojSampleIdeal.τ).loc Cert.InprojSampleIdeal.main_arg4))).2.2.2.2 = (fun _ => 1#1)

def Pre_InprojSampleReferenceIdeal (m : (ℓ : Loc Cert.InprojSampleReferenceIdeal.nD Cert.InprojSampleReferenceIdeal.τ Cert.InprojSampleReferenceIdeal.sig) → Buf (Elt Ideal) ℓ) : Prop :=
  True

def Pre_InprojSampleReferenceIdeal_finite_in_sample [hPre_finite_in_sample : Cert.Pre_finite_in_sample.Facts] (m : (ℓ : Loc Cert.InprojSampleReferenceIdeal.nD Cert.InprojSampleReferenceIdeal.τ Cert.InprojSampleReferenceIdeal.sig) → Buf (Elt Ideal) ℓ) : Prop :=
  ∀ c : Dev Cert.InprojSampleReferenceIdeal.nD,
    (Cert.Pre_finite_in_sample.fn (F := Ideal) (m ((c.tc : Thread Cert.InprojSampleReferenceIdeal.nD Cert.InprojSampleReferenceIdeal.τ).loc Cert.InprojSampleReferenceIdeal.main_arg0)) (m ((c.tc : Thread Cert.InprojSampleReferenceIdeal.nD Cert.InprojSampleReferenceIdeal.τ).loc Cert.InprojSampleReferenceIdeal.main_arg1)) (m ((c.tc : Thread Cert.InprojSampleReferenceIdeal.nD Cert.InprojSampleReferenceIdeal.τ).loc Cert.InprojSampleReferenceIdeal.main_arg2)) (m ((c.tc : Thread Cert.InprojSampleReferenceIdeal.nD Cert.InprojSampleReferenceIdeal.τ).loc Cert.InprojSampleReferenceIdeal.main_arg3)) (m ((c.tc : Thread Cert.InprojSampleReferenceIdeal.nD Cert.InprojSampleReferenceIdeal.τ).loc Cert.InprojSampleReferenceIdeal.main_arg4))).1 = (fun _ => 1#1)
    ∧ (Cert.Pre_finite_in_sample.fn (F := Ideal) (m ((c.tc : Thread Cert.InprojSampleReferenceIdeal.nD Cert.InprojSampleReferenceIdeal.τ).loc Cert.InprojSampleReferenceIdeal.main_arg0)) (m ((c.tc : Thread Cert.InprojSampleReferenceIdeal.nD Cert.InprojSampleReferenceIdeal.τ).loc Cert.InprojSampleReferenceIdeal.main_arg1)) (m ((c.tc : Thread Cert.InprojSampleReferenceIdeal.nD Cert.InprojSampleReferenceIdeal.τ).loc Cert.InprojSampleReferenceIdeal.main_arg2)) (m ((c.tc : Thread Cert.InprojSampleReferenceIdeal.nD Cert.InprojSampleReferenceIdeal.τ).loc Cert.InprojSampleReferenceIdeal.main_arg3)) (m ((c.tc : Thread Cert.InprojSampleReferenceIdeal.nD Cert.InprojSampleReferenceIdeal.τ).loc Cert.InprojSampleReferenceIdeal.main_arg4))).2.1 = (fun _ => 1#1)
    ∧ (Cert.Pre_finite_in_sample.fn (F := Ideal) (m ((c.tc : Thread Cert.InprojSampleReferenceIdeal.nD Cert.InprojSampleReferenceIdeal.τ).loc Cert.InprojSampleReferenceIdeal.main_arg0)) (m ((c.tc : Thread Cert.InprojSampleReferenceIdeal.nD Cert.InprojSampleReferenceIdeal.τ).loc Cert.InprojSampleReferenceIdeal.main_arg1)) (m ((c.tc : Thread Cert.InprojSampleReferenceIdeal.nD Cert.InprojSampleReferenceIdeal.τ).loc Cert.InprojSampleReferenceIdeal.main_arg2)) (m ((c.tc : Thread Cert.InprojSampleReferenceIdeal.nD Cert.InprojSampleReferenceIdeal.τ).loc Cert.InprojSampleReferenceIdeal.main_arg3)) (m ((c.tc : Thread Cert.InprojSampleReferenceIdeal.nD Cert.InprojSampleReferenceIdeal.τ).loc Cert.InprojSampleReferenceIdeal.main_arg4))).2.2.1 = (fun _ => 1#1)
    ∧ (Cert.Pre_finite_in_sample.fn (F := Ideal) (m ((c.tc : Thread Cert.InprojSampleReferenceIdeal.nD Cert.InprojSampleReferenceIdeal.τ).loc Cert.InprojSampleReferenceIdeal.main_arg0)) (m ((c.tc : Thread Cert.InprojSampleReferenceIdeal.nD Cert.InprojSampleReferenceIdeal.τ).loc Cert.InprojSampleReferenceIdeal.main_arg1)) (m ((c.tc : Thread Cert.InprojSampleReferenceIdeal.nD Cert.InprojSampleReferenceIdeal.τ).loc Cert.InprojSampleReferenceIdeal.main_arg2)) (m ((c.tc : Thread Cert.InprojSampleReferenceIdeal.nD Cert.InprojSampleReferenceIdeal.τ).loc Cert.InprojSampleReferenceIdeal.main_arg3)) (m ((c.tc : Thread Cert.InprojSampleReferenceIdeal.nD Cert.InprojSampleReferenceIdeal.τ).loc Cert.InprojSampleReferenceIdeal.main_arg4))).2.2.2.1 = (fun _ => 1#1)
    ∧ (Cert.Pre_finite_in_sample.fn (F := Ideal) (m ((c.tc : Thread Cert.InprojSampleReferenceIdeal.nD Cert.InprojSampleReferenceIdeal.τ).loc Cert.InprojSampleReferenceIdeal.main_arg0)) (m ((c.tc : Thread Cert.InprojSampleReferenceIdeal.nD Cert.InprojSampleReferenceIdeal.τ).loc Cert.InprojSampleReferenceIdeal.main_arg1)) (m ((c.tc : Thread Cert.InprojSampleReferenceIdeal.nD Cert.InprojSampleReferenceIdeal.τ).loc Cert.InprojSampleReferenceIdeal.main_arg2)) (m ((c.tc : Thread Cert.InprojSampleReferenceIdeal.nD Cert.InprojSampleReferenceIdeal.τ).loc Cert.InprojSampleReferenceIdeal.main_arg3)) (m ((c.tc : Thread Cert.InprojSampleReferenceIdeal.nD Cert.InprojSampleReferenceIdeal.τ).loc Cert.InprojSampleReferenceIdeal.main_arg4))).2.2.2.2 = (fun _ => 1#1)

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaIdeal_finite_ada [hPre_finite_ada : Cert.Pre_finite_ada.Facts] (m : (ℓ : Loc Cert.AdaIdeal.nD Cert.AdaIdeal.τ Cert.AdaIdeal.sig) → Buf (Elt Ideal) ℓ) : Prop :=
  ∀ c : Dev Cert.AdaIdeal.nD,
    (Cert.Pre_finite_ada.fn (F := Ideal) (m ((c.tc : Thread Cert.AdaIdeal.nD Cert.AdaIdeal.τ).loc Cert.AdaIdeal.main_arg0)) (m ((c.tc : Thread Cert.AdaIdeal.nD Cert.AdaIdeal.τ).loc Cert.AdaIdeal.main_arg1)) (m ((c.tc : Thread Cert.AdaIdeal.nD Cert.AdaIdeal.τ).loc Cert.AdaIdeal.main_arg2)) (m ((c.tc : Thread Cert.AdaIdeal.nD Cert.AdaIdeal.τ).loc Cert.AdaIdeal.main_arg3))).1 = (fun _ => 1#1)
    ∧ (Cert.Pre_finite_ada.fn (F := Ideal) (m ((c.tc : Thread Cert.AdaIdeal.nD Cert.AdaIdeal.τ).loc Cert.AdaIdeal.main_arg0)) (m ((c.tc : Thread Cert.AdaIdeal.nD Cert.AdaIdeal.τ).loc Cert.AdaIdeal.main_arg1)) (m ((c.tc : Thread Cert.AdaIdeal.nD Cert.AdaIdeal.τ).loc Cert.AdaIdeal.main_arg2)) (m ((c.tc : Thread Cert.AdaIdeal.nD Cert.AdaIdeal.τ).loc Cert.AdaIdeal.main_arg3))).2.1 = (fun _ => 1#1)
    ∧ (Cert.Pre_finite_ada.fn (F := Ideal) (m ((c.tc : Thread Cert.AdaIdeal.nD Cert.AdaIdeal.τ).loc Cert.AdaIdeal.main_arg0)) (m ((c.tc : Thread Cert.AdaIdeal.nD Cert.AdaIdeal.τ).loc Cert.AdaIdeal.main_arg1)) (m ((c.tc : Thread Cert.AdaIdeal.nD Cert.AdaIdeal.τ).loc Cert.AdaIdeal.main_arg2)) (m ((c.tc : Thread Cert.AdaIdeal.nD Cert.AdaIdeal.τ).loc Cert.AdaIdeal.main_arg3))).2.2 = (fun _ => 1#1)

def Pre_AdaReferenceIdeal (m : (ℓ : Loc Cert.AdaReferenceIdeal.nD Cert.AdaReferenceIdeal.τ Cert.AdaReferenceIdeal.sig) → Buf (Elt Ideal) ℓ) : Prop :=
  True

def Pre_AdaReferenceIdeal_finite_ada [hPre_finite_ada : Cert.Pre_finite_ada.Facts] (m : (ℓ : Loc Cert.AdaReferenceIdeal.nD Cert.AdaReferenceIdeal.τ Cert.AdaReferenceIdeal.sig) → Buf (Elt Ideal) ℓ) : Prop :=
  ∀ c : Dev Cert.AdaReferenceIdeal.nD,
    (Cert.Pre_finite_ada.fn (F := Ideal) (m ((c.tc : Thread Cert.AdaReferenceIdeal.nD Cert.AdaReferenceIdeal.τ).loc Cert.AdaReferenceIdeal.main_arg0)) (m ((c.tc : Thread Cert.AdaReferenceIdeal.nD Cert.AdaReferenceIdeal.τ).loc Cert.AdaReferenceIdeal.main_arg1)) (m ((c.tc : Thread Cert.AdaReferenceIdeal.nD Cert.AdaReferenceIdeal.τ).loc Cert.AdaReferenceIdeal.main_arg2)) (m ((c.tc : Thread Cert.AdaReferenceIdeal.nD Cert.AdaReferenceIdeal.τ).loc Cert.AdaReferenceIdeal.main_arg3))).1 = (fun _ => 1#1)
    ∧ (Cert.Pre_finite_ada.fn (F := Ideal) (m ((c.tc : Thread Cert.AdaReferenceIdeal.nD Cert.AdaReferenceIdeal.τ).loc Cert.AdaReferenceIdeal.main_arg0)) (m ((c.tc : Thread Cert.AdaReferenceIdeal.nD Cert.AdaReferenceIdeal.τ).loc Cert.AdaReferenceIdeal.main_arg1)) (m ((c.tc : Thread Cert.AdaReferenceIdeal.nD Cert.AdaReferenceIdeal.τ).loc Cert.AdaReferenceIdeal.main_arg2)) (m ((c.tc : Thread Cert.AdaReferenceIdeal.nD Cert.AdaReferenceIdeal.τ).loc Cert.AdaReferenceIdeal.main_arg3))).2.1 = (fun _ => 1#1)
    ∧ (Cert.Pre_finite_ada.fn (F := Ideal) (m ((c.tc : Thread Cert.AdaReferenceIdeal.nD Cert.AdaReferenceIdeal.τ).loc Cert.AdaReferenceIdeal.main_arg0)) (m ((c.tc : Thread Cert.AdaReferenceIdeal.nD Cert.AdaReferenceIdeal.τ).loc Cert.AdaReferenceIdeal.main_arg1)) (m ((c.tc : Thread Cert.AdaReferenceIdeal.nD Cert.AdaReferenceIdeal.τ).loc Cert.AdaReferenceIdeal.main_arg2)) (m ((c.tc : Thread Cert.AdaReferenceIdeal.nD Cert.AdaReferenceIdeal.τ).loc Cert.AdaReferenceIdeal.main_arg3))).2.2 = (fun _ => 1#1)

def Pre_MergeSample (m : (ℓ : Loc Cert.MergeSample.nD Cert.MergeSample.τ Cert.MergeSample.sig) → Buf (Elt Bits) ℓ) : Prop :=
  True

def Pre_MergeSampleIdeal (m : (ℓ : Loc Cert.MergeSampleIdeal.nD Cert.MergeSampleIdeal.τ Cert.MergeSampleIdeal.sig) → Buf (Elt Ideal) ℓ) : Prop :=
  True

def Pre_MergeSampleReferenceIdeal (m : (ℓ : Loc Cert.MergeSampleReferenceIdeal.nD Cert.MergeSampleReferenceIdeal.τ Cert.MergeSampleReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7)
      ∧ r.2.mem ((c.tc : Thread Cert.FfnReferenceIdeal.nD Cert.FfnReferenceIdeal.τ).loc Cert.FfnReferenceIdeal.main_arg8) = m ((c.tc : Thread Cert.FfnReferenceIdeal.nD Cert.FfnReferenceIdeal.τ).loc Cert.FfnReferenceIdeal.main_arg8))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojIdeal_pre_finite_in [hInprojIdeal : Cert.InprojIdeal.Facts] [hPre_finite_in : Cert.Pre_finite_in.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal_finite_in m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4))
      ∧ r.2.sem = fun _ => 0)

def quiescent_InprojReferenceIdeal_pre_finite_in [hInprojReferenceIdeal : Cert.InprojReferenceIdeal.Facts] [hPre_finite_in : Cert.Pre_finite_in.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal_finite_in m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8))
      ∧ r.2.sem = fun _ => 0)

def quiescent_FfnSample [hFfnSample : Cert.FfnSample.Facts] : Prop :=
  ∀ (m : (ℓ : Loc Cert.FfnSample.nD Cert.FfnSample.τ Cert.FfnSample.sig) → Buf (Elt Bits) ℓ) (g : Dev Cert.FfnSample.nD → PrngReg), Pre_FfnSample m →
    θ_run (Cert.FfnSample.defs (F := Bits)) (onTc (τ := Cert.FfnSample.τ) (Cert.FfnSample.main (F := Bits))) ⟨m, fun _ => 0, g⟩ (fun r => (∀ c : Dev Cert.FfnSample.nD,
      r.2.mem ((c.tc : Thread Cert.FfnSample.nD Cert.FfnSample.τ).loc Cert.FfnSample.main_arg0) = m ((c.tc : Thread Cert.FfnSample.nD Cert.FfnSample.τ).loc Cert.FfnSample.main_arg0)
      ∧ r.2.mem ((c.tc : Thread Cert.FfnSample.nD Cert.FfnSample.τ).loc Cert.FfnSample.main_arg1) = m ((c.tc : Thread Cert.FfnSample.nD Cert.FfnSample.τ).loc Cert.FfnSample.main_arg1)
      ∧ r.2.mem ((c.tc : Thread Cert.FfnSample.nD Cert.FfnSample.τ).loc Cert.FfnSample.main_arg2) = m ((c.tc : Thread Cert.FfnSample.nD Cert.FfnSample.τ).loc Cert.FfnSample.main_arg2)
      ∧ r.2.mem ((c.tc : Thread Cert.FfnSample.nD Cert.FfnSample.τ).loc Cert.FfnSample.main_arg3) = m ((c.tc : Thread Cert.FfnSample.nD Cert.FfnSample.τ).loc Cert.FfnSample.main_arg3)
      ∧ r.2.mem ((c.tc : Thread Cert.FfnSample.nD Cert.FfnSample.τ).loc Cert.FfnSample.main_arg4) = m ((c.tc : Thread Cert.FfnSample.nD Cert.FfnSample.τ).loc Cert.FfnSample.main_arg4)
      ∧ r.2.mem ((c.tc : Thread Cert.FfnSample.nD Cert.FfnSample.τ).loc Cert.FfnSample.main_arg5) = m ((c.tc : Thread Cert.FfnSample.nD Cert.FfnSample.τ).loc Cert.FfnSample.main_arg5)
      ∧ r.2.mem ((c.tc : Thread Cert.FfnSample.nD Cert.FfnSample.τ).loc Cert.FfnSample.main_arg6) = m ((c.tc : Thread Cert.FfnSample.nD Cert.FfnSample.τ).loc Cert.FfnSample.main_arg6)
      ∧ r.2.mem ((c.tc : Thread Cert.FfnSample.nD Cert.FfnSample.τ).loc Cert.FfnSample.main_arg7) = m ((c.tc : Thread Cert.FfnSample.nD Cert.FfnSample.τ).loc Cert.FfnSample.main_arg7)
      ∧ r.2.mem ((c.tc : Thread Cert.FfnSample.nD Cert.FfnSample.τ).loc Cert.FfnSample.main_arg8) = m ((c.tc : Thread Cert.FfnSample.nD Cert.FfnSample.τ).loc Cert.FfnSample.main_arg8))
      ∧ r.2.sem = fun _ => 0)

def quiescent_FfnSampleIdeal [hFfnSampleIdeal : Cert.FfnSampleIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg), Pre_FfnSampleIdeal m →
    θ_run (Cert.FfnSampleIdeal.defs (F := Ideal)) (onTc (τ := Cert.FfnSampleIdeal.τ) (Cert.FfnSampleIdeal.main (F := Ideal))) ⟨m, fun _ => 0, g⟩ (fun r => (∀ c : Dev Cert.FfnSampleIdeal.nD,
      r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
      ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
      ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
      ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
      ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
      ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5)
      ∧ r.2.mem ((c.tc : Thread Cert.FfnSampleIdeal.nD Cert.FfnSampleIdeal.τ).loc Cert.FfnSampleIdeal.main_arg6) = m ((c.tc : Thread Cert.FfnSampleIdeal.nD Cert.FfnSampleIdeal.τ).loc Cert.FfnSampleIdeal.main_arg6)
      ∧ r.2.mem ((c.tc : Thread Cert.FfnSampleIdeal.nD Cert.FfnSampleIdeal.τ).loc Cert.FfnSampleIdeal.main_arg7) = m ((c.tc : Thread Cert.FfnSampleIdeal.nD Cert.FfnSampleIdeal.τ).loc Cert.FfnSampleIdeal.main_arg7)
      ∧ r.2.mem ((c.tc : Thread Cert.FfnSampleIdeal.nD Cert.FfnSampleIdeal.τ).loc Cert.FfnSampleIdeal.main_arg8) = m ((c.tc : Thread Cert.FfnSampleIdeal.nD Cert.FfnSampleIdeal.τ).loc Cert.FfnSampleIdeal.main_arg8))
      ∧ r.2.sem = fun _ => 0)

def quiescent_FfnSampleReferenceIdeal [hFfnSampleReferenceIdeal : Cert.FfnSampleReferenceIdeal.Facts] : Prop :=
  ∀ (m : (ℓ : Loc Cert.FfnSampleReferenceIdeal.nD Cert.FfnSampleReferenceIdeal.τ Cert.FfnSampleReferenceIdeal.sig) → Buf (Elt Ideal) ℓ) (g : Dev Cert.FfnSampleReferenceIdeal.nD → PrngReg), Pre_FfnSampleReferenceIdeal m →
    θ_run (Cert.FfnSampleReferenceIdeal.defs (F := Ideal)) (onTc (τ := Cert.FfnSampleReferenceIdeal.τ) (Cert.FfnSampleReferenceIdeal.main (F := Ideal))) ⟨m, fun _ => 0, g⟩ (fun r => (∀ c : Dev Cert.FfnSampleReferenceIdeal.nD,
      r.2.mem ((c.tc : Thread Cert.FfnSampleReferenceIdeal.nD Cert.FfnSampleReferenceIdeal.τ).loc Cert.FfnSampleReferenceIdeal.main_arg0) = m ((c.tc : Thread Cert.FfnSampleReferenceIdeal.nD Cert.FfnSampleReferenceIdeal.τ).loc Cert.FfnSampleReferenceIdeal.main_arg0)
      ∧ r.2.mem ((c.tc : Thread Cert.FfnSampleReferenceIdeal.nD Cert.FfnSampleReferenceIdeal.τ).loc Cert.FfnSampleReferenceIdeal.main_arg1) = m ((c.tc : Thread Cert.FfnSampleReferenceIdeal.nD Cert.FfnSampleReferenceIdeal.τ).loc Cert.FfnSampleReferenceIdeal.main_arg1)
      ∧ r.2.mem ((c.tc : Thread Cert.FfnSampleReferenceIdeal.nD Cert.FfnSampleReferenceIdeal.τ).loc Cert.FfnSampleReferenceIdeal.main_arg2) = m ((c.tc : Thread Cert.FfnSampleReferenceIdeal.nD Cert.FfnSampleReferenceIdeal.τ).loc Cert.FfnSampleReferenceIdeal.main_arg2)
      ∧ r.2.mem ((c.tc : Thread Cert.FfnSampleReferenceIdeal.nD Cert.FfnSampleReferenceIdeal.τ).loc Cert.FfnSampleReferenceIdeal.main_arg3) = m ((c.tc : Thread Cert.FfnSampleReferenceIdeal.nD Cert.FfnSampleReferenceIdeal.τ).loc Cert.FfnSampleReferenceIdeal.main_arg3)
      ∧ r.2.mem ((c.tc : Thread Cert.FfnSampleReferenceIdeal.nD Cert.FfnSampleReferenceIdeal.τ).loc Cert.FfnSampleReferenceIdeal.main_arg4) = m ((c.tc : Thread Cert.FfnSampleReferenceIdeal.nD Cert.FfnSampleReferenceIdeal.τ).loc Cert.FfnSampleReferenceIdeal.main_arg4)
      ∧ r.2.mem ((c.tc : Thread Cert.FfnSampleReferenceIdeal.nD Cert.FfnSampleReferenceIdeal.τ).loc Cert.FfnSampleReferenceIdeal.main_arg5) = m ((c.tc : Thread Cert.FfnSampleReferenceIdeal.nD Cert.FfnSampleReferenceIdeal.τ).loc Cert.FfnSampleReferenceIdeal.main_arg5)
      ∧ r.2.mem ((c.tc : Thread Cert.FfnSampleReferenceIdeal.nD Cert.FfnSampleReferenceIdeal.τ).loc Cert.FfnSampleReferenceIdeal.main_arg6) = m ((c.tc : Thread Cert.FfnSampleReferenceIdeal.nD Cert.FfnSampleReferenceIdeal.τ).loc Cert.FfnSampleReferenceIdeal.main_arg6)
      ∧ r.2.mem ((c.tc : Thread Cert.FfnSampleReferenceIdeal.nD Cert.FfnSampleReferenceIdeal.τ).loc Cert.FfnSampleReferenceIdeal.main_arg7) = m ((c.tc : Thread Cert.FfnSampleReferenceIdeal.nD Cert.FfnSampleReferenceIdeal.τ).loc Cert.FfnSampleReferenceIdeal.main_arg7)
      ∧ r.2.mem ((c.tc : Thread Cert.FfnSampleReferenceIdeal.nD Cert.FfnSampleReferenceIdeal.τ).loc Cert.FfnSampleReferenceIdeal.main_arg8) = m ((c.tc : Thread Cert.FfnSampleReferenceIdeal.nD Cert.FfnSampleReferenceIdeal.τ).loc Cert.FfnSampleReferenceIdeal.main_arg8))
      ∧ r.2.sem = fun _ => 0)

def quiescent_InprojSample [hInprojSample : Cert.InprojSample.Facts] : Prop :=
  ∀ (m : (ℓ : Loc Cert.InprojSample.nD Cert.InprojSample.τ Cert.InprojSample.sig) → Buf (Elt Bits) ℓ) (g : Dev Cert.InprojSample.nD → PrngReg), Pre_InprojSample m →
    θ_run (Cert.InprojSample.defs (F := Bits)) (onTc (τ := Cert.InprojSample.τ) (Cert.InprojSample.main (F := Bits))) ⟨m, fun _ => 0, g⟩ (fun r => (∀ c : Dev Cert.InprojSample.nD,
      r.2.mem ((c.tc : Thread Cert.InprojSample.nD Cert.InprojSample.τ).loc Cert.InprojSample.main_arg0) = m ((c.tc : Thread Cert.InprojSample.nD Cert.InprojSample.τ).loc Cert.InprojSample.main_arg0)
      ∧ r.2.mem ((c.tc : Thread Cert.InprojSample.nD Cert.InprojSample.τ).loc Cert.InprojSample.main_arg1) = m ((c.tc : Thread Cert.InprojSample.nD Cert.InprojSample.τ).loc Cert.InprojSample.main_arg1)
      ∧ r.2.mem ((c.tc : Thread Cert.InprojSample.nD Cert.InprojSample.τ).loc Cert.InprojSample.main_arg2) = m ((c.tc : Thread Cert.InprojSample.nD Cert.InprojSample.τ).loc Cert.InprojSample.main_arg2)
      ∧ r.2.mem ((c.tc : Thread Cert.InprojSample.nD Cert.InprojSample.τ).loc Cert.InprojSample.main_arg3) = m ((c.tc : Thread Cert.InprojSample.nD Cert.InprojSample.τ).loc Cert.InprojSample.main_arg3)
      ∧ r.2.mem ((c.tc : Thread Cert.InprojSample.nD Cert.InprojSample.τ).loc Cert.InprojSample.main_arg4) = m ((c.tc : Thread Cert.InprojSample.nD Cert.InprojSample.τ).loc Cert.InprojSample.main_arg4))
      ∧ r.2.sem = fun _ => 0)

def quiescent_InprojSampleIdeal [hInprojSampleIdeal : Cert.InprojSampleIdeal.Facts] : Prop :=
  ∀ (m : (ℓ : Loc Cert.InprojSampleIdeal.nD Cert.InprojSampleIdeal.τ Cert.InprojSampleIdeal.sig) → Buf (Elt Ideal) ℓ) (g : Dev Cert.InprojSampleIdeal.nD → PrngReg), Pre_InprojSampleIdeal m →
    θ_run (Cert.InprojSampleIdeal.defs (F := Ideal)) (onTc (τ := Cert.InprojSampleIdeal.τ) (Cert.InprojSampleIdeal.main (F := Ideal))) ⟨m, fun _ => 0, g⟩ (fun r => (∀ c : Dev Cert.InprojSampleIdeal.nD,
      r.2.mem ((c.tc : Thread Cert.InprojSampleIdeal.nD Cert.InprojSampleIdeal.τ).loc Cert.InprojSampleIdeal.main_arg0) = m ((c.tc : Thread Cert.InprojSampleIdeal.nD Cert.InprojSampleIdeal.τ).loc Cert.InprojSampleIdeal.main_arg0)
      ∧ r.2.mem ((c.tc : Thread Cert.InprojSampleIdeal.nD Cert.InprojSampleIdeal.τ).loc Cert.InprojSampleIdeal.main_arg1) = m ((c.tc : Thread Cert.InprojSampleIdeal.nD Cert.InprojSampleIdeal.τ).loc Cert.InprojSampleIdeal.main_arg1)
      ∧ r.2.mem ((c.tc : Thread Cert.InprojSampleIdeal.nD Cert.InprojSampleIdeal.τ).loc Cert.InprojSampleIdeal.main_arg2) = m ((c.tc : Thread Cert.InprojSampleIdeal.nD Cert.InprojSampleIdeal.τ).loc Cert.InprojSampleIdeal.main_arg2)
      ∧ r.2.mem ((c.tc : Thread Cert.InprojSampleIdeal.nD Cert.InprojSampleIdeal.τ).loc Cert.InprojSampleIdeal.main_arg3) = m ((c.tc : Thread Cert.InprojSampleIdeal.nD Cert.InprojSampleIdeal.τ).loc Cert.InprojSampleIdeal.main_arg3)
      ∧ r.2.mem ((c.tc : Thread Cert.InprojSampleIdeal.nD Cert.InprojSampleIdeal.τ).loc Cert.InprojSampleIdeal.main_arg4) = m ((c.tc : Thread Cert.InprojSampleIdeal.nD Cert.InprojSampleIdeal.τ).loc Cert.InprojSampleIdeal.main_arg4))
      ∧ r.2.sem = fun _ => 0)

def quiescent_InprojSampleIdeal_pre_finite_in_sample [hInprojSampleIdeal : Cert.InprojSampleIdeal.Facts] [hPre_finite_in_sample : Cert.Pre_finite_in_sample.Facts] : Prop :=
  ∀ (m : (ℓ : Loc Cert.InprojSampleIdeal.nD Cert.InprojSampleIdeal.τ Cert.InprojSampleIdeal.sig) → Buf (Elt Ideal) ℓ) (g : Dev Cert.InprojSampleIdeal.nD → PrngReg), Pre_InprojSampleIdeal_finite_in_sample m →
    θ_run (Cert.InprojSampleIdeal.defs (F := Ideal)) (onTc (τ := Cert.InprojSampleIdeal.τ) (Cert.InprojSampleIdeal.main (F := Ideal))) ⟨m, fun _ => 0, g⟩ (fun r => (∀ c : Dev Cert.InprojSampleIdeal.nD,
      r.2.mem ((c.tc : Thread Cert.InprojSampleIdeal.nD Cert.InprojSampleIdeal.τ).loc Cert.InprojSampleIdeal.main_arg0) = m ((c.tc : Thread Cert.InprojSampleIdeal.nD Cert.InprojSampleIdeal.τ).loc Cert.InprojSampleIdeal.main_arg0)
      ∧ r.2.mem ((c.tc : Thread Cert.InprojSampleIdeal.nD Cert.InprojSampleIdeal.τ).loc Cert.InprojSampleIdeal.main_arg1) = m ((c.tc : Thread Cert.InprojSampleIdeal.nD Cert.InprojSampleIdeal.τ).loc Cert.InprojSampleIdeal.main_arg1)
      ∧ r.2.mem ((c.tc : Thread Cert.InprojSampleIdeal.nD Cert.InprojSampleIdeal.τ).loc Cert.InprojSampleIdeal.main_arg2) = m ((c.tc : Thread Cert.InprojSampleIdeal.nD Cert.InprojSampleIdeal.τ).loc Cert.InprojSampleIdeal.main_arg2)
      ∧ r.2.mem ((c.tc : Thread Cert.InprojSampleIdeal.nD Cert.InprojSampleIdeal.τ).loc Cert.InprojSampleIdeal.main_arg3) = m ((c.tc : Thread Cert.InprojSampleIdeal.nD Cert.InprojSampleIdeal.τ).loc Cert.InprojSampleIdeal.main_arg3)
      ∧ r.2.mem ((c.tc : Thread Cert.InprojSampleIdeal.nD Cert.InprojSampleIdeal.τ).loc Cert.InprojSampleIdeal.main_arg4) = m ((c.tc : Thread Cert.InprojSampleIdeal.nD Cert.InprojSampleIdeal.τ).loc Cert.InprojSampleIdeal.main_arg4))
      ∧ r.2.sem = fun _ => 0)

def quiescent_InprojSampleReferenceIdeal [hInprojSampleReferenceIdeal : Cert.InprojSampleReferenceIdeal.Facts] : Prop :=
  ∀ (m : (ℓ : Loc Cert.InprojSampleReferenceIdeal.nD Cert.InprojSampleReferenceIdeal.τ Cert.InprojSampleReferenceIdeal.sig) → Buf (Elt Ideal) ℓ) (g : Dev Cert.InprojSampleReferenceIdeal.nD → PrngReg), Pre_InprojSampleReferenceIdeal m →
    θ_run (Cert.InprojSampleReferenceIdeal.defs (F := Ideal)) (onTc (τ := Cert.InprojSampleReferenceIdeal.τ) (Cert.InprojSampleReferenceIdeal.main (F := Ideal))) ⟨m, fun _ => 0, g⟩ (fun r => (∀ c : Dev Cert.InprojSampleReferenceIdeal.nD,
      r.2.mem ((c.tc : Thread Cert.InprojSampleReferenceIdeal.nD Cert.InprojSampleReferenceIdeal.τ).loc Cert.InprojSampleReferenceIdeal.main_arg0) = m ((c.tc : Thread Cert.InprojSampleReferenceIdeal.nD Cert.InprojSampleReferenceIdeal.τ).loc Cert.InprojSampleReferenceIdeal.main_arg0)
      ∧ r.2.mem ((c.tc : Thread Cert.InprojSampleReferenceIdeal.nD Cert.InprojSampleReferenceIdeal.τ).loc Cert.InprojSampleReferenceIdeal.main_arg1) = m ((c.tc : Thread Cert.InprojSampleReferenceIdeal.nD Cert.InprojSampleReferenceIdeal.τ).loc Cert.InprojSampleReferenceIdeal.main_arg1)
      ∧ r.2.mem ((c.tc : Thread Cert.InprojSampleReferenceIdeal.nD Cert.InprojSampleReferenceIdeal.τ).loc Cert.InprojSampleReferenceIdeal.main_arg2) = m ((c.tc : Thread Cert.InprojSampleReferenceIdeal.nD Cert.InprojSampleReferenceIdeal.τ).loc Cert.InprojSampleReferenceIdeal.main_arg2)
      ∧ r.2.mem ((c.tc : Thread Cert.InprojSampleReferenceIdeal.nD Cert.InprojSampleReferenceIdeal.τ).loc Cert.InprojSampleReferenceIdeal.main_arg3) = m ((c.tc : Thread Cert.InprojSampleReferenceIdeal.nD Cert.InprojSampleReferenceIdeal.τ).loc Cert.InprojSampleReferenceIdeal.main_arg3)
      ∧ r.2.mem ((c.tc : Thread Cert.InprojSampleReferenceIdeal.nD Cert.InprojSampleReferenceIdeal.τ).loc Cert.InprojSampleReferenceIdeal.main_arg4) = m ((c.tc : Thread Cert.InprojSampleReferenceIdeal.nD Cert.InprojSampleReferenceIdeal.τ).loc Cert.InprojSampleReferenceIdeal.main_arg4))
      ∧ r.2.sem = fun _ => 0)

def quiescent_InprojSampleReferenceIdeal_pre_finite_in_sample [hInprojSampleReferenceIdeal : Cert.InprojSampleReferenceIdeal.Facts] [hPre_finite_in_sample : Cert.Pre_finite_in_sample.Facts] : Prop :=
  ∀ (m : (ℓ : Loc Cert.InprojSampleReferenceIdeal.nD Cert.InprojSampleReferenceIdeal.τ Cert.InprojSampleReferenceIdeal.sig) → Buf (Elt Ideal) ℓ) (g : Dev Cert.InprojSampleReferenceIdeal.nD → PrngReg), Pre_InprojSampleReferenceIdeal_finite_in_sample m →
    θ_run (Cert.InprojSampleReferenceIdeal.defs (F := Ideal)) (onTc (τ := Cert.InprojSampleReferenceIdeal.τ) (Cert.InprojSampleReferenceIdeal.main (F := Ideal))) ⟨m, fun _ => 0, g⟩ (fun r => (∀ c : Dev Cert.InprojSampleReferenceIdeal.nD,
      r.2.mem ((c.tc : Thread Cert.InprojSampleReferenceIdeal.nD Cert.InprojSampleReferenceIdeal.τ).loc Cert.InprojSampleReferenceIdeal.main_arg0) = m ((c.tc : Thread Cert.InprojSampleReferenceIdeal.nD Cert.InprojSampleReferenceIdeal.τ).loc Cert.InprojSampleReferenceIdeal.main_arg0)
      ∧ r.2.mem ((c.tc : Thread Cert.InprojSampleReferenceIdeal.nD Cert.InprojSampleReferenceIdeal.τ).loc Cert.InprojSampleReferenceIdeal.main_arg1) = m ((c.tc : Thread Cert.InprojSampleReferenceIdeal.nD Cert.InprojSampleReferenceIdeal.τ).loc Cert.InprojSampleReferenceIdeal.main_arg1)
      ∧ r.2.mem ((c.tc : Thread Cert.InprojSampleReferenceIdeal.nD Cert.InprojSampleReferenceIdeal.τ).loc Cert.InprojSampleReferenceIdeal.main_arg2) = m ((c.tc : Thread Cert.InprojSampleReferenceIdeal.nD Cert.InprojSampleReferenceIdeal.τ).loc Cert.InprojSampleReferenceIdeal.main_arg2)
      ∧ r.2.mem ((c.tc : Thread Cert.InprojSampleReferenceIdeal.nD Cert.InprojSampleReferenceIdeal.τ).loc Cert.InprojSampleReferenceIdeal.main_arg3) = m ((c.tc : Thread Cert.InprojSampleReferenceIdeal.nD Cert.InprojSampleReferenceIdeal.τ).loc Cert.InprojSampleReferenceIdeal.main_arg3)
      ∧ r.2.mem ((c.tc : Thread Cert.InprojSampleReferenceIdeal.nD Cert.InprojSampleReferenceIdeal.τ).loc Cert.InprojSampleReferenceIdeal.main_arg4) = m ((c.tc : Thread Cert.InprojSampleReferenceIdeal.nD Cert.InprojSampleReferenceIdeal.τ).loc Cert.InprojSampleReferenceIdeal.main_arg4))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaIdeal_pre_finite_ada [hAdaIdeal : Cert.AdaIdeal.Facts] [hPre_finite_ada : Cert.Pre_finite_ada.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal_finite_ada m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2)
      ∧ r.2.mem ((c.tc : Thread Cert.AdaReferenceIdeal.nD Cert.AdaReferenceIdeal.τ).loc Cert.AdaReferenceIdeal.main_arg3) = m ((c.tc : Thread Cert.AdaReferenceIdeal.nD Cert.AdaReferenceIdeal.τ).loc Cert.AdaReferenceIdeal.main_arg3))
      ∧ r.2.sem = fun _ => 0)

def quiescent_AdaReferenceIdeal_pre_finite_ada [hAdaReferenceIdeal : Cert.AdaReferenceIdeal.Facts] [hPre_finite_ada : Cert.Pre_finite_ada.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal_finite_ada m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2)
      ∧ r.2.mem ((c.tc : Thread Cert.AdaReferenceIdeal.nD Cert.AdaReferenceIdeal.τ).loc Cert.AdaReferenceIdeal.main_arg3) = m ((c.tc : Thread Cert.AdaReferenceIdeal.nD Cert.AdaReferenceIdeal.τ).loc Cert.AdaReferenceIdeal.main_arg3))
      ∧ r.2.sem = fun _ => 0)

def quiescent_MergeSample [hMergeSample : Cert.MergeSample.Facts] : Prop :=
  ∀ (m : (ℓ : Loc Cert.MergeSample.nD Cert.MergeSample.τ Cert.MergeSample.sig) → Buf (Elt Bits) ℓ) (g : Dev Cert.MergeSample.nD → PrngReg), Pre_MergeSample m →
    θ_run (Cert.MergeSample.defs (F := Bits)) (onTc (τ := Cert.MergeSample.τ) (Cert.MergeSample.main (F := Bits))) ⟨m, fun _ => 0, g⟩ (fun r => (∀ c : Dev Cert.MergeSample.nD,
      r.2.mem ((c.tc : Thread Cert.MergeSample.nD Cert.MergeSample.τ).loc Cert.MergeSample.main_arg0) = m ((c.tc : Thread Cert.MergeSample.nD Cert.MergeSample.τ).loc Cert.MergeSample.main_arg0)
      ∧ r.2.mem ((c.tc : Thread Cert.MergeSample.nD Cert.MergeSample.τ).loc Cert.MergeSample.main_arg1) = m ((c.tc : Thread Cert.MergeSample.nD Cert.MergeSample.τ).loc Cert.MergeSample.main_arg1)
      ∧ r.2.mem ((c.tc : Thread Cert.MergeSample.nD Cert.MergeSample.τ).loc Cert.MergeSample.main_arg2) = m ((c.tc : Thread Cert.MergeSample.nD Cert.MergeSample.τ).loc Cert.MergeSample.main_arg2)
      ∧ r.2.mem ((c.tc : Thread Cert.MergeSample.nD Cert.MergeSample.τ).loc Cert.MergeSample.main_arg3) = m ((c.tc : Thread Cert.MergeSample.nD Cert.MergeSample.τ).loc Cert.MergeSample.main_arg3)
      ∧ r.2.mem ((c.tc : Thread Cert.MergeSample.nD Cert.MergeSample.τ).loc Cert.MergeSample.main_arg4) = m ((c.tc : Thread Cert.MergeSample.nD Cert.MergeSample.τ).loc Cert.MergeSample.main_arg4)
      ∧ r.2.mem ((c.tc : Thread Cert.MergeSample.nD Cert.MergeSample.τ).loc Cert.MergeSample.main_arg5) = m ((c.tc : Thread Cert.MergeSample.nD Cert.MergeSample.τ).loc Cert.MergeSample.main_arg5)
      ∧ r.2.mem ((c.tc : Thread Cert.MergeSample.nD Cert.MergeSample.τ).loc Cert.MergeSample.main_arg6) = m ((c.tc : Thread Cert.MergeSample.nD Cert.MergeSample.τ).loc Cert.MergeSample.main_arg6)
      ∧ r.2.mem ((c.tc : Thread Cert.MergeSample.nD Cert.MergeSample.τ).loc Cert.MergeSample.main_arg7) = m ((c.tc : Thread Cert.MergeSample.nD Cert.MergeSample.τ).loc Cert.MergeSample.main_arg7)
      ∧ r.2.mem ((c.tc : Thread Cert.MergeSample.nD Cert.MergeSample.τ).loc Cert.MergeSample.main_arg8) = m ((c.tc : Thread Cert.MergeSample.nD Cert.MergeSample.τ).loc Cert.MergeSample.main_arg8))
      ∧ r.2.sem = fun _ => 0)

def quiescent_MergeSampleIdeal [hMergeSampleIdeal : Cert.MergeSampleIdeal.Facts] : Prop :=
  ∀ (m : (ℓ : Loc Cert.MergeSampleIdeal.nD Cert.MergeSampleIdeal.τ Cert.MergeSampleIdeal.sig) → Buf (Elt Ideal) ℓ) (g : Dev Cert.MergeSampleIdeal.nD → PrngReg), Pre_MergeSampleIdeal m →
    θ_run (Cert.MergeSampleIdeal.defs (F := Ideal)) (onTc (τ := Cert.MergeSampleIdeal.τ) (Cert.MergeSampleIdeal.main (F := Ideal))) ⟨m, fun _ => 0, g⟩ (fun r => (∀ c : Dev Cert.MergeSampleIdeal.nD,
      r.2.mem ((c.tc : Thread Cert.MergeSampleIdeal.nD Cert.MergeSampleIdeal.τ).loc Cert.MergeSampleIdeal.main_arg0) = m ((c.tc : Thread Cert.MergeSampleIdeal.nD Cert.MergeSampleIdeal.τ).loc Cert.MergeSampleIdeal.main_arg0)
      ∧ r.2.mem ((c.tc : Thread Cert.MergeSampleIdeal.nD Cert.MergeSampleIdeal.τ).loc Cert.MergeSampleIdeal.main_arg1) = m ((c.tc : Thread Cert.MergeSampleIdeal.nD Cert.MergeSampleIdeal.τ).loc Cert.MergeSampleIdeal.main_arg1)
      ∧ r.2.mem ((c.tc : Thread Cert.MergeSampleIdeal.nD Cert.MergeSampleIdeal.τ).loc Cert.MergeSampleIdeal.main_arg2) = m ((c.tc : Thread Cert.MergeSampleIdeal.nD Cert.MergeSampleIdeal.τ).loc Cert.MergeSampleIdeal.main_arg2)
      ∧ r.2.mem ((c.tc : Thread Cert.MergeSampleIdeal.nD Cert.MergeSampleIdeal.τ).loc Cert.MergeSampleIdeal.main_arg3) = m ((c.tc : Thread Cert.MergeSampleIdeal.nD Cert.MergeSampleIdeal.τ).loc Cert.MergeSampleIdeal.main_arg3)
      ∧ r.2.mem ((c.tc : Thread Cert.MergeSampleIdeal.nD Cert.MergeSampleIdeal.τ).loc Cert.MergeSampleIdeal.main_arg4) = m ((c.tc : Thread Cert.MergeSampleIdeal.nD Cert.MergeSampleIdeal.τ).loc Cert.MergeSampleIdeal.main_arg4)
      ∧ r.2.mem ((c.tc : Thread Cert.MergeSampleIdeal.nD Cert.MergeSampleIdeal.τ).loc Cert.MergeSampleIdeal.main_arg5) = m ((c.tc : Thread Cert.MergeSampleIdeal.nD Cert.MergeSampleIdeal.τ).loc Cert.MergeSampleIdeal.main_arg5)
      ∧ r.2.mem ((c.tc : Thread Cert.MergeSampleIdeal.nD Cert.MergeSampleIdeal.τ).loc Cert.MergeSampleIdeal.main_arg6) = m ((c.tc : Thread Cert.MergeSampleIdeal.nD Cert.MergeSampleIdeal.τ).loc Cert.MergeSampleIdeal.main_arg6)
      ∧ r.2.mem ((c.tc : Thread Cert.MergeSampleIdeal.nD Cert.MergeSampleIdeal.τ).loc Cert.MergeSampleIdeal.main_arg7) = m ((c.tc : Thread Cert.MergeSampleIdeal.nD Cert.MergeSampleIdeal.τ).loc Cert.MergeSampleIdeal.main_arg7)
      ∧ r.2.mem ((c.tc : Thread Cert.MergeSampleIdeal.nD Cert.MergeSampleIdeal.τ).loc Cert.MergeSampleIdeal.main_arg8) = m ((c.tc : Thread Cert.MergeSampleIdeal.nD Cert.MergeSampleIdeal.τ).loc Cert.MergeSampleIdeal.main_arg8))
      ∧ r.2.sem = fun _ => 0)

def quiescent_MergeSampleReferenceIdeal [hMergeSampleReferenceIdeal : Cert.MergeSampleReferenceIdeal.Facts] : Prop :=
  ∀ (m : (ℓ : Loc Cert.MergeSampleReferenceIdeal.nD Cert.MergeSampleReferenceIdeal.τ Cert.MergeSampleReferenceIdeal.sig) → Buf (Elt Ideal) ℓ) (g : Dev Cert.MergeSampleReferenceIdeal.nD → PrngReg), Pre_MergeSampleReferenceIdeal m →
    θ_run (Cert.MergeSampleReferenceIdeal.defs (F := Ideal)) (onTc (τ := Cert.MergeSampleReferenceIdeal.τ) (Cert.MergeSampleReferenceIdeal.main (F := Ideal))) ⟨m, fun _ => 0, g⟩ (fun r => (∀ c : Dev Cert.MergeSampleReferenceIdeal.nD,
      r.2.mem ((c.tc : Thread Cert.MergeSampleReferenceIdeal.nD Cert.MergeSampleReferenceIdeal.τ).loc Cert.MergeSampleReferenceIdeal.main_arg0) = m ((c.tc : Thread Cert.MergeSampleReferenceIdeal.nD Cert.MergeSampleReferenceIdeal.τ).loc Cert.MergeSampleReferenceIdeal.main_arg0)
      ∧ r.2.mem ((c.tc : Thread Cert.MergeSampleReferenceIdeal.nD Cert.MergeSampleReferenceIdeal.τ).loc Cert.MergeSampleReferenceIdeal.main_arg1) = m ((c.tc : Thread Cert.MergeSampleReferenceIdeal.nD Cert.MergeSampleReferenceIdeal.τ).loc Cert.MergeSampleReferenceIdeal.main_arg1)
      ∧ r.2.mem ((c.tc : Thread Cert.MergeSampleReferenceIdeal.nD Cert.MergeSampleReferenceIdeal.τ).loc Cert.MergeSampleReferenceIdeal.main_arg2) = m ((c.tc : Thread Cert.MergeSampleReferenceIdeal.nD Cert.MergeSampleReferenceIdeal.τ).loc Cert.MergeSampleReferenceIdeal.main_arg2)
      ∧ r.2.mem ((c.tc : Thread Cert.MergeSampleReferenceIdeal.nD Cert.MergeSampleReferenceIdeal.τ).loc Cert.MergeSampleReferenceIdeal.main_arg3) = m ((c.tc : Thread Cert.MergeSampleReferenceIdeal.nD Cert.MergeSampleReferenceIdeal.τ).loc Cert.MergeSampleReferenceIdeal.main_arg3)
      ∧ r.2.mem ((c.tc : Thread Cert.MergeSampleReferenceIdeal.nD Cert.MergeSampleReferenceIdeal.τ).loc Cert.MergeSampleReferenceIdeal.main_arg4) = m ((c.tc : Thread Cert.MergeSampleReferenceIdeal.nD Cert.MergeSampleReferenceIdeal.τ).loc Cert.MergeSampleReferenceIdeal.main_arg4)
      ∧ r.2.mem ((c.tc : Thread Cert.MergeSampleReferenceIdeal.nD Cert.MergeSampleReferenceIdeal.τ).loc Cert.MergeSampleReferenceIdeal.main_arg5) = m ((c.tc : Thread Cert.MergeSampleReferenceIdeal.nD Cert.MergeSampleReferenceIdeal.τ).loc Cert.MergeSampleReferenceIdeal.main_arg5)
      ∧ r.2.mem ((c.tc : Thread Cert.MergeSampleReferenceIdeal.nD Cert.MergeSampleReferenceIdeal.τ).loc Cert.MergeSampleReferenceIdeal.main_arg6) = m ((c.tc : Thread Cert.MergeSampleReferenceIdeal.nD Cert.MergeSampleReferenceIdeal.τ).loc Cert.MergeSampleReferenceIdeal.main_arg6)
      ∧ r.2.mem ((c.tc : Thread Cert.MergeSampleReferenceIdeal.nD Cert.MergeSampleReferenceIdeal.τ).loc Cert.MergeSampleReferenceIdeal.main_arg7) = m ((c.tc : Thread Cert.MergeSampleReferenceIdeal.nD Cert.MergeSampleReferenceIdeal.τ).loc Cert.MergeSampleReferenceIdeal.main_arg7)
      ∧ r.2.mem ((c.tc : Thread Cert.MergeSampleReferenceIdeal.nD Cert.MergeSampleReferenceIdeal.τ).loc Cert.MergeSampleReferenceIdeal.main_arg8) = m ((c.tc : Thread Cert.MergeSampleReferenceIdeal.nD Cert.MergeSampleReferenceIdeal.τ).loc Cert.MergeSampleReferenceIdeal.main_arg8))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)
      ∧ m' ((c.tc : Thread Cert.FfnReferenceIdeal.nD Cert.FfnReferenceIdeal.τ).loc Cert.FfnReferenceIdeal.main_arg8) = m ((c.tc : Thread Cert.FfnIdeal.nD Cert.FfnIdeal.τ).loc Cert.FfnIdeal.main_arg8)) →
    ∃ (v0 : (c : Dev Cert.FfnIdeal.nD) → Buf (Elt Ideal) ((c.tc : Thread Cert.FfnIdeal.nD Cert.FfnIdeal.τ).loc Cert.FfnIdeal.main_v10)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v10) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v46) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7)
          ∧ r.2.mem ((c.tc : Thread Cert.FfnReferenceIdeal.nD Cert.FfnReferenceIdeal.τ).loc Cert.FfnReferenceIdeal.main_arg8) = m' ((c.tc : Thread Cert.FfnReferenceIdeal.nD Cert.FfnReferenceIdeal.τ).loc Cert.FfnReferenceIdeal.main_arg8))

def preserves_Inproj_InprojIdeal : Prop :=
  True

def algebraic_InprojIdeal_InprojReferenceIdeal_pre_finite_in [hInprojIdeal : Cert.InprojIdeal.Facts] [hInprojReferenceIdeal : Cert.InprojReferenceIdeal.Facts] [hPre_finite_in : Cert.Pre_finite_in.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal_finite_in m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)
      ∧ m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)
      ∧ m' ((c.tc : Thread Cert.InprojReferenceIdeal.nD Cert.InprojReferenceIdeal.τ).loc Cert.InprojReferenceIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v25_0)) (v1 : (c : Dev Cert.InprojIdeal.nD) → Buf (Elt Ideal) ((c.tc : Thread Cert.InprojIdeal.nD Cert.InprojIdeal.τ).loc Cert.InprojIdeal.main_v25_1)) (v2 : (c : Dev Cert.InprojIdeal.nD) → Buf (Elt Ideal) ((c.tc : Thread Cert.InprojIdeal.nD Cert.InprojIdeal.τ).loc Cert.InprojIdeal.main_v25_2)) (v3 : (c : Dev Cert.InprojIdeal.nD) → Buf (Elt Ideal) ((c.tc : Thread Cert.InprojIdeal.nD Cert.InprojIdeal.τ).loc Cert.InprojIdeal.main_v25_3)) (v4 : (c : Dev Cert.InprojIdeal.nD) → Buf (Elt Ideal) ((c.tc : Thread Cert.InprojIdeal.nD Cert.InprojIdeal.τ).loc Cert.InprojIdeal.main_v25_4)) (v5 : (c : Dev Cert.InprojIdeal.nD) → Buf (Elt Ideal) ((c.tc : Thread Cert.InprojIdeal.nD Cert.InprojIdeal.τ).loc Cert.InprojIdeal.main_v25_5)) (v6 : (c : Dev Cert.InprojIdeal.nD) → Buf (Elt Ideal) ((c.tc : Thread Cert.InprojIdeal.nD Cert.InprojIdeal.τ).loc Cert.InprojIdeal.main_v25_10)) (v7 : (c : Dev Cert.InprojIdeal.nD) → Buf (Elt Ideal) ((c.tc : Thread Cert.InprojIdeal.nD Cert.InprojIdeal.τ).loc Cert.InprojIdeal.main_v25_11)) (v8 : (c : Dev Cert.InprojIdeal.nD) → Buf (Elt Ideal) ((c.tc : Thread Cert.InprojIdeal.nD Cert.InprojIdeal.τ).loc Cert.InprojIdeal.main_v25_14)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v25_0) = v0 c
          ∧ r.2.mem ((c.tc : Thread Cert.InprojIdeal.nD Cert.InprojIdeal.τ).loc Cert.InprojIdeal.main_v25_1) = v1 c
          ∧ r.2.mem ((c.tc : Thread Cert.InprojIdeal.nD Cert.InprojIdeal.τ).loc Cert.InprojIdeal.main_v25_2) = v2 c
          ∧ r.2.mem ((c.tc : Thread Cert.InprojIdeal.nD Cert.InprojIdeal.τ).loc Cert.InprojIdeal.main_v25_3) = v3 c
          ∧ r.2.mem ((c.tc : Thread Cert.InprojIdeal.nD Cert.InprojIdeal.τ).loc Cert.InprojIdeal.main_v25_4) = v4 c
          ∧ r.2.mem ((c.tc : Thread Cert.InprojIdeal.nD Cert.InprojIdeal.τ).loc Cert.InprojIdeal.main_v25_5) = v5 c
          ∧ r.2.mem ((c.tc : Thread Cert.InprojIdeal.nD Cert.InprojIdeal.τ).loc Cert.InprojIdeal.main_v25_10) = v6 c
          ∧ r.2.mem ((c.tc : Thread Cert.InprojIdeal.nD Cert.InprojIdeal.τ).loc Cert.InprojIdeal.main_v25_11) = v7 c
          ∧ r.2.mem ((c.tc : Thread Cert.InprojIdeal.nD Cert.InprojIdeal.τ).loc Cert.InprojIdeal.main_v25_14) = v8 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v54) = v0 c
          ∧ r.2.mem ((c.tc : Thread Cert.InprojReferenceIdeal.nD Cert.InprojReferenceIdeal.τ).loc Cert.InprojReferenceIdeal.main_v55) = v1 c
          ∧ r.2.mem ((c.tc : Thread Cert.InprojReferenceIdeal.nD Cert.InprojReferenceIdeal.τ).loc Cert.InprojReferenceIdeal.main_v56) = v2 c
          ∧ r.2.mem ((c.tc : Thread Cert.InprojReferenceIdeal.nD Cert.InprojReferenceIdeal.τ).loc Cert.InprojReferenceIdeal.main_v58) = v3 c
          ∧ r.2.mem ((c.tc : Thread Cert.InprojReferenceIdeal.nD Cert.InprojReferenceIdeal.τ).loc Cert.InprojReferenceIdeal.main_v59) = v4 c
          ∧ r.2.mem ((c.tc : Thread Cert.InprojReferenceIdeal.nD Cert.InprojReferenceIdeal.τ).loc Cert.InprojReferenceIdeal.main_v60) = v5 c
          ∧ r.2.mem ((c.tc : Thread Cert.InprojReferenceIdeal.nD Cert.InprojReferenceIdeal.τ).loc Cert.InprojReferenceIdeal.main_v62) = v6 c
          ∧ r.2.mem ((c.tc : Thread Cert.InprojReferenceIdeal.nD Cert.InprojReferenceIdeal.τ).loc Cert.InprojReferenceIdeal.main_v63) = v7 c
          ∧ r.2.mem ((c.tc : Thread Cert.InprojReferenceIdeal.nD Cert.InprojReferenceIdeal.τ).loc Cert.InprojReferenceIdeal.main_v64) = v8 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3)
          ∧ r.2.mem ((c.tc : Thread Cert.InprojReferenceIdeal.nD Cert.InprojReferenceIdeal.τ).loc Cert.InprojReferenceIdeal.main_arg4) = m' ((c.tc : Thread Cert.InprojReferenceIdeal.nD Cert.InprojReferenceIdeal.τ).loc Cert.InprojReferenceIdeal.main_arg4))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v8)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v8) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v33) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8))

def preserves_FfnSample_FfnSampleIdeal : Prop :=
  True

def algebraic_FfnSampleIdeal_FfnSampleReferenceIdeal [hFfnSampleIdeal : Cert.FfnSampleIdeal.Facts] [hFfnSampleReferenceIdeal : Cert.FfnSampleReferenceIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg)
    (m' : (ℓ : Loc Cert.FfnSampleReferenceIdeal.nD Cert.FfnSampleReferenceIdeal.τ Cert.FfnSampleReferenceIdeal.sig) → Buf (Elt Ideal) ℓ) (g' : Dev Cert.FfnSampleReferenceIdeal.nD → PrngReg), Pre_FfnSampleIdeal m →
    (∀ c : Dev Cert.FfnSampleIdeal.nD,
      m' ((c.tc : Thread Cert.FfnSampleReferenceIdeal.nD Cert.FfnSampleReferenceIdeal.τ).loc Cert.FfnSampleReferenceIdeal.main_arg0) = m ((c.tc : Thread Cert.FfnSampleIdeal.nD Cert.FfnSampleIdeal.τ).loc Cert.FfnSampleIdeal.main_arg0)
      ∧ m' ((c.tc : Thread Cert.FfnSampleReferenceIdeal.nD Cert.FfnSampleReferenceIdeal.τ).loc Cert.FfnSampleReferenceIdeal.main_arg1) = m ((c.tc : Thread Cert.FfnSampleIdeal.nD Cert.FfnSampleIdeal.τ).loc Cert.FfnSampleIdeal.main_arg1)
      ∧ m' ((c.tc : Thread Cert.FfnSampleReferenceIdeal.nD Cert.FfnSampleReferenceIdeal.τ).loc Cert.FfnSampleReferenceIdeal.main_arg2) = m ((c.tc : Thread Cert.FfnSampleIdeal.nD Cert.FfnSampleIdeal.τ).loc Cert.FfnSampleIdeal.main_arg2)
      ∧ m' ((c.tc : Thread Cert.FfnSampleReferenceIdeal.nD Cert.FfnSampleReferenceIdeal.τ).loc Cert.FfnSampleReferenceIdeal.main_arg3) = m ((c.tc : Thread Cert.FfnSampleIdeal.nD Cert.FfnSampleIdeal.τ).loc Cert.FfnSampleIdeal.main_arg3)
      ∧ m' ((c.tc : Thread Cert.FfnSampleReferenceIdeal.nD Cert.FfnSampleReferenceIdeal.τ).loc Cert.FfnSampleReferenceIdeal.main_arg4) = m ((c.tc : Thread Cert.FfnSampleIdeal.nD Cert.FfnSampleIdeal.τ).loc Cert.FfnSampleIdeal.main_arg4)
      ∧ m' ((c.tc : Thread Cert.FfnSampleReferenceIdeal.nD Cert.FfnSampleReferenceIdeal.τ).loc Cert.FfnSampleReferenceIdeal.main_arg5) = m ((c.tc : Thread Cert.FfnSampleIdeal.nD Cert.FfnSampleIdeal.τ).loc Cert.FfnSampleIdeal.main_arg5)
      ∧ m' ((c.tc : Thread Cert.FfnSampleReferenceIdeal.nD Cert.FfnSampleReferenceIdeal.τ).loc Cert.FfnSampleReferenceIdeal.main_arg6) = m ((c.tc : Thread Cert.FfnSampleIdeal.nD Cert.FfnSampleIdeal.τ).loc Cert.FfnSampleIdeal.main_arg6)
      ∧ m' ((c.tc : Thread Cert.FfnSampleReferenceIdeal.nD Cert.FfnSampleReferenceIdeal.τ).loc Cert.FfnSampleReferenceIdeal.main_arg7) = m ((c.tc : Thread Cert.FfnSampleIdeal.nD Cert.FfnSampleIdeal.τ).loc Cert.FfnSampleIdeal.main_arg7)
      ∧ m' ((c.tc : Thread Cert.FfnSampleReferenceIdeal.nD Cert.FfnSampleReferenceIdeal.τ).loc Cert.FfnSampleReferenceIdeal.main_arg8) = m ((c.tc : Thread Cert.FfnSampleIdeal.nD Cert.FfnSampleIdeal.τ).loc Cert.FfnSampleIdeal.main_arg8)) →
    ∃ (v0 : (c : Dev Cert.FfnSampleIdeal.nD) → Buf (Elt Ideal) ((c.tc : Thread Cert.FfnSampleIdeal.nD Cert.FfnSampleIdeal.τ).loc Cert.FfnSampleIdeal.main_v19)),
      θ_run (Cert.FfnSampleIdeal.defs (F := Ideal)) (onTc (τ := Cert.FfnSampleIdeal.τ) (Cert.FfnSampleIdeal.main (F := Ideal))) ⟨m, fun _ => 0, g⟩ (fun r => ∀ c : Dev Cert.FfnSampleIdeal.nD,
          r.2.mem ((c.tc : Thread Cert.FfnSampleIdeal.nD Cert.FfnSampleIdeal.τ).loc Cert.FfnSampleIdeal.main_v19) = v0 c
          ∧ r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
          ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
          ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
          ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
          ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
          ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5)
          ∧ r.2.mem ((c.tc : Thread Cert.FfnSampleIdeal.nD Cert.FfnSampleIdeal.τ).loc Cert.FfnSampleIdeal.main_arg6) = m ((c.tc : Thread Cert.FfnSampleIdeal.nD Cert.FfnSampleIdeal.τ).loc Cert.FfnSampleIdeal.main_arg6)
          ∧ r.2.mem ((c.tc : Thread Cert.FfnSampleIdeal.nD Cert.FfnSampleIdeal.τ).loc Cert.FfnSampleIdeal.main_arg7) = m ((c.tc : Thread Cert.FfnSampleIdeal.nD Cert.FfnSampleIdeal.τ).loc Cert.FfnSampleIdeal.main_arg7)
          ∧ r.2.mem ((c.tc : Thread Cert.FfnSampleIdeal.nD Cert.FfnSampleIdeal.τ).loc Cert.FfnSampleIdeal.main_arg8) = m ((c.tc : Thread Cert.FfnSampleIdeal.nD Cert.FfnSampleIdeal.τ).loc Cert.FfnSampleIdeal.main_arg8))
      ∧ θ_run (Cert.FfnSampleReferenceIdeal.defs (F := Ideal)) (onTc (τ := Cert.FfnSampleReferenceIdeal.τ) (Cert.FfnSampleReferenceIdeal.main (F := Ideal))) ⟨m', fun _ => 0, g'⟩ (fun r => ∀ c : Dev Cert.FfnSampleReferenceIdeal.nD,
          r.2.mem ((c.tc : Thread Cert.FfnSampleReferenceIdeal.nD Cert.FfnSampleReferenceIdeal.τ).loc Cert.FfnSampleReferenceIdeal.main_v49) = v0 c
          ∧ r.2.mem ((c.tc : Thread Cert.FfnSampleReferenceIdeal.nD Cert.FfnSampleReferenceIdeal.τ).loc Cert.FfnSampleReferenceIdeal.main_arg0) = m' ((c.tc : Thread Cert.FfnSampleReferenceIdeal.nD Cert.FfnSampleReferenceIdeal.τ).loc Cert.FfnSampleReferenceIdeal.main_arg0)
          ∧ r.2.mem ((c.tc : Thread Cert.FfnSampleReferenceIdeal.nD Cert.FfnSampleReferenceIdeal.τ).loc Cert.FfnSampleReferenceIdeal.main_arg1) = m' ((c.tc : Thread Cert.FfnSampleReferenceIdeal.nD Cert.FfnSampleReferenceIdeal.τ).loc Cert.FfnSampleReferenceIdeal.main_arg1)
          ∧ r.2.mem ((c.tc : Thread Cert.FfnSampleReferenceIdeal.nD Cert.FfnSampleReferenceIdeal.τ).loc Cert.FfnSampleReferenceIdeal.main_arg2) = m' ((c.tc : Thread Cert.FfnSampleReferenceIdeal.nD Cert.FfnSampleReferenceIdeal.τ).loc Cert.FfnSampleReferenceIdeal.main_arg2)
          ∧ r.2.mem ((c.tc : Thread Cert.FfnSampleReferenceIdeal.nD Cert.FfnSampleReferenceIdeal.τ).loc Cert.FfnSampleReferenceIdeal.main_arg3) = m' ((c.tc : Thread Cert.FfnSampleReferenceIdeal.nD Cert.FfnSampleReferenceIdeal.τ).loc Cert.FfnSampleReferenceIdeal.main_arg3)
          ∧ r.2.mem ((c.tc : Thread Cert.FfnSampleReferenceIdeal.nD Cert.FfnSampleReferenceIdeal.τ).loc Cert.FfnSampleReferenceIdeal.main_arg4) = m' ((c.tc : Thread Cert.FfnSampleReferenceIdeal.nD Cert.FfnSampleReferenceIdeal.τ).loc Cert.FfnSampleReferenceIdeal.main_arg4)
          ∧ r.2.mem ((c.tc : Thread Cert.FfnSampleReferenceIdeal.nD Cert.FfnSampleReferenceIdeal.τ).loc Cert.FfnSampleReferenceIdeal.main_arg5) = m' ((c.tc : Thread Cert.FfnSampleReferenceIdeal.nD Cert.FfnSampleReferenceIdeal.τ).loc Cert.FfnSampleReferenceIdeal.main_arg5)
          ∧ r.2.mem ((c.tc : Thread Cert.FfnSampleReferenceIdeal.nD Cert.FfnSampleReferenceIdeal.τ).loc Cert.FfnSampleReferenceIdeal.main_arg6) = m' ((c.tc : Thread Cert.FfnSampleReferenceIdeal.nD Cert.FfnSampleReferenceIdeal.τ).loc Cert.FfnSampleReferenceIdeal.main_arg6)
          ∧ r.2.mem ((c.tc : Thread Cert.FfnSampleReferenceIdeal.nD Cert.FfnSampleReferenceIdeal.τ).loc Cert.FfnSampleReferenceIdeal.main_arg7) = m' ((c.tc : Thread Cert.FfnSampleReferenceIdeal.nD Cert.FfnSampleReferenceIdeal.τ).loc Cert.FfnSampleReferenceIdeal.main_arg7)
          ∧ r.2.mem ((c.tc : Thread Cert.FfnSampleReferenceIdeal.nD Cert.FfnSampleReferenceIdeal.τ).loc Cert.FfnSampleReferenceIdeal.main_arg8) = m' ((c.tc : Thread Cert.FfnSampleReferenceIdeal.nD Cert.FfnSampleReferenceIdeal.τ).loc Cert.FfnSampleReferenceIdeal.main_arg8))

def preserves_InprojSample_InprojSampleIdeal : Prop :=
  True

def algebraic_InprojSampleIdeal_InprojSampleReferenceIdeal_pre_finite_in_sample [hInprojSampleIdeal : Cert.InprojSampleIdeal.Facts] [hInprojSampleReferenceIdeal : Cert.InprojSampleReferenceIdeal.Facts] [hPre_finite_in_sample : Cert.Pre_finite_in_sample.Facts] : Prop :=
  ∀ (m : (ℓ : Loc Cert.InprojSampleIdeal.nD Cert.InprojSampleIdeal.τ Cert.InprojSampleIdeal.sig) → Buf (Elt Ideal) ℓ) (g : Dev Cert.InprojSampleIdeal.nD → PrngReg)
    (m' : (ℓ : Loc Cert.InprojSampleReferenceIdeal.nD Cert.InprojSampleReferenceIdeal.τ Cert.InprojSampleReferenceIdeal.sig) → Buf (Elt Ideal) ℓ) (g' : Dev Cert.InprojSampleReferenceIdeal.nD → PrngReg), Pre_InprojSampleIdeal_finite_in_sample m →
    (∀ c : Dev Cert.InprojSampleIdeal.nD,
      m' ((c.tc : Thread Cert.InprojSampleReferenceIdeal.nD Cert.InprojSampleReferenceIdeal.τ).loc Cert.InprojSampleReferenceIdeal.main_arg0) = m ((c.tc : Thread Cert.InprojSampleIdeal.nD Cert.InprojSampleIdeal.τ).loc Cert.InprojSampleIdeal.main_arg0)
      ∧ m' ((c.tc : Thread Cert.InprojSampleReferenceIdeal.nD Cert.InprojSampleReferenceIdeal.τ).loc Cert.InprojSampleReferenceIdeal.main_arg1) = m ((c.tc : Thread Cert.InprojSampleIdeal.nD Cert.InprojSampleIdeal.τ).loc Cert.InprojSampleIdeal.main_arg1)
      ∧ m' ((c.tc : Thread Cert.InprojSampleReferenceIdeal.nD Cert.InprojSampleReferenceIdeal.τ).loc Cert.InprojSampleReferenceIdeal.main_arg2) = m ((c.tc : Thread Cert.InprojSampleIdeal.nD Cert.InprojSampleIdeal.τ).loc Cert.InprojSampleIdeal.main_arg2)
      ∧ m' ((c.tc : Thread Cert.InprojSampleReferenceIdeal.nD Cert.InprojSampleReferenceIdeal.τ).loc Cert.InprojSampleReferenceIdeal.main_arg3) = m ((c.tc : Thread Cert.InprojSampleIdeal.nD Cert.InprojSampleIdeal.τ).loc Cert.InprojSampleIdeal.main_arg3)
      ∧ m' ((c.tc : Thread Cert.InprojSampleReferenceIdeal.nD Cert.InprojSampleReferenceIdeal.τ).loc Cert.InprojSampleReferenceIdeal.main_arg4) = m ((c.tc : Thread Cert.InprojSampleIdeal.nD Cert.InprojSampleIdeal.τ).loc Cert.InprojSampleIdeal.main_arg4)) →
    ∃ (v0 : (c : Dev Cert.InprojSampleIdeal.nD) → Buf (Elt Ideal) ((c.tc : Thread Cert.InprojSampleIdeal.nD Cert.InprojSampleIdeal.τ).loc Cert.InprojSampleIdeal.main_v31_0)) (v1 : (c : Dev Cert.InprojSampleIdeal.nD) → Buf (Elt Ideal) ((c.tc : Thread Cert.InprojSampleIdeal.nD Cert.InprojSampleIdeal.τ).loc Cert.InprojSampleIdeal.main_v31_1)) (v2 : (c : Dev Cert.InprojSampleIdeal.nD) → Buf (Elt Ideal) ((c.tc : Thread Cert.InprojSampleIdeal.nD Cert.InprojSampleIdeal.τ).loc Cert.InprojSampleIdeal.main_v31_2)) (v3 : (c : Dev Cert.InprojSampleIdeal.nD) → Buf (Elt Ideal) ((c.tc : Thread Cert.InprojSampleIdeal.nD Cert.InprojSampleIdeal.τ).loc Cert.InprojSampleIdeal.main_v31_3)) (v4 : (c : Dev Cert.InprojSampleIdeal.nD) → Buf (Elt Ideal) ((c.tc : Thread Cert.InprojSampleIdeal.nD Cert.InprojSampleIdeal.τ).loc Cert.InprojSampleIdeal.main_v31_4)) (v5 : (c : Dev Cert.InprojSampleIdeal.nD) → Buf (Elt Ideal) ((c.tc : Thread Cert.InprojSampleIdeal.nD Cert.InprojSampleIdeal.τ).loc Cert.InprojSampleIdeal.main_v31_5)) (v6 : (c : Dev Cert.InprojSampleIdeal.nD) → Buf (Elt Ideal) ((c.tc : Thread Cert.InprojSampleIdeal.nD Cert.InprojSampleIdeal.τ).loc Cert.InprojSampleIdeal.main_v31_10)) (v7 : (c : Dev Cert.InprojSampleIdeal.nD) → Buf (Elt Ideal) ((c.tc : Thread Cert.InprojSampleIdeal.nD Cert.InprojSampleIdeal.τ).loc Cert.InprojSampleIdeal.main_v31_11)) (v8 : (c : Dev Cert.InprojSampleIdeal.nD) → Buf (Elt Ideal) ((c.tc : Thread Cert.InprojSampleIdeal.nD Cert.InprojSampleIdeal.τ).loc Cert.InprojSampleIdeal.main_v31_14)),
      θ_run (Cert.InprojSampleIdeal.defs (F := Ideal)) (onTc (τ := Cert.InprojSampleIdeal.τ) (Cert.InprojSampleIdeal.main (F := Ideal))) ⟨m, fun _ => 0, g⟩ (fun r => ∀ c : Dev Cert.InprojSampleIdeal.nD,
          r.2.mem ((c.tc : Thread Cert.InprojSampleIdeal.nD Cert.InprojSampleIdeal.τ).loc Cert.InprojSampleIdeal.main_v31_0) = v0 c
          ∧ r.2.mem ((c.tc : Thread Cert.InprojSampleIdeal.nD Cert.InprojSampleIdeal.τ).loc Cert.InprojSampleIdeal.main_v31_1) = v1 c
          ∧ r.2.mem ((c.tc : Thread Cert.InprojSampleIdeal.nD Cert.InprojSampleIdeal.τ).loc Cert.InprojSampleIdeal.main_v31_2) = v2 c
          ∧ r.2.mem ((c.tc : Thread Cert.InprojSampleIdeal.nD Cert.InprojSampleIdeal.τ).loc Cert.InprojSampleIdeal.main_v31_3) = v3 c
          ∧ r.2.mem ((c.tc : Thread Cert.InprojSampleIdeal.nD Cert.InprojSampleIdeal.τ).loc Cert.InprojSampleIdeal.main_v31_4) = v4 c
          ∧ r.2.mem ((c.tc : Thread Cert.InprojSampleIdeal.nD Cert.InprojSampleIdeal.τ).loc Cert.InprojSampleIdeal.main_v31_5) = v5 c
          ∧ r.2.mem ((c.tc : Thread Cert.InprojSampleIdeal.nD Cert.InprojSampleIdeal.τ).loc Cert.InprojSampleIdeal.main_v31_10) = v6 c
          ∧ r.2.mem ((c.tc : Thread Cert.InprojSampleIdeal.nD Cert.InprojSampleIdeal.τ).loc Cert.InprojSampleIdeal.main_v31_11) = v7 c
          ∧ r.2.mem ((c.tc : Thread Cert.InprojSampleIdeal.nD Cert.InprojSampleIdeal.τ).loc Cert.InprojSampleIdeal.main_v31_14) = v8 c
          ∧ r.2.mem ((c.tc : Thread Cert.InprojSampleIdeal.nD Cert.InprojSampleIdeal.τ).loc Cert.InprojSampleIdeal.main_arg0) = m ((c.tc : Thread Cert.InprojSampleIdeal.nD Cert.InprojSampleIdeal.τ).loc Cert.InprojSampleIdeal.main_arg0)
          ∧ r.2.mem ((c.tc : Thread Cert.InprojSampleIdeal.nD Cert.InprojSampleIdeal.τ).loc Cert.InprojSampleIdeal.main_arg1) = m ((c.tc : Thread Cert.InprojSampleIdeal.nD Cert.InprojSampleIdeal.τ).loc Cert.InprojSampleIdeal.main_arg1)
          ∧ r.2.mem ((c.tc : Thread Cert.InprojSampleIdeal.nD Cert.InprojSampleIdeal.τ).loc Cert.InprojSampleIdeal.main_arg2) = m ((c.tc : Thread Cert.InprojSampleIdeal.nD Cert.InprojSampleIdeal.τ).loc Cert.InprojSampleIdeal.main_arg2)
          ∧ r.2.mem ((c.tc : Thread Cert.InprojSampleIdeal.nD Cert.InprojSampleIdeal.τ).loc Cert.InprojSampleIdeal.main_arg3) = m ((c.tc : Thread Cert.InprojSampleIdeal.nD Cert.InprojSampleIdeal.τ).loc Cert.InprojSampleIdeal.main_arg3)
          ∧ r.2.mem ((c.tc : Thread Cert.InprojSampleIdeal.nD Cert.InprojSampleIdeal.τ).loc Cert.InprojSampleIdeal.main_arg4) = m ((c.tc : Thread Cert.InprojSampleIdeal.nD Cert.InprojSampleIdeal.τ).loc Cert.InprojSampleIdeal.main_arg4))
      ∧ θ_run (Cert.InprojSampleReferenceIdeal.defs (F := Ideal)) (onTc (τ := Cert.InprojSampleReferenceIdeal.τ) (Cert.InprojSampleReferenceIdeal.main (F := Ideal))) ⟨m', fun _ => 0, g'⟩ (fun r => ∀ c : Dev Cert.InprojSampleReferenceIdeal.nD,
          r.2.mem ((c.tc : Thread Cert.InprojSampleReferenceIdeal.nD Cert.InprojSampleReferenceIdeal.τ).loc Cert.InprojSampleReferenceIdeal.main_v56) = v0 c
          ∧ r.2.mem ((c.tc : Thread Cert.InprojSampleReferenceIdeal.nD Cert.InprojSampleReferenceIdeal.τ).loc Cert.InprojSampleReferenceIdeal.main_v57) = v1 c
          ∧ r.2.mem ((c.tc : Thread Cert.InprojSampleReferenceIdeal.nD Cert.InprojSampleReferenceIdeal.τ).loc Cert.InprojSampleReferenceIdeal.main_v58) = v2 c
          ∧ r.2.mem ((c.tc : Thread Cert.InprojSampleReferenceIdeal.nD Cert.InprojSampleReferenceIdeal.τ).loc Cert.InprojSampleReferenceIdeal.main_v60) = v3 c
          ∧ r.2.mem ((c.tc : Thread Cert.InprojSampleReferenceIdeal.nD Cert.InprojSampleReferenceIdeal.τ).loc Cert.InprojSampleReferenceIdeal.main_v61) = v4 c
          ∧ r.2.mem ((c.tc : Thread Cert.InprojSampleReferenceIdeal.nD Cert.InprojSampleReferenceIdeal.τ).loc Cert.InprojSampleReferenceIdeal.main_v62) = v5 c
          ∧ r.2.mem ((c.tc : Thread Cert.InprojSampleReferenceIdeal.nD Cert.InprojSampleReferenceIdeal.τ).loc Cert.InprojSampleReferenceIdeal.main_v64) = v6 c
          ∧ r.2.mem ((c.tc : Thread Cert.InprojSampleReferenceIdeal.nD Cert.InprojSampleReferenceIdeal.τ).loc Cert.InprojSampleReferenceIdeal.main_v65) = v7 c
          ∧ r.2.mem ((c.tc : Thread Cert.InprojSampleReferenceIdeal.nD Cert.InprojSampleReferenceIdeal.τ).loc Cert.InprojSampleReferenceIdeal.main_v66) = v8 c
          ∧ r.2.mem ((c.tc : Thread Cert.InprojSampleReferenceIdeal.nD Cert.InprojSampleReferenceIdeal.τ).loc Cert.InprojSampleReferenceIdeal.main_arg0) = m' ((c.tc : Thread Cert.InprojSampleReferenceIdeal.nD Cert.InprojSampleReferenceIdeal.τ).loc Cert.InprojSampleReferenceIdeal.main_arg0)
          ∧ r.2.mem ((c.tc : Thread Cert.InprojSampleReferenceIdeal.nD Cert.InprojSampleReferenceIdeal.τ).loc Cert.InprojSampleReferenceIdeal.main_arg1) = m' ((c.tc : Thread Cert.InprojSampleReferenceIdeal.nD Cert.InprojSampleReferenceIdeal.τ).loc Cert.InprojSampleReferenceIdeal.main_arg1)
          ∧ r.2.mem ((c.tc : Thread Cert.InprojSampleReferenceIdeal.nD Cert.InprojSampleReferenceIdeal.τ).loc Cert.InprojSampleReferenceIdeal.main_arg2) = m' ((c.tc : Thread Cert.InprojSampleReferenceIdeal.nD Cert.InprojSampleReferenceIdeal.τ).loc Cert.InprojSampleReferenceIdeal.main_arg2)
          ∧ r.2.mem ((c.tc : Thread Cert.InprojSampleReferenceIdeal.nD Cert.InprojSampleReferenceIdeal.τ).loc Cert.InprojSampleReferenceIdeal.main_arg3) = m' ((c.tc : Thread Cert.InprojSampleReferenceIdeal.nD Cert.InprojSampleReferenceIdeal.τ).loc Cert.InprojSampleReferenceIdeal.main_arg3)
          ∧ r.2.mem ((c.tc : Thread Cert.InprojSampleReferenceIdeal.nD Cert.InprojSampleReferenceIdeal.τ).loc Cert.InprojSampleReferenceIdeal.main_arg4) = m' ((c.tc : Thread Cert.InprojSampleReferenceIdeal.nD Cert.InprojSampleReferenceIdeal.τ).loc Cert.InprojSampleReferenceIdeal.main_arg4))

def preserves_Ada_AdaIdeal : Prop :=
  True

def algebraic_AdaIdeal_AdaReferenceIdeal_pre_finite_ada [hAdaIdeal : Cert.AdaIdeal.Facts] [hAdaReferenceIdeal : Cert.AdaReferenceIdeal.Facts] [hPre_finite_ada : Cert.Pre_finite_ada.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaIdeal_finite_ada m →
    (∀ c : Dev Cert.AdaIdeal.nD,
      m' ((c.tc : Thread Cert.AdaReferenceIdeal.nD Cert.AdaReferenceIdeal.τ).loc Cert.AdaReferenceIdeal.main_arg0) = m ((c.tc : Thread Cert.AdaIdeal.nD Cert.AdaIdeal.τ).loc Cert.AdaIdeal.main_arg0)
      ∧ m' ((c.tc : Thread Cert.AdaReferenceIdeal.nD Cert.AdaReferenceIdeal.τ).loc Cert.AdaReferenceIdeal.main_arg1) = m ((c.tc : Thread Cert.AdaIdeal.nD Cert.AdaIdeal.τ).loc Cert.AdaIdeal.main_arg1)
      ∧ m' ((c.tc : Thread Cert.AdaReferenceIdeal.nD Cert.AdaReferenceIdeal.τ).loc Cert.AdaReferenceIdeal.main_arg2) = m ((c.tc : Thread Cert.AdaIdeal.nD Cert.AdaIdeal.τ).loc Cert.AdaIdeal.main_arg2)
      ∧ m' ((c.tc : Thread Cert.AdaReferenceIdeal.nD Cert.AdaReferenceIdeal.τ).loc Cert.AdaReferenceIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v5)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v5) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v7) = v0 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2)
          ∧ r.2.mem ((c.tc : Thread Cert.AdaReferenceIdeal.nD Cert.AdaReferenceIdeal.τ).loc Cert.AdaReferenceIdeal.main_arg3) = m' ((c.tc : Thread Cert.AdaReferenceIdeal.nD Cert.AdaReferenceIdeal.τ).loc Cert.AdaReferenceIdeal.main_arg3))

def preserves_MergeSample_MergeSampleIdeal : Prop :=
  True

def algebraic_MergeSampleIdeal_MergeSampleReferenceIdeal [hMergeSampleIdeal : Cert.MergeSampleIdeal.Facts] [hMergeSampleReferenceIdeal : Cert.MergeSampleReferenceIdeal.Facts] : Prop :=
  ∀ (m : (ℓ : Loc Cert.MergeSampleIdeal.nD Cert.MergeSampleIdeal.τ Cert.MergeSampleIdeal.sig) → Buf (Elt Ideal) ℓ) (g : Dev Cert.MergeSampleIdeal.nD → PrngReg)
    (m' : (ℓ : Loc Cert.MergeSampleReferenceIdeal.nD Cert.MergeSampleReferenceIdeal.τ Cert.MergeSampleReferenceIdeal.sig) → Buf (Elt Ideal) ℓ) (g' : Dev Cert.MergeSampleReferenceIdeal.nD → PrngReg), Pre_MergeSampleIdeal m →
    (∀ c : Dev Cert.MergeSampleIdeal.nD,
      m' ((c.tc : Thread Cert.MergeSampleReferenceIdeal.nD Cert.MergeSampleReferenceIdeal.τ).loc Cert.MergeSampleReferenceIdeal.main_arg0) = m ((c.tc : Thread Cert.MergeSampleIdeal.nD Cert.MergeSampleIdeal.τ).loc Cert.MergeSampleIdeal.main_arg0)
      ∧ m' ((c.tc : Thread Cert.MergeSampleReferenceIdeal.nD Cert.MergeSampleReferenceIdeal.τ).loc Cert.MergeSampleReferenceIdeal.main_arg1) = m ((c.tc : Thread Cert.MergeSampleIdeal.nD Cert.MergeSampleIdeal.τ).loc Cert.MergeSampleIdeal.main_arg1)
      ∧ m' ((c.tc : Thread Cert.MergeSampleReferenceIdeal.nD Cert.MergeSampleReferenceIdeal.τ).loc Cert.MergeSampleReferenceIdeal.main_arg2) = m ((c.tc : Thread Cert.MergeSampleIdeal.nD Cert.MergeSampleIdeal.τ).loc Cert.MergeSampleIdeal.main_arg2)
      ∧ m' ((c.tc : Thread Cert.MergeSampleReferenceIdeal.nD Cert.MergeSampleReferenceIdeal.τ).loc Cert.MergeSampleReferenceIdeal.main_arg3) = m ((c.tc : Thread Cert.MergeSampleIdeal.nD Cert.MergeSampleIdeal.τ).loc Cert.MergeSampleIdeal.main_arg3)
      ∧ m' ((c.tc : Thread Cert.MergeSampleReferenceIdeal.nD Cert.MergeSampleReferenceIdeal.τ).loc Cert.MergeSampleReferenceIdeal.main_arg4) = m ((c.tc : Thread Cert.MergeSampleIdeal.nD Cert.MergeSampleIdeal.τ).loc Cert.MergeSampleIdeal.main_arg4)
      ∧ m' ((c.tc : Thread Cert.MergeSampleReferenceIdeal.nD Cert.MergeSampleReferenceIdeal.τ).loc Cert.MergeSampleReferenceIdeal.main_arg5) = m ((c.tc : Thread Cert.MergeSampleIdeal.nD Cert.MergeSampleIdeal.τ).loc Cert.MergeSampleIdeal.main_arg5)
      ∧ m' ((c.tc : Thread Cert.MergeSampleReferenceIdeal.nD Cert.MergeSampleReferenceIdeal.τ).loc Cert.MergeSampleReferenceIdeal.main_arg6) = m ((c.tc : Thread Cert.MergeSampleIdeal.nD Cert.MergeSampleIdeal.τ).loc Cert.MergeSampleIdeal.main_arg6)
      ∧ m' ((c.tc : Thread Cert.MergeSampleReferenceIdeal.nD Cert.MergeSampleReferenceIdeal.τ).loc Cert.MergeSampleReferenceIdeal.main_arg7) = m ((c.tc : Thread Cert.MergeSampleIdeal.nD Cert.MergeSampleIdeal.τ).loc Cert.MergeSampleIdeal.main_arg7)
      ∧ m' ((c.tc : Thread Cert.MergeSampleReferenceIdeal.nD Cert.MergeSampleReferenceIdeal.τ).loc Cert.MergeSampleReferenceIdeal.main_arg8) = m ((c.tc : Thread Cert.MergeSampleIdeal.nD Cert.MergeSampleIdeal.τ).loc Cert.MergeSampleIdeal.main_arg8)) →
    ∃ (v0 : (c : Dev Cert.MergeSampleIdeal.nD) → Buf (Elt Ideal) ((c.tc : Thread Cert.MergeSampleIdeal.nD Cert.MergeSampleIdeal.τ).loc Cert.MergeSampleIdeal.main_v11)),
      θ_run (Cert.MergeSampleIdeal.defs (F := Ideal)) (onTc (τ := Cert.MergeSampleIdeal.τ) (Cert.MergeSampleIdeal.main (F := Ideal))) ⟨m, fun _ => 0, g⟩ (fun r => ∀ c : Dev Cert.MergeSampleIdeal.nD,
          r.2.mem ((c.tc : Thread Cert.MergeSampleIdeal.nD Cert.MergeSampleIdeal.τ).loc Cert.MergeSampleIdeal.main_v11) = v0 c
          ∧ r.2.mem ((c.tc : Thread Cert.MergeSampleIdeal.nD Cert.MergeSampleIdeal.τ).loc Cert.MergeSampleIdeal.main_arg0) = m ((c.tc : Thread Cert.MergeSampleIdeal.nD Cert.MergeSampleIdeal.τ).loc Cert.MergeSampleIdeal.main_arg0)
          ∧ r.2.mem ((c.tc : Thread Cert.MergeSampleIdeal.nD Cert.MergeSampleIdeal.τ).loc Cert.MergeSampleIdeal.main_arg1) = m ((c.tc : Thread Cert.MergeSampleIdeal.nD Cert.MergeSampleIdeal.τ).loc Cert.MergeSampleIdeal.main_arg1)
          ∧ r.2.mem ((c.tc : Thread Cert.MergeSampleIdeal.nD Cert.MergeSampleIdeal.τ).loc Cert.MergeSampleIdeal.main_arg2) = m ((c.tc : Thread Cert.MergeSampleIdeal.nD Cert.MergeSampleIdeal.τ).loc Cert.MergeSampleIdeal.main_arg2)
          ∧ r.2.mem ((c.tc : Thread Cert.MergeSampleIdeal.nD Cert.MergeSampleIdeal.τ).loc Cert.MergeSampleIdeal.main_arg3) = m ((c.tc : Thread Cert.MergeSampleIdeal.nD Cert.MergeSampleIdeal.τ).loc Cert.MergeSampleIdeal.main_arg3)
          ∧ r.2.mem ((c.tc : Thread Cert.MergeSampleIdeal.nD Cert.MergeSampleIdeal.τ).loc Cert.MergeSampleIdeal.main_arg4) = m ((c.tc : Thread Cert.MergeSampleIdeal.nD Cert.MergeSampleIdeal.τ).loc Cert.MergeSampleIdeal.main_arg4)
          ∧ r.2.mem ((c.tc : Thread Cert.MergeSampleIdeal.nD Cert.MergeSampleIdeal.τ).loc Cert.MergeSampleIdeal.main_arg5) = m ((c.tc : Thread Cert.MergeSampleIdeal.nD Cert.MergeSampleIdeal.τ).loc Cert.MergeSampleIdeal.main_arg5)
          ∧ r.2.mem ((c.tc : Thread Cert.MergeSampleIdeal.nD Cert.MergeSampleIdeal.τ).loc Cert.MergeSampleIdeal.main_arg6) = m ((c.tc : Thread Cert.MergeSampleIdeal.nD Cert.MergeSampleIdeal.τ).loc Cert.MergeSampleIdeal.main_arg6)
          ∧ r.2.mem ((c.tc : Thread Cert.MergeSampleIdeal.nD Cert.MergeSampleIdeal.τ).loc Cert.MergeSampleIdeal.main_arg7) = m ((c.tc : Thread Cert.MergeSampleIdeal.nD Cert.MergeSampleIdeal.τ).loc Cert.MergeSampleIdeal.main_arg7)
          ∧ r.2.mem ((c.tc : Thread Cert.MergeSampleIdeal.nD Cert.MergeSampleIdeal.τ).loc Cert.MergeSampleIdeal.main_arg8) = m ((c.tc : Thread Cert.MergeSampleIdeal.nD Cert.MergeSampleIdeal.τ).loc Cert.MergeSampleIdeal.main_arg8))
      ∧ θ_run (Cert.MergeSampleReferenceIdeal.defs (F := Ideal)) (onTc (τ := Cert.MergeSampleReferenceIdeal.τ) (Cert.MergeSampleReferenceIdeal.main (F := Ideal))) ⟨m', fun _ => 0, g'⟩ (fun r => ∀ c : Dev Cert.MergeSampleReferenceIdeal.nD,
          r.2.mem ((c.tc : Thread Cert.MergeSampleReferenceIdeal.nD Cert.MergeSampleReferenceIdeal.τ).loc Cert.MergeSampleReferenceIdeal.main_v34) = v0 c
          ∧ r.2.mem ((c.tc : Thread Cert.MergeSampleReferenceIdeal.nD Cert.MergeSampleReferenceIdeal.τ).loc Cert.MergeSampleReferenceIdeal.main_arg0) = m' ((c.tc : Thread Cert.MergeSampleReferenceIdeal.nD Cert.MergeSampleReferenceIdeal.τ).loc Cert.MergeSampleReferenceIdeal.main_arg0)
          ∧ r.2.mem ((c.tc : Thread Cert.MergeSampleReferenceIdeal.nD Cert.MergeSampleReferenceIdeal.τ).loc Cert.MergeSampleReferenceIdeal.main_arg1) = m' ((c.tc : Thread Cert.MergeSampleReferenceIdeal.nD Cert.MergeSampleReferenceIdeal.τ).loc Cert.MergeSampleReferenceIdeal.main_arg1)
          ∧ r.2.mem ((c.tc : Thread Cert.MergeSampleReferenceIdeal.nD Cert.MergeSampleReferenceIdeal.τ).loc Cert.MergeSampleReferenceIdeal.main_arg2) = m' ((c.tc : Thread Cert.MergeSampleReferenceIdeal.nD Cert.MergeSampleReferenceIdeal.τ).loc Cert.MergeSampleReferenceIdeal.main_arg2)
          ∧ r.2.mem ((c.tc : Thread Cert.MergeSampleReferenceIdeal.nD Cert.MergeSampleReferenceIdeal.τ).loc Cert.MergeSampleReferenceIdeal.main_arg3) = m' ((c.tc : Thread Cert.MergeSampleReferenceIdeal.nD Cert.MergeSampleReferenceIdeal.τ).loc Cert.MergeSampleReferenceIdeal.main_arg3)
          ∧ r.2.mem ((c.tc : Thread Cert.MergeSampleReferenceIdeal.nD Cert.MergeSampleReferenceIdeal.τ).loc Cert.MergeSampleReferenceIdeal.main_arg4) = m' ((c.tc : Thread Cert.MergeSampleReferenceIdeal.nD Cert.MergeSampleReferenceIdeal.τ).loc Cert.MergeSampleReferenceIdeal.main_arg4)
          ∧ r.2.mem ((c.tc : Thread Cert.MergeSampleReferenceIdeal.nD Cert.MergeSampleReferenceIdeal.τ).loc Cert.MergeSampleReferenceIdeal.main_arg5) = m' ((c.tc : Thread Cert.MergeSampleReferenceIdeal.nD Cert.MergeSampleReferenceIdeal.τ).loc Cert.MergeSampleReferenceIdeal.main_arg5)
          ∧ r.2.mem ((c.tc : Thread Cert.MergeSampleReferenceIdeal.nD Cert.MergeSampleReferenceIdeal.τ).loc Cert.MergeSampleReferenceIdeal.main_arg6) = m' ((c.tc : Thread Cert.MergeSampleReferenceIdeal.nD Cert.MergeSampleReferenceIdeal.τ).loc Cert.MergeSampleReferenceIdeal.main_arg6)
          ∧ r.2.mem ((c.tc : Thread Cert.MergeSampleReferenceIdeal.nD Cert.MergeSampleReferenceIdeal.τ).loc Cert.MergeSampleReferenceIdeal.main_arg7) = m' ((c.tc : Thread Cert.MergeSampleReferenceIdeal.nD Cert.MergeSampleReferenceIdeal.τ).loc Cert.MergeSampleReferenceIdeal.main_arg7)
          ∧ r.2.mem ((c.tc : Thread Cert.MergeSampleReferenceIdeal.nD Cert.MergeSampleReferenceIdeal.τ).loc Cert.MergeSampleReferenceIdeal.main_arg8) = m' ((c.tc : Thread Cert.MergeSampleReferenceIdeal.nD Cert.MergeSampleReferenceIdeal.τ).loc Cert.MergeSampleReferenceIdeal.main_arg8))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hInproj : Cert.Inproj.Facts) (hInprojIdeal : Cert.InprojIdeal.Facts) (hInprojReferenceIdeal : Cert.InprojReferenceIdeal.Facts) (hMerge : Cert.Merge.Facts) (hMergeIdeal : Cert.MergeIdeal.Facts) (hMergeReferenceIdeal : Cert.MergeReferenceIdeal.Facts) (hFfnSample : Cert.FfnSample.Facts) (hFfnSampleIdeal : Cert.FfnSampleIdeal.Facts) (hFfnSampleReferenceIdeal : Cert.FfnSampleReferenceIdeal.Facts) (hInprojSample : Cert.InprojSample.Facts) (hInprojSampleIdeal : Cert.InprojSampleIdeal.Facts) (hInprojSampleReferenceIdeal : Cert.InprojSampleReferenceIdeal.Facts) (hAda : Cert.Ada.Facts) (hAdaIdeal : Cert.AdaIdeal.Facts) (hAdaReferenceIdeal : Cert.AdaReferenceIdeal.Facts) (hMergeSample : Cert.MergeSample.Facts) (hMergeSampleIdeal : Cert.MergeSampleIdeal.Facts) (hMergeSampleReferenceIdeal : Cert.MergeSampleReferenceIdeal.Facts) (hPre_finite_qk : Cert.Pre_finite_qk.Facts) (hPre_finite_in : Cert.Pre_finite_in.Facts) (hPre_finite_in_sample : Cert.Pre_finite_in_sample.Facts) (hPre_finite_ada : Cert.Pre_finite_ada.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Inproj (hInproj := hInproj)
    ∧ quiescent_InprojIdeal (hInprojIdeal := hInprojIdeal)
    ∧ quiescent_InprojIdeal_pre_finite_in (hInprojIdeal := hInprojIdeal) (hPre_finite_in := hPre_finite_in)
    ∧ quiescent_InprojReferenceIdeal (hInprojReferenceIdeal := hInprojReferenceIdeal)
    ∧ quiescent_InprojReferenceIdeal_pre_finite_in (hInprojReferenceIdeal := hInprojReferenceIdeal) (hPre_finite_in := hPre_finite_in)
    ∧ quiescent_Merge (hMerge := hMerge)
    ∧ quiescent_MergeIdeal (hMergeIdeal := hMergeIdeal)
    ∧ quiescent_MergeReferenceIdeal (hMergeReferenceIdeal := hMergeReferenceIdeal)
    ∧ quiescent_FfnSample (hFfnSample := hFfnSample)
    ∧ quiescent_FfnSampleIdeal (hFfnSampleIdeal := hFfnSampleIdeal)
    ∧ quiescent_FfnSampleReferenceIdeal (hFfnSampleReferenceIdeal := hFfnSampleReferenceIdeal)
    ∧ quiescent_InprojSample (hInprojSample := hInprojSample)
    ∧ quiescent_InprojSampleIdeal (hInprojSampleIdeal := hInprojSampleIdeal)
    ∧ quiescent_InprojSampleIdeal_pre_finite_in_sample (hInprojSampleIdeal := hInprojSampleIdeal) (hPre_finite_in_sample := hPre_finite_in_sample)
    ∧ quiescent_InprojSampleReferenceIdeal (hInprojSampleReferenceIdeal := hInprojSampleReferenceIdeal)
    ∧ quiescent_InprojSampleReferenceIdeal_pre_finite_in_sample (hInprojSampleReferenceIdeal := hInprojSampleReferenceIdeal) (hPre_finite_in_sample := hPre_finite_in_sample)
    ∧ quiescent_Ada (hAda := hAda)
    ∧ quiescent_AdaIdeal (hAdaIdeal := hAdaIdeal)
    ∧ quiescent_AdaIdeal_pre_finite_ada (hAdaIdeal := hAdaIdeal) (hPre_finite_ada := hPre_finite_ada)
    ∧ quiescent_AdaReferenceIdeal (hAdaReferenceIdeal := hAdaReferenceIdeal)
    ∧ quiescent_AdaReferenceIdeal_pre_finite_ada (hAdaReferenceIdeal := hAdaReferenceIdeal) (hPre_finite_ada := hPre_finite_ada)
    ∧ quiescent_MergeSample (hMergeSample := hMergeSample)
    ∧ quiescent_MergeSampleIdeal (hMergeSampleIdeal := hMergeSampleIdeal)
    ∧ quiescent_MergeSampleReferenceIdeal (hMergeSampleReferenceIdeal := hMergeSampleReferenceIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Ffn_FfnIdeal
    ∧ algebraic_FfnIdeal_FfnReferenceIdeal (hFfnIdeal := hFfnIdeal) (hFfnReferenceIdeal := hFfnReferenceIdeal)
    ∧ preserves_Inproj_InprojIdeal
    ∧ algebraic_InprojIdeal_InprojReferenceIdeal_pre_finite_in (hInprojIdeal := hInprojIdeal) (hInprojReferenceIdeal := hInprojReferenceIdeal) (hPre_finite_in := hPre_finite_in)
    ∧ preserves_Merge_MergeIdeal
    ∧ algebraic_MergeIdeal_MergeReferenceIdeal (hMergeIdeal := hMergeIdeal) (hMergeReferenceIdeal := hMergeReferenceIdeal)
    ∧ preserves_FfnSample_FfnSampleIdeal
    ∧ algebraic_FfnSampleIdeal_FfnSampleReferenceIdeal (hFfnSampleIdeal := hFfnSampleIdeal) (hFfnSampleReferenceIdeal := hFfnSampleReferenceIdeal)
    ∧ preserves_InprojSample_InprojSampleIdeal
    ∧ algebraic_InprojSampleIdeal_InprojSampleReferenceIdeal_pre_finite_in_sample (hInprojSampleIdeal := hInprojSampleIdeal) (hInprojSampleReferenceIdeal := hInprojSampleReferenceIdeal) (hPre_finite_in_sample := hPre_finite_in_sample)
    ∧ preserves_Ada_AdaIdeal
    ∧ algebraic_AdaIdeal_AdaReferenceIdeal_pre_finite_ada (hAdaIdeal := hAdaIdeal) (hAdaReferenceIdeal := hAdaReferenceIdeal) (hPre_finite_ada := hPre_finite_ada)
    ∧ preserves_MergeSample_MergeSampleIdeal
    ∧ algebraic_MergeSampleIdeal_MergeSampleReferenceIdeal (hMergeSampleIdeal := hMergeSampleIdeal) (hMergeSampleReferenceIdeal := hMergeSampleReferenceIdeal)
-- ==== Pre_finite_ada.lean ====
abbrev S4x1024 : Shape := ⟨2, ![4, 1024]⟩
abbrev S32x1024 : Shape := ⟨2, ![32, 1024]⟩
abbrev S1x1024x6144 : Shape := ⟨3, ![1, 1024, 6144]⟩
abbrev S1x6144 : Shape := ⟨2, ![1, 6144]⟩
abbrev S_ : Shape := ⟨0, ![]⟩

class Facts : Prop where
  bcast_S_S4x1024 : S_.BroadcastsInDim S4x1024 (![] : Fin 0 → Fin S4x1024.rank)
  bcast_S_S32x1024 : S_.BroadcastsInDim S32x1024 (![] : Fin 0 → Fin S32x1024.rank)
  bcast_S_S1x1024x6144 : S_.BroadcastsInDim S1x1024x6144 (![] : Fin 0 → Fin S1x1024x6144.rank)

variable [Facts]

def fn {F : FTy → Type} [FloatOps F] (main_arg0 : FVec F S4x1024 .f32) (main_arg1 : FVec F S32x1024 .f32) (main_arg2 : FVec F S1x1024x6144 .f32) (main_arg3 : FVec F S1x6144 .f32) : IVec S4x1024 1 × IVec S32x1024 1 × IVec S1x1024x6144 1 :=
  let main_v0 : FVec F S4x1024 .f32 := Host.absf main_arg0
  let main_cst : FVec F S_ .f32 := constant S_ .f32 0x7F800000#32
  let main_v1 : FVec F S4x1024 .f32 := broadcastInDim S4x1024 ![] bcast_S_S4x1024 main_cst
  let main_v2 : IVec S4x1024 1 := cmpf .olt main_v0 main_v1
  let main_v3 : FVec F S32x1024 .f32 := Host.absf main_arg1
  let main_cst_0 : FVec F S_ .f32 := constant S_ .f32 0x7F800000#32
  let main_v4 : FVec F S32x1024 .f32 := broadcastInDim S32x1024 ![] bcast_S_S32x1024 main_cst_0
  let main_v5 : IVec S32x1024 1 := cmpf .olt main_v3 main_v4
  let main_v6 : FVec F S1x1024x6144 .f32 := Host.absf main_arg2
  let main_cst_1 : FVec F S_ .f32 := constant S_ .f32 0x7F800000#32
  let main_v7 : FVec F S1x1024x6144 .f32 := broadcastInDim S1x1024x6144 ![] bcast_S_S1x1024x6144 main_cst_1
  let main_v8 : IVec S1x1024x6144 1 := cmpf .olt main_v6 main_v7
  (main_v2, main_v5, main_v8)
-- ==== Pre_finite_in.lean ====
abbrev S32768x1024 : Shape := ⟨2, ![32768, 1024]⟩
abbrev S4x1x1024 : Shape := ⟨3, ![4, 1, 1024]⟩
abbrev S1x1024 : Shape := ⟨2, ![1, 1024]⟩
abbrev S1x1024x5444 : Shape := ⟨3, ![1, 1024, 5444]⟩
abbrev S_ : Shape := ⟨0, ![]⟩

class Facts : Prop where
  bcast_S_S32768x1024 : S_.BroadcastsInDim S32768x1024 (![] : Fin 0 → Fin S32768x1024.rank)
  bcast_S_S4x1x1024 : S_.BroadcastsInDim S4x1x1024 (![] : Fin 0 → Fin S4x1x1024.rank)
  bcast_S_S1x1024 : S_.BroadcastsInDim S1x1024 (![] : Fin 0 → Fin S1x1024.rank)
  bcast_S_S1x1024x5444 : S_.BroadcastsInDim S1x1024x5444 (![] : Fin 0 → Fin S1x1024x5444.rank)

variable [Facts]

def fn {F : FTy → Type} [FloatOps F] (main_arg0 : FVec F S32768x1024 .f32) (main_arg1 : FVec F S4x1x1024 .f32) (main_arg2 : FVec F S4x1x1024 .f32) (main_arg3 : FVec F S1x1024 .f32) (main_arg4 : FVec F S1x1024x5444 .f32) : IVec S32768x1024 1 × IVec S4x1x1024 1 × IVec S4x1x1024 1 × IVec S1x1024 1 × IVec S1x1024x5444 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_v3 : FVec F S4x1x1024 .f32 := Host.absf main_arg1
  let main_cst_0 : FVec F S_ .f32 := constant S_ .f32 0x7F800000#32
  let main_v4 : FVec F S4x1x1024 .f32 := broadcastInDim S4x1x1024 ![] bcast_S_S4x1x1024 main_cst_0
  let main_v5 : IVec S4x1x1024 1 := cmpf .olt main_v3 main_v4
  let main_v6 : FVec F S4x1x1024 .f32 := Host.absf main_arg2
  let main_cst_1 : FVec F S_ .f32 := constant S_ .f32 0x7F800000#32
  let main_v7 : FVec F S4x1x1024 .f32 := broadcastInDim S4x1x1024 ![] bcast_S_S4x1x1024 main_cst_1
  let main_v8 : IVec S4x1x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024x5444 .f32 := Host.absf main_arg4
  let main_cst_3 : FVec F S_ .f32 := constant S_ .f32 0x7F800000#32
  let main_v13 : FVec F S1x1024x5444 .f32 := broadcastInDim S1x1024x5444 ![] bcast_S_S1x1024x5444 main_cst_3
  let main_v14 : IVec S1x1024x5444 1 := cmpf .olt main_v12 main_v13
  (main_v2, main_v5, main_v8, main_v11, main_v14)
-- ==== Pre_finite_in_sample.lean ====
abbrev S256x1024 : Shape := ⟨2, ![256, 1024]⟩
abbrev S32x1024 : Shape := ⟨2, ![32, 1024]⟩
abbrev S1x1024 : Shape := ⟨2, ![1, 1024]⟩
abbrev S1x1024x5444 : Shape := ⟨3, ![1, 1024, 5444]⟩
abbrev S_ : Shape := ⟨0, ![]⟩

class Facts : Prop where
  bcast_S_S256x1024 : S_.BroadcastsInDim S256x1024 (![] : Fin 0 → Fin S256x1024.rank)
  bcast_S_S32x1024 : S_.BroadcastsInDim S32x1024 (![] : Fin 0 → Fin S32x1024.rank)
  bcast_S_S1x1024 : S_.BroadcastsInDim S1x1024 (![] : Fin 0 → Fin S1x1024.rank)
  bcast_S_S1x1024x5444 : S_.BroadcastsInDim S1x1024x5444 (![] : Fin 0 → Fin S1x1024x5444.rank)

variable [Facts]

def fn {F : FTy → Type} [FloatOps F] (main_arg0 : FVec F S256x1024 .f32) (main_arg1 : FVec F S32x1024 .f32) (main_arg2 : FVec F S32x1024 .f32) (main_arg3 : FVec F S1x1024 .f32) (main_arg4 : FVec F S1x1024x5444 .f32) : IVec S256x1024 1 × IVec S32x1024 1 × IVec S32x1024 1 × IVec S1x1024 1 × IVec S1x1024x5444 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_v3 : FVec F S32x1024 .f32 := Host.absf main_arg1
  let main_cst_0 : FVec F S_ .f32 := constant S_ .f32 0x7F800000#32
  let main_v4 : FVec F S32x1024 .f32 := broadcastInDim S32x1024 ![] bcast_S_S32x1024 main_cst_0
  let main_v5 : IVec S32x1024 1 := cmpf .olt main_v3 main_v4
  let main_v6 : FVec F S32x1024 .f32 := Host.absf main_arg2
  let main_cst_1 : FVec F S_ .f32 := constant S_ .f32 0x7F800000#32
  let main_v7 : FVec F S32x1024 .f32 := broadcastInDim S32x1024 ![] bcast_S_S32x1024 main_cst_1
  let main_v8 : IVec S32x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024x5444 .f32 := Host.absf main_arg4
  let main_cst_3 : FVec F S_ .f32 := constant S_ .f32 0x7F800000#32
  let main_v13 : FVec F S1x1024x5444 .f32 := broadcastInDim S1x1024x5444 ![] bcast_S_S1x1024x5444 main_cst_3
  let main_v14 : IVec S1x1024x5444 1 := cmpf .olt main_v12 main_v13
  (main_v2, main_v5, main_v8, main_v11, main_v14)
-- ==== Pre_finite_qk.lean ====
abbrev S4x8192x512 : Shape := ⟨3, ![4, 8192, 512]⟩
abbrev S_ : Shape := ⟨0, ![]⟩

class Facts : Prop where
  bitsLt_bf16_f32 : FTy.bits .bf16 < FTy.bits .f32
  bcast_S_S4x8192x512 : S_.BroadcastsInDim S4x8192x512 (![] : Fin 0 → Fin S4x8192x512.rank)

variable [Facts]

def fn {F : FTy → Type} [FloatOps F] (main_arg0 : FVec F S4x8192x512 .bf16) (main_arg1 : FVec F S4x8192x512 .bf16) (main_arg2 : FVec F S4x8192x512 .bf16) : IVec S4x8192x512 1 × IVec S4x8192x512 1 :=
  let main_v0 : FVec F S4x8192x512 .f32 := (extf .f32 · bitsLt_bf16_f32) main_arg0
  let main_v1 : FVec F S4x8192x512 .f32 := Host.absf main_v0
  let main_cst : FVec F S_ .f32 := constant S_ .f32 0x7F800000#32
  let main_v2 : FVec F S4x8192x512 .f32 := broadcastInDim S4x8192x512 ![] bcast_S_S4x8192x512 main_cst
  let main_v3 : IVec S4x8192x512 1 := cmpf .olt main_v1 main_v2
  let main_v4 : FVec F S4x8192x512 .f32 := (extf .f32 · bitsLt_bf16_f32) main_arg1
  let main_v5 : FVec F S4x8192x512 .f32 := Host.absf main_v4
  let main_cst_0 : FVec F S_ .f32 := constant S_ .f32 0x7F800000#32
  let main_v6 : FVec F S4x8192x512 .f32 := broadcastInDim S4x8192x512 ![] bcast_S_S4x8192x512 main_cst_0
  let main_v7 : IVec S4x8192x512 1 := cmpf .olt main_v5 main_v6
  (main_v3, main_v7)
-- ==== Kernel.lean ====
abbrev S4x8192x512 : Shape := ⟨3, ![4, 8192, 512]⟩
abbrev S1x256x512 : Shape := ⟨3, ![1, 256, 512]⟩
abbrev S1x8192x512 : Shape := ⟨3, ![1, 8192, 512]⟩
abbrev S8x256x1 : Shape := ⟨3, ![8, 256, 1]⟩
abbrev S256x512 : Shape := ⟨2, ![256, 512]⟩
abbrev S256x128 : Shape := ⟨2, ![256, 128]⟩
abbrev S1x256x128 : Shape := ⟨3, ![1, 256, 128]⟩
abbrev S256x256 : Shape := ⟨2, ![256, 256]⟩
abbrev S1x256x1 : Shape := ⟨3, ![1, 256, 1]⟩
abbrev S256x1 : Shape := ⟨2, ![256, 1]⟩

abbrev nBuf : Space → Nat
  | .hbm => 4
  | .vmem => 10
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S4x8192x512, .bf16⟩
  | .hbm, ⟨3, _⟩ => ⟨S4x8192x512, .f32⟩
  | .local _ .vmem, ⟨0, _⟩ => ⟨S1x256x512, .bf16⟩
  | .local _ .vmem, ⟨1, _⟩ => ⟨S1x256x512, .bf16⟩
  | .local _ .vmem, ⟨2, _⟩ => ⟨S1x8192x512, .bf16⟩
  | .local _ .vmem, ⟨3, _⟩ => ⟨S1x8192x512, .bf16⟩
  | .local _ .vmem, ⟨4, _⟩ => ⟨S1x8192x512, .bf16⟩
  | .local _ .vmem, ⟨5, _⟩ => ⟨S1x8192x512, .bf16⟩
  | .local _ .vmem, ⟨6, _⟩ => ⟨S1x256x512, .f32⟩
  | .local _ .vmem, ⟨7, _⟩ => ⟨S1x256x512, .f32⟩
  | .local _ .vmem, ⟨8, _⟩ => ⟨S8x256x1, .f32⟩
  | .local _ .vmem, ⟨9, _⟩ => ⟨S256x512, .f32⟩
  | _, _ => ⟨S4x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 32], ![false, false]⟩

def k0_mult1 (i : grid0.Coords) : BitVec 32 :=
  let arg1 : BitVec 32 := BitVec.ofNat 32 (i 1).val
  let c256_i32 : BitVec 32 := 256#32
  let v55 : BitVec 32 := Scalar.muli arg1 c256_i32
  v55
def k0_off1 (i : grid0.Coords) : Fin 3 → Nat :=
  let c0_24 : Index := 0#32
  let arg1 : BitVec 32 := BitVec.ofNat 32 (i 1).val
  let c256_i32 : BitVec 32 := 256#32
  let v55 : BitVec 32 := Scalar.muli arg1 c256_i32
  let v56 : BitVec 32 := v55
  let v57 : Index := Scalar.indexCast v56
  let c0_25 : Index := 0#32
  ![0, v57.toNat, 0]
def k0_off2 (i : grid0.Coords) : Fin 3 → Nat :=
  let c0_69 : Index := 0#32
  let arg1 : BitVec 32 := BitVec.ofNat 32 (i 1).val
  let c256_i32 : BitVec 32 := 256#32
  let v55 : BitVec 32 := Scalar.muli arg1 c256_i32
  let v56 : BitVec 32 := v55
  let v153 : Index := Scalar.indexCast v56
  let c128_70 : Index := 128#32
  ![0, v153.toNat, 128]
def k0_off3 (i : grid0.Coords) : Fin 3 → Nat :=
  let c0_113 : Index := 0#32
  let arg1 : BitVec 32 := BitVec.ofNat 32 (i 1).val
  let c256_i32 : BitVec 32 := 256#32
  let v55 : BitVec 32 := Scalar.muli arg1 c256_i32
  let v56 : BitVec 32 := v55
  let v249 : Index := Scalar.indexCast v56
  let c256_114 : Index := 256#32
  ![0, v249.toNat, 256]
def k0_off4 (i : grid0.Coords) : Fin 3 → Nat :=
  let c0_157 : Index := 0#32
  let arg1 : BitVec 32 := BitVec.ofNat 32 (i 1).val
  let c256_i32 : BitVec 32 := 256#32
  let v55 : BitVec 32 := Scalar.muli arg1 c256_i32
  let v56 : BitVec 32 := v55
  let v345 : Index := Scalar.indexCast v56
  let c384_158 : Index := 384#32
  ![0, v345.toNat, 384]
@[reducible] def k0_t1_loop (i : grid0.Coords) : Scf.Loop 32 :=
  let c0_i32 : BitVec 32 := 0#32
  let arg1 : BitVec 32 := BitVec.ofNat 32 (i 1).val
  let v441 : BitVec 32 := Scalar.subi arg1 c0_i32
  let c1_i32 : BitVec 32 := 1#32
  let v443 : BitVec 32 := Scalar.divsi v441 c1_i32
  let v444 : BitVec 32 := Scalar.muli v443 c1_i32
  let v445 : BitVec 32 := Scalar.addi c0_i32 v444
  let c1_i32_202 : BitVec 32 := 1#32
  ⟨c0_i32, v445, c1_i32_202⟩
def k0_mult2 (i : grid0.Coords) (k0_t1 : Fin (k0_t1_loop i).trips) : BitVec 32 :=
  let arg1 : BitVec 32 := BitVec.ofNat 32 (i 1).val
  let c1_i32_209 : BitVec 32 := 1#32
  let v452 : BitVec 32 := Scalar.subi arg1 c1_i32_209
  let c0_i32 : BitVec 32 := 0#32
  let c1_i32_202 : BitVec 32 := 1#32
  let arg8 : BitVec 32 := Scf.iv c0_i32 c1_i32_202 k0_t1
  let v453 : BitVec 32 := Scalar.subi v452 arg8
  let c256_i32_210 : BitVec 32 := 256#32
  let v454 : BitVec 32 := Scalar.muli v453 c256_i32_210
  v454
def k0_off5 (i : grid0.Coords) (k0_t1 : Fin (k0_t1_loop i).trips) : Fin 3 → Nat :=
  let c0_211 : Index := 0#32
  let arg1 : BitVec 32 := BitVec.ofNat 32 (i 1).val
  let c1_i32_209 : BitVec 32 := 1#32
  let v452 : BitVec 32 := Scalar.subi arg1 c1_i32_209
  let c0_i32 : BitVec 32 := 0#32
  let c1_i32_202 : BitVec 32 := 1#32
  let arg8 : BitVec 32 := Scf.iv c0_i32 c1_i32_202 k0_t1
  let v453 : BitVec 32 := Scalar.subi v452 arg8
  let c256_i32_210 : BitVec 32 := 256#32
  let v454 : BitVec 32 := Scalar.muli v453 c256_i32_210
  let v455 : BitVec 32 := v454
  let v456 : Index := Scalar.indexCast v455
  let c0_212 : Index := 0#32
  ![0, v456.toNat, 0]
def k0_off6 (i : grid0.Coords) (k0_t1 : Fin (k0_t1_loop i).trips) : Fin 3 → Nat :=
  let c0_253 : Index := 0#32
  let arg1 : BitVec 32 := BitVec.ofNat 32 (i 1).val
  let c1_i32_209 : BitVec 32 := 1#32
  let v452 : BitVec 32 := Scalar.subi arg1 c1_i32_209
  let c0_i32 : BitVec 32 := 0#32
  let c1_i32_202 : BitVec 32 := 1#32
  let arg8 : BitVec 32 := Scf.iv c0_i32 c1_i32_202 k0_t1
  let v453 : BitVec 32 := Scalar.subi v452 arg8
  let c256_i32_210 : BitVec 32 := 256#32
  let v454 : BitVec 32 := Scalar.muli v453 c256_i32_210
  let v455 : BitVec 32 := v454
  let v544 : Index := Scalar.indexCast v455
  let c128_254 : Index := 128#32
  ![0, v544.toNat, 128]
def k0_off7 (i : grid0.Coords) (k0_t1 : Fin (k0_t1_loop i).trips) : Fin 3 → Nat :=
  let c0_295 : Index := 0#32
  let arg1 : BitVec 32 := BitVec.ofNat 32 (i 1).val
  let c1_i32_209 : BitVec 32 := 1#32
  let v452 : BitVec 32 := Scalar.subi arg1 c1_i32_209
  let c0_i32 : BitVec 32 := 0#32
  let c1_i32_202 : BitVec 32 := 1#32
  let arg8 : BitVec 32 := Scf.iv c0_i32 c1_i32_202 k0_t1
  let v453 : BitVec 32 := Scalar.subi v452 arg8
  let c256_i32_210 : BitVec 32 := 256#32
  let v454 : BitVec 32 := Scalar.muli v453 c256_i32_210
  let v455 : BitVec 32 := v454
  let v632 : Index := Scalar.indexCast v455
  let c256_296 : Index := 256#32
  ![0, v632.toNat, 256]
def k0_off8 (i : grid0.Coords) (k0_t1 : Fin (k0_t1_loop i).trips) : Fin 3 → Nat :=
  let c0_337 : Index := 0#32
  let arg1 : BitVec 32 := BitVec.ofNat 32 (i 1).val
  let c1_i32_209 : BitVec 32 := 1#32
  let v452 : BitVec 32 := Scalar.subi arg1 c1_i32_209
  let c0_i32 : BitVec 32 := 0#32
  let c1_i32_202 : BitVec 32 := 1#32
  let arg8 : BitVec 32 := Scf.iv c0_i32 c1_i32_202 k0_t1
  let v453 : BitVec 32 := Scalar.subi v452 arg8
  let c256_i32_210 : BitVec 32 := 256#32
  let v454 : BitVec 32 := Scalar.muli v453 c256_i32_210
  let v455 : BitVec 32 := v454
  let v720 : Index := Scalar.indexCast v455
  let c384_338 : Index := 384#32
  ![0, v720.toNat, 384]
@[reducible] def k0_t2_loop (i : grid0.Coords) : Scf.Loop 32 :=
  let c0_i32 : BitVec 32 := 0#32
  let arg1 : BitVec 32 := BitVec.ofNat 32 (i 1).val
  let v441 : BitVec 32 := Scalar.subi arg1 c0_i32
  let c1_i32 : BitVec 32 := 1#32
  let v443 : BitVec 32 := Scalar.divsi v441 c1_i32
  let v444 : BitVec 32 := Scalar.muli v443 c1_i32
  let v445 : BitVec 32 := Scalar.addi c0_i32 v444
  let v442 : BitVec 32 := Scalar.addi c0_i32 v441
  let c1_i32_203 : BitVec 32 := 1#32
  ⟨v445, v442, c1_i32_203⟩
def k0_mult3 (i : grid0.Coords) (k0_t2 : Fin (k0_t2_loop i).trips) : BitVec 32 :=
  let arg1 : BitVec 32 := BitVec.ofNat 32 (i 1).val
  let c1_i32_209 : BitVec 32 := 1#32
  let v452 : BitVec 32 := Scalar.subi arg1 c1_i32_209
  let c0_i32 : BitVec 32 := 0#32
  let v441 : BitVec 32 := Scalar.subi arg1 c0_i32
  let c1_i32 : BitVec 32 := 1#32
  let v443 : BitVec 32 := Scalar.divsi v441 c1_i32
  let v444 : BitVec 32 := Scalar.muli v443 c1_i32
  let v445 : BitVec 32 := Scalar.addi c0_i32 v444
  let c1_i32_203 : BitVec 32 := 1#32
  let arg8 : BitVec 32 := Scf.iv v445 c1_i32_203 k0_t2
  let v453 : BitVec 32 := Scalar.subi v452 arg8
  let c256_i32_210 : BitVec 32 := 256#32
  let v454 : BitVec 32 := Scalar.muli v453 c256_i32_210
  v454
def k0_off9 (i : grid0.Coords) (k0_t2 : Fin (k0_t2_loop i).trips) : Fin 3 → Nat :=
  let c0_211 : Index := 0#32
  let arg1 : BitVec 32 := BitVec.ofNat 32 (i 1).val
  let c1_i32_209 : BitVec 32 := 1#32
  let v452 : BitVec 32 := Scalar.subi arg1 c1_i32_209
  let c0_i32 : BitVec 32 := 0#32
  let v441 : BitVec 32 := Scalar.subi arg1 c0_i32
  let c1_i32 : BitVec 32 := 1#32
  let v443 : BitVec 32 := Scalar.divsi v441 c1_i32
  let v444 : BitVec 32 := Scalar.muli v443 c1_i32
  let v445 : BitVec 32 := Scalar.addi c0_i32 v444
  let c1_i32_203 : BitVec 32 := 1#32
  let arg8 : BitVec 32 := Scf.iv v445 c1_i32_203 k0_t2
  let v453 : BitVec 32 := Scalar.subi v452 arg8
  let c256_i32_210 : BitVec 32 := 256#32
  let v454 : BitVec 32 := Scalar.muli v453 c256_i32_210
  let v455 : BitVec 32 := v454
  let v456 : Index := Scalar.indexCast v455
  let c0_212 : Index := 0#32
  ![0, v456.toNat, 0]
def k0_off10 (i : grid0.Coords) (k0_t2 : Fin (k0_t2_loop i).trips) : Fin 3 → Nat :=
  let c0_253 : Index := 0#32
  let arg1 : BitVec 32 := BitVec.ofNat 32 (i 1).val
  let c1_i32_209 : BitVec 32 := 1#32
  let v452 : BitVec 32 := Scalar.subi arg1 c1_i32_209
  let c0_i32 : BitVec 32 := 0#32
  let v441 : BitVec 32 := Scalar.subi arg1 c0_i32
  let c1_i32 : BitVec 32 := 1#32
  let v443 : BitVec 32 := Scalar.divsi v441 c1_i32
  let v444 : BitVec 32 := Scalar.muli v443 c1_i32
  let v445 : BitVec 32 := Scalar.addi c0_i32 v444
  let c1_i32_203 : BitVec 32 := 1#32
  let arg8 : BitVec 32 := Scf.iv v445 c1_i32_203 k0_t2
  let v453 : BitVec 32 := Scalar.subi v452 arg8
  let c256_i32_210 : BitVec 32 := 256#32
  let v454 : BitVec 32 := Scalar.muli v453 c256_i32_210
  let v455 : BitVec 32 := v454
  let v544 : Index := Scalar.indexCast v455
  let c128_254 : Index := 128#32
  ![0, v544.toNat, 128]
def k0_off11 (i : grid0.Coords) (k0_t2 : Fin (k0_t2_loop i).trips) : Fin 3 → Nat :=
  let c0_295 : Index := 0#32
  let arg1 : BitVec 32 := BitVec.ofNat 32 (i 1).val
  let c1_i32_209 : BitVec 32 := 1#32
  let v452 : BitVec 32 := Scalar.subi arg1 c1_i32_209
  let c0_i32 : BitVec 32 := 0#32
  let v441 : BitVec 32 := Scalar.subi arg1 c0_i32
  let c1_i32 : BitVec 32 := 1#32
  let v443 : BitVec 32 := Scalar.divsi v441 c1_i32
  let v444 : BitVec 32 := Scalar.muli v443 c1_i32
  let v445 : BitVec 32 := Scalar.addi c0_i32 v444
  let c1_i32_203 : BitVec 32 := 1#32
  let arg8 : BitVec 32 := Scf.iv v445 c1_i32_203 k0_t2
  let v453 : BitVec 32 := Scalar.subi v452 arg8
  let c256_i32_210 : BitVec 32 := 256#32
  let v454 : BitVec 32 := Scalar.muli v453 c256_i32_210
  let v455 : BitVec 32 := v454
  let v632 : Index := Scalar.indexCast v455
  let c256_296 : Index := 256#32
  ![0, v632.toNat, 256]
def k0_off12 (i : grid0.Coords) (k0_t2 : Fin (k0_t2_loop i).trips) : Fin 3 → Nat :=
  let c0_337 : Index := 0#32
  let arg1 : BitVec 32 := BitVec.ofNat 32 (i 1).val
  let c1_i32_209 : BitVec 32 := 1#32
  let v452 : BitVec 32 := Scalar.subi arg1 c1_i32_209
  let c0_i32 : BitVec 32 := 0#32
  let v441 : BitVec 32 := Scalar.subi arg1 c0_i32
  let c1_i32 : BitVec 32 := 1#32
  let v443 : BitVec 32 := Scalar.divsi v441 c1_i32
  let v444 : BitVec 32 := Scalar.muli v443 c1_i32
  let v445 : BitVec 32 := Scalar.addi c0_i32 v444
  let c1_i32_203 : BitVec 32 := 1#32
  let arg8 : BitVec 32 := Scf.iv v445 c1_i32_203 k0_t2
  let v453 : BitVec 32 := Scalar.subi v452 arg8
  let c256_i32_210 : BitVec 32 := 256#32
  let v454 : BitVec 32 := Scalar.muli v453 c256_i32_210
  let v455 : BitVec 32 := v454
  let v720 : Index := Scalar.indexCast v455
  let c384_338 : Index := 384#32
  ![0, v720.toNat, 384]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S4x8192x512 : Shape := ⟨3, ![4, 8192, 512]⟩
abbrev S4x8192x8x64 : Shape := ⟨4, ![4, 8192, 8, 64]⟩
abbrev S8192 : Shape := ⟨1, ![8192]⟩
abbrev S4x8x8192x8192 : Shape := ⟨4, ![4, 8, 8192, 8192]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S_ : Shape := ⟨0, ![]⟩
abbrev S4x8x64x8192 : Shape := ⟨4, ![4, 8, 64, 8192]⟩

abbrev nBuf : Space → Nat
  | .hbm => 69
  | .vmem => 0
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S4x8192x512, .bf16⟩
  | .hbm, ⟨3, _⟩ => ⟨S4x8192x512, .f32⟩
  | .hbm, ⟨4, _⟩ => ⟨S4x8192x8x64, .f32⟩
  | .hbm, ⟨5, _⟩ => ⟨S4x8192x512, .f32⟩
  | .hbm, ⟨6, _⟩ => ⟨S4x8192x8x64, .f32⟩
  | .hbm, ⟨7, _⟩ => ⟨S4x8192x512, .f32⟩
  | .hbm, ⟨8, _⟩ => ⟨S4x8192x8x64, .f32⟩
  | .hbm, ⟨9, _⟩ => ⟨S8192, .i32⟩
  | .hbm, ⟨10, _⟩ => ⟨S4x8x8192x8192, .f32⟩
  | .hbm, ⟨11, _⟩ => ⟨S1x8192, .i32⟩
  | .hbm, ⟨12, _⟩ => ⟨S8192x1, .i32⟩
  | .hbm, ⟨13, _⟩ => ⟨S8192x8192, .i32⟩
  | .hbm, ⟨14, _⟩ => ⟨S8192x8192, .i32⟩
  | .hbm, ⟨15, _⟩ => ⟨S8192x8192, .i1⟩
  | .hbm, ⟨16, _⟩ => ⟨S1x1x8192x8192, .i1⟩
  | .hbm, ⟨17, _⟩ => ⟨S4x8x8192x8192, .f32⟩
  | .hbm, ⟨18, _⟩ => ⟨S4x8x8192x8192, .f32⟩
  | .hbm, ⟨19, _⟩ => ⟨S_, .f32⟩
  | .hbm, ⟨20, _⟩ => ⟨S4x8x8192x8192, .f32⟩
  | .hbm, ⟨21, _⟩ => ⟨S4x8x8192x8192, .f32⟩
  | .hbm, ⟨22, _⟩ => ⟨S4x8x8192x8192, .f32⟩
  | .hbm, ⟨23, _⟩ => ⟨S4x8x8192x8192, .f32⟩
  | .hbm, ⟨24, _⟩ => ⟨S4x8x8192x8192, .i1⟩
  | .hbm, ⟨25, _⟩ => ⟨S4x8x8192x8192, .f32⟩
  | .hbm, ⟨26, _⟩ => ⟨S4x8x8192x8192, .f32⟩
  | .hbm, ⟨27, _⟩ => ⟨S4x8x8192x8192, .f32⟩
  | .hbm, ⟨28, _⟩ => ⟨S4x8x8192x8192, .f32⟩
  | .hbm, ⟨29, _⟩ => ⟨S4x8x8192x8192, .f32⟩
  | .hbm, ⟨30, _⟩ => ⟨S4x8x8192x8192, .f32⟩
  | .hbm, ⟨31, _⟩ => ⟨S4x8x8192x8192, .f32⟩
  | .hbm, ⟨32, _⟩ => ⟨S4x8x8192x8192, .f32⟩
  | .hbm, ⟨33, _⟩ => ⟨S4x8x8192x8192, .f32⟩
  | .hbm, ⟨34, _⟩ => ⟨S_, .f32⟩
  | .hbm, ⟨35, _⟩ => ⟨S_, .f32⟩
  | .hbm, ⟨36, _⟩ => ⟨S4x8x8192x8192, .i1⟩
  | .hbm, ⟨37, _⟩ => ⟨S4x8x8192x8192, .f32⟩
  | .hbm, ⟨38, _⟩ => ⟨S4x8x8192x8192, .f32⟩
  | .hbm, ⟨39, _⟩ => ⟨S_, .f32⟩
  | .hbm, ⟨40, _⟩ => ⟨S_, .f32⟩
  | .hbm, ⟨41, _⟩ => ⟨S4x8x8192x8192, .f32⟩
  | .hbm, ⟨42, _⟩ => ⟨S4x8x8192x8192, .f32⟩
  | .hbm, ⟨43, _⟩ => ⟨S4x8x8192x8192, .f32⟩
  | .hbm, ⟨44, _⟩ => ⟨S_, .f32⟩
  | .hbm, ⟨45, _⟩ => ⟨S4x8x8192x8192, .f32⟩
  | .hbm, ⟨46, _⟩ => ⟨S4x8x8192x8192, .f32⟩
  | .hbm, ⟨47, _⟩ => ⟨S4x8x8192x8192, .f32⟩
  | .hbm, ⟨48, _⟩ => ⟨S4x8x8192x8192, .f32⟩
  | .hbm, ⟨49, _⟩ => ⟨S4x8x8192x8192, .i1⟩
  | .hbm, ⟨50, _⟩ => ⟨S4x8x8192x8192, .f32⟩
  | .hbm, ⟨51, _⟩ => ⟨S4x8x8192x8192, .f32⟩
  | .hbm, ⟨52, _⟩ => ⟨S4x8x8192x8192, .f32⟩
  | .hbm, ⟨53, _⟩ => ⟨S4x8x8192x8192, .f32⟩
  | .hbm, ⟨54, _⟩ => ⟨S4x8x8192x8192, .f32⟩
  | .hbm, ⟨55, _⟩ => ⟨S4x8x8192x8192, .f32⟩
  | .hbm, ⟨56, _⟩ => ⟨S4x8x8192x8192, .f32⟩
  | .hbm, ⟨57, _⟩ => ⟨S4x8x8192x8192, .f32⟩
  | .hbm, ⟨58, _⟩ => ⟨S4x8x8192x8192, .f32⟩
  | .hbm, ⟨59, _⟩ => ⟨S4x8x8192x8192, .f32⟩
  | .hbm, ⟨60, _⟩ => ⟨S4x8x8192x8192, .f32⟩
  | .hbm, ⟨61, _⟩ => ⟨S_, .f32⟩
  | .hbm, ⟨62, _⟩ => ⟨S_, .f32⟩
  | .hbm, ⟨63, _⟩ => ⟨S4x8x8192x8192, .i1⟩
  | .hbm, ⟨64, _⟩ => ⟨S4x8x8192x8192, .f32⟩
  | .hbm, ⟨65, _⟩ => ⟨S4x8x8192x8192, .f32⟩
  | .hbm, ⟨66, _⟩ => ⟨S4x8x64x8192, .f32⟩
  | .hbm, ⟨67, _⟩ => ⟨S4x8192x8x64, .f32⟩
  | .hbm, ⟨68, _⟩ => ⟨S4x8192x512, .f32⟩
  | _, _ => ⟨S4x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v15 : Ref sig .tc := ⟨.hbm, 33, rfl⟩
abbrev main_cst : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v16 : Ref sig .tc := ⟨.hbm, 38, rfl⟩
abbrev main_call2_cst : Ref sig .tc := ⟨.hbm, 39, rfl⟩
abbrev main_call2_v0 : Ref sig .tc := ⟨.hbm, 40, rfl⟩
abbrev main_v17 : Ref sig .tc := ⟨.hbm, 41, rfl⟩
abbrev main_v18 : Ref sig .tc := ⟨.hbm, 42, rfl⟩
abbrev main_call3_v0 : Ref sig .tc := ⟨.hbm, 43, rfl⟩
abbrev main_call3_call0_cst : Ref sig .tc := ⟨.hbm, 44, rfl⟩
abbrev main_call3_call0_v0 : Ref sig .tc := ⟨.hbm, 45, rfl⟩
abbrev main_call3_call0_v1 : Ref sig .tc := ⟨.hbm, 46, rfl⟩
abbrev main_call3_call0_v2 : Ref sig .tc := ⟨.hbm, 47, rfl⟩
abbrev main_call3_call0_v3 : Ref sig .tc := ⟨.hbm, 48, rfl⟩
abbrev main_call3_call0_v4 : Ref sig .tc := ⟨.hbm, 49, rfl⟩
abbrev main_call3_call0_v5 : Ref sig .tc := ⟨.hbm, 50, rfl⟩
abbrev main_call3_call0_v6 : Ref sig .tc := ⟨.hbm, 51, rfl⟩
abbrev main_call3_call0_v7 : Ref sig .tc := ⟨.hbm, 52, rfl⟩
abbrev main_call3_call0_v8 : Ref sig .tc := ⟨.hbm, 53, rfl⟩
abbrev main_call3_call0_v9 : Ref sig .tc := ⟨.hbm, 54, rfl⟩
abbrev main_call3_call0_v10 : Ref sig .tc := ⟨.hbm, 55, rfl⟩
abbrev main_call3_call0_v11 : Ref sig .tc := ⟨.hbm, 56, rfl⟩
abbrev main_call3_v1 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_cst_0 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩

abbrev nD : Nat := 1
abbrev τ : Topo := Topo.v7x

variable {F : FTy → Type} [FloatOps F]
-- ==== Ffn.lean ====
abbrev S32768x1024 : Shape := ⟨2, ![32768, 1024]⟩
abbrev S4x1x1024 : Shape := ⟨3, ![4, 1, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S2816x1024 : Shape := ⟨2, ![2816, 1024]⟩
abbrev S1024 : Shape := ⟨1, ![1024]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩

abbrev nBuf : Space → Nat
  | .hbm => 20
  | .vmem => 15
  | .smem => 0
  | _ => 0

abbrev bufTy : (tb : Table) → Fin (tcTables nBuf tb) → BufTy
  | .hbm, ⟨0, _⟩ => ⟨S32768x1024, .f32⟩
  | .hbm, ⟨1, _⟩ => ⟨S4x1x1024, .f32⟩
  | .hbm, ⟨2, _⟩ => ⟨S4x1x1024, .f32⟩
  | .hbm, ⟨3, _⟩ => ⟨S4x1x1024, .f32⟩
  | .hbm, ⟨4, _⟩ => ⟨S1x1024, .f32⟩
  | .hbm, ⟨5, _⟩ => ⟨S1x1024, .f32⟩
  | .hbm, ⟨6, _⟩ => ⟨S1x1024x2816, .f32⟩
  | .hbm, ⟨7, _⟩ => ⟨S1x1024x2816, .f32⟩
  | .hbm, ⟨8, _⟩ => ⟨S1x2816x1024, .f32⟩
  | .hbm, ⟨9, _⟩ => ⟨S1024x2816, .f32⟩
  | .hbm, ⟨10, _⟩ => ⟨S1024x2816, .bf16⟩
  | .hbm, ⟨11, _⟩ => ⟨S1024x2816, .f32⟩
  | .hbm, ⟨12, _⟩ => ⟨S1024x2816, .bf16⟩
  | .hbm, ⟨13, _⟩ => ⟨S2816x1024, .f32⟩
  | .hbm, ⟨14, _⟩ => ⟨S2816x1024, .bf16⟩
  | .hbm, ⟨15, _⟩ => ⟨S1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1x1024, .f32⟩
  | .local _ .vmem, ⟨10, _⟩ => ⟨S1024x2816, .bf16⟩
  | .local _ .vmem, ⟨11, _⟩ => ⟨S1024x2816, .bf16⟩
  | .local _ .vmem, ⟨12, _⟩ => ⟨S2816x1024, .bf16⟩
  | .local _ .vmem, ⟨13, _⟩ => ⟨S256x1024, .f32⟩
  | .local _ .vmem, ⟨14, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnReferenceIdeal.lean ====
abbrev S32768x1024 : Shape := ⟨2, ![32768, 1024]⟩
abbrev S4x1x1024 : Shape := ⟨3, ![4, 1, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S4x8192x1024 : Shape := ⟨3, ![4, 8192, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x2816 : Shape := ⟨2, ![1024, 2816]⟩
abbrev S4x8192x2816 : Shape := ⟨3, ![4, 8192, 2816]⟩
abbrev S2816x1024 : Shape := ⟨2, ![2816, 1024]⟩

abbrev nBuf : Space → Nat
  | .hbm => 71
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4x1x1024, .f32⟩
  | .hbm, ⟨2, _⟩ => ⟨S4x1x1024, .f32⟩
  | .hbm, ⟨3, _⟩ => ⟨S4x1x1024, .f32⟩
  | .hbm, ⟨4, _⟩ => ⟨S1x1024, .f32⟩
  | .hbm, ⟨5, _⟩ => ⟨S1x1024, .f32⟩
  | .hbm, ⟨6, _⟩ => ⟨S1x1024x2816, .f32⟩
  | .hbm, ⟨7, _⟩ => ⟨S1x1024x2816, .f32⟩
  | .hbm, ⟨8, _⟩ => ⟨S1x2816x1024, .f32⟩
  | .hbm, ⟨9, _⟩ => ⟨S4x8192x1024, .f32⟩
  | .hbm, ⟨10, _⟩ => ⟨S1024, .f32⟩
  | .hbm, ⟨11, _⟩ => ⟨S4x8192x1024, .f32⟩
  | .hbm, ⟨12, _⟩ => ⟨S_, .f32⟩
  | .hbm, ⟨13, _⟩ => ⟨S4x8192, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S_, .f32⟩
  | .hbm, ⟨19, _⟩ => ⟨S4x8192x1, .f32⟩
  | .hbm, ⟨20, _⟩ => ⟨S4x8192x1, .f32⟩
  | .hbm, ⟨21, _⟩ => ⟨S4x8192x1, .f32⟩
  | .hbm, ⟨22, _⟩ => ⟨S4x8192x1024, .f32⟩
  | .hbm, ⟨23, _⟩ => ⟨S4x8192x1024, .f32⟩
  | .hbm, ⟨24, _⟩ => ⟨S1x1x1024, .f32⟩
  | .hbm, ⟨25, _⟩ => ⟨S4x8192x1024, .f32⟩
  | .hbm, ⟨26, _⟩ => ⟨S4x8192x1024, .f32⟩
  | .hbm, ⟨27, _⟩ => ⟨S_, .f32⟩
  | .hbm, ⟨28, _⟩ => ⟨S4x1x1024, .f32⟩
  | .hbm, ⟨29, _⟩ => ⟨S4x1x1024, .f32⟩
  | .hbm, ⟨30, _⟩ => ⟨S4x8192x1024, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S1024x2816, .f32⟩
  | .hbm, ⟨35, _⟩ => ⟨S4x8192x2816, .f32⟩
  | .hbm, ⟨36, _⟩ => ⟨S4x8192x2816, .f32⟩
  | .hbm, ⟨37, _⟩ => ⟨S4x8192x2816, .f32⟩
  | .hbm, ⟨38, _⟩ => ⟨S_, .f32⟩
  | .hbm, ⟨39, _⟩ => ⟨S4x8192x2816, .f32⟩
  | .hbm, ⟨40, _⟩ => ⟨S4x8192x2816, .f32⟩
  | .hbm, ⟨41, _⟩ => ⟨S_, .f32⟩
  | .hbm, ⟨42, _⟩ => ⟨S4x8192x2816, .f32⟩
  | .hbm, ⟨43, _⟩ => ⟨S4x8192x2816, .f32⟩
  | .hbm, ⟨44, _⟩ => ⟨S4x8192x2816, .f32⟩
  | .hbm, ⟨45, _⟩ => ⟨S1024x2816, .f32⟩
  | .hbm, ⟨46, _⟩ => ⟨S4x8192x2816, .f32⟩
  | .hbm, ⟨47, _⟩ => ⟨S4x8192x2816, .f32⟩
  | .hbm, ⟨48, _⟩ => ⟨S2816x1024, .f32⟩
  | .hbm, ⟨49, _⟩ => ⟨S4x8192x1024, .f32⟩
  | .hbm, ⟨50, _⟩ => ⟨S1024, .f32⟩
  | .hbm, ⟨51, _⟩ => ⟨S4x8192x1024, .f32⟩
  | .hbm, ⟨52, _⟩ => ⟨S_, .f32⟩
  | .hbm, ⟨53, _⟩ => ⟨S4x8192, .f32⟩
  | .hbm, ⟨54, _⟩ => ⟨S4x8192x1, .f32⟩
  | .hbm, ⟨55, _⟩ => ⟨S_, .f32⟩
  | .hbm, ⟨56, _⟩ => ⟨S4x8192x1, .f32⟩
  | .hbm, ⟨57, _⟩ => ⟨S4x8192x1, .f32⟩
  | .hbm, ⟨58, _⟩ => ⟨S_, .f32⟩
  | .hbm, ⟨59, _⟩ => ⟨S4x8192x1, .f32⟩
  | .hbm, ⟨60, _⟩ => ⟨S4x8192x1, .f32⟩
  | .hbm, ⟨61, _⟩ => ⟨S4x8192x1, .f32⟩
  | .hbm, ⟨62, _⟩ => ⟨S4x8192x1024, .f32⟩
  | .hbm, ⟨63, _⟩ => ⟨S4x8192x1024, .f32⟩
  | .hbm, ⟨64, _⟩ => ⟨S1x1x1024, .f32⟩
  | .hbm, ⟨65, _⟩ => ⟨S4x8192x1024, .f32⟩
  | .hbm, ⟨66, _⟩ => ⟨S4x8192x1024, .f32⟩
  | .hbm, ⟨67, _⟩ => ⟨S4x8192x1024, .f32⟩
  | .hbm, ⟨68, _⟩ => ⟨S4x8192x1024, .f32⟩
  | .hbm, ⟨69, _⟩ => ⟨S4x8192x1024, .f32⟩
  | .hbm, ⟨70, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_3 : Ref sig .tc := ⟨.hbm, 52, rfl⟩
abbrev main_v31 : Ref sig .tc := ⟨.hbm, 53, rfl⟩
abbrev main_v32 : Ref sig .tc := ⟨.hbm, 54, rfl⟩
abbrev main_cst_4 : Ref sig .tc := ⟨.hbm, 55, rfl⟩
abbrev main_v33 : Ref sig .tc := ⟨.hbm, 56, rfl⟩
abbrev main_v34 : Ref sig .tc := ⟨.hbm, 57, rfl⟩
abbrev main_cst_5 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩

abbrev nD : Nat := 1
abbrev τ : Topo := Topo.v7x

variable {F : FTy → Type} [FloatOps F]
-- ==== Inproj.lean ====
abbrev S32768x1024 : Shape := ⟨2, ![32768, 1024]⟩
abbrev S4x1x1024 : Shape := ⟨3, ![4, 1, 1024]⟩
abbrev S1x1024 : Shape := ⟨2, ![1, 1024]⟩
abbrev S1x1024x5444 : Shape := ⟨3, ![1, 1024, 5444]⟩
abbrev S1024x5444 : Shape := ⟨2, ![1024, 5444]⟩
abbrev S1024x512 : Shape := ⟨2, ![1024, 512]⟩
abbrev S1024x3072 : Shape := ⟨2, ![1024, 3072]⟩
abbrev S1024x1024 : Shape := ⟨2, ![1024, 1024]⟩
abbrev S1024x2048 : Shape := ⟨2, ![1024, 2048]⟩
abbrev S1024x256 : Shape := ⟨2, ![1024, 256]⟩
abbrev S1024x64 : Shape := ⟨2, ![1024, 64]⟩
abbrev S1024x4 : Shape := ⟨2, ![1024, 4]⟩
abbrev S_ : Shape := ⟨0, ![]⟩
abbrev S1024x124 : Shape := ⟨2, ![1024, 124]⟩
abbrev S1024 : Shape := ⟨1, ![1024]⟩
abbrev S32768x512 : Shape := ⟨2, ![32768, 512]⟩
abbrev S32768x2048 : Shape := ⟨2, ![32768, 2048]⟩
abbrev S32768x256 : Shape := ⟨2, ![32768, 256]⟩
abbrev S32768x128 : Shape := ⟨2, ![32768, 128]⟩
abbrev S32768x64 : Shape := ⟨2, ![32768, 64]⟩
abbrev S256x1024 : Shape := ⟨2, ![256, 1024]⟩
abbrev S1x1x1024 : Shape := ⟨3, ![1, 1, 1024]⟩
abbrev S256x512 : Shape := ⟨2, ![256, 512]⟩
abbrev S256x2048 : Shape := ⟨2, ![256, 2048]⟩
abbrev S256x256 : Shape := ⟨2, ![256, 256]⟩
abbrev S256x128 : Shape := ⟨2, ![256, 128]⟩
abbrev S256x64 : Shape := ⟨2, ![256, 64]⟩
abbrev S256 : Shape := ⟨1, ![256]⟩
abbrev S256x1 : Shape := ⟨2, ![256, 1]⟩

abbrev nBuf : Space → Nat
  | .hbm => 46
  | .vmem => 41
  | .smem => 0
  | _ => 0

abbrev bufTy : (tb : Table) → Fin (tcTables nBuf tb) → BufTy
  | .hbm, ⟨0, _⟩ => ⟨S32768x1024, .f32⟩
  | .hbm, ⟨1, _⟩ => ⟨S4x1x1024, .f32⟩
  | .hbm, ⟨2, _⟩ => ⟨S4x1x1024, .f32⟩
  | .hbm, ⟨3, _⟩ => ⟨S1x1024, .f32⟩
  | .hbm, ⟨4, _⟩ => ⟨S1x1024x5444, .f32⟩
  | .hbm, ⟨5, _⟩ => ⟨S1024x5444, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x3072, .f32⟩
  | .hbm, ⟨13, _⟩ => ⟨S1024x3072, .bf16⟩
  | .hbm, ⟨14, _⟩ => ⟨S1024x1024, .f32⟩
  | .hbm, ⟨15, _⟩ => ⟨S1024x1024, .f32⟩
  | .hbm, ⟨16, _⟩ => ⟨S1024x2048, .f32⟩
  | .hbm, ⟨17, _⟩ => ⟨S1024x2048, .bf16⟩
  | .hbm, ⟨18, _⟩ => ⟨S1024x256, .f32⟩
  | .hbm, ⟨19, _⟩ => ⟨S1024x64, .f32⟩
  | .hbm, ⟨20, _⟩ => ⟨S1024x64, .f32⟩
  | .hbm, ⟨21, _⟩ => ⟨S1024x4, .f32⟩
  | .hbm, ⟨22, _⟩ => ⟨S_, .f32⟩
  | .hbm, ⟨23, _⟩ => ⟨S1024x124, .f32⟩
  | .hbm, ⟨24, _⟩ => ⟨S1024x512, .f32⟩
  | .hbm, ⟨25, _⟩ => ⟨S1024x512, .bf16⟩
  | .hbm, ⟨26, _⟩ => ⟨S1024x512, .f32⟩
  | .hbm, ⟨27, _⟩ => ⟨S1024x512, .f32⟩
  | .hbm, ⟨28, _⟩ => ⟨S1024x512, .bf16⟩
  | .hbm, ⟨29, _⟩ => ⟨S1024, .f32⟩
  | .hbm, ⟨30, _⟩ => ⟨S1x1024, .f32⟩
  | .hbm, ⟨31, _⟩ => ⟨S32768x512, .bf16⟩
  | .hbm, ⟨32, _⟩ => ⟨S32768x512, .f32⟩
  | .hbm, ⟨33, _⟩ => ⟨S32768x512, .f32⟩
  | .hbm, ⟨34, _⟩ => ⟨S32768x512, .bf16⟩
  | .hbm, ⟨35, _⟩ => ⟨S32768x512, .f32⟩
  | .hbm, ⟨36, _⟩ => ⟨S32768x512, .f32⟩
  | .hbm, ⟨37, _⟩ => ⟨S32768x512, .bf16⟩
  | .hbm, ⟨38, _⟩ => ⟨S32768x512, .bf16⟩
  | .hbm, ⟨39, _⟩ => ⟨S32768x512, .bf16⟩
  | .hbm, ⟨40, _⟩ => ⟨S32768x512, .bf16⟩
  | .hbm, ⟨41, _⟩ => ⟨S32768x2048, .bf16⟩
  | .hbm, ⟨42, _⟩ => ⟨S32768x256, .f32⟩
  | .hbm, ⟨43, _⟩ => ⟨S32768x128, .f32⟩
  | .hbm, ⟨44, _⟩ => ⟨S32768x128, .f32⟩
  | .hbm, ⟨45, _⟩ => ⟨S32768x64, .f32⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x3072, .bf16⟩
  | .local _ .vmem, ⟨8, _⟩ => ⟨S1024x2048, .bf16⟩
  | .local _ .vmem, ⟨9, _⟩ => ⟨S1024x512, .bf16⟩
  | .local _ .vmem, ⟨10, _⟩ => ⟨S1024x512, .bf16⟩
  | .local _ .vmem, ⟨11, _⟩ => ⟨S256x512, .bf16⟩
  | .local _ .vmem, ⟨12, _⟩ => ⟨S256x512, .bf16⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .bf16⟩
  | .local _ .vmem, ⟨18, _⟩ => ⟨S256x512, .bf16⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .bf16⟩
  | .local _ .vmem, ⟨24, _⟩ => ⟨S256x512, .bf16⟩
  | .local _ .vmem, ⟨25, _⟩ => ⟨S256x512, .bf16⟩
  | .local _ .vmem, ⟨26, _⟩ => ⟨S256x512, .bf16⟩
  | .local _ .vmem, ⟨27, _⟩ => ⟨S256x512, .bf16⟩
  | .local _ .vmem, ⟨28, _⟩ => ⟨S256x512, .bf16⟩
  | .local _ .vmem, ⟨29, _⟩ => ⟨S256x512, .bf16⟩
  | .local _ .vmem, ⟨30, _⟩ => ⟨S256x512, .bf16⟩
  | .local _ .vmem, ⟨31, _⟩ => ⟨S256x2048, .bf16⟩
  | .local _ .vmem, ⟨32, _⟩ => ⟨S256x2048, .bf16⟩
  | .local _ .vmem, ⟨33, _⟩ => ⟨S256x256, .f32⟩
  | .local _ .vmem, ⟨34, _⟩ => ⟨S256x256, .f32⟩
  | .local _ .vmem, ⟨35, _⟩ => ⟨S256x128, .f32⟩
  | .local _ .vmem, ⟨36, _⟩ => ⟨S256x128, .f32⟩
  | .local _ .vmem, ⟨37, _⟩ => ⟨S256x128, .f32⟩
  | .local _ .vmem, ⟨38, _⟩ => ⟨S256x128, .f32⟩
  | .local _ .vmem, ⟨39, _⟩ => ⟨S256x64, .f32⟩
  | .local _ .vmem, ⟨40, _⟩ => ⟨S256x64, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25_0 : Ref sig .tc := ⟨.hbm, 31, rfl⟩
abbrev main_v25_1 : Ref sig .tc := ⟨.hbm, 32, rfl⟩
abbrev main_v25_2 : Ref sig .tc := ⟨.hbm, 33, rfl⟩
abbrev main_v25_3 : Ref sig .tc := ⟨.hbm, 34, rfl⟩
abbrev main_v25_4 : Ref sig .tc := ⟨.hbm, 35, rfl⟩
abbrev main_v25_5 : Ref sig .tc := ⟨.hbm, 36, rfl⟩
abbrev main_v25_6 : Ref sig .tc := ⟨.hbm, 37, rfl⟩
abbrev main_v25_7 : Ref sig .tc := ⟨.hbm, 38, rfl⟩
abbrev main_v25_8 : Ref sig .tc := ⟨.hbm, 39, rfl⟩
abbrev main_v25_9 : Ref sig .tc := ⟨.hbm, 40, rfl⟩
abbrev main_v25_10 : Ref sig .tc := ⟨.hbm, 41, rfl⟩
abbrev main_v25_11 : Ref sig .tc := ⟨.hbm, 42, rfl⟩
abbrev main_v25_12 : Ref sig .tc := ⟨.hbm, 43, rfl⟩
abbrev main_v25_13 : Ref sig .tc := ⟨.hbm, 44, rfl⟩
abbrev main_v25_14 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_stg20_1 : Ref sig .tc := ⟨.vmem, 36, rfl⟩
abbrev cc0_stg21_0 : Ref sig .tc := ⟨.vmem, 37, rfl⟩
abbrev cc0_stg21_1 : Ref sig .tc := ⟨.vmem, 38, rfl⟩
abbrev cc0_stg22_0 : Ref sig .tc := ⟨.vmem, 39, rfl⟩
abbrev cc0_stg22_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36
abbrev cc0_sem21_0 : DmaSem sig := 37
abbrev cc0_sem21_1 : DmaSem sig := 38
abbrev cc0_sem22_0 : DmaSem sig := 39
abbrev cc0_sem22_1 : DmaSem sig := 40

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x64 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== InprojReferenceIdeal.lean ====
abbrev S32768x1024 : Shape := ⟨2, ![32768, 1024]⟩
abbrev S4x1x1024 : Shape := ⟨3, ![4, 1, 1024]⟩
abbrev S1x1024 : Shape := ⟨2, ![1, 1024]⟩
abbrev S1x1024x5444 : Shape := ⟨3, ![1, 1024, 5444]⟩
abbrev S4x8192x1024 : Shape := ⟨3, ![4, 8192, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x5444 : Shape := ⟨2, ![1024, 5444]⟩
abbrev S4x8192x5444 : Shape := ⟨3, ![4, 8192, 5444]⟩
abbrev S4x8192x512 : Shape := ⟨3, ![4, 8192, 512]⟩
abbrev S4x8192x256 : Shape := ⟨3, ![4, 8192, 256]⟩
abbrev S4x8192x64 : Shape := ⟨3, ![4, 8192, 64]⟩
abbrev S4x8192x4 : Shape := ⟨3, ![4, 8192, 4]⟩
abbrev S4x8192x2048 : Shape := ⟨3, ![4, 8192, 2048]⟩
abbrev S32768x512 : Shape := ⟨2, ![32768, 512]⟩
abbrev S32768x2048 : Shape := ⟨2, ![32768, 2048]⟩
abbrev S32768x256 : Shape := ⟨2, ![32768, 256]⟩
abbrev S32768x64 : Shape := ⟨2, ![32768, 64]⟩

abbrev nBuf : Space → Nat
  | .hbm => 81
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4x1x1024, .f32⟩
  | .hbm, ⟨2, _⟩ => ⟨S4x1x1024, .f32⟩
  | .hbm, ⟨3, _⟩ => ⟨S1x1024, .f32⟩
  | .hbm, ⟨4, _⟩ => ⟨S1x1024x5444, .f32⟩
  | .hbm, ⟨5, _⟩ => ⟨S4x8192x1024, .f32⟩
  | .hbm, ⟨6, _⟩ => ⟨S1024, .f32⟩
  | .hbm, ⟨7, _⟩ => ⟨S4x8192x1024, .f32⟩
  | .hbm, ⟨8, _⟩ => ⟨S_, .f32⟩
  | .hbm, ⟨9, _⟩ => ⟨S4x8192, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S4x8192x1, .f32⟩
  | .hbm, ⟨18, _⟩ => ⟨S4x8192x1024, .f32⟩
  | .hbm, ⟨19, _⟩ => ⟨S4x8192x1024, .f32⟩
  | .hbm, ⟨20, _⟩ => ⟨S1x1x1024, .f32⟩
  | .hbm, ⟨21, _⟩ => ⟨S4x8192x1024, .f32⟩
  | .hbm, ⟨22, _⟩ => ⟨S4x8192x1024, .f32⟩
  | .hbm, ⟨23, _⟩ => ⟨S_, .f32⟩
  | .hbm, ⟨24, _⟩ => ⟨S4x1x1024, .f32⟩
  | .hbm, ⟨25, _⟩ => ⟨S4x1x1024, .f32⟩
  | .hbm, ⟨26, _⟩ => ⟨S4x8192x1024, .f32⟩
  | .hbm, ⟨27, _⟩ => ⟨S4x8192x1024, .f32⟩
  | .hbm, ⟨28, _⟩ => ⟨S4x8192x1024, .f32⟩
  | .hbm, ⟨29, _⟩ => ⟨S4x8192x1024, .f32⟩
  | .hbm, ⟨30, _⟩ => ⟨S1024x5444, .f32⟩
  | .hbm, ⟨31, _⟩ => ⟨S4x8192x5444, .f32⟩
  | .hbm, ⟨32, _⟩ => ⟨S4x8192x512, .f32⟩
  | .hbm, ⟨33, _⟩ => ⟨S4x8192x512, .f32⟩
  | .hbm, ⟨34, _⟩ => ⟨S4x8192x512, .f32⟩
  | .hbm, ⟨35, _⟩ => ⟨S4x8192x256, .f32⟩
  | .hbm, ⟨36, _⟩ => ⟨S4x8192x64, .f32⟩
  | .hbm, ⟨37, _⟩ => ⟨S4x8192x4, .f32⟩
  | .hbm, ⟨38, _⟩ => ⟨S4x8192x512, .f32⟩
  | .hbm, ⟨39, _⟩ => ⟨S4x8192x512, .f32⟩
  | .hbm, ⟨40, _⟩ => ⟨S4x8192x512, .f32⟩
  | .hbm, ⟨41, _⟩ => ⟨S4x8192x1024, .f32⟩
  | .hbm, ⟨42, _⟩ => ⟨S4x8192x1024, .f32⟩
  | .hbm, ⟨43, _⟩ => ⟨S_, .f32⟩
  | .hbm, ⟨44, _⟩ => ⟨S4x8192x512, .f32⟩
  | .hbm, ⟨45, _⟩ => ⟨S4x8192x512, .f32⟩
  | .hbm, ⟨46, _⟩ => ⟨S_, .f32⟩
  | .hbm, ⟨47, _⟩ => ⟨S4x8192x512, .f32⟩
  | .hbm, ⟨48, _⟩ => ⟨S4x8192x512, .f32⟩
  | .hbm, ⟨49, _⟩ => ⟨S_, .f32⟩
  | .hbm, ⟨50, _⟩ => ⟨S4x8192x256, .f32⟩
  | .hbm, ⟨51, _⟩ => ⟨S4x8192x256, .f32⟩
  | .hbm, ⟨52, _⟩ => ⟨S4x8192x1024, .f32⟩
  | .hbm, ⟨53, _⟩ => ⟨S4x8192x1024, .f32⟩
  | .hbm, ⟨54, _⟩ => ⟨S_, .f32⟩
  | .hbm, ⟨55, _⟩ => ⟨S4x8192x1024, .f32⟩
  | .hbm, ⟨56, _⟩ => ⟨S4x8192x1024, .f32⟩
  | .hbm, ⟨57, _⟩ => ⟨S_, .f32⟩
  | .hbm, ⟨58, _⟩ => ⟨S4x8192x1024, .f32⟩
  | .hbm, ⟨59, _⟩ => ⟨S4x8192x1024, .f32⟩
  | .hbm, ⟨60, _⟩ => ⟨S4x8192x1024, .f32⟩
  | .hbm, ⟨61, _⟩ => ⟨S4x8192x1024, .f32⟩
  | .hbm, ⟨62, _⟩ => ⟨S_, .f32⟩
  | .hbm, ⟨63, _⟩ => ⟨S4x8192x1024, .f32⟩
  | .hbm, ⟨64, _⟩ => ⟨S4x8192x1024, .f32⟩
  | .hbm, ⟨65, _⟩ => ⟨S_, .f32⟩
  | .hbm, ⟨66, _⟩ => ⟨S4x8192x1024, .f32⟩
  | .hbm, ⟨67, _⟩ => ⟨S4x8192x1024, .f32⟩
  | .hbm, ⟨68, _⟩ => ⟨S4x8192x2048, .f32⟩
  | .hbm, ⟨69, _⟩ => ⟨S32768x512, .f32⟩
  | .hbm, ⟨70, _⟩ => ⟨S32768x512, .bf16⟩
  | .hbm, ⟨71, _⟩ => ⟨S32768x512, .f32⟩
  | .hbm, ⟨72, _⟩ => ⟨S32768x512, .f32⟩
  | .hbm, ⟨73, _⟩ => ⟨S32768x512, .f32⟩
  | .hbm, ⟨74, _⟩ => ⟨S32768x512, .bf16⟩
  | .hbm, ⟨75, _⟩ => ⟨S32768x512, .f32⟩
  | .hbm, ⟨76, _⟩ => ⟨S32768x512, .f32⟩
  | .hbm, ⟨77, _⟩ => ⟨S32768x2048, .f32⟩
  | .hbm, ⟨78, _⟩ => ⟨S32768x2048, .bf16⟩
  | .hbm, ⟨79, _⟩ => ⟨S32768x256, .f32⟩
  | .hbm, ⟨80, _⟩ => ⟨S32768x64, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_cst_7 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_8 : Ref sig .tc := ⟨.hbm, 62, rfl⟩
abbrev main_v48 : Ref sig .tc := ⟨.hbm, 63, rfl⟩
abbrev main_v49 : Ref sig .tc := ⟨.hbm, 64, rfl⟩
abbrev main_cst_9 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩

abbrev nD : Nat := 1
abbrev τ : Topo := Topo.v7x

variable {F : FTy → Type} [FloatOps F]
-- ==== Merge.lean ====
abbrev S32768x512 : Shape := ⟨2, ![32768, 512]⟩
abbrev S32768x2048 : Shape := ⟨2, ![32768, 2048]⟩
abbrev S32768x1024 : Shape := ⟨2, ![32768, 1024]⟩
abbrev S4x1x1024 : Shape := ⟨3, ![4, 1, 1024]⟩
abbrev S1x1024 : Shape := ⟨2, ![1, 1024]⟩
abbrev S1x512x1024 : Shape := ⟨3, ![1, 512, 1024]⟩
abbrev S1x1024x1024 : Shape := ⟨3, ![1, 1024, 1024]⟩
abbrev S512x1024 : Shape := ⟨2, ![512, 1024]⟩
abbrev S1024x1024 : Shape := ⟨2, ![1024, 1024]⟩
abbrev S1024 : Shape := ⟨1, ![1024]⟩
abbrev S256x512 : Shape := ⟨2, ![256, 512]⟩
abbrev S256x2048 : Shape := ⟨2, ![256, 2048]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩

abbrev nBuf : Space → Nat
  | .hbm => 18
  | .vmem => 16
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x2048, .bf16⟩
  | .hbm, ⟨3, _⟩ => ⟨S32768x1024, .f32⟩
  | .hbm, ⟨4, _⟩ => ⟨S4x1x1024, .f32⟩
  | .hbm, ⟨5, _⟩ => ⟨S1x1024, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S512x1024, .f32⟩
  | .hbm, ⟨10, _⟩ => ⟨S512x1024, .bf16⟩
  | .hbm, ⟨11, _⟩ => ⟨S512x1024, .f32⟩
  | .hbm, ⟨12, _⟩ => ⟨S512x1024, .bf16⟩
  | .hbm, ⟨13, _⟩ => ⟨S1024x1024, .f32⟩
  | .hbm, ⟨14, _⟩ => ⟨S1024x1024, .bf16⟩
  | .hbm, ⟨15, _⟩ => ⟨S1024, .f32⟩
  | .hbm, ⟨16, _⟩ => ⟨S1x1024, .f32⟩
  | .hbm, ⟨17, _⟩ => ⟨S32768x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x2048, .bf16⟩
  | .local _ .vmem, ⟨5, _⟩ => ⟨S256x2048, .bf16⟩
  | .local _ .vmem, ⟨6, _⟩ => ⟨S256x1024, .f32⟩
  | .local _ .vmem, ⟨7, _⟩ => ⟨S256x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S256x1024, .f32⟩
  | .local _ .vmem, ⟨15, _⟩ => ⟨S256x1024, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeReferenceIdeal.lean ====
abbrev S32768x512 : Shape := ⟨2, ![32768, 512]⟩
abbrev S32768x2048 : Shape := ⟨2, ![32768, 2048]⟩
abbrev S32768x1024 : Shape := ⟨2, ![32768, 1024]⟩
abbrev S4x1x1024 : Shape := ⟨3, ![4, 1, 1024]⟩
abbrev S1x1024 : Shape := ⟨2, ![1, 1024]⟩
abbrev S1x512x1024 : Shape := ⟨3, ![1, 512, 1024]⟩
abbrev S1x1024x1024 : Shape := ⟨3, ![1, 1024, 1024]⟩
abbrev S4x8192x512 : Shape := ⟨3, ![4, 8192, 512]⟩
abbrev S4x8192x1024 : Shape := ⟨3, ![4, 8192, 1024]⟩
abbrev S4x8192x2048 : Shape := ⟨3, ![4, 8192, 2048]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x2048, .bf16⟩
  | .hbm, ⟨3, _⟩ => ⟨S32768x1024, .f32⟩
  | .hbm, ⟨4, _⟩ => ⟨S4x1x1024, .f32⟩
  | .hbm, ⟨5, _⟩ => ⟨S1x1024, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S4x8192x512, .f32⟩
  | .hbm, ⟨10, _⟩ => ⟨S4x8192x512, .f32⟩
  | .hbm, ⟨11, _⟩ => ⟨S4x8192x1024, .f32⟩
  | .hbm, ⟨12, _⟩ => ⟨S4x8192x2048, .bf16⟩
  | .hbm, ⟨13, _⟩ => ⟨S4x8192x2048, .f32⟩
  | .hbm, ⟨14, _⟩ => ⟨S4x8192x1024, .f32⟩
  | .hbm, ⟨15, _⟩ => ⟨S4x8192x1024, .f32⟩
  | .hbm, ⟨16, _⟩ => ⟨S512x1024, .f32⟩
  | .hbm, ⟨17, _⟩ => ⟨S4x8192x1024, .f32⟩
  | .hbm, ⟨18, _⟩ => ⟨S4x8192x1024, .f32⟩
  | .hbm, ⟨19, _⟩ => ⟨S512x1024, .f32⟩
  | .hbm, ⟨20, _⟩ => ⟨S4x8192x1024, .f32⟩
  | .hbm, ⟨21, _⟩ => ⟨S4x8192x1024, .f32⟩
  | .hbm, ⟨22, _⟩ => ⟨S4x8192x1024, .f32⟩
  | .hbm, ⟨23, _⟩ => ⟨S1024x1024, .f32⟩
  | .hbm, ⟨24, _⟩ => ⟨S4x8192x1024, .f32⟩
  | .hbm, ⟨25, _⟩ => ⟨S1024, .f32⟩
  | .hbm, ⟨26, _⟩ => ⟨S4x8192x1024, .f32⟩
  | .hbm, ⟨27, _⟩ => ⟨S_, .f32⟩
  | .hbm, ⟨28, _⟩ => ⟨S4x8192, .f32⟩
  | .hbm, ⟨29, _⟩ => ⟨S4x8192x1, .f32⟩
  | .hbm, ⟨30, _⟩ => ⟨S_, .f32⟩
  | .hbm, ⟨31, _⟩ => ⟨S4x8192x1, .f32⟩
  | .hbm, ⟨32, _⟩ => ⟨S4x8192x1, .f32⟩
  | .hbm, ⟨33, _⟩ => ⟨S_, .f32⟩
  | .hbm, ⟨34, _⟩ => ⟨S4x8192x1, .f32⟩
  | .hbm, ⟨35, _⟩ => ⟨S4x8192x1, .f32⟩
  | .hbm, ⟨36, _⟩ => ⟨S4x8192x1, .f32⟩
  | .hbm, ⟨37, _⟩ => ⟨S4x8192x1024, .f32⟩
  | .hbm, ⟨38, _⟩ => ⟨S4x8192x1024, .f32⟩
  | .hbm, ⟨39, _⟩ => ⟨S1x1x1024, .f32⟩
  | .hbm, ⟨40, _⟩ => ⟨S4x8192x1024, .f32⟩
  | .hbm, ⟨41, _⟩ => ⟨S4x8192x1024, .f32⟩
  | .hbm, ⟨42, _⟩ => ⟨S4x8192x1024, .f32⟩
  | .hbm, ⟨43, _⟩ => ⟨S4x8192x1024, .f32⟩
  | .hbm, ⟨44, _⟩ => ⟨S4x8192x1024, .f32⟩
  | .hbm, ⟨45, _⟩ => ⟨S32768x1024, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_cst_0 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== FfnSample.lean ====
abbrev S256x1024 : Shape := ⟨2, ![256, 1024]⟩
abbrev S32x1024 : Shape := ⟨2, ![32, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S2816x1024 : Shape := ⟨2, ![2816, 1024]⟩
abbrev S1024 : Shape := ⟨1, ![1024]⟩
abbrev S32x8x1024 : Shape := ⟨3, ![32, 8, 1024]⟩
abbrev S1x256x1024 : Shape := ⟨3, ![1, 256, 1024]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩

abbrev nBuf : Space → Nat
  | .hbm => 29
  | .vmem => 10
  | .smem => 0
  | _ => 0

abbrev bufTy : (tb : Table) → Fin (tcTables nBuf tb) → BufTy
  | .hbm, ⟨0, _⟩ => ⟨S256x1024, .f32⟩
  | .hbm, ⟨1, _⟩ => ⟨S32x1024, .f32⟩
  | .hbm, ⟨2, _⟩ => ⟨S32x1024, .f32⟩
  | .hbm, ⟨3, _⟩ => ⟨S32x1024, .f32⟩
  | .hbm, ⟨4, _⟩ => ⟨S1x1024, .f32⟩
  | .hbm, ⟨5, _⟩ => ⟨S1x1024, .f32⟩
  | .hbm, ⟨6, _⟩ => ⟨S1x1024x2816, .f32⟩
  | .hbm, ⟨7, _⟩ => ⟨S1x1024x2816, .f32⟩
  | .hbm, ⟨8, _⟩ => ⟨S1x2816x1024, .f32⟩
  | .hbm, ⟨9, _⟩ => ⟨S1024x2816, .f32⟩
  | .hbm, ⟨10, _⟩ => ⟨S1024x2816, .bf16⟩
  | .hbm, ⟨11, _⟩ => ⟨S1024x2816, .f32⟩
  | .hbm, ⟨12, _⟩ => ⟨S1024x2816, .bf16⟩
  | .hbm, ⟨13, _⟩ => ⟨S2816x1024, .f32⟩
  | .hbm, ⟨14, _⟩ => ⟨S2816x1024, .bf16⟩
  | .hbm, ⟨15, _⟩ => ⟨S1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S32x8x1024, .f32⟩
  | .hbm, ⟨20, _⟩ => ⟨S256x1024, .f32⟩
  | .hbm, ⟨21, _⟩ => ⟨S1x256x1024, .f32⟩
  | .hbm, ⟨22, _⟩ => ⟨S32x8x1024, .f32⟩
  | .hbm, ⟨23, _⟩ => ⟨S256x1024, .f32⟩
  | .hbm, ⟨24, _⟩ => ⟨S1x256x1024, .f32⟩
  | .hbm, ⟨25, _⟩ => ⟨S32x8x1024, .f32⟩
  | .hbm, ⟨26, _⟩ => ⟨S256x1024, .f32⟩
  | .hbm, ⟨27, _⟩ => ⟨S1x256x1024, .f32⟩
  | .hbm, ⟨28, _⟩ => ⟨S256x1024, .f32⟩
  | .local _ .vmem, ⟨0, _⟩ => ⟨S256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1024, .f32⟩
  | .local _ .vmem, ⟨5, _⟩ => ⟨S1x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== FfnSampleReferenceIdeal.lean ====
abbrev S256x1024 : Shape := ⟨2, ![256, 1024]⟩
abbrev S32x1024 : Shape := ⟨2, ![32, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S32x8x1024 : Shape := ⟨3, ![32, 8, 1024]⟩
abbrev S32x1x1024 : Shape := ⟨3, ![32, 1, 1024]⟩
abbrev S1024 : Shape := ⟨1, ![1024]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S1024x2816 : Shape := ⟨2, ![1024, 2816]⟩
abbrev S32x8x2816 : Shape := ⟨3, ![32, 8, 2816]⟩
abbrev S2816x1024 : Shape := ⟨2, ![2816, 1024]⟩

abbrev nBuf : Space → Nat
  | .hbm => 74
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S32x1024, .f32⟩
  | .hbm, ⟨2, _⟩ => ⟨S32x1024, .f32⟩
  | .hbm, ⟨3, _⟩ => ⟨S32x1024, .f32⟩
  | .hbm, ⟨4, _⟩ => ⟨S1x1024, .f32⟩
  | .hbm, ⟨5, _⟩ => ⟨S1x1024, .f32⟩
  | .hbm, ⟨6, _⟩ => ⟨S1x1024x2816, .f32⟩
  | .hbm, ⟨7, _⟩ => ⟨S1x1024x2816, .f32⟩
  | .hbm, ⟨8, _⟩ => ⟨S1x2816x1024, .f32⟩
  | .hbm, ⟨9, _⟩ => ⟨S32x8x1024, .f32⟩
  | .hbm, ⟨10, _⟩ => ⟨S32x1x1024, .f32⟩
  | .hbm, ⟨11, _⟩ => ⟨S32x1x1024, .f32⟩
  | .hbm, ⟨12, _⟩ => ⟨S32x1x1024, .f32⟩
  | .hbm, ⟨13, _⟩ => ⟨S1024, .f32⟩
  | .hbm, ⟨14, _⟩ => ⟨S32x8x1024, .f32⟩
  | .hbm, ⟨15, _⟩ => ⟨S_, .f32⟩
  | .hbm, ⟨16, _⟩ => ⟨S32x8, .f32⟩
  | .hbm, ⟨17, _⟩ => ⟨S32x8x1, .f32⟩
  | .hbm, ⟨18, _⟩ => ⟨S_, .f32⟩
  | .hbm, ⟨19, _⟩ => ⟨S32x8x1, .f32⟩
  | .hbm, ⟨20, _⟩ => ⟨S32x8x1, .f32⟩
  | .hbm, ⟨21, _⟩ => ⟨S_, .f32⟩
  | .hbm, ⟨22, _⟩ => ⟨S32x8x1, .f32⟩
  | .hbm, ⟨23, _⟩ => ⟨S32x8x1, .f32⟩
  | .hbm, ⟨24, _⟩ => ⟨S32x8x1, .f32⟩
  | .hbm, ⟨25, _⟩ => ⟨S32x8x1024, .f32⟩
  | .hbm, ⟨26, _⟩ => ⟨S32x8x1024, .f32⟩
  | .hbm, ⟨27, _⟩ => ⟨S1x1x1024, .f32⟩
  | .hbm, ⟨28, _⟩ => ⟨S32x8x1024, .f32⟩
  | .hbm, ⟨29, _⟩ => ⟨S32x8x1024, .f32⟩
  | .hbm, ⟨30, _⟩ => ⟨S_, .f32⟩
  | .hbm, ⟨31, _⟩ => ⟨S32x1x1024, .f32⟩
  | .hbm, ⟨32, _⟩ => ⟨S32x1x1024, .f32⟩
  | .hbm, ⟨33, _⟩ => ⟨S32x8x1024, .f32⟩
  | .hbm, ⟨34, _⟩ => ⟨S32x8x1024, .f32⟩
  | .hbm, ⟨35, _⟩ => ⟨S32x8x1024, .f32⟩
  | .hbm, ⟨36, _⟩ => ⟨S32x8x1024, .f32⟩
  | .hbm, ⟨37, _⟩ => ⟨S1024x2816, .f32⟩
  | .hbm, ⟨38, _⟩ => ⟨S32x8x2816, .f32⟩
  | .hbm, ⟨39, _⟩ => ⟨S32x8x2816, .f32⟩
  | .hbm, ⟨40, _⟩ => ⟨S32x8x2816, .f32⟩
  | .hbm, ⟨41, _⟩ => ⟨S_, .f32⟩
  | .hbm, ⟨42, _⟩ => ⟨S32x8x2816, .f32⟩
  | .hbm, ⟨43, _⟩ => ⟨S32x8x2816, .f32⟩
  | .hbm, ⟨44, _⟩ => ⟨S_, .f32⟩
  | .hbm, ⟨45, _⟩ => ⟨S32x8x2816, .f32⟩
  | .hbm, ⟨46, _⟩ => ⟨S32x8x2816, .f32⟩
  | .hbm, ⟨47, _⟩ => ⟨S32x8x2816, .f32⟩
  | .hbm, ⟨48, _⟩ => ⟨S1024x2816, .f32⟩
  | .hbm, ⟨49, _⟩ => ⟨S32x8x2816, .f32⟩
  | .hbm, ⟨50, _⟩ => ⟨S32x8x2816, .f32⟩
  | .hbm, ⟨51, _⟩ => ⟨S2816x1024, .f32⟩
  | .hbm, ⟨52, _⟩ => ⟨S32x8x1024, .f32⟩
  | .hbm, ⟨53, _⟩ => ⟨S1024, .f32⟩
  | .hbm, ⟨54, _⟩ => ⟨S32x8x1024, .f32⟩
  | .hbm, ⟨55, _⟩ => ⟨S_, .f32⟩
  | .hbm, ⟨56, _⟩ => ⟨S32x8, .f32⟩
  | .hbm, ⟨57, _⟩ => ⟨S32x8x1, .f32⟩
  | .hbm, ⟨58, _⟩ => ⟨S_, .f32⟩
  | .hbm, ⟨59, _⟩ => ⟨S32x8x1, .f32⟩
  | .hbm, ⟨60, _⟩ => ⟨S32x8x1, .f32⟩
  | .hbm, ⟨61, _⟩ => ⟨S_, .f32⟩
  | .hbm, ⟨62, _⟩ => ⟨S32x8x1, .f32⟩
  | .hbm, ⟨63, _⟩ => ⟨S32x8x1, .f32⟩
  | .hbm, ⟨64, _⟩ => ⟨S32x8x1, .f32⟩
  | .hbm, ⟨65, _⟩ => ⟨S32x8x1024, .f32⟩
  | .hbm, ⟨66, _⟩ => ⟨S32x8x1024, .f32⟩
  | .hbm, ⟨67, _⟩ => ⟨S1x1x1024, .f32⟩
  | .hbm, ⟨68, _⟩ => ⟨S32x8x1024, .f32⟩
  | .hbm, ⟨69, _⟩ => ⟨S32x8x1024, .f32⟩
  | .hbm, ⟨70, _⟩ => ⟨S32x8x1024, .f32⟩
  | .hbm, ⟨71, _⟩ => ⟨S32x8x1024, .f32⟩
  | .hbm, ⟨72, _⟩ => ⟨S32x8x1024, .f32⟩
  | .hbm, ⟨73, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_3 : Ref sig .tc := ⟨.hbm, 55, rfl⟩
abbrev main_v34 : Ref sig .tc := ⟨.hbm, 56, rfl⟩
abbrev main_v35 : Ref sig .tc := ⟨.hbm, 57, rfl⟩
abbrev main_cst_4 : Ref sig .tc := ⟨.hbm, 58, rfl⟩
abbrev main_v36 : Ref sig .tc := ⟨.hbm, 59, rfl⟩
abbrev main_v37 : Ref sig .tc := ⟨.hbm, 60, rfl⟩
abbrev main_cst_5 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩

abbrev nD : Nat := 1
abbrev τ : Topo := Topo.v7x

variable {F : FTy → Type} [FloatOps F]
-- ==== InprojSample.lean ====
abbrev S256x1024 : Shape := ⟨2, ![256, 1024]⟩
abbrev S32x1024 : Shape := ⟨2, ![32, 1024]⟩
abbrev S1x1024 : Shape := ⟨2, ![1, 1024]⟩
abbrev S1x1024x5444 : Shape := ⟨3, ![1, 1024, 5444]⟩
abbrev S1024x5444 : Shape := ⟨2, ![1024, 5444]⟩
abbrev S1024x512 : Shape := ⟨2, ![1024, 512]⟩
abbrev S1024x3072 : Shape := ⟨2, ![1024, 3072]⟩
abbrev S1024x1024 : Shape := ⟨2, ![1024, 1024]⟩
abbrev S1024x2048 : Shape := ⟨2, ![1024, 2048]⟩
abbrev S1024x256 : Shape := ⟨2, ![1024, 256]⟩
abbrev S1024x64 : Shape := ⟨2, ![1024, 64]⟩
abbrev S1024x4 : Shape := ⟨2, ![1024, 4]⟩
abbrev S_ : Shape := ⟨0, ![]⟩
abbrev S1024x124 : Shape := ⟨2, ![1024, 124]⟩
abbrev S32x8x1024 : Shape := ⟨3, ![32, 8, 1024]⟩
abbrev S1x256x1024 : Shape := ⟨3, ![1, 256, 1024]⟩
abbrev S1024 : Shape := ⟨1, ![1024]⟩
abbrev S256x512 : Shape := ⟨2, ![256, 512]⟩
abbrev S256x2048 : Shape := ⟨2, ![256, 2048]⟩
abbrev S256x256 : Shape := ⟨2, ![256, 256]⟩
abbrev S256x128 : Shape := ⟨2, ![256, 128]⟩
abbrev S256x64 : Shape := ⟨2, ![256, 64]⟩
abbrev S256 : Shape := ⟨1, ![256]⟩
abbrev S256x1 : Shape := ⟨2, ![256, 1]⟩

abbrev nBuf : Space → Nat
  | .hbm => 52
  | .vmem => 23
  | .smem => 0
  | _ => 0

abbrev bufTy : (tb : Table) → Fin (tcTables nBuf tb) → BufTy
  | .hbm, ⟨0, _⟩ => ⟨S256x1024, .f32⟩
  | .hbm, ⟨1, _⟩ => ⟨S32x1024, .f32⟩
  | .hbm, ⟨2, _⟩ => ⟨S32x1024, .f32⟩
  | .hbm, ⟨3, _⟩ => ⟨S1x1024, .f32⟩
  | .hbm, ⟨4, _⟩ => ⟨S1x1024x5444, .f32⟩
  | .hbm, ⟨5, _⟩ => ⟨S1024x5444, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x3072, .f32⟩
  | .hbm, ⟨13, _⟩ => ⟨S1024x3072, .bf16⟩
  | .hbm, ⟨14, _⟩ => ⟨S1024x1024, .f32⟩
  | .hbm, ⟨15, _⟩ => ⟨S1024x1024, .f32⟩
  | .hbm, ⟨16, _⟩ => ⟨S1024x2048, .f32⟩
  | .hbm, ⟨17, _⟩ => ⟨S1024x2048, .bf16⟩
  | .hbm, ⟨18, _⟩ => ⟨S1024x256, .f32⟩
  | .hbm, ⟨19, _⟩ => ⟨S1024x64, .f32⟩
  | .hbm, ⟨20, _⟩ => ⟨S1024x64, .f32⟩
  | .hbm, ⟨21, _⟩ => ⟨S1024x4, .f32⟩
  | .hbm, ⟨22, _⟩ => ⟨S_, .f32⟩
  | .hbm, ⟨23, _⟩ => ⟨S1024x124, .f32⟩
  | .hbm, ⟨24, _⟩ => ⟨S1024x512, .f32⟩
  | .hbm, ⟨25, _⟩ => ⟨S1024x512, .bf16⟩
  | .hbm, ⟨26, _⟩ => ⟨S1024x512, .f32⟩
  | .hbm, ⟨27, _⟩ => ⟨S1024x512, .f32⟩
  | .hbm, ⟨28, _⟩ => ⟨S1024x512, .bf16⟩
  | .hbm, ⟨29, _⟩ => ⟨S32x8x1024, .f32⟩
  | .hbm, ⟨30, _⟩ => ⟨S256x1024, .f32⟩
  | .hbm, ⟨31, _⟩ => ⟨S1x256x1024, .f32⟩
  | .hbm, ⟨32, _⟩ => ⟨S32x8x1024, .f32⟩
  | .hbm, ⟨33, _⟩ => ⟨S256x1024, .f32⟩
  | .hbm, ⟨34, _⟩ => ⟨S1x256x1024, .f32⟩
  | .hbm, ⟨35, _⟩ => ⟨S1024, .f32⟩
  | .hbm, ⟨36, _⟩ => ⟨S1x1024, .f32⟩
  | .hbm, ⟨37, _⟩ => ⟨S256x512, .bf16⟩
  | .hbm, ⟨38, _⟩ => ⟨S256x512, .f32⟩
  | .hbm, ⟨39, _⟩ => ⟨S256x512, .f32⟩
  | .hbm, ⟨40, _⟩ => ⟨S256x512, .bf16⟩
  | .hbm, ⟨41, _⟩ => ⟨S256x512, .f32⟩
  | .hbm, ⟨42, _⟩ => ⟨S256x512, .f32⟩
  | .hbm, ⟨43, _⟩ => ⟨S256x512, .bf16⟩
  | .hbm, ⟨44, _⟩ => ⟨S256x512, .bf16⟩
  | .hbm, ⟨45, _⟩ => ⟨S256x512, .bf16⟩
  | .hbm, ⟨46, _⟩ => ⟨S256x512, .bf16⟩
  | .hbm, ⟨47, _⟩ => ⟨S256x2048, .bf16⟩
  | .hbm, ⟨48, _⟩ => ⟨S256x256, .f32⟩
  | .hbm, ⟨49, _⟩ => ⟨S256x128, .f32⟩
  | .hbm, ⟨50, _⟩ => ⟨S256x128, .f32⟩
  | .hbm, ⟨51, _⟩ => ⟨S256x64, .f32⟩
  | .local _ .vmem, ⟨0, _⟩ => ⟨S256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x1024, .f32⟩
  | .local _ .vmem, ⟨4, _⟩ => ⟨S1024x3072, .bf16⟩
  | .local _ .vmem, ⟨5, _⟩ => ⟨S1024x2048, .bf16⟩
  | .local _ .vmem, ⟨6, _⟩ => ⟨S1024x512, .bf16⟩
  | .local _ .vmem, ⟨7, _⟩ => ⟨S1024x512, .bf16⟩
  | .local _ .vmem, ⟨8, _⟩ => ⟨S256x512, .bf16⟩
  | .local _ .vmem, ⟨9, _⟩ => ⟨S256x512, .f32⟩
  | .local _ .vmem, ⟨10, _⟩ => ⟨S256x512, .f32⟩
  | .local _ .vmem, ⟨11, _⟩ => ⟨S256x512, .bf16⟩
  | .local _ .vmem, ⟨12, _⟩ => ⟨S256x512, .f32⟩
  | .local _ .vmem, ⟨13, _⟩ => ⟨S256x512, .f32⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x2048, .bf16⟩
  | .local _ .vmem, ⟨19, _⟩ => ⟨S256x256, .f32⟩
  | .local _ .vmem, ⟨20, _⟩ => ⟨S256x128, .f32⟩
  | .local _ .vmem, ⟨21, _⟩ => ⟨S256x128, .f32⟩
  | .local _ .vmem, ⟨22, _⟩ => ⟨S256x64, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31_0 : Ref sig .tc := ⟨.hbm, 37, rfl⟩
abbrev main_v31_1 : Ref sig .tc := ⟨.hbm, 38, rfl⟩
abbrev main_v31_2 : Ref sig .tc := ⟨.hbm, 39, rfl⟩
abbrev main_v31_3 : Ref sig .tc := ⟨.hbm, 40, rfl⟩
abbrev main_v31_4 : Ref sig .tc := ⟨.hbm, 41, rfl⟩
abbrev main_v31_5 : Ref sig .tc := ⟨.hbm, 42, rfl⟩
abbrev main_v31_6 : Ref sig .tc := ⟨.hbm, 43, rfl⟩
abbrev main_v31_7 : Ref sig .tc := ⟨.hbm, 44, rfl⟩
abbrev main_v31_8 : Ref sig .tc := ⟨.hbm, 45, rfl⟩
abbrev main_v31_9 : Ref sig .tc := ⟨.hbm, 46, rfl⟩
abbrev main_v31_10 : Ref sig .tc := ⟨.hbm, 47, rfl⟩
abbrev main_v31_11 : Ref sig .tc := ⟨.hbm, 48, rfl⟩
abbrev main_v31_12 : Ref sig .tc := ⟨.hbm, 49, rfl⟩
abbrev main_v31_13 : Ref sig .tc := ⟨.hbm, 50, rfl⟩
abbrev main_v31_14 : Ref sig .tc := ⟨.hbm, 51, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S256x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S256x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S256x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S256x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S256x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S256x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S256x512 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S256x2048 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S256x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true]

abbrev stage0_20 : Fin 1 → Memref sig .tc .vmem S256x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true]

abbrev stage0_21 : Fin 1 → Memref sig .tc .vmem S256x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![true]

abbrev stage0_22 : Fin 1 → Memref sig .tc .vmem S256x64 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![true]
-- ==== InprojSampleReferenceIdeal.lean ====
abbrev S256x1024 : Shape := ⟨2, ![256, 1024]⟩
abbrev S32x1024 : Shape := ⟨2, ![32, 1024]⟩
abbrev S1x1024 : Shape := ⟨2, ![1, 1024]⟩
abbrev S1x1024x5444 : Shape := ⟨3, ![1, 1024, 5444]⟩
abbrev S32x8x1024 : Shape := ⟨3, ![32, 8, 1024]⟩
abbrev S1024 : Shape := ⟨1, ![1024]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S32x1x1024 : Shape := ⟨3, ![32, 1, 1024]⟩
abbrev S1024x5444 : Shape := ⟨2, ![1024, 5444]⟩
abbrev S32x8x5444 : Shape := ⟨3, ![32, 8, 5444]⟩
abbrev S32x8x512 : Shape := ⟨3, ![32, 8, 512]⟩
abbrev S32x8x256 : Shape := ⟨3, ![32, 8, 256]⟩
abbrev S32x8x64 : Shape := ⟨3, ![32, 8, 64]⟩
abbrev S32x8x4 : Shape := ⟨3, ![32, 8, 4]⟩
abbrev S32x8x2048 : Shape := ⟨3, ![32, 8, 2048]⟩
abbrev S256x512 : Shape := ⟨2, ![256, 512]⟩
abbrev S256x2048 : Shape := ⟨2, ![256, 2048]⟩
abbrev S256x256 : Shape := ⟨2, ![256, 256]⟩
abbrev S256x64 : Shape := ⟨2, ![256, 64]⟩

abbrev nBuf : Space → Nat
  | .hbm => 83
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S32x1024, .f32⟩
  | .hbm, ⟨2, _⟩ => ⟨S32x1024, .f32⟩
  | .hbm, ⟨3, _⟩ => ⟨S1x1024, .f32⟩
  | .hbm, ⟨4, _⟩ => ⟨S1x1024x5444, .f32⟩
  | .hbm, ⟨5, _⟩ => ⟨S32x8x1024, .f32⟩
  | .hbm, ⟨6, _⟩ => ⟨S1024, .f32⟩
  | .hbm, ⟨7, _⟩ => ⟨S32x8x1024, .f32⟩
  | .hbm, ⟨8, _⟩ => ⟨S_, .f32⟩
  | .hbm, ⟨9, _⟩ => ⟨S32x8, .f32⟩
  | .hbm, ⟨10, _⟩ => ⟨S32x8x1, .f32⟩
  | .hbm, ⟨11, _⟩ => ⟨S_, .f32⟩
  | .hbm, ⟨12, _⟩ => ⟨S32x8x1, .f32⟩
  | .hbm, ⟨13, _⟩ => ⟨S32x8x1, .f32⟩
  | .hbm, ⟨14, _⟩ => ⟨S_, .f32⟩
  | .hbm, ⟨15, _⟩ => ⟨S32x8x1, .f32⟩
  | .hbm, ⟨16, _⟩ => ⟨S32x8x1, .f32⟩
  | .hbm, ⟨17, _⟩ => ⟨S32x8x1, .f32⟩
  | .hbm, ⟨18, _⟩ => ⟨S32x8x1024, .f32⟩
  | .hbm, ⟨19, _⟩ => ⟨S32x8x1024, .f32⟩
  | .hbm, ⟨20, _⟩ => ⟨S1x1x1024, .f32⟩
  | .hbm, ⟨21, _⟩ => ⟨S32x8x1024, .f32⟩
  | .hbm, ⟨22, _⟩ => ⟨S32x8x1024, .f32⟩
  | .hbm, ⟨23, _⟩ => ⟨S32x1x1024, .f32⟩
  | .hbm, ⟨24, _⟩ => ⟨S_, .f32⟩
  | .hbm, ⟨25, _⟩ => ⟨S32x1x1024, .f32⟩
  | .hbm, ⟨26, _⟩ => ⟨S32x1x1024, .f32⟩
  | .hbm, ⟨27, _⟩ => ⟨S32x8x1024, .f32⟩
  | .hbm, ⟨28, _⟩ => ⟨S32x8x1024, .f32⟩
  | .hbm, ⟨29, _⟩ => ⟨S32x1x1024, .f32⟩
  | .hbm, ⟨30, _⟩ => ⟨S32x8x1024, .f32⟩
  | .hbm, ⟨31, _⟩ => ⟨S32x8x1024, .f32⟩
  | .hbm, ⟨32, _⟩ => ⟨S1024x5444, .f32⟩
  | .hbm, ⟨33, _⟩ => ⟨S32x8x5444, .f32⟩
  | .hbm, ⟨34, _⟩ => ⟨S32x8x512, .f32⟩
  | .hbm, ⟨35, _⟩ => ⟨S32x8x512, .f32⟩
  | .hbm, ⟨36, _⟩ => ⟨S32x8x512, .f32⟩
  | .hbm, ⟨37, _⟩ => ⟨S32x8x256, .f32⟩
  | .hbm, ⟨38, _⟩ => ⟨S32x8x64, .f32⟩
  | .hbm, ⟨39, _⟩ => ⟨S32x8x4, .f32⟩
  | .hbm, ⟨40, _⟩ => ⟨S32x8x512, .f32⟩
  | .hbm, ⟨41, _⟩ => ⟨S32x8x512, .f32⟩
  | .hbm, ⟨42, _⟩ => ⟨S32x8x512, .f32⟩
  | .hbm, ⟨43, _⟩ => ⟨S32x8x1024, .f32⟩
  | .hbm, ⟨44, _⟩ => ⟨S32x8x1024, .f32⟩
  | .hbm, ⟨45, _⟩ => ⟨S_, .f32⟩
  | .hbm, ⟨46, _⟩ => ⟨S32x8x512, .f32⟩
  | .hbm, ⟨47, _⟩ => ⟨S32x8x512, .f32⟩
  | .hbm, ⟨48, _⟩ => ⟨S_, .f32⟩
  | .hbm, ⟨49, _⟩ => ⟨S32x8x512, .f32⟩
  | .hbm, ⟨50, _⟩ => ⟨S32x8x512, .f32⟩
  | .hbm, ⟨51, _⟩ => ⟨S_, .f32⟩
  | .hbm, ⟨52, _⟩ => ⟨S32x8x256, .f32⟩
  | .hbm, ⟨53, _⟩ => ⟨S32x8x256, .f32⟩
  | .hbm, ⟨54, _⟩ => ⟨S32x8x1024, .f32⟩
  | .hbm, ⟨55, _⟩ => ⟨S32x8x1024, .f32⟩
  | .hbm, ⟨56, _⟩ => ⟨S_, .f32⟩
  | .hbm, ⟨57, _⟩ => ⟨S32x8x1024, .f32⟩
  | .hbm, ⟨58, _⟩ => ⟨S32x8x1024, .f32⟩
  | .hbm, ⟨59, _⟩ => ⟨S_, .f32⟩
  | .hbm, ⟨60, _⟩ => ⟨S32x8x1024, .f32⟩
  | .hbm, ⟨61, _⟩ => ⟨S32x8x1024, .f32⟩
  | .hbm, ⟨62, _⟩ => ⟨S32x8x1024, .f32⟩
  | .hbm, ⟨63, _⟩ => ⟨S32x8x1024, .f32⟩
  | .hbm, ⟨64, _⟩ => ⟨S_, .f32⟩
  | .hbm, ⟨65, _⟩ => ⟨S32x8x1024, .f32⟩
  | .hbm, ⟨66, _⟩ => ⟨S32x8x1024, .f32⟩
  | .hbm, ⟨67, _⟩ => ⟨S_, .f32⟩
  | .hbm, ⟨68, _⟩ => ⟨S32x8x1024, .f32⟩
  | .hbm, ⟨69, _⟩ => ⟨S32x8x1024, .f32⟩
  | .hbm, ⟨70, _⟩ => ⟨S32x8x2048, .f32⟩
  | .hbm, ⟨71, _⟩ => ⟨S256x512, .f32⟩
  | .hbm, ⟨72, _⟩ => ⟨S256x512, .bf16⟩
  | .hbm, ⟨73, _⟩ => ⟨S256x512, .f32⟩
  | .hbm, ⟨74, _⟩ => ⟨S256x512, .f32⟩
  | .hbm, ⟨75, _⟩ => ⟨S256x512, .f32⟩
  | .hbm, ⟨76, _⟩ => ⟨S256x512, .bf16⟩
  | .hbm, ⟨77, _⟩ => ⟨S256x512, .f32⟩
  | .hbm, ⟨78, _⟩ => ⟨S256x512, .f32⟩
  | .hbm, ⟨79, _⟩ => ⟨S256x2048, .f32⟩
  | .hbm, ⟨80, _⟩ => ⟨S256x2048, .bf16⟩
  | .hbm, ⟨81, _⟩ => ⟨S256x256, .f32⟩
  | .hbm, ⟨82, _⟩ => ⟨S256x64, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_3 : Ref sig .tc := ⟨.hbm, 45, rfl⟩
abbrev main_v36 : Ref sig .tc := ⟨.hbm, 46, rfl⟩
abbrev main_v37 : Ref sig .tc := ⟨.hbm, 47, rfl⟩
abbrev main_cst_4 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_8 : Ref sig .tc := ⟨.hbm, 64, rfl⟩
abbrev main_v50 : Ref sig .tc := ⟨.hbm, 65, rfl⟩
abbrev main_v51 : Ref sig .tc := ⟨.hbm, 66, rfl⟩
abbrev main_cst_9 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩

abbrev nD : Nat := 1
abbrev τ : Topo := Topo.v7x

variable {F : FTy → Type} [FloatOps F]
-- ==== Ada.lean ====
abbrev S4x1024 : Shape := ⟨2, ![4, 1024]⟩
abbrev S32x1024 : Shape := ⟨2, ![32, 1024]⟩
abbrev S1x1024x6144 : Shape := ⟨3, ![1, 1024, 6144]⟩
abbrev S1x6144 : Shape := ⟨2, ![1, 6144]⟩
abbrev S_ : Shape := ⟨0, ![]⟩
abbrev S40x1024 : Shape := ⟨2, ![40, 1024]⟩
abbrev S1024x6144 : Shape := ⟨2, ![1024, 6144]⟩
abbrev S6144 : Shape := ⟨1, ![6144]⟩
abbrev S40x6144 : Shape := ⟨2, ![40, 6144]⟩
abbrev S1024x1024 : Shape := ⟨2, ![1024, 1024]⟩
abbrev S1x1024 : Shape := ⟨2, ![1, 1024]⟩

abbrev nBuf : Space → Nat
  | .hbm => 11
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S32x1024, .f32⟩
  | .hbm, ⟨2, _⟩ => ⟨S1x1024x6144, .f32⟩
  | .hbm, ⟨3, _⟩ => ⟨S1x6144, .f32⟩
  | .hbm, ⟨4, _⟩ => ⟨S_, .f32⟩
  | .hbm, ⟨5, _⟩ => ⟨S4x1024, .f32⟩
  | .hbm, ⟨6, _⟩ => ⟨S40x1024, .f32⟩
  | .hbm, ⟨7, _⟩ => ⟨S1024x6144, .f32⟩
  | .hbm, ⟨8, _⟩ => ⟨S6144, .f32⟩
  | .hbm, ⟨9, _⟩ => ⟨S1x6144, .f32⟩
  | .hbm, ⟨10, _⟩ => ⟨S40x6144, .f32⟩
  | .local _ .vmem, ⟨0, _⟩ => ⟨S40x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S40x1024, .f32⟩
  | .local _ .vmem, ⟨6, _⟩ => ⟨S40x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S40x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaReferenceIdeal.lean ====
abbrev S4x1024 : Shape := ⟨2, ![4, 1024]⟩
abbrev S32x1024 : Shape := ⟨2, ![32, 1024]⟩
abbrev S1x1024x6144 : Shape := ⟨3, ![1, 1024, 6144]⟩
abbrev S1x6144 : Shape := ⟨2, ![1, 6144]⟩
abbrev S_ : Shape := ⟨0, ![]⟩
abbrev S40x1024 : Shape := ⟨2, ![40, 1024]⟩
abbrev S1024x6144 : Shape := ⟨2, ![1024, 6144]⟩
abbrev S40x6144 : Shape := ⟨2, ![40, 6144]⟩
abbrev S6144 : Shape := ⟨1, ![6144]⟩

abbrev nBuf : Space → Nat
  | .hbm => 13
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S32x1024, .f32⟩
  | .hbm, ⟨2, _⟩ => ⟨S1x1024x6144, .f32⟩
  | .hbm, ⟨3, _⟩ => ⟨S1x6144, .f32⟩
  | .hbm, ⟨4, _⟩ => ⟨S_, .f32⟩
  | .hbm, ⟨5, _⟩ => ⟨S4x1024, .f32⟩
  | .hbm, ⟨6, _⟩ => ⟨S40x1024, .f32⟩
  | .hbm, ⟨7, _⟩ => ⟨S1024x6144, .f32⟩
  | .hbm, ⟨8, _⟩ => ⟨S40x6144, .f32⟩
  | .hbm, ⟨9, _⟩ => ⟨S6144, .f32⟩
  | .hbm, ⟨10, _⟩ => ⟨S1x6144, .f32⟩
  | .hbm, ⟨11, _⟩ => ⟨S40x6144, .f32⟩
  | .hbm, ⟨12, _⟩ => ⟨S40x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== MergeSample.lean ====
abbrev S256x512 : Shape := ⟨2, ![256, 512]⟩
abbrev S256x2048 : Shape := ⟨2, ![256, 2048]⟩
abbrev S256x1024 : Shape := ⟨2, ![256, 1024]⟩
abbrev S32x1024 : Shape := ⟨2, ![32, 1024]⟩
abbrev S1x1024 : Shape := ⟨2, ![1, 1024]⟩
abbrev S1x512x1024 : Shape := ⟨3, ![1, 512, 1024]⟩
abbrev S1x1024x1024 : Shape := ⟨3, ![1, 1024, 1024]⟩
abbrev S512x1024 : Shape := ⟨2, ![512, 1024]⟩
abbrev S1024x1024 : Shape := ⟨2, ![1024, 1024]⟩
abbrev S32x8x1024 : Shape := ⟨3, ![32, 8, 1024]⟩
abbrev S1x256x1024 : Shape := ⟨3, ![1, 256, 1024]⟩
abbrev S1024 : Shape := ⟨1, ![1024]⟩
abbrev S256 : Shape := ⟨1, ![256]⟩
abbrev S256x1 : Shape := ⟨2, ![256, 1]⟩

abbrev nBuf : Space → Nat
  | .hbm => 21
  | .vmem => 10
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x2048, .bf16⟩
  | .hbm, ⟨3, _⟩ => ⟨S256x1024, .f32⟩
  | .hbm, ⟨4, _⟩ => ⟨S32x1024, .f32⟩
  | .hbm, ⟨5, _⟩ => ⟨S1x1024, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S512x1024, .f32⟩
  | .hbm, ⟨10, _⟩ => ⟨S512x1024, .bf16⟩
  | .hbm, ⟨11, _⟩ => ⟨S512x1024, .f32⟩
  | .hbm, ⟨12, _⟩ => ⟨S512x1024, .bf16⟩
  | .hbm, ⟨13, _⟩ => ⟨S1024x1024, .f32⟩
  | .hbm, ⟨14, _⟩ => ⟨S1024x1024, .bf16⟩
  | .hbm, ⟨15, _⟩ => ⟨S32x8x1024, .f32⟩
  | .hbm, ⟨16, _⟩ => ⟨S256x1024, .f32⟩
  | .hbm, ⟨17, _⟩ => ⟨S1x256x1024, .f32⟩
  | .hbm, ⟨18, _⟩ => ⟨S1024, .f32⟩
  | .hbm, ⟨19, _⟩ => ⟨S1x1024, .f32⟩
  | .hbm, ⟨20, _⟩ => ⟨S256x1024, .f32⟩
  | .local _ .vmem, ⟨0, _⟩ => ⟨S256x512, .f32⟩
  | .local _ .vmem, ⟨1, _⟩ => ⟨S256x512, .f32⟩
  | .local _ .vmem, ⟨2, _⟩ => ⟨S256x2048, .bf16⟩
  | .local _ .vmem, ⟨3, _⟩ => ⟨S256x1024, .f32⟩
  | .local _ .vmem, ⟨4, _⟩ => ⟨S1x256x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S256x1024, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== MergeSampleReferenceIdeal.lean ====
abbrev S256x512 : Shape := ⟨2, ![256, 512]⟩
abbrev S256x2048 : Shape := ⟨2, ![256, 2048]⟩
abbrev S256x1024 : Shape := ⟨2, ![256, 1024]⟩
abbrev S32x1024 : Shape := ⟨2, ![32, 1024]⟩
abbrev S1x1024 : Shape := ⟨2, ![1, 1024]⟩
abbrev S1x512x1024 : Shape := ⟨3, ![1, 512, 1024]⟩
abbrev S1x1024x1024 : Shape := ⟨3, ![1, 1024, 1024]⟩
abbrev S32x8x512 : Shape := ⟨3, ![32, 8, 512]⟩
abbrev S32x8x1024 : Shape := ⟨3, ![32, 8, 1024]⟩
abbrev S32x8x2048 : Shape := ⟨3, ![32, 8, 2048]⟩
abbrev S512x1024 : Shape := ⟨2, ![512, 1024]⟩
abbrev S32x1x1024 : Shape := ⟨3, ![32, 1, 1024]⟩
abbrev S1024x1024 : Shape := ⟨2, ![1024, 1024]⟩
abbrev S1024 : Shape := ⟨1, ![1024]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩

abbrev nBuf : Space → Nat
  | .hbm => 47
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x2048, .bf16⟩
  | .hbm, ⟨3, _⟩ => ⟨S256x1024, .f32⟩
  | .hbm, ⟨4, _⟩ => ⟨S32x1024, .f32⟩
  | .hbm, ⟨5, _⟩ => ⟨S1x1024, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S32x8x512, .f32⟩
  | .hbm, ⟨10, _⟩ => ⟨S32x8x512, .f32⟩
  | .hbm, ⟨11, _⟩ => ⟨S32x8x1024, .f32⟩
  | .hbm, ⟨12, _⟩ => ⟨S32x8x2048, .bf16⟩
  | .hbm, ⟨13, _⟩ => ⟨S32x8x2048, .f32⟩
  | .hbm, ⟨14, _⟩ => ⟨S32x8x1024, .f32⟩
  | .hbm, ⟨15, _⟩ => ⟨S32x8x1024, .f32⟩
  | .hbm, ⟨16, _⟩ => ⟨S512x1024, .f32⟩
  | .hbm, ⟨17, _⟩ => ⟨S32x8x1024, .f32⟩
  | .hbm, ⟨18, _⟩ => ⟨S32x8x1024, .f32⟩
  | .hbm, ⟨19, _⟩ => ⟨S512x1024, .f32⟩
  | .hbm, ⟨20, _⟩ => ⟨S32x8x1024, .f32⟩
  | .hbm, ⟨21, _⟩ => ⟨S32x8x1024, .f32⟩
  | .hbm, ⟨22, _⟩ => ⟨S32x8x1024, .f32⟩
  | .hbm, ⟨23, _⟩ => ⟨S32x1x1024, .f32⟩
  | .hbm, ⟨24, _⟩ => ⟨S1024x1024, .f32⟩
  | .hbm, ⟨25, _⟩ => ⟨S32x8x1024, .f32⟩
  | .hbm, ⟨26, _⟩ => ⟨S1024, .f32⟩
  | .hbm, ⟨27, _⟩ => ⟨S32x8x1024, .f32⟩
  | .hbm, ⟨28, _⟩ => ⟨S_, .f32⟩
  | .hbm, ⟨29, _⟩ => ⟨S32x8, .f32⟩
  | .hbm, ⟨30, _⟩ => ⟨S32x8x1, .f32⟩
  | .hbm, ⟨31, _⟩ => ⟨S_, .f32⟩
  | .hbm, ⟨32, _⟩ => ⟨S32x8x1, .f32⟩
  | .hbm, ⟨33, _⟩ => ⟨S32x8x1, .f32⟩
  | .hbm, ⟨34, _⟩ => ⟨S_, .f32⟩
  | .hbm, ⟨35, _⟩ => ⟨S32x8x1, .f32⟩
  | .hbm, ⟨36, _⟩ => ⟨S32x8x1, .f32⟩
  | .hbm, ⟨37, _⟩ => ⟨S32x8x1, .f32⟩
  | .hbm, ⟨38, _⟩ => ⟨S32x8x1024, .f32⟩
  | .hbm, ⟨39, _⟩ => ⟨S32x8x1024, .f32⟩
  | .hbm, ⟨40, _⟩ => ⟨S1x1x1024, .f32⟩
  | .hbm, ⟨41, _⟩ => ⟨S32x8x1024, .f32⟩
  | .hbm, ⟨42, _⟩ => ⟨S32x8x1024, .f32⟩
  | .hbm, ⟨43, _⟩ => ⟨S32x8x1024, .f32⟩
  | .hbm, ⟨44, _⟩ => ⟨S32x8x1024, .f32⟩
  | .hbm, ⟨45, _⟩ => ⟨S32x8x1024, .f32⟩
  | .hbm, ⟨46, _⟩ => ⟨S256x1024, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Proof.SbMath.lean ====
/-
  Stick-breaking attention read row by row, over the extended reals: the sums that a sweep over the
  key blocks accumulates, and the one lemma by which such a sweep advances.
-/
module

public import Idealize.ShloMosaic.PureOps.Ideal.Laws

@[expose] public section

noncomputable section

open Idealize.ShloMosaic

namespace Cert.Proof.SB

/-- The logarithm of `1 - β` for the score `z`, as the kernel spells it: minus the softplus of `z`. -/
def lg (z : EReal) : EReal := 0 - (max z 0 + Ideal.log (1 + Ideal.exp (0 - max z (-z))))

/-- The masked logarithm of key `s` for the query at place `t`: zero unless the key comes earlier. -/
def lm (z : ℕ → EReal) (t s : ℕ) : EReal := if s < t then lg (z s) else 0

/-- The masked logarithms of the keys from `a` up to `n`, added. -/
def cs (z : ℕ → EReal) (t a n : ℕ) : EReal := ∑ s ∈ Finset.Ico a n, lm z t s

/-- The weight of key `s`: its own break of the stick after all breaks of the keys between it and the query. -/
def wt (z : ℕ → EReal) (t n s : ℕ) : EReal :=
  if s < t then Ideal.exp (z s + lg (z s) + cs z t (s + 1) n) else 0

/-- The weighted values of the keys from `a` up to `n`, added. -/
def os (z v : ℕ → EReal) (t a n : ℕ) : EReal := ∑ s ∈ Finset.Ico a n, wt z t n s * v s

/-- The exponential of a real score is real. -/
theorem exp_coe (x : ℝ) : Ideal.exp (x : EReal) = (Real.exp x : EReal) := rfl

/-- The logarithm of a positive real is real. -/
theorem log_coe {x : ℝ} (h : 0 < x) : Ideal.log (x : EReal) = (Real.log x : EReal) := by
  show (if x ≤ 0 then (⊥ : EReal) else (Real.log x : EReal)) = _
  rw [if_neg (not_le.mpr h)]

/-- The larger of two reals, read among the extended reals. -/
theorem coe_max (x y : ℝ) : max (x : EReal) (y : EReal) = ((max x y : ℝ) : EReal) :=
  (EReal.coe_strictMono.monotone.map_max).symm

/-- For a real score the logarithm of `1 - β` is the real `-(max x 0 + log (1 + exp (-|x|)))`. -/
theorem lg_coe (x : ℝ) : lg (x : EReal) = ((-(max x 0 + Real.log (1 + Real.exp (-|x|))) : ℝ) : EReal) := by
  have e0 : max (x : EReal) (-(x : EReal)) = ((|x| : ℝ) : EReal) := by
    rw [← EReal.coe_neg, coe_max, abs_eq_max_neg]
  have e1 : (0 : EReal) - ((|x| : ℝ) : EReal) = ((-|x| : ℝ) : EReal) := by
    rw [zero_sub, EReal.coe_neg]
  have e2 : (1 : EReal) + Ideal.exp ((-|x| : ℝ) : EReal) = ((1 + Real.exp (-|x|) : ℝ) : EReal) := by
    rw [exp_coe, EReal.coe_add, EReal.coe_one]
  have e3 : max (x : EReal) 0 = ((max x 0 : ℝ) : EReal) := by rw [← coe_max, EReal.coe_zero]
  unfold lg
  rw [e0, e1, e2, log_coe (by positivity), e3, ← EReal.coe_add, zero_sub, ← EReal.coe_neg]

/-- A masked logarithm of real scores is real. -/
theorem lm_real {z : ℕ → EReal} {t s : ℕ} (hz : ∃ x : ℝ, z s = x) : ∃ x : ℝ, lm z t s = x := by
  obtain ⟨x, hx⟩ := hz
  unfold lm
  split
  · rw [hx, lg_coe]; exact ⟨_, rfl⟩
  · exact ⟨0, EReal.coe_zero.symm⟩

/-- The log-sigmoid of a real score is the score plus the logarithm of `1 - β`. -/
theorem logSigmoid_coe (x : ℝ) :
    -(max (-(x : EReal)) 0 + Ideal.log1p (Ideal.exp (-(max (-(x : EReal)) (- -(x : EReal)))))) = (x : EReal) + lg (x : EReal) := by
  have e0 : max (-(x : EReal)) (- -(x : EReal)) = ((|x| : ℝ) : EReal) := by
    rw [← EReal.coe_neg, ← EReal.coe_neg, coe_max, neg_neg, max_comm, abs_eq_max_neg]
  have e2 : Ideal.log1p (Ideal.exp (-((|x| : ℝ) : EReal))) = ((Real.log (1 + Real.exp (-|x|)) : ℝ) : EReal) := by
    rw [← EReal.coe_neg, exp_coe]
    show Ideal.log (1 + _) = _
    rw [← EReal.coe_one, ← EReal.coe_add, log_coe (by positivity)]
  have e3 : max (-(x : EReal)) 0 = ((max (-x) 0 : ℝ) : EReal) := by
    rw [← coe_max, EReal.coe_zero, EReal.coe_neg]
  rw [e0, e2, e3, lg_coe, ← EReal.coe_add, ← EReal.coe_add, ← EReal.coe_neg]
  congr 1
  rcases le_total x 0 with h | h
  · rw [max_eq_left (by linarith), max_eq_right h]; ring
  · rw [max_eq_right (by linarith), max_eq_left h]; ring

/-- The log-sigmoid of a negated real score is the logarithm of `1 - β`. -/
theorem logSigmoid_neg_coe (x : ℝ) :
    -(max (- -(x : EReal)) 0 + Ideal.log1p (Ideal.exp (-(max (- -(x : EReal)) (- - -(x : EReal)))))) = lg (x : EReal) := by
  have h := logSigmoid_coe (-x)
  rw [EReal.coe_neg] at h
  rw [h, ← EReal.coe_neg, lg_coe, lg_coe, abs_neg, ← EReal.coe_add]
  congr 1
  rcases le_total x 0 with h | h
  · rw [max_eq_left (by linarith), max_eq_right h]; ring
  · rw [max_eq_right (by linarith), max_eq_left h]; ring

/-- Splitting a sum of 256 terms off the front of an interval. -/
theorem sum_Ico_block (f : ℕ → EReal) (a n : ℕ) (h : a + 256 ≤ n) :
    ∑ s ∈ Finset.Ico a n, f s = ∑ k : Fin 256, f (a + k.val) + ∑ s ∈ Finset.Ico (a + 256) n, f s := by
  rw [← Finset.sum_Ico_consecutive f (Nat.le_add_right a 256) h, Finset.sum_Ico_eq_sum_range,
    Nat.add_sub_cancel_left, Finset.sum_range]

/-- The later keys of a block, added by a product with the strictly lower triangle of ones. -/
theorem sum_later (l : ℕ → EReal) (c : Fin 256) :
    ∑ k : Fin 256, l k.val * (if c.val < k.val then (1 : EReal) else 0) = ∑ k ∈ Finset.Ico (c.val + 1) 256, l k := by
  rw [Fin.sum_univ_eq_sum_range (fun k => l k * (if c.val < k then (1 : EReal) else 0)) 256]
  rw [← Finset.sum_subset (s₁ := Finset.Ico (c.val + 1) 256) (s₂ := Finset.range 256)]
  · refine Finset.sum_congr rfl fun k hk => ?_
    rw [if_pos (by have := Finset.mem_Ico.mp hk; omega), mul_one]
  · intro k hk; have := Finset.mem_Ico.mp hk; exact Finset.mem_range.mpr this.2
  · intro k hk hk'
    rw [if_neg, mul_zero]
    intro hc; exact hk' (Finset.mem_Ico.mpr ⟨hc, Finset.mem_range.mp hk⟩)

/-- The masked logarithms after key `a + c`: those of its own block, then those of the later blocks. -/
theorem cs_split (z : ℕ → EReal) (t a n : ℕ) (c : ℕ) (hc : c < 256) (h : a + 256 ≤ n) :
    ∑ k ∈ Finset.Ico (c + 1) 256, lm z t (a + k) + cs z t (a + 256) n = cs z t (a + c + 1) n := by
  unfold cs
  rw [← Finset.sum_Ico_consecutive (lm z t) (show a + c + 1 ≤ a + 256 by omega) h]
  congr 1
  rw [Finset.sum_Ico_add (lm z t) (c + 1) 256 a]
  simp only [Nat.add_comm 256 a, Nat.add_comm (c + 1) a, Nat.add_assoc]

/-- The masked logarithms from a key on: its own and those after it. -/
theorem cs_head (z : ℕ → EReal) (t a n : ℕ) (h : a < n) : cs z t (a + 1) n + lm z t a = cs z t a n := by
  unfold cs
  rw [Finset.sum_eq_sum_Ico_succ_bot h, add_comm]

/-- One block's weighted values beside those of the later blocks. -/
theorem os_step (z v : ℕ → EReal) (t a n : ℕ) (h : a + 256 ≤ n) :
    os z v t (a + 256) n + ∑ k : Fin 256, wt z t n (a + k.val) * v (a + k.val) = os z v t a n := by
  unfold os
  rw [sum_Ico_block _ a n h, add_comm]

/-- Past the query's block nothing is masked in. -/
theorem cs_zero (z : ℕ → EReal) (t a n : ℕ) (h : t ≤ a) : cs z t a n = 0 :=
  Finset.sum_eq_zero fun s hs => if_neg (by have := (Finset.mem_Ico.mp hs).1; omega)

/-- Past the query's block nothing is read. -/
theorem os_zero (z v : ℕ → EReal) (t a n : ℕ) (h : t ≤ a) : os z v t a n = 0 :=
  Finset.sum_eq_zero fun s hs => by
    rw [wt, if_neg (by have := (Finset.mem_Ico.mp hs).1; omega), zero_mul]

end Cert.Proof.SB
-- ==== Proof.SbBlock.lean ====
/-
  One head's share of one key block, as the kernel computes it: scores, logarithms of `1 - β`, their
  sums over the later keys of the block, weights, the new carried sum and the weighted values. Each is
  a named function of the vectors it reads, and is then read at an index over the extended reals.
-/
module

public import proofs.«01_k».proof.KernelIdeal
public import proofs.«01_k».proof.Proof.Gen.KernelIdeal.Skeleton
public import proofs.«01_k».proof.Proof.SbMath
public import Idealize.ShloMosaic.Lib.MatmulPlain
public import Idealize.ShloMosaic.Lib.ValueIdx
public import Idealize.ShloMosaic.Lib.Pipeline.Value

@[expose] public section

set_option maxRecDepth 16384

noncomputable section

open Idealize.ShloMosaic Idealize.ShloMosaic.ValueIdx Idealize.SL.Sem Cert.KernelIdeal Cert.KernelIdeal.Gen

namespace Cert.Proof.SB

section Fns

variable {F : FTy → Type} [FloatOps F]

/-- The zero splat of a 256 × 256 block. -/
abbrev zero256 : FVec F S256x256 .f32 := constant S256x256 .f32 0x00000000#32

/-- The scores of a block: queries times transposed keys. -/
def zB (q k : FVec F S256x128 .bf16) : FVec F S256x256 .f32 :=
  matmul dot_S256x128_S256x128_S256x256_1_1_0_0_n_n none q k zero256

/-- The logarithms of `1 - β` of a block of scores. -/
def lB (z : FVec F S256x256 .f32) : FVec F S256x256 .f32 :=
  subf (broadcast S256x256 (Scalar.ofBits .f32 0x00000000#32))
    (addf (maximumf z (broadcast S256x256 (Scalar.ofBits .f32 0x00000000#32)))
      (log (addf (broadcast S256x256 (Scalar.ofBits .f32 0x3F800000#32))
        (exp (subf (broadcast S256x256 (Scalar.ofBits .f32 0x00000000#32)) (absf z))))))

/-- The logarithms of a block added over its later keys, in two halves of their precision. -/
def bB (l : FVec F S256x256 .f32) (later : FVec F S256x256 .bf16) : FVec F S256x256 .f32 :=
  addf (matmul dot_S256x256_S256x256_S256x256_1_0_0_1_n_n none (truncf .bf16 l bitsLt_bf16_f32) later zero256)
    (matmul dot_S256x256_S256x256_S256x256_1_0_0_1_n_n none
      (truncf .bf16 (subf l (extf .f32 (truncf .bf16 l bitsLt_bf16_f32) bitsLt_bf16_f32)) bitsLt_bf16_f32) later zero256)

/-- The weights of a block before any mask. -/
def aB (z l b : FVec F S256x256 .f32) (c : Vec F S1x256x1 .f32) : FVec F S256x256 .f32 :=
  exp (addf (addf (addf z l) b) (broadcastTo S256x256 (shapeCast S256x1 c shapeCasts_S1x256x1_S256x1) broadcasts_S256x1_S256x256))

/-- The carried sum after a block. -/
def cB (c : Vec F S1x256x1 .f32) (b l : FVec F S256x256 .f32) : FVec F S1x256x1 .f32 :=
  shapeCast S1x256x1
    (addf (addf (shapeCast S256x1 c shapeCasts_S1x256x1_S256x1) (extractStridedSlice S256x1 ![0, 0] b slices_S256x256_o0_0_S256x1))
      (extractStridedSlice S256x1 ![0, 0] l slices_S256x256_o0_0_S256x1)) shapeCasts_S256x1_S1x256x1

/-- The weighted values of a block. -/
def pB (a : FVec F S256x256 .f32) (v : FVec F S256x128 .bf16) : FVec F S256x128 .f32 :=
  matmul dot_S256x256_S256x128_S256x128_1_0_0_1_n_n none (truncf .bf16 a bitsLt_bf16_f32) v (constant S256x128 .f32 0x00000000#32)

/-- A pair of heads' accumulator after a block: each half of the lanes takes its own head's weighted values. -/
def accB (lo : IVec S256x128 1) (acc : Vec F S256x128 .f32) (p0 p1 : FVec F S256x128 .f32) : FVec F S256x128 .f32 :=
  shapeCast S256x128 (addf acc (select lo p0 p1)) shapeCasts_S256x128_S256x128

/-- A key or value block as read, without its leading unit axis. -/
def dropB (k : Vec F S1x256x128 .bf16) : FVec F S256x128 .bf16 := shapeCast S256x128 k shapeCasts_S1x256x128_S256x128

/-- A block before the query's own: the carried sum. -/
def cOff (q : FVec F S256x128 .bf16) (later : FVec F S256x256 .bf16) (k : Vec F S1x256x128 .bf16) (c : Vec F S1x256x1 .f32) :
    FVec F S1x256x1 .f32 :=
  cB c (bB (lB (zB q (dropB k))) later) (lB (zB q (dropB k)))

/-- A block before the query's own: the weighted values. -/
def pOff (q : FVec F S256x128 .bf16) (later : FVec F S256x256 .bf16) (k v : Vec F S1x256x128 .bf16) (c : Vec F S1x256x1 .f32) :
    FVec F S256x128 .f32 :=
  pB (aB (zB q (dropB k)) (lB (zB q (dropB k))) (bB (lB (zB q (dropB k))) later) c) (dropB v)

/-- The query's own block: the logarithms, zero where the key does not come earlier. -/
def lDiag (earl : IVec S256x256 1) (q : FVec F S256x128 .bf16) (k : Vec F S1x256x128 .bf16) : FVec F S256x256 .f32 :=
  select earl (lB (zB q (dropB k))) (broadcast S256x256 (Scalar.ofBits .f32 0x00000000#32))

/-- The query's own block: the carried sum. -/
def cDiag (earl : IVec S256x256 1) (q : FVec F S256x128 .bf16) (later : FVec F S256x256 .bf16) (k : Vec F S1x256x128 .bf16)
    (c : Vec F S1x256x1 .f32) : FVec F S1x256x1 .f32 :=
  cB c (bB (lDiag earl q k) later) (lDiag earl q k)

/-- The query's own block: the weighted values, zero weight where the key does not come earlier. -/
def pDiag (earl : IVec S256x256 1) (q : FVec F S256x128 .bf16) (later : FVec F S256x256 .bf16) (k v : Vec F S1x256x128 .bf16)
    (c : Vec F S1x256x1 .f32) : FVec F S256x128 .f32 :=
  pB (select earl (aB (zB q (dropB k)) (lDiag earl q k) (bB (lDiag earl q k) later) c)
    (broadcast S256x256 (Scalar.ofBits .f32 0x00000000#32))) (dropB v)

end Fns

/-! ## Read at an index, over the extended reals -/

/-- A score is the product of the query's row with the key's row. -/
theorem zB_apply (q k : FVec Ideal S256x128 .bf16) (r c : Fin 256) :
    zB q k (ix2 r c) = ∑ d : Fin 128, q (ix2 r d) * k (ix2 c d) := by
  unfold zB
  refine (Ideal.matmul_transposedRhs_apply none q k _ r c).trans ?_
  show Ideal.ofBits .f32 0x00000000#32 + _ = _
  rw [Ideal.ofBits_zero_f32, zero_add]

/-- The f32 word of one is the extended real one. -/
theorem ofBits_one : Ideal.ofBits .f32 0x3F800000#32 = 1 := by
  simp [Ideal.ofBits, Ideal.ieee]
  rw [← EReal.coe_mul]
  norm_num

/-- The logarithms of a block are those of its scores. -/
theorem lB_apply (z : FVec Ideal S256x256 .f32) (i : S256x256.Idx) : lB z i = lg (z i) := by
  show Ideal.ofBits .f32 0x00000000#32 - (max (z i) (Ideal.ofBits .f32 0x00000000#32)
    + Ideal.log (Ideal.ofBits .f32 0x3F800000#32 + Ideal.exp (Ideal.ofBits .f32 0x00000000#32 - max (z i) (-(z i))))) = _
  rw [Ideal.ofBits_zero_f32, ofBits_one]; rfl

/-- Where a row of logarithms is real, its lower-precision rest is zero, so the sum over the later keys is exact. -/
theorem bB_apply (l : FVec Ideal S256x256 .f32) (later : FVec Ideal S256x256 .bf16) (r c : Fin 256)
    (hl : ∀ k : Fin 256, ∃ x : ℝ, l (ix2 r k) = x) :
    bB l later (ix2 r c) = ∑ k : Fin 256, l (ix2 r k) * later (ix2 k c) := by
  unfold bB
  rw [addf_apply]
  have h1 := Ideal.matmul_plain_apply (M := 256) (K := 256) (N := 256) none (truncf .bf16 l bitsLt_bf16_f32) later
    (zero256 (F := Ideal)) r c
  have h2 := Ideal.matmul_plain_apply (M := 256) (K := 256) (N := 256) none
    (truncf .bf16 (subf l (extf .f32 (truncf .bf16 l bitsLt_bf16_f32) bitsLt_bf16_f32)) bitsLt_bf16_f32) later
    (zero256 (F := Ideal)) r c
  have h0 : (zero256 (F := Ideal)) (ix2 r c) = 0 := Ideal.ofBits_zero_f32
  rw [h0, zero_add] at h1 h2
  refine (congrArg₂ (· + ·) h1 h2).trans ?_
  rw [show (∑ k : Fin 256, (truncf .bf16 (subf l (extf .f32 (truncf .bf16 l bitsLt_bf16_f32) bitsLt_bf16_f32)) bitsLt_bf16_f32
      : FVec Ideal S256x256 .bf16) (ix2 r k) * later (ix2 k c)) = 0 from Finset.sum_eq_zero fun k _ => by
    obtain ⟨x, hx⟩ := hl k
    show (l (ix2 r k) - l (ix2 r k)) * _ = 0
    rw [hx, ← EReal.coe_sub, sub_self, EReal.coe_zero, zero_mul], add_zero]
  rfl

/-- A weighted value is the product of the weights' row with the values' column. -/
theorem pB_apply (a : FVec Ideal S256x256 .f32) (v : FVec Ideal S256x128 .bf16) (r : Fin 256) (d : Fin 128) :
    pB a v (ix2 r d) = ∑ k : Fin 256, a (ix2 r k) * v (ix2 k d) := by
  unfold pB
  refine (Ideal.matmul_plain_apply (M := 256) (K := 256) (N := 128) none (truncf .bf16 a bitsLt_bf16_f32) v _ r d).trans ?_
  show Ideal.ofBits .f32 0x00000000#32 + _ = _
  rw [Ideal.ofBits_zero_f32, zero_add]; rfl

/-- The carried column read without its leading unit axis. -/
theorem dropC_apply (c : Vec Ideal S1x256x1 .f32) (r : Fin 256) :
    (shapeCast S256x1 c shapeCasts_S1x256x1_S256x1) (ix2 r (0 : Fin 1)) = c (ix3 (0 : Fin 1) r (0 : Fin 1)) := by
  refine (shapeCast_dropUnit_apply ![256, 1] c shapeCasts_S1x256x1_S256x1 (ix2 r (0 : Fin 1))).trans (congrArg c ?_)
  funext a; match a with | ⟨0, _⟩ => rfl | ⟨1, _⟩ => rfl | ⟨2, _⟩ => rfl

/-- A weight is the exponential of the score, its logarithm, the later keys' logarithms and the carried sum. -/
theorem aB_apply (z l b : FVec Ideal S256x256 .f32) (c : Vec Ideal S1x256x1 .f32) (r k : Fin 256) :
    aB z l b c (ix2 r k) = Ideal.exp (z (ix2 r k) + l (ix2 r k) + b (ix2 r k) + c (ix3 (0 : Fin 1) r (0 : Fin 1))) := by
  show Ideal.exp (z (ix2 r k) + l (ix2 r k) + b (ix2 r k) + _) = _
  rw [broadcastTo_apply _ _ _ (ix2 r (0 : Fin 1)) (fun a => by match a with | ⟨0, _⟩ => rfl | ⟨1, _⟩ => rfl), dropC_apply]

/-- The carried sum after a block: the sum before it, the block's logarithms after its first key, and the first key's. -/
theorem cB_apply (c : Vec Ideal S1x256x1 .f32) (b l : FVec Ideal S256x256 .f32) (r : Fin 256) :
    cB c b l (ix3 (0 : Fin 1) r (0 : Fin 1))
      = c (ix3 (0 : Fin 1) r (0 : Fin 1)) + b (ix2 r (0 : Fin 256)) + l (ix2 r (0 : Fin 256)) := by
  unfold cB
  refine (shapeCast_addUnit_apply ![256, 1] _ shapeCasts_S256x1_S1x256x1 (ix3 (0 : Fin 1) r (0 : Fin 1))).trans ?_
  rw [show (fun a : Fin 2 => (ix3 (0 : Fin 1) r (0 : Fin 1)) a.succ) = ix2 r (0 : Fin 1) from by
    funext a; match a with | ⟨0, _⟩ => rfl | ⟨1, _⟩ => rfl]
  rw [addf_apply, addf_apply, dropC_apply,
    extractStridedSlice_apply _ b _ _ (ix2 r (0 : Fin 256)) (fun a => by match a with | ⟨0, _⟩ => exact (Nat.zero_add _).symm | ⟨1, _⟩ => rfl),
    extractStridedSlice_apply _ l _ _ (ix2 r (0 : Fin 256)) (fun a => by match a with | ⟨0, _⟩ => exact (Nat.zero_add _).symm | ⟨1, _⟩ => rfl)]

/-- A key or value block read without its leading unit axis. -/
theorem dropB_apply (k : Vec Ideal S1x256x128 .bf16) (r : Fin 256) (d : Fin 128) :
    dropB k (ix2 r d) = k (ix3 (0 : Fin 1) r d) := by
  refine (shapeCast_dropUnit_apply ![256, 128] k shapeCasts_S1x256x128_S256x128 (ix2 r d)).trans (congrArg k ?_)
  funext a; match a with | ⟨0, _⟩ => rfl | ⟨1, _⟩ => rfl | ⟨2, _⟩ => rfl

/-- The accumulator of a pair of heads at a lane: what stood there plus the weighted values of the lane's head. -/
theorem accB_apply (lo : IVec S256x128 1) (acc : Vec Ideal S256x128 .f32) (p0 p1 : FVec Ideal S256x128 .f32) (i : S256x128.Idx) :
    accB lo acc p0 p1 i = acc i + Scalar.select (lo i) (p0 i) (p1 i) := by
  unfold accB
  rw [shapeCast_apply _ _ i i rfl]; rfl

/-! ## One block's step of a row's sums -/

/-- The strictly lower triangle of ones: row `k` of it is one at the columns before `k`. -/
def IsLater (later : FVec Ideal S256x256 .bf16) : Prop :=
  ∀ k c : Fin 256, later (ix2 k c) = if c.val < k.val then (1 : EReal) else 0

/-- What one row of a block is: its scores are those of the keys from `a` on, all real, and its logarithms the masked ones. -/
structure RowOf (zN : ℕ → EReal) (t a : ℕ) (z l : FVec Ideal S256x256 .f32) (r : Fin 256) : Prop where
  score : ∀ k : Fin 256, z (ix2 r k) = zN (a + k.val)
  logs : ∀ k : Fin 256, l (ix2 r k) = lm zN t (a + k.val)
  real : ∀ k : Fin 256, ∃ x : ℝ, zN (a + k.val) = x

variable {zN vN : ℕ → EReal} {t a n : ℕ} {z l : FVec Ideal S256x256 .f32} {r : Fin 256} {later : FVec Ideal S256x256 .bf16}

/-- The block's logarithms after key `c`, added. -/
theorem RowOf.between (h : RowOf zN t a z l r) (hL : IsLater later) (c : Fin 256) :
    bB l later (ix2 r c) = ∑ k ∈ Finset.Ico (c.val + 1) 256, lm zN t (a + k) := by
  rw [bB_apply l later r c fun k => by rw [h.logs k]; exact lm_real (h.real k),
    ← sum_later (fun k => lm zN t (a + k)) c]
  exact Finset.sum_congr rfl fun k _ => by rw [h.logs k, hL k c]

/-- The carried sum moves from the later blocks' logarithms to those from this block on. -/
theorem RowOf.carry (h : RowOf zN t a z l r) (hL : IsLater later) (c : Vec Ideal S1x256x1 .f32) (hn : a + 256 ≤ n)
    (hc : c (ix3 (0 : Fin 1) r (0 : Fin 1)) = cs zN t (a + 256) n) :
    cB c (bB l later) l (ix3 (0 : Fin 1) r (0 : Fin 1)) = cs zN t a n := by
  rw [cB_apply, h.between hL, h.logs, hc, add_comm (cs zN t (a + 256) n)]
  rw [cs_split zN t a n _ (by simp) hn]
  exact cs_head zN t a n (by omega)

/-- An unmasked weight of the block, for a key before the query, is that key's weight. -/
theorem RowOf.weight (h : RowOf zN t a z l r) (hL : IsLater later) (c : Vec Ideal S1x256x1 .f32) (hn : a + 256 ≤ n)
    (hc : c (ix3 (0 : Fin 1) r (0 : Fin 1)) = cs zN t (a + 256) n) (k : Fin 256) (hk : a + k.val < t) :
    aB z l (bB l later) c (ix2 r k) = wt zN t n (a + k.val) := by
  rw [aB_apply, h.between hL, h.logs, h.score, hc, add_assoc, cs_split zN t a n _ k.isLt hn, wt, if_pos hk, lm, if_pos hk]

/-- The weighted values of the block, its weights given key by key, added to those of the later blocks. -/
theorem RowOf.values (A : FVec Ideal S256x256 .f32) (v : FVec Ideal S256x128 .bf16) (d : Fin 128) (x : EReal) (hn : a + 256 ≤ n)
    (hA : ∀ k : Fin 256, A (ix2 r k) = wt zN t n (a + k.val)) (hv : ∀ k : Fin 256, v (ix2 k d) = vN (a + k.val))
    (hx : x = os zN vN t (a + 256) n) : x + pB A v (ix2 r d) = os zN vN t a n := by
  rw [pB_apply, hx, ← os_step zN vN t a n hn]
  exact congrArg (_ + ·) (Finset.sum_congr rfl fun k _ => by rw [hA k, hv k])

end Cert.Proof.SB
-- ==== Proof.SbMasks.lean ====
/-
  The masks of the kernel: the half of a pair's 128 lanes that belongs to each head, the strictly lower
  triangle, and the queries of one head inside a pair's lanes.
-/
module

public import proofs.«01_k».proof.Proof.SbBlock
public import Idealize.ShloMosaic.Lib.WordCmp

@[expose] public section

set_option maxRecDepth 16384

noncomputable section

open Idealize.ShloMosaic Idealize.ShloMosaic.ValueIdx Idealize.ShloMosaic.IntOp Idealize.SL.Sem Cert.KernelIdeal Cert.KernelIdeal.Gen

namespace Cert.Proof.SB

section Fns
variable {F : FTy → Type} [FloatOps F]

/-- The queries of a pair's first head: the other head's lanes are zero. -/
def qLo (lo : IVec S256x128 1) (q : Vec F S1x256x128 .bf16) : FVec F S256x128 .bf16 :=
  truncf .bf16 (select lo (extf .f32 (dropB q) bitsLt_bf16_f32) (broadcast S256x128 (Scalar.ofBits .f32 0x00000000#32))) bitsLt_bf16_f32

/-- The queries of a pair's second head: the other head's lanes are zero. -/
def qHi (lo : IVec S256x128 1) (q : Vec F S1x256x128 .bf16) : FVec F S256x128 .bf16 :=
  truncf .bf16 (select lo (broadcast S256x128 (Scalar.ofBits .f32 0x00000000#32)) (extf .f32 (dropB q) bitsLt_bf16_f32)) bitsLt_bf16_f32

end Fns

/-- A comparison of two small words as signed numbers is that of the numbers. -/
theorem slt_small : ∀ d : Fin 128, IntOp.cmpi .slt (BitVec.ofNat 32 d.val) 64#32 = if d.val < 64 then 1#1 else 0#1 := by
  decide +kernel

/-- A row's number against a column's number, both below 256. -/
theorem sgt_small (k c : Fin 256) :
    IntOp.cmpi .sgt (BitVec.ofNat 32 k.val) (BitVec.ofNat 32 c.val) = if c.val < k.val then 1#1 else 0#1 := by
  rw [Idealize.ShloMosaic.WordCmp.cmpi_sgt_ofNat (by have := k.isLt; omega) (by have := c.isLt; omega)]
  by_cases h : c.val < k.val <;> simp [h]

/-- A column's number against a row's number, both below 256. -/
theorem slt_small' (c r : Fin 256) :
    IntOp.cmpi .slt (BitVec.ofNat 32 c.val) (BitVec.ofNat 32 r.val) = if c.val < r.val then 1#1 else 0#1 := by
  rw [Idealize.ShloMosaic.WordCmp.cmpi_slt_ofNat (by have := c.isLt; omega) (by have := r.isLt; omega)]
  by_cases h : c.val < r.val <;> simp [h]

/-- The first head's lanes are those below 64. -/
theorem lo_apply (r : Fin 256) (d : Fin 128) : k0_pay131 (ix2 r d) = if d.val < 64 then 1#1 else 0#1 := by
  unfold k0_pay131
  show IntOp.cmpi .slt (iota .tc S256x128 32 [1] iota_S256x128_d1_w32 (ix2 r d)) 64#32 = _
  rw [iota_single_apply]
  exact slt_small d

/-- The triangle the kernel multiplies by is the strictly lower one. -/
theorem later_isLater : IsLater (k0_pay147 (F := Ideal)) := by
  intro k c
  unfold k0_pay147
  show Scalar.select (IntOp.cmpi .sgt (iota .tc S256x256 32 [0] iota_S256x256_d0_w32 (ix2 k c)) (iota .tc S256x256 32 [1] iota_S256x256_d1_w32 (ix2 k c)))
    (Ideal.ofBits .f32 0x3F800000#32) (Ideal.ofBits .f32 0x00000000#32) = _
  rw [iota_single_apply, iota_single_apply]
  refine (congrArg (fun b => Scalar.select b (Ideal.ofBits .f32 0x3F800000#32) (Ideal.ofBits .f32 0x00000000#32)) (sgt_small k c)).trans ?_
  by_cases h : c.val < k.val
  · simp only [if_pos h]; exact ofBits_one
  · simp only [if_neg h]; exact Ideal.ofBits_zero_f32

/-- The mask of the query's own block: the key's column comes before the query's row. -/
theorem earl_apply (r c : Fin 256) : k0_pay148 (ix2 r c) = if c.val < r.val then 1#1 else 0#1 := by
  unfold k0_pay148
  show IntOp.cmpi .slt (iota .tc S256x256 32 [1] iota_S256x256_d1_w32 (ix2 r c)) (iota .tc S256x256 32 [0] iota_S256x256_d0_w32 (ix2 r c)) = _
  rw [iota_single_apply, iota_single_apply]
  exact slt_small' c r

/-- A sum over 128 lanes is one over the lanes of the first head and one over those of the second. -/
theorem sum_lanes (f : Fin 128 → EReal) :
    ∑ d : Fin 128, f d = ∑ d : Fin 64, f ⟨d.val, by omega⟩ + ∑ d : Fin 64, f ⟨64 + d.val, by omega⟩ :=
  Fin.sum_univ_add (a := 64) (b := 64) f

/-- A score of the first head of a pair reads that head's 64 lanes only. -/
theorem zB_qLo (q k : Vec Ideal S1x256x128 .bf16) (r c : Fin 256) :
    zB (qLo k0_pay131 q) (dropB k) (ix2 r c)
      = ∑ d : Fin 64, q (ix3 (0 : Fin 1) r (⟨d.val, by omega⟩ : Fin 128)) * k (ix3 (0 : Fin 1) c (⟨d.val, by omega⟩ : Fin 128)) := by
  have e : ∀ d : Fin 128, qLo k0_pay131 q (ix2 r d) = if d.val < 64 then q (ix3 (0 : Fin 1) r d) else 0 := fun d => by
    show Scalar.select (k0_pay131 (ix2 r d)) (dropB q (ix2 r d)) (Ideal.ofBits .f32 0x00000000#32) = _
    rw [lo_apply, dropB_apply, Ideal.ofBits_zero_f32]
    by_cases h : d.val < 64
    · rw [if_pos h, if_pos h]; rfl
    · rw [if_neg h, if_neg h]; rfl
  rw [zB_apply, sum_lanes]
  rw [show ∑ d : Fin 64, qLo k0_pay131 q (ix2 r (⟨64 + d.val, by omega⟩ : Fin 128)) * dropB k (ix2 c (⟨64 + d.val, by omega⟩ : Fin 128)) = 0 from
    Finset.sum_eq_zero fun d _ => by rw [e, if_neg (by simp), zero_mul], add_zero]
  exact Finset.sum_congr rfl fun d _ => by rw [e, if_pos (by simp), dropB_apply]

/-- A score of the second head of a pair reads that head's 64 lanes only. -/
theorem zB_qHi (q k : Vec Ideal S1x256x128 .bf16) (r c : Fin 256) :
    zB (qHi k0_pay131 q) (dropB k) (ix2 r c)
      = ∑ d : Fin 64, q (ix3 (0 : Fin 1) r (⟨64 + d.val, by omega⟩ : Fin 128)) * k (ix3 (0 : Fin 1) c (⟨64 + d.val, by omega⟩ : Fin 128)) := by
  have e : ∀ d : Fin 128, qHi k0_pay131 q (ix2 r d) = if d.val < 64 then 0 else q (ix3 (0 : Fin 1) r d) := fun d => by
    show Scalar.select (k0_pay131 (ix2 r d)) (Ideal.ofBits .f32 0x00000000#32) (dropB q (ix2 r d)) = _
    rw [lo_apply, dropB_apply, Ideal.ofBits_zero_f32]
    by_cases h : d.val < 64
    · rw [if_pos h, if_pos h]; rfl
    · rw [if_neg h, if_neg h]; rfl
  rw [zB_apply, sum_lanes]
  rw [show ∑ d : Fin 64, qHi k0_pay131 q (ix2 r (⟨d.val, by omega⟩ : Fin 128)) * dropB k (ix2 c (⟨d.val, by omega⟩ : Fin 128)) = 0 from
    Finset.sum_eq_zero fun d _ => by rw [e, if_pos (by simp), zero_mul], zero_add]
  exact Finset.sum_congr rfl fun d _ => by rw [e, if_neg (by simp), dropB_apply]

end Cert.Proof.SB
-- ==== Proof.SbTrip.lean ====
/-
  One trip of the kernel's loop over the earlier key blocks: the pieces it stores, each as the named
  function of what it loads.
-/
module

public import proofs.«01_k».proof.Proof.Gen.KernelIdeal.Value
public import proofs.«01_k».proof.Proof.SbMasks

@[expose] public section

set_option maxRecDepth 16384

noncomputable section

open Idealize.ShloMosaic Idealize.SL.Sem Cert.KernelIdeal Cert.KernelIdeal.Gen

namespace Cert.Proof.SB

variable {F : FTy → Type} [FloatOps F]

/-- 256 keys (or values) of one pair of heads, loaded from the whole array. -/
def kvBlk (X : Vec F S1x8192x512 .bf16) (off : Fin 3 → ℕ) (inb : ∀ a, off a + S1x256x128.size a ≤ S1x8192x512.size a) :
    Vec F S1x256x128 .bf16 :=
  fun x => X ((Rect.unit (s := S1x8192x512) off S1x256x128.size inb).toLoadRect.idx x)

/-- One head's column of the carried sums. -/
def cBlk (C : Vec F S8x256x1 .f32) (off : Fin 3 → ℕ) (inb : ∀ a, off a + S1x256x1.size a ≤ S8x256x1.size a) :
    Vec F S1x256x1 .f32 :=
  fun x => C ((Rect.unit (s := S8x256x1) off S1x256x1.size inb).toLoadRect.idx x)

/-- One pair's lanes of the accumulator. -/
def aBlk (A : Vec F S256x512 .f32) (off : Fin 2 → ℕ) (inb : ∀ a, off a + S256x128.size a ≤ S256x512.size a) :
    Vec F S256x128 .f32 :=
  fun x => A ((Rect.unit (s := S256x512) off S256x128.size inb).toLoadRect.idx x)

/-- The stores of one trip: each head's carried sum, and each pair's accumulator, after the trip's block. -/
theorem trip_pieces (𝒱 : Variants) (c : Dev nD) (bd : Option 𝒱.V) (i : grid0.Coords) (arg2 : Memref sig .tc .vmem S1x256x512 .bf16) (harg2 : arg2.IsWhole) (arg3 : Memref sig .tc .vmem S1x8192x512 .bf16) (harg3 : arg3.IsWhole) (arg4 : Memref sig .tc .vmem S1x8192x512 .bf16) (harg4 : arg4.IsWhole) (arg5 : Memref sig .tc .vmem S1x256x512 .f32) (harg5 : arg5.IsWhole) (arg6 : Memref sig .tc .vmem S8x256x1 .f32) (harg6 : arg6.IsWhole) (arg7 : Memref sig .tc .vmem S256x512 .f32) (harg7 : arg7.IsWhole) (arg1 : BitVec 32) (v2 : IVec S256x128 1) (v8 : FVec F S256x128 .bf16) (v11 : FVec F S256x128 .bf16) (v17 : FVec F S256x128 .bf16) (v20 : FVec F S256x128 .bf16) (v26 : FVec F S256x128 .bf16) (v29 : FVec F S256x128 .bf16) (v35 : FVec F S256x128 .bf16) (v38 : FVec F S256x128 .bf16) (v53 : FVec F S256x256 .bf16) (X_arg3 : BufTy.Contents (Elt F) arg3.view.ty) (X_arg4 : BufTy.Contents (Elt F) arg4.view.ty) (k : Fin (k0_t1_loop i).trips) (acc : BitVec 32) (f_arg6 : BufTy.Contents (Elt F) arg6.view.ty) (f_arg7 : BufTy.Contents (Elt F) arg7.view.ty) :
    tripL_k0_t1 (F := F) 𝒱 c bd i arg2 harg2 arg3 harg3 arg4 harg4 arg5 harg5 arg6 harg6 arg7 harg7 arg1 v2 v8 v11 v17 v20 v26 v29 v35 v38 v53 X_arg3 X_arg4 k acc f_arg6 f_arg7 =
    ([⟨Rect.unit (s := S8x256x1) ![7, 0, 0] S1x256x1.size inb_S8x256x1_S1x256x1_7_0_0, cOff v38 v53 (kvBlk (arg3.view.read (Elt F) X_arg3) (k0_off8 i k) (k0_off8_inb i k))
        (cBlk (arg6.view.read (Elt F) f_arg6) ![7, 0, 0] inb_S8x256x1_S1x256x1_7_0_0)⟩,
      ⟨Rect.unit (s := S8x256x1) ![6, 0, 0] S1x256x1.size inb_S8x256x1_S1x256x1_6_0_0, cOff v35 v53 (kvBlk (arg3.view.read (Elt F) X_arg3) (k0_off8 i k) (k0_off8_inb i k))
        (cBlk (arg6.view.read (Elt F) f_arg6) ![6, 0, 0] inb_S8x256x1_S1x256x1_6_0_0)⟩,
      ⟨Rect.unit (s := S8x256x1) ![5, 0, 0] S1x256x1.size inb_S8x256x1_S1x256x1_5_0_0, cOff v29 v53 (kvBlk (arg3.view.read (Elt F) X_arg3) (k0_off7 i k) (k0_off7_inb i k))
        (cBlk (arg6.view.read (Elt F) f_arg6) ![5, 0, 0] inb_S8x256x1_S1x256x1_5_0_0)⟩,
      ⟨Rect.unit (s := S8x256x1) ![4, 0, 0] S1x256x1.size inb_S8x256x1_S1x256x1_4_0_0, cOff v26 v53 (kvBlk (arg3.view.read (Elt F) X_arg3) (k0_off7 i k) (k0_off7_inb i k))
        (cBlk (arg6.view.read (Elt F) f_arg6) ![4, 0, 0] inb_S8x256x1_S1x256x1_4_0_0)⟩,
      ⟨Rect.unit (s := S8x256x1) ![3, 0, 0] S1x256x1.size inb_S8x256x1_S1x256x1_3_0_0, cOff v20 v53 (kvBlk (arg3.view.read (Elt F) X_arg3) (k0_off6 i k) (k0_off6_inb i k))
        (cBlk (arg6.view.read (Elt F) f_arg6) ![3, 0, 0] inb_S8x256x1_S1x256x1_3_0_0)⟩,
      ⟨Rect.unit (s := S8x256x1) ![2, 0, 0] S1x256x1.size inb_S8x256x1_S1x256x1_2_0_0, cOff v17 v53 (kvBlk (arg3.view.read (Elt F) X_arg3) (k0_off6 i k) (k0_off6_inb i k))
        (cBlk (arg6.view.read (Elt F) f_arg6) ![2, 0, 0] inb_S8x256x1_S1x256x1_2_0_0)⟩,
      ⟨Rect.unit (s := S8x256x1) ![1, 0, 0] S1x256x1.size inb_S8x256x1_S1x256x1_1_0_0, cOff v11 v53 (kvBlk (arg3.view.read (Elt F) X_arg3) (k0_off5 i k) (k0_off5_inb i k))
        (cBlk (arg6.view.read (Elt F) f_arg6) ![1, 0, 0] inb_S8x256x1_S1x256x1_1_0_0)⟩,
      ⟨Rect.unit (s := S8x256x1) ![0, 0, 0] S1x256x1.size inb_S8x256x1_S1x256x1_0_0_0, cOff v8 v53 (kvBlk (arg3.view.read (Elt F) X_arg3) (k0_off5 i k) (k0_off5_inb i k))
        (cBlk (arg6.view.read (Elt F) f_arg6) ![0, 0, 0] inb_S8x256x1_S1x256x1_0_0_0)⟩],
     [⟨Rect.unit (s := S256x512) ![0, 384] S256x128.size inb_S256x512_S256x128_0_384, accB v2 (aBlk (arg7.view.read (Elt F) f_arg7) ![0, 384] inb_S256x512_S256x128_0_384)
        (pOff v35 v53 (kvBlk (arg3.view.read (Elt F) X_arg3) (k0_off8 i k) (k0_off8_inb i k))
          (kvBlk (arg4.view.read (Elt F) X_arg4) (k0_off8 i k) (k0_off8_inb i k)) (cBlk (arg6.view.read (Elt F) f_arg6) ![6, 0, 0] inb_S8x256x1_S1x256x1_6_0_0))
        (pOff v38 v53 (kvBlk (arg3.view.read (Elt F) X_arg3) (k0_off8 i k) (k0_off8_inb i k))
          (kvBlk (arg4.view.read (Elt F) X_arg4) (k0_off8 i k) (k0_off8_inb i k)) (cBlk (arg6.view.read (Elt F) f_arg6) ![7, 0, 0] inb_S8x256x1_S1x256x1_7_0_0))⟩,
      ⟨Rect.unit (s := S256x512) ![0, 256] S256x128.size inb_S256x512_S256x128_0_256, accB v2 (aBlk (arg7.view.read (Elt F) f_arg7) ![0, 256] inb_S256x512_S256x128_0_256)
        (pOff v26 v53 (kvBlk (arg3.view.read (Elt F) X_arg3) (k0_off7 i k) (k0_off7_inb i k))
          (kvBlk (arg4.view.read (Elt F) X_arg4) (k0_off7 i k) (k0_off7_inb i k)) (cBlk (arg6.view.read (Elt F) f_arg6) ![4, 0, 0] inb_S8x256x1_S1x256x1_4_0_0))
        (pOff v29 v53 (kvBlk (arg3.view.read (Elt F) X_arg3) (k0_off7 i k) (k0_off7_inb i k))
          (kvBlk (arg4.view.read (Elt F) X_arg4) (k0_off7 i k) (k0_off7_inb i k)) (cBlk (arg6.view.read (Elt F) f_arg6) ![5, 0, 0] inb_S8x256x1_S1x256x1_5_0_0))⟩,
      ⟨Rect.unit (s := S256x512) ![0, 128] S256x128.size inb_S256x512_S256x128_0_128, accB v2 (aBlk (arg7.view.read (Elt F) f_arg7) ![0, 128] inb_S256x512_S256x128_0_128)
        (pOff v17 v53 (kvBlk (arg3.view.read (Elt F) X_arg3) (k0_off6 i k) (k0_off6_inb i k))
          (kvBlk (arg4.view.read (Elt F) X_arg4) (k0_off6 i k) (k0_off6_inb i k)) (cBlk (arg6.view.read (Elt F) f_arg6) ![2, 0, 0] inb_S8x256x1_S1x256x1_2_0_0))
        (pOff v20 v53 (kvBlk (arg3.view.read (Elt F) X_arg3) (k0_off6 i k) (k0_off6_inb i k))
          (kvBlk (arg4.view.read (Elt F) X_arg4) (k0_off6 i k) (k0_off6_inb i k)) (cBlk (arg6.view.read (Elt F) f_arg6) ![3, 0, 0] inb_S8x256x1_S1x256x1_3_0_0))⟩,
      ⟨Rect.unit (s := S256x512) ![0, 0] S256x128.size inb_S256x512_S256x128_0_0, accB v2 (aBlk (arg7.view.read (Elt F) f_arg7) ![0, 0] inb_S256x512_S256x128_0_0)
        (pOff v8 v53 (kvBlk (arg3.view.read (Elt F) X_arg3) (k0_off5 i k) (k0_off5_inb i k))
          (kvBlk (arg4.view.read (Elt F) X_arg4) (k0_off5 i k) (k0_off5_inb i k)) (cBlk (arg6.view.read (Elt F) f_arg6) ![0, 0, 0] inb_S8x256x1_S1x256x1_0_0_0))
        (pOff v11 v53 (kvBlk (arg3.view.read (Elt F) X_arg3) (k0_off5 i k) (k0_off5_inb i k))
          (kvBlk (arg4.view.read (Elt F) X_arg4) (k0_off5 i k) (k0_off5_inb i k)) (cBlk (arg6.view.read (Elt F) f_arg6) ![1, 0, 0] inb_S8x256x1_S1x256x1_1_0_0))⟩]) := by
  unfold tripL_k0_t1 trip_k0_t1
  rfl

end Cert.Proof.SB
-- ==== Proof.SbOwn.lean ====
/-
  The query's own block: the pieces the kernel stores before its loops, each as the named function of
  what it loads.
-/
module

public import proofs.«01_k».proof.Proof.SbTrip

@[expose] public section

set_option maxRecDepth 16384

noncomputable section

open Idealize.ShloMosaic Idealize.SL.Sem Cert.KernelIdeal Cert.KernelIdeal.Gen

namespace Cert.Proof.SB

variable {F : FTy → Type} [FloatOps F]

/-- The queries of one pair of heads, loaded from the block. -/
def qBlk (X : Vec F S1x256x512 .bf16) (off : Fin 3 → ℕ) (inb : ∀ a, off a + S1x256x128.size a ≤ S1x256x512.size a) :
    Vec F S1x256x128 .bf16 :=
  fun x => X ((Rect.unit (s := S1x256x512) off S1x256x128.size inb).toLoadRect.idx x)

variable (c : Dev nD) (i : grid0.Coords)
  (arg2 : Memref sig .tc .vmem S1x256x512 .bf16) (harg2 : arg2.IsWhole) (arg3 : Memref sig .tc .vmem S1x8192x512 .bf16)
  (harg3 : arg3.IsWhole) (arg4 : Memref sig .tc .vmem S1x8192x512 .bf16) (harg4 : arg4.IsWhole)
  (arg6 : Memref sig .tc .vmem S8x256x1 .f32) (arg7 : Memref sig .tc .vmem S256x512 .f32)
  (x0 : Vec F S1x256x512 .bf16) (x1 x2 : Vec F S1x8192x512 .bf16)

/-- Head 0's carried sum after the query's own block. -/
theorem own_carry0 :
    kernelRun0_A.sl.HS0_2 c i arg2 harg2 arg3 harg3 arg6 x0 x1
      = ⟨Rect.unit (s := S8x256x1) ![0, 0, 0] S1x256x1.size inb_S8x256x1_S1x256x1_0_0_0, cDiag k0_pay148 (kernelRun0_A.sl.r c arg2 harg2 x0) k0_pay147
          (kvBlk (arg3.view.read (Elt F) (harg3.unread x1)) (k0_off1 i) (k0_off1_inb i))
          (arg6.view.readCov kernelRun0_A.sl.HS0_1 (Rect.unit (s := S8x256x1) ![0, 0, 0] S1x256x1.size inb_S8x256x1_S1x256x1_0_0_0).toLoadRect)⟩ ::
        kernelRun0_A.sl.HS0_1 := rfl

/-- Head 1's carried sum after the query's own block. -/
theorem own_carry1 :
    kernelRun0_A.sl.HS0_3 c i arg2 harg2 arg3 harg3 arg6 x0 x1
      = ⟨Rect.unit (s := S8x256x1) ![1, 0, 0] S1x256x1.size inb_S8x256x1_S1x256x1_1_0_0, cDiag k0_pay148 (kernelRun0_A.sl.r_1 c arg2 harg2 x0) k0_pay147
          (kvBlk (arg3.view.read (Elt F) (harg3.unread x1)) (k0_off1 i) (k0_off1_inb i))
          (arg6.view.readCov (kernelRun0_A.sl.HS0_2 c i arg2 harg2 arg3 harg3 arg6 x0 x1) (Rect.unit (s := S8x256x1) ![1, 0, 0] S1x256x1.size inb_S8x256x1_S1x256x1_1_0_0).toLoadRect)⟩ ::
        (kernelRun0_A.sl.HS0_2 c i arg2 harg2 arg3 harg3 arg6 x0 x1) := rfl

/-- Head 2's carried sum after the query's own block. -/
theorem own_carry2 :
    kernelRun0_A.sl.HS0_4 c i arg2 harg2 arg3 harg3 arg6 x0 x1
      = ⟨Rect.unit (s := S8x256x1) ![2, 0, 0] S1x256x1.size inb_S8x256x1_S1x256x1_2_0_0, cDiag k0_pay148 (kernelRun0_A.sl.r_2 c arg2 harg2 x0) k0_pay147
          (kvBlk (arg3.view.read (Elt F) (harg3.unread x1)) (k0_off2 i) (k0_off2_inb i))
          (arg6.view.readCov (kernelRun0_A.sl.HS0_3 c i arg2 harg2 arg3 harg3 arg6 x0 x1) (Rect.unit (s := S8x256x1) ![2, 0, 0] S1x256x1.size inb_S8x256x1_S1x256x1_2_0_0).toLoadRect)⟩ ::
        (kernelRun0_A.sl.HS0_3 c i arg2 harg2 arg3 harg3 arg6 x0 x1) := rfl

/-- Head 3's carried sum after the query's own block. -/
theorem own_carry3 :
    kernelRun0_A.sl.HS0_5 c i arg2 harg2 arg3 harg3 arg6 x0 x1
      = ⟨Rect.unit (s := S8x256x1) ![3, 0, 0] S1x256x1.size inb_S8x256x1_S1x256x1_3_0_0, cDiag k0_pay148 (kernelRun0_A.sl.r_3 c arg2 harg2 x0) k0_pay147
          (kvBlk (arg3.view.read (Elt F) (harg3.unread x1)) (k0_off2 i) (k0_off2_inb i))
          (arg6.view.readCov (kernelRun0_A.sl.HS0_4 c i arg2 harg2 arg3 harg3 arg6 x0 x1) (Rect.unit (s := S8x256x1) ![3, 0, 0] S1x256x1.size inb_S8x256x1_S1x256x1_3_0_0).toLoadRect)⟩ ::
        (kernelRun0_A.sl.HS0_4 c i arg2 harg2 arg3 harg3 arg6 x0 x1) := rfl

/-- Head 4's carried sum after the query's own block. -/
theorem own_carry4 :
    kernelRun0_A.sl.HS0_6 c i arg2 harg2 arg3 harg3 arg6 x0 x1
      = ⟨Rect.unit (s := S8x256x1) ![4, 0, 0] S1x256x1.size inb_S8x256x1_S1x256x1_4_0_0, cDiag k0_pay148 (kernelRun0_A.sl.r_4 c arg2 harg2 x0) k0_pay147
          (kvBlk (arg3.view.read (Elt F) (harg3.unread x1)) (k0_off3 i) (k0_off3_inb i))
          (arg6.view.readCov (kernelRun0_A.sl.HS0_5 c i arg2 harg2 arg3 harg3 arg6 x0 x1) (Rect.unit (s := S8x256x1) ![4, 0, 0] S1x256x1.size inb_S8x256x1_S1x256x1_4_0_0).toLoadRect)⟩ ::
        (kernelRun0_A.sl.HS0_5 c i arg2 harg2 arg3 harg3 arg6 x0 x1) := rfl

/-- Head 5's carried sum after the query's own block. -/
theorem own_carry5 :
    kernelRun0_A.sl.HS0_7 c i arg2 harg2 arg3 harg3 arg6 x0 x1
      = ⟨Rect.unit (s := S8x256x1) ![5, 0, 0] S1x256x1.size inb_S8x256x1_S1x256x1_5_0_0, cDiag k0_pay148 (kernelRun0_A.sl.r_5 c arg2 harg2 x0) k0_pay147
          (kvBlk (arg3.view.read (Elt F) (harg3.unread x1)) (k0_off3 i) (k0_off3_inb i))
          (arg6.view.readCov (kernelRun0_A.sl.HS0_6 c i arg2 harg2 arg3 harg3 arg6 x0 x1) (Rect.unit (s := S8x256x1) ![5, 0, 0] S1x256x1.size inb_S8x256x1_S1x256x1_5_0_0).toLoadRect)⟩ ::
        (kernelRun0_A.sl.HS0_6 c i arg2 harg2 arg3 harg3 arg6 x0 x1) := rfl

/-- Head 6's carried sum after the query's own block. -/
theorem own_carry6 :
    kernelRun0_A.sl.HS0_8 c i arg2 harg2 arg3 harg3 arg6 x0 x1
      = ⟨Rect.unit (s := S8x256x1) ![6, 0, 0] S1x256x1.size inb_S8x256x1_S1x256x1_6_0_0, cDiag k0_pay148 (kernelRun0_A.sl.r_7 c arg2 harg2 x0) k0_pay147
          (kvBlk (arg3.view.read (Elt F) (harg3.unread x1)) (k0_off4 i) (k0_off4_inb i))
          (arg6.view.readCov (kernelRun0_A.sl.HS0_7 c i arg2 harg2 arg3 harg3 arg6 x0 x1) (Rect.unit (s := S8x256x1) ![6, 0, 0] S1x256x1.size inb_S8x256x1_S1x256x1_6_0_0).toLoadRect)⟩ ::
        (kernelRun0_A.sl.HS0_7 c i arg2 harg2 arg3 harg3 arg6 x0 x1) := rfl

/-- Head 7's carried sum after the query's own block. -/
theorem own_carry7 :
    kernelRun0_A.sl.HS0_9 c i arg2 harg2 arg3 harg3 arg6 x0 x1
      = ⟨Rect.unit (s := S8x256x1) ![7, 0, 0] S1x256x1.size inb_S8x256x1_S1x256x1_7_0_0, cDiag k0_pay148 (kernelRun0_A.sl.r_8 c arg2 harg2 x0) k0_pay147
          (kvBlk (arg3.view.read (Elt F) (harg3.unread x1)) (k0_off4 i) (k0_off4_inb i))
          (arg6.view.readCov (kernelRun0_A.sl.HS0_8 c i arg2 harg2 arg3 harg3 arg6 x0 x1) (Rect.unit (s := S8x256x1) ![7, 0, 0] S1x256x1.size inb_S8x256x1_S1x256x1_7_0_0).toLoadRect)⟩ ::
        (kernelRun0_A.sl.HS0_8 c i arg2 harg2 arg3 harg3 arg6 x0 x1) := rfl

/-- Pair 0's accumulator after the query's own block. -/
theorem own_values0 :
    kernelRun0_A.sl.HS1_2 c i arg2 harg2 arg3 harg3 arg4 harg4 arg6 arg7 x0 x1 x2
      = ⟨Rect.unit (s := S256x512) ![0, 0] S256x128.size inb_S256x512_S256x128_0_0, accB k0_pay131
          (arg7.view.readCov kernelRun0_A.sl.HS1_1 (Rect.unit (s := S256x512) ![0, 0] S256x128.size inb_S256x512_S256x128_0_0).toLoadRect)
          (pDiag k0_pay148 (kernelRun0_A.sl.r c arg2 harg2 x0) k0_pay147 (kvBlk (arg3.view.read (Elt F) (harg3.unread x1)) (k0_off1 i) (k0_off1_inb i))
            (kvBlk (arg4.view.read (Elt F) (harg4.unread x2)) (k0_off1 i) (k0_off1_inb i))
            (arg6.view.readCov kernelRun0_A.sl.HS0_1 (Rect.unit (s := S8x256x1) ![0, 0, 0] S1x256x1.size inb_S8x256x1_S1x256x1_0_0_0).toLoadRect))
          (pDiag k0_pay148 (kernelRun0_A.sl.r_1 c arg2 harg2 x0) k0_pay147 (kvBlk (arg3.view.read (Elt F) (harg3.unread x1)) (k0_off1 i) (k0_off1_inb i))
            (kvBlk (arg4.view.read (Elt F) (harg4.unread x2)) (k0_off1 i) (k0_off1_inb i))
            (arg6.view.readCov (kernelRun0_A.sl.HS0_2 c i arg2 harg2 arg3 harg3 arg6 x0 x1) (Rect.unit (s := S8x256x1) ![1, 0, 0] S1x256x1.size inb_S8x256x1_S1x256x1_1_0_0).toLoadRect))⟩ ::
        kernelRun0_A.sl.HS1_1 := rfl

/-- Pair 1's accumulator after the query's own block. -/
theorem own_values1 :
    kernelRun0_A.sl.HS1_3 c i arg2 harg2 arg3 harg3 arg4 harg4 arg6 arg7 x0 x1 x2
      = ⟨Rect.unit (s := S256x512) ![0, 128] S256x128.size inb_S256x512_S256x128_0_128, accB k0_pay131
          (arg7.view.readCov (kernelRun0_A.sl.HS1_2 c i arg2 harg2 arg3 harg3 arg4 harg4 arg6 arg7 x0 x1 x2) (Rect.unit (s := S256x512) ![0, 128] S256x128.size inb_S256x512_S256x128_0_128).toLoadRect)
          (pDiag k0_pay148 (kernelRun0_A.sl.r_2 c arg2 harg2 x0) k0_pay147 (kvBlk (arg3.view.read (Elt F) (harg3.unread x1)) (k0_off2 i) (k0_off2_inb i))
            (kvBlk (arg4.view.read (Elt F) (harg4.unread x2)) (k0_off2 i) (k0_off2_inb i))
            (arg6.view.readCov (kernelRun0_A.sl.HS0_3 c i arg2 harg2 arg3 harg3 arg6 x0 x1) (Rect.unit (s := S8x256x1) ![2, 0, 0] S1x256x1.size inb_S8x256x1_S1x256x1_2_0_0).toLoadRect))
          (pDiag k0_pay148 (kernelRun0_A.sl.r_3 c arg2 harg2 x0) k0_pay147 (kvBlk (arg3.view.read (Elt F) (harg3.unread x1)) (k0_off2 i) (k0_off2_inb i))
            (kvBlk (arg4.view.read (Elt F) (harg4.unread x2)) (k0_off2 i) (k0_off2_inb i))
            (arg6.view.readCov (kernelRun0_A.sl.HS0_4 c i arg2 harg2 arg3 harg3 arg6 x0 x1) (Rect.unit (s := S8x256x1) ![3, 0, 0] S1x256x1.size inb_S8x256x1_S1x256x1_3_0_0).toLoadRect))⟩ ::
        (kernelRun0_A.sl.HS1_2 c i arg2 harg2 arg3 harg3 arg4 harg4 arg6 arg7 x0 x1 x2) := rfl

/-- Pair 2's accumulator after the query's own block. -/
theorem own_values2 :
    kernelRun0_A.sl.HS1_4 c i arg2 harg2 arg3 harg3 arg4 harg4 arg6 arg7 x0 x1 x2
      = ⟨Rect.unit (s := S256x512) ![0, 256] S256x128.size inb_S256x512_S256x128_0_256, accB k0_pay131
          (arg7.view.readCov (kernelRun0_A.sl.HS1_3 c i arg2 harg2 arg3 harg3 arg4 harg4 arg6 arg7 x0 x1 x2) (Rect.unit (s := S256x512) ![0, 256] S256x128.size inb_S256x512_S256x128_0_256).toLoadRect)
          (pDiag k0_pay148 (kernelRun0_A.sl.r_4 c arg2 harg2 x0) k0_pay147 (kvBlk (arg3.view.read (Elt F) (harg3.unread x1)) (k0_off3 i) (k0_off3_inb i))
            (kvBlk (arg4.view.read (Elt F) (harg4.unread x2)) (k0_off3 i) (k0_off3_inb i))
            (arg6.view.readCov (kernelRun0_A.sl.HS0_5 c i arg2 harg2 arg3 harg3 arg6 x0 x1) (Rect.unit (s := S8x256x1) ![4, 0, 0] S1x256x1.size inb_S8x256x1_S1x256x1_4_0_0).toLoadRect))
          (pDiag k0_pay148 (kernelRun0_A.sl.r_5 c arg2 harg2 x0) k0_pay147 (kvBlk (arg3.view.read (Elt F) (harg3.unread x1)) (k0_off3 i) (k0_off3_inb i))
            (kvBlk (arg4.view.read (Elt F) (harg4.unread x2)) (k0_off3 i) (k0_off3_inb i))
            (arg6.view.readCov (kernelRun0_A.sl.HS0_6 c i arg2 harg2 arg3 harg3 arg6 x0 x1) (Rect.unit (s := S8x256x1) ![5, 0, 0] S1x256x1.size inb_S8x256x1_S1x256x1_5_0_0).toLoadRect))⟩ ::
        (kernelRun0_A.sl.HS1_3 c i arg2 harg2 arg3 harg3 arg4 harg4 arg6 arg7 x0 x1 x2) := rfl

/-- Pair 3's accumulator after the query's own block. -/
theorem own_values3 :
    kernelRun0_A.sl.HS1_5 c i arg2 harg2 arg3 harg3 arg4 harg4 arg6 arg7 x0 x1 x2
      = ⟨Rect.unit (s := S256x512) ![0, 384] S256x128.size inb_S256x512_S256x128_0_384, accB k0_pay131
          (arg7.view.readCov (kernelRun0_A.sl.HS1_4 c i arg2 harg2 arg3 harg3 arg4 harg4 arg6 arg7 x0 x1 x2) (Rect.unit (s := S256x512) ![0, 384] S256x128.size inb_S256x512_S256x128_0_384).toLoadRect)
          (pDiag k0_pay148 (kernelRun0_A.sl.r_7 c arg2 harg2 x0) k0_pay147 (kvBlk (arg3.view.read (Elt F) (harg3.unread x1)) (k0_off4 i) (k0_off4_inb i))
            (kvBlk (arg4.view.read (Elt F) (harg4.unread x2)) (k0_off4 i) (k0_off4_inb i))
            (arg6.view.readCov (kernelRun0_A.sl.HS0_7 c i arg2 harg2 arg3 harg3 arg6 x0 x1) (Rect.unit (s := S8x256x1) ![6, 0, 0] S1x256x1.size inb_S8x256x1_S1x256x1_6_0_0).toLoadRect))
          (pDiag k0_pay148 (kernelRun0_A.sl.r_8 c arg2 harg2 x0) k0_pay147 (kvBlk (arg3.view.read (Elt F) (harg3.unread x1)) (k0_off4 i) (k0_off4_inb i))
            (kvBlk (arg4.view.read (Elt F) (harg4.unread x2)) (k0_off4 i) (k0_off4_inb i))
            (arg6.view.readCov (kernelRun0_A.sl.HS0_8 c i arg2 harg2 arg3 harg3 arg6 x0 x1) (Rect.unit (s := S8x256x1) ![7, 0, 0] S1x256x1.size inb_S8x256x1_S1x256x1_7_0_0).toLoadRect))⟩ ::
        (kernelRun0_A.sl.HS1_4 c i arg2 harg2 arg3 harg3 arg4 harg4 arg6 arg7 x0 x1 x2) := rfl

/-- Head 0's queries. -/
theorem own_query0 : kernelRun0_A.sl.r c arg2 harg2 x0
    = qLo k0_pay131 (qBlk (arg2.view.read (Elt F) (harg2.unread x0)) ![0, 0, 0] inb_S1x256x512_S1x256x128_0_0_0) := rfl

/-- Head 1's queries. -/
theorem own_query1 : kernelRun0_A.sl.r_1 c arg2 harg2 x0
    = qHi k0_pay131 (qBlk (arg2.view.read (Elt F) (harg2.unread x0)) ![0, 0, 0] inb_S1x256x512_S1x256x128_0_0_0) := rfl

/-- Head 2's queries. -/
theorem own_query2 : kernelRun0_A.sl.r_2 c arg2 harg2 x0
    = qLo k0_pay131 (qBlk (arg2.view.read (Elt F) (harg2.unread x0)) ![0, 0, 128] inb_S1x256x512_S1x256x128_0_0_128) := rfl

/-- Head 3's queries. -/
theorem own_query3 : kernelRun0_A.sl.r_3 c arg2 harg2 x0
    = qHi k0_pay131 (qBlk (arg2.view.read (Elt F) (harg2.unread x0)) ![0, 0, 128] inb_S1x256x512_S1x256x128_0_0_128) := rfl

/-- Head 4's queries. -/
theorem own_query4 : kernelRun0_A.sl.r_4 c arg2 harg2 x0
    = qLo k0_pay131 (qBlk (arg2.view.read (Elt F) (harg2.unread x0)) ![0, 0, 256] inb_S1x256x512_S1x256x128_0_0_256) := rfl

/-- Head 5's queries. -/
theorem own_query5 : kernelRun0_A.sl.r_5 c arg2 harg2 x0
    = qHi k0_pay131 (qBlk (arg2.view.read (Elt F) (harg2.unread x0)) ![0, 0, 256] inb_S1x256x512_S1x256x128_0_0_256) := rfl

/-- Head 6's queries. -/
theorem own_query6 : kernelRun0_A.sl.r_7 c arg2 harg2 x0
    = qLo k0_pay131 (qBlk (arg2.view.read (Elt F) (harg2.unread x0)) ![0, 0, 384] inb_S1x256x512_S1x256x128_0_0_384) := rfl

/-- Head 7's queries. -/
theorem own_query7 : kernelRun0_A.sl.r_8 c arg2 harg2 x0
    = qHi k0_pay131 (qBlk (arg2.view.read (Elt F) (harg2.unread x0)) ![0, 0, 384] inb_S1x256x512_S1x256x128_0_0_384) := rfl

end Cert.Proof.SB
-- ==== Proof.SbHead.lean ====
/-
  One head of the kernel: its scores in terms of the whole query and key blocks, and what one block of
  keys adds to its carried sum and to its accumulator.
-/
module

public import proofs.«01_k».proof.Proof.SbOwn

@[expose] public section

set_option maxRecDepth 16384

noncomputable section

open Idealize.ShloMosaic Idealize.ShloMosaic.ValueIdx Idealize.SL.Sem Cert.KernelIdeal Cert.KernelIdeal.Gen

namespace Cert.Proof.SB

/-! ## Where the blocks start, and how many trips there are -/

theorem off1_eq : ∀ i : grid0.Coords, k0_off1 i = ![0, 256 * (i 1).val, 0] := by decide +kernel
theorem off2_eq : ∀ i : grid0.Coords, k0_off2 i = ![0, 256 * (i 1).val, 128] := by decide +kernel
theorem off3_eq : ∀ i : grid0.Coords, k0_off3 i = ![0, 256 * (i 1).val, 256] := by decide +kernel
theorem off4_eq : ∀ i : grid0.Coords, k0_off4 i = ![0, 256 * (i 1).val, 384] := by decide +kernel
theorem off5_eq : ∀ (i : grid0.Coords) (k : Fin (k0_t1_loop i).trips), k0_off5 i k = ![0, 256 * ((i 1).val - 1 - k.val), 0] := by decide +kernel
theorem off6_eq : ∀ (i : grid0.Coords) (k : Fin (k0_t1_loop i).trips), k0_off6 i k = ![0, 256 * ((i 1).val - 1 - k.val), 128] := by decide +kernel
theorem off7_eq : ∀ (i : grid0.Coords) (k : Fin (k0_t1_loop i).trips), k0_off7 i k = ![0, 256 * ((i 1).val - 1 - k.val), 256] := by decide +kernel
theorem off8_eq : ∀ (i : grid0.Coords) (k : Fin (k0_t1_loop i).trips), k0_off8 i k = ![0, 256 * ((i 1).val - 1 - k.val), 384] := by decide +kernel
theorem t1_trips : ∀ i : grid0.Coords, (k0_t1_loop i).trips = (i 1).val := by decide +kernel
theorem t2_trips : ∀ i : grid0.Coords, (k0_t2_loop i).trips = 0 := by decide +kernel

/-! ## One head's scores and values as numbers of the keys -/

/-- Lane `d` of head `h`, among the 512 lanes of all heads. -/
def lane (h : Fin 8) (d : Fin 64) : Fin 512 := ⟨64 * h.val + d.val, by omega⟩

/-- Lane `d` of head `h` among the 128 lanes of its pair. -/
def half (h : Fin 8) (d : Fin 64) : Fin 128 := ⟨64 * (h.val % 2) + d.val, by omega⟩

/-- Row `r`'s score with key `s`, for head `h`. -/
def zN (Q : Vec Ideal S1x256x512 .bf16) (K : Vec Ideal S1x8192x512 .bf16) (h : Fin 8) (r : Fin 256) (s : ℕ) : EReal :=
  if hs : s < 8192 then
    ∑ d : Fin 64, Q (ix3 (0 : Fin 1) r (lane h d)) * K (ix3 (0 : Fin 1) (⟨s, hs⟩ : Fin 8192) (lane h d)) else 0

/-- Lane `d` of key `s`'s value, for head `h`. -/
def vN (V : Vec Ideal S1x8192x512 .bf16) (h : Fin 8) (d : Fin 64) (s : ℕ) : EReal :=
  if hs : s < 8192 then V (ix3 (0 : Fin 1) (⟨s, hs⟩ : Fin 8192) (lane h d)) else 0

/-- A product of two reals is real. -/
theorem mul_real {x y : EReal} (hx : ∃ a : ℝ, x = a) (hy : ∃ a : ℝ, y = a) : ∃ a : ℝ, x * y = a := by
  obtain ⟨a, rfl⟩ := hx; obtain ⟨b, rfl⟩ := hy; exact ⟨a * b, (EReal.coe_mul a b).symm⟩

/-- A sum of reals is real. -/
theorem sum_real {ι : Type} (s : Finset ι) (f : ι → EReal) (h : ∀ i ∈ s, ∃ a : ℝ, f i = a) : ∃ a : ℝ, ∑ i ∈ s, f i = a := by
  classical
  induction s using Finset.induction_on with
  | empty => exact ⟨0, by simp⟩
  | insert i s hi ih =>
    obtain ⟨a, ha⟩ := h i (Finset.mem_insert_self i s)
    obtain ⟨b, hb⟩ := ih fun j hj => h j (Finset.mem_insert_of_mem hj)
    exact ⟨a + b, by rw [Finset.sum_insert hi, ha, hb, EReal.coe_add]⟩

/-- With real queries and keys every score is real. -/
theorem zN_real {Q : Vec Ideal S1x256x512 .bf16} {K : Vec Ideal S1x8192x512 .bf16} (hQ : ∀ i, ∃ x : ℝ, Q i = x)
    (hK : ∀ i, ∃ x : ℝ, K i = x) (h : Fin 8) (r : Fin 256) (s : ℕ) : ∃ x : ℝ, zN Q K h r s = x := by
  unfold zN
  split
  · exact sum_real _ _ fun d _ => mul_real (hQ _) (hK _)
  · exact ⟨0, EReal.coe_zero.symm⟩

/-- Queries `q` are head `h`'s: their scores with a block of keys of its pair read the head's 64 lanes. -/
def IsHead (Q : Vec Ideal S1x256x512 .bf16) (h : Fin 8) (q : FVec Ideal S256x128 .bf16) : Prop :=
  ∀ (k : Vec Ideal S1x256x128 .bf16) (r c : Fin 256),
    zB q (dropB k) (ix2 r c) = ∑ d : Fin 64, Q (ix3 (0 : Fin 1) r (lane h d)) * k (ix3 (0 : Fin 1) c (half h d))

/-- A block of keys or values `k` is that of head `h`'s pair from key `a` on. -/
def IsBlk (X : Vec Ideal S1x8192x512 .bf16) (h : Fin 8) (a : ℕ) (k : Vec Ideal S1x256x128 .bf16) : Prop :=
  ∀ (c : Fin 256) (hs : a + c.val < 8192) (d : Fin 64),
    k (ix3 (0 : Fin 1) c (half h d)) = X (ix3 (0 : Fin 1) (⟨a + c.val, hs⟩ : Fin 8192) (lane h d))

/-- The first head of a pair. -/
theorem isHead_lo (Q : Vec Ideal S1x256x512 .bf16) (h : Fin 8) (off : Fin 3 → ℕ) (inb) (hoff : off = ![0, 0, 64 * h.val])
    (hh : h.val % 2 = 0) : IsHead Q h (qLo k0_pay131 (qBlk Q off inb)) := by
  subst hoff
  intro k r c
  rw [zB_qLo]
  refine Finset.sum_congr rfl fun d _ => congrArg₂ (· * ·) (congrArg Q ?_) (congrArg k ?_)
  · refine (eq_ix3 _).trans ?_
    congr 1
    · exact Fin.ext (by show 0 + 1 * r.val = r.val; omega)
    · exact Fin.ext (by show 64 * h.val + 1 * d.val = 64 * h.val + d.val; omega)
  · congr 1; exact Fin.ext (by show d.val = 64 * (h.val % 2) + d.val; omega)

/-- The second head of a pair. -/
theorem isHead_hi (Q : Vec Ideal S1x256x512 .bf16) (h : Fin 8) (off : Fin 3 → ℕ) (inb) (hoff : off = ![0, 0, 64 * (h.val - 1)])
    (hh : h.val % 2 = 1) : IsHead Q h (qHi k0_pay131 (qBlk Q off inb)) := by
  subst hoff
  intro k r c
  rw [zB_qHi]
  refine Finset.sum_congr rfl fun d _ => congrArg₂ (· * ·) (congrArg Q ?_) (congrArg k ?_)
  · refine (eq_ix3 _).trans ?_
    congr 1
    · exact Fin.ext (by show 0 + 1 * r.val = r.val; omega)
    · exact Fin.ext (by show 64 * (h.val - 1) + 1 * (64 + d.val) = 64 * h.val + d.val; omega)
  · congr 1; exact Fin.ext (by show 64 + d.val = 64 * (h.val % 2) + d.val; omega)

/-- A block loaded at its pair's lanes is the block of both heads of the pair. -/
theorem isBlk_kvBlk (X : Vec Ideal S1x8192x512 .bf16) (h : Fin 8) (a : ℕ) (off : Fin 3 → ℕ) (inb)
    (hoff : off = ![0, a, 128 * (h.val / 2)]) : IsBlk X h a (kvBlk X off inb) := by
  subst hoff
  intro c hs d
  refine congrArg X ((eq_ix3 _).trans ?_)
  congr 1
  · exact Fin.ext (by show a + 1 * c.val = a + c.val; omega)
  · exact Fin.ext (by show 128 * (h.val / 2) + 1 * (64 * (h.val % 2) + d.val) = 64 * h.val + d.val; omega)

section Steps

variable {Q : Vec Ideal S1x256x512 .bf16} {K V : Vec Ideal S1x8192x512 .bf16} {h : Fin 8} {q : FVec Ideal S256x128 .bf16}
  {k v : Vec Ideal S1x256x128 .bf16} {a : ℕ}

/-- A row of a block before the query's own: no key is masked. -/
theorem row_off (hQ : ∀ i, ∃ x : ℝ, Q i = x) (hK : ∀ i, ∃ x : ℝ, K i = x) (hq : IsHead Q h q) (hk : IsBlk K h a k)
    (ha : a + 256 ≤ 8192) {t : ℕ} (hat : a + 256 ≤ t) (r : Fin 256) :
    RowOf (zN Q K h r) t a (zB q (dropB k)) (lB (zB q (dropB k))) r := by
  have e : ∀ c : Fin 256, zB q (dropB k) (ix2 r c) = zN Q K h r (a + c.val) := fun c => by
    rw [hq k r c, zN, dif_pos (show a + c.val < 8192 by omega)]
    exact Finset.sum_congr rfl fun d _ => by rw [hk c (by omega) d]
  exact ⟨e, fun c => by rw [lB_apply, e c, lm, if_pos (by omega)], fun c => zN_real hQ hK h r _⟩

/-- A row of the query's own block: the keys from the query's own on are masked. -/
theorem row_diag (hQ : ∀ i, ∃ x : ℝ, Q i = x) (hK : ∀ i, ∃ x : ℝ, K i = x) (hq : IsHead Q h q) (hk : IsBlk K h a k)
    (ha : a + 256 ≤ 8192) (r : Fin 256) :
    RowOf (zN Q K h r) (a + r.val) a (zB q (dropB k)) (lDiag k0_pay148 q k) r := by
  have e : ∀ c : Fin 256, zB q (dropB k) (ix2 r c) = zN Q K h r (a + c.val) := fun c => by
    rw [hq k r c, zN, dif_pos (show a + c.val < 8192 by omega)]
    exact Finset.sum_congr rfl fun d _ => by rw [hk c (by omega) d]
  refine ⟨e, fun c => ?_, fun c => zN_real hQ hK h r _⟩
  show Scalar.select (k0_pay148 (ix2 r c)) (lB (zB q (dropB k)) (ix2 r c)) (Ideal.ofBits .f32 0x00000000#32) = _
  rw [earl_apply, lB_apply, e c, lm, Ideal.ofBits_zero_f32]
  by_cases hc : c.val < r.val
  · rw [if_pos hc, if_pos (by omega)]; rfl
  · rw [if_neg hc, if_neg (by omega)]; rfl

/-- An earlier block moves a head's carried sum on. -/
theorem carry_off (hQ : ∀ i, ∃ x : ℝ, Q i = x) (hK : ∀ i, ∃ x : ℝ, K i = x) (hq : IsHead Q h q) (hk : IsBlk K h a k)
    (ha : a + 256 ≤ 8192) {t : ℕ} (hat : a + 256 ≤ t) (r : Fin 256) (c : Vec Ideal S1x256x1 .f32)
    (hc : c (ix3 (0 : Fin 1) r (0 : Fin 1)) = cs (zN Q K h r) t (a + 256) 8192) :
    cOff q k0_pay147 k c (ix3 (0 : Fin 1) r (0 : Fin 1)) = cs (zN Q K h r) t a 8192 :=
  (row_off hQ hK hq hk ha hat r).carry later_isLater c ha hc

/-- An earlier block adds its weighted values to a head's accumulator. -/
theorem values_off (hQ : ∀ i, ∃ x : ℝ, Q i = x) (hK : ∀ i, ∃ x : ℝ, K i = x) (hq : IsHead Q h q) (hk : IsBlk K h a k)
    (hv : IsBlk V h a v) (ha : a + 256 ≤ 8192) {t : ℕ} (hat : a + 256 ≤ t) (r : Fin 256) (c : Vec Ideal S1x256x1 .f32)
    (hc : c (ix3 (0 : Fin 1) r (0 : Fin 1)) = cs (zN Q K h r) t (a + 256) 8192) (d : Fin 64) (x : EReal)
    (hx : x = os (zN Q K h r) (vN V h d) t (a + 256) 8192) :
    x + pOff q k0_pay147 k v c (ix2 r (half h d)) = os (zN Q K h r) (vN V h d) t a 8192 :=
  RowOf.values _ _ _ x ha
    (fun s => (row_off hQ hK hq hk ha hat r).weight later_isLater c ha hc s (by omega))
    (fun s => by rw [dropB_apply, hv s (by omega) d, vN, dif_pos (show a + s.val < 8192 by omega)]) hx

/-- The query's own block starts a head's carried sum. -/
theorem carry_diag (hQ : ∀ i, ∃ x : ℝ, Q i = x) (hK : ∀ i, ∃ x : ℝ, K i = x) (hq : IsHead Q h q) (hk : IsBlk K h a k)
    (ha : a + 256 ≤ 8192) (r : Fin 256) (c : Vec Ideal S1x256x1 .f32) (hc : c (ix3 (0 : Fin 1) r (0 : Fin 1)) = 0) :
    cDiag k0_pay148 q k0_pay147 k c (ix3 (0 : Fin 1) r (0 : Fin 1)) = cs (zN Q K h r) (a + r.val) a 8192 :=
  (row_diag hQ hK hq hk ha r).carry later_isLater c ha (hc.trans (cs_zero _ _ _ _ (by omega)).symm)

/-- The query's own block starts a head's accumulator. -/
theorem values_diag (hQ : ∀ i, ∃ x : ℝ, Q i = x) (hK : ∀ i, ∃ x : ℝ, K i = x) (hq : IsHead Q h q) (hk : IsBlk K h a k)
    (hv : IsBlk V h a v) (ha : a + 256 ≤ 8192) (r : Fin 256) (c : Vec Ideal S1x256x1 .f32)
    (hc : c (ix3 (0 : Fin 1) r (0 : Fin 1)) = 0) (d : Fin 64) (x : EReal) (hx : x = 0) :
    x + pDiag k0_pay148 q k0_pay147 k v c (ix2 r (half h d)) = os (zN Q K h r) (vN V h d) (a + r.val) a 8192 := by
  refine RowOf.values _ _ _ x ha (fun s => ?_)
    (fun s => by rw [dropB_apply, hv s (by omega) d, vN, dif_pos (show a + s.val < 8192 by omega)])
    (hx.trans (os_zero _ _ _ _ _ (by omega)).symm)
  show Scalar.select (k0_pay148 (ix2 r s)) (aB _ _ _ c (ix2 r s)) (Ideal.ofBits .f32 0x00000000#32) = _
  rw [earl_apply]
  by_cases hs : s.val < r.val
  · rw [if_pos hs]
    exact (row_diag hQ hK hq hk ha r).weight later_isLater c ha (hc.trans (cs_zero _ _ _ _ (by omega)).symm) s (by omega)
  · rw [if_neg hs, wt, if_neg (by omega)]; exact Ideal.ofBits_zero_f32

/-- A lane of the first head of a pair takes the first head's weighted values. -/
theorem acc_lo (acc : Vec Ideal S256x128 .f32) (p0 p1 : FVec Ideal S256x128 .f32) (h : Fin 8) (hh : h.val % 2 = 0) (r : Fin 256)
    (d : Fin 64) : accB k0_pay131 acc p0 p1 (ix2 r (half h d)) = acc (ix2 r (half h d)) + p0 (ix2 r (half h d)) := by
  rw [accB_apply, lo_apply, if_pos (by show 64 * (h.val % 2) + d.val < 64; omega)]; rfl

/-- A lane of the second head of a pair takes the second head's weighted values. -/
theorem acc_hi (acc : Vec Ideal S256x128 .f32) (p0 p1 : FVec Ideal S256x128 .f32) (h : Fin 8) (hh : h.val % 2 = 1) (r : Fin 256)
    (d : Fin 64) : accB k0_pay131 acc p0 p1 (ix2 r (half h d)) = acc (ix2 r (half h d)) + p1 (ix2 r (half h d)) := by
  rw [accB_apply, lo_apply, if_neg (by show ¬64 * (h.val % 2) + d.val < 64; omega)]; rfl

end Steps

end Cert.Proof.SB
-- ==== Proof.SbLoop.lean ====
/-
  The kernel's sweep over the earlier key blocks: after `n` trips the carried sums and the accumulators are
  those of the keys from block `i - n` on.
-/
module

public import proofs.«01_k».proof.Proof.SbHead
public import Idealize.ShloMosaic.Lib.WritesUnit

@[expose] public section

set_option maxRecDepth 16384

noncomputable section

open Idealize.ShloMosaic Idealize.ShloMosaic.ValueIdx Idealize.SL.Sem Cert.KernelIdeal Cert.KernelIdeal.Gen

namespace Cert.Proof.SB

/-! ## Reading the two scratch arrays through the pieces stored in them -/

section Reads

variable {sig : RefSig} {κ : Kind} {sp : Space}

/-- A head's column is not touched by a store to another head's. -/
theorem miss6 (v : View sig κ sp S8x256x1 .f32) (f : v.ty.Contents (Elt Ideal)) (j : ℕ) (off : Fin 3 → ℕ)
    (inb : ∀ a, off a + S1x256x1.size a ≤ S8x256x1.size a) (w : Vec Ideal S1x256x1 .f32) (L : List (View.Piece (Elt Ideal) S8x256x1 .f32))
    (h : Fin 8) (r : Fin 256) (hoff : off = ![j, 0, 0]) (hj : j ≠ h.val) :
    v.read (Elt Ideal) (v.writes (Elt Ideal) f (⟨Rect.unit (s := S8x256x1) off S1x256x1.size inb, w⟩ :: L)) (ix3 h r (0 : Fin 1))
      = v.read (Elt Ideal) (v.writes (Elt Ideal) f L) (ix3 h r (0 : Fin 1)) :=
  View.read_writes_cons_unit_of_not_mem v f inb w L _ hoff (0 : Fin 3) (by
    show h.val < j ∨ j + 1 ≤ h.val
    omega)

/-- A head's column reads what was last stored to it. -/
theorem hit6 (v : View sig κ sp S8x256x1 .f32) (f : v.ty.Contents (Elt Ideal)) (off : Fin 3 → ℕ)
    (inb : ∀ a, off a + S1x256x1.size a ≤ S8x256x1.size a) (w : Vec Ideal S1x256x1 .f32) (L : List (View.Piece (Elt Ideal) S8x256x1 .f32))
    (h : Fin 8) (r : Fin 256) (hoff : off = ![h.val, 0, 0]) :
    v.read (Elt Ideal) (v.writes (Elt Ideal) f (⟨Rect.unit (s := S8x256x1) off S1x256x1.size inb, w⟩ :: L)) (ix3 h r (0 : Fin 1))
      = w (ix3 (0 : Fin 1) r (0 : Fin 1)) :=
  View.read_writes_cons_unit_of_mem v f inb w L _ (ix3 (0 : Fin 1) r (0 : Fin 1)) hoff (fun a => by
    match a with
    | ⟨0, _⟩ => rfl
    | ⟨1, _⟩ => show r.val = 0 + r.val; omega
    | ⟨2, _⟩ => rfl)

/-- A head's lanes are not touched by a store to another pair's. -/
theorem miss7 (v : View sig κ sp S256x512 .f32) (f : v.ty.Contents (Elt Ideal)) (j : ℕ) (off : Fin 2 → ℕ)
    (inb : ∀ a, off a + S256x128.size a ≤ S256x512.size a) (w : Vec Ideal S256x128 .f32) (L : List (View.Piece (Elt Ideal) S256x512 .f32))
    (h : Fin 8) (r : Fin 256) (d : Fin 64) (hoff : off = ![0, 128 * j]) (hj : j ≠ h.val / 2) :
    v.read (Elt Ideal) (v.writes (Elt Ideal) f (⟨Rect.unit (s := S256x512) off S256x128.size inb, w⟩ :: L)) (ix2 r (lane h d))
      = v.read (Elt Ideal) (v.writes (Elt Ideal) f L) (ix2 r (lane h d)) :=
  View.read_writes_cons_unit_of_not_mem v f inb w L _ hoff (1 : Fin 2) (by
    show 64 * h.val + d.val < 128 * j ∨ 128 * j + 128 ≤ 64 * h.val + d.val
    omega)

/-- A head's lanes read what was last stored to its pair's. -/
theorem hit7 (v : View sig κ sp S256x512 .f32) (f : v.ty.Contents (Elt Ideal)) (off : Fin 2 → ℕ)
    (inb : ∀ a, off a + S256x128.size a ≤ S256x512.size a) (w : Vec Ideal S256x128 .f32) (L : List (View.Piece (Elt Ideal) S256x512 .f32))
    (h : Fin 8) (r : Fin 256) (d : Fin 64) (hoff : off = ![0, 128 * (h.val / 2)]) :
    v.read (Elt Ideal) (v.writes (Elt Ideal) f (⟨Rect.unit (s := S256x512) off S256x128.size inb, w⟩ :: L)) (ix2 r (lane h d))
      = w (ix2 r (half h d)) :=
  View.read_writes_cons_unit_of_mem v f inb w L _ (ix2 r (half h d)) hoff (fun a => by
    match a with
    | ⟨0, _⟩ => show r.val = 0 + r.val; omega
    | ⟨1, _⟩ => show 64 * h.val + d.val = 128 * (h.val / 2) + (64 * (h.val % 2) + d.val); omega)

/-- Eight stores, one to each head's column, read back. -/
theorem read8 (v : View sig κ sp S8x256x1 .f32) (f : v.ty.Contents (Elt Ideal)) (w0 : Vec Ideal S1x256x1 .f32) (w1 : Vec Ideal S1x256x1 .f32) (w2 : Vec Ideal S1x256x1 .f32) (w3 : Vec Ideal S1x256x1 .f32) (w4 : Vec Ideal S1x256x1 .f32) (w5 : Vec Ideal S1x256x1 .f32) (w6 : Vec Ideal S1x256x1 .f32) (w7 : Vec Ideal S1x256x1 .f32) (h : Fin 8) (r : Fin 256) :
    v.read (Elt Ideal) (v.writes (Elt Ideal) f [⟨Rect.unit (s := S8x256x1) ![7, 0, 0] S1x256x1.size inb_S8x256x1_S1x256x1_7_0_0, w7⟩,
      ⟨Rect.unit (s := S8x256x1) ![6, 0, 0] S1x256x1.size inb_S8x256x1_S1x256x1_6_0_0, w6⟩,
      ⟨Rect.unit (s := S8x256x1) ![5, 0, 0] S1x256x1.size inb_S8x256x1_S1x256x1_5_0_0, w5⟩,
      ⟨Rect.unit (s := S8x256x1) ![4, 0, 0] S1x256x1.size inb_S8x256x1_S1x256x1_4_0_0, w4⟩,
      ⟨Rect.unit (s := S8x256x1) ![3, 0, 0] S1x256x1.size inb_S8x256x1_S1x256x1_3_0_0, w3⟩,
      ⟨Rect.unit (s := S8x256x1) ![2, 0, 0] S1x256x1.size inb_S8x256x1_S1x256x1_2_0_0, w2⟩,
      ⟨Rect.unit (s := S8x256x1) ![1, 0, 0] S1x256x1.size inb_S8x256x1_S1x256x1_1_0_0, w1⟩,
      ⟨Rect.unit (s := S8x256x1) ![0, 0, 0] S1x256x1.size inb_S8x256x1_S1x256x1_0_0_0, w0⟩]) (ix3 h r (0 : Fin 1))
      = (match h with
        | ⟨0, _⟩ => w0
        | ⟨1, _⟩ => w1
        | ⟨2, _⟩ => w2
        | ⟨3, _⟩ => w3
        | ⟨4, _⟩ => w4
        | ⟨5, _⟩ => w5
        | ⟨6, _⟩ => w6
        | ⟨7, _⟩ => w7 : Vec Ideal S1x256x1 .f32) (ix3 (0 : Fin 1) r (0 : Fin 1)) :=
  match h with
  | ⟨0, _⟩ => (miss6 v f 7 _ _ _ _ (0 : Fin 8) r rfl (by decide)).trans ((miss6 v f 6 _ _ _ _ (0 : Fin 8) r rfl (by decide)).trans ((miss6 v f 5 _ _ _ _ (0 : Fin 8) r rfl (by decide)).trans ((miss6 v f 4 _ _ _ _ (0 : Fin 8) r rfl (by decide)).trans ((miss6 v f 3 _ _ _ _ (0 : Fin 8) r rfl (by decide)).trans ((miss6 v f 2 _ _ _ _ (0 : Fin 8) r rfl (by decide)).trans ((miss6 v f 1 _ _ _ _ (0 : Fin 8) r rfl (by decide)).trans (hit6 v f _ _ _ _ (0 : Fin 8) r rfl)))))))
  | ⟨1, _⟩ => (miss6 v f 7 _ _ _ _ (1 : Fin 8) r rfl (by decide)).trans ((miss6 v f 6 _ _ _ _ (1 : Fin 8) r rfl (by decide)).trans ((miss6 v f 5 _ _ _ _ (1 : Fin 8) r rfl (by decide)).trans ((miss6 v f 4 _ _ _ _ (1 : Fin 8) r rfl (by decide)).trans ((miss6 v f 3 _ _ _ _ (1 : Fin 8) r rfl (by decide)).trans ((miss6 v f 2 _ _ _ _ (1 : Fin 8) r rfl (by decide)).trans (hit6 v f _ _ _ _ (1 : Fin 8) r rfl))))))
  | ⟨2, _⟩ => (miss6 v f 7 _ _ _ _ (2 : Fin 8) r rfl (by decide)).trans ((miss6 v f 6 _ _ _ _ (2 : Fin 8) r rfl (by decide)).trans ((miss6 v f 5 _ _ _ _ (2 : Fin 8) r rfl (by decide)).trans ((miss6 v f 4 _ _ _ _ (2 : Fin 8) r rfl (by decide)).trans ((miss6 v f 3 _ _ _ _ (2 : Fin 8) r rfl (by decide)).trans (hit6 v f _ _ _ _ (2 : Fin 8) r rfl)))))
  | ⟨3, _⟩ => (miss6 v f 7 _ _ _ _ (3 : Fin 8) r rfl (by decide)).trans ((miss6 v f 6 _ _ _ _ (3 : Fin 8) r rfl (by decide)).trans ((miss6 v f 5 _ _ _ _ (3 : Fin 8) r rfl (by decide)).trans ((miss6 v f 4 _ _ _ _ (3 : Fin 8) r rfl (by decide)).trans (hit6 v f _ _ _ _ (3 : Fin 8) r rfl))))
  | ⟨4, _⟩ => (miss6 v f 7 _ _ _ _ (4 : Fin 8) r rfl (by decide)).trans ((miss6 v f 6 _ _ _ _ (4 : Fin 8) r rfl (by decide)).trans ((miss6 v f 5 _ _ _ _ (4 : Fin 8) r rfl (by decide)).trans (hit6 v f _ _ _ _ (4 : Fin 8) r rfl)))
  | ⟨5, _⟩ => (miss6 v f 7 _ _ _ _ (5 : Fin 8) r rfl (by decide)).trans ((miss6 v f 6 _ _ _ _ (5 : Fin 8) r rfl (by decide)).trans (hit6 v f _ _ _ _ (5 : Fin 8) r rfl))
  | ⟨6, _⟩ => (miss6 v f 7 _ _ _ _ (6 : Fin 8) r rfl (by decide)).trans (hit6 v f _ _ _ _ (6 : Fin 8) r rfl)
  | ⟨7, _⟩ => hit6 v f _ _ _ _ (7 : Fin 8) r rfl

/-- Four stores, one to each pair's lanes, read back. -/
theorem read4 (v : View sig κ sp S256x512 .f32) (f : v.ty.Contents (Elt Ideal)) (w0 w1 w2 w3 : Vec Ideal S256x128 .f32) (h : Fin 8)
    (r : Fin 256) (d : Fin 64) :
    v.read (Elt Ideal) (v.writes (Elt Ideal) f [⟨Rect.unit (s := S256x512) ![0, 384] S256x128.size inb_S256x512_S256x128_0_384, w3⟩,
      ⟨Rect.unit (s := S256x512) ![0, 256] S256x128.size inb_S256x512_S256x128_0_256, w2⟩,
      ⟨Rect.unit (s := S256x512) ![0, 128] S256x128.size inb_S256x512_S256x128_0_128, w1⟩,
      ⟨Rect.unit (s := S256x512) ![0, 0] S256x128.size inb_S256x512_S256x128_0_0, w0⟩]) (ix2 r (lane h d))
      = (match h with
        | ⟨0, _⟩ => w0
        | ⟨1, _⟩ => w0
        | ⟨2, _⟩ => w1
        | ⟨3, _⟩ => w1
        | ⟨4, _⟩ => w2
        | ⟨5, _⟩ => w2
        | ⟨6, _⟩ => w3
        | ⟨7, _⟩ => w3 : Vec Ideal S256x128 .f32) (ix2 r (half h d)) :=
  match h with
  | ⟨0, _⟩ => (miss7 v f 3 _ _ _ _ (0 : Fin 8) r d rfl (by decide)).trans ((miss7 v f 2 _ _ _ _ (0 : Fin 8) r d rfl (by decide)).trans ((miss7 v f 1 _ _ _ _ (0 : Fin 8) r d rfl (by decide)).trans (hit7 v f _ _ _ _ (0 : Fin 8) r d (by decide))))
  | ⟨1, _⟩ => (miss7 v f 3 _ _ _ _ (1 : Fin 8) r d rfl (by decide)).trans ((miss7 v f 2 _ _ _ _ (1 : Fin 8) r d rfl (by decide)).trans ((miss7 v f 1 _ _ _ _ (1 : Fin 8) r d rfl (by decide)).trans (hit7 v f _ _ _ _ (1 : Fin 8) r d (by decide))))
  | ⟨2, _⟩ => (miss7 v f 3 _ _ _ _ (2 : Fin 8) r d rfl (by decide)).trans ((miss7 v f 2 _ _ _ _ (2 : Fin 8) r d rfl (by decide)).trans (hit7 v f _ _ _ _ (2 : Fin 8) r d (by decide)))
  | ⟨3, _⟩ => (miss7 v f 3 _ _ _ _ (3 : Fin 8) r d rfl (by decide)).trans ((miss7 v f 2 _ _ _ _ (3 : Fin 8) r d rfl (by decide)).trans (hit7 v f _ _ _ _ (3 : Fin 8) r d (by decide)))
  | ⟨4, _⟩ => (miss7 v f 3 _ _ _ _ (4 : Fin 8) r d rfl (by decide)).trans (hit7 v f _ _ _ _ (4 : Fin 8) r d (by decide))
  | ⟨5, _⟩ => (miss7 v f 3 _ _ _ _ (5 : Fin 8) r d rfl (by decide)).trans (hit7 v f _ _ _ _ (5 : Fin 8) r d (by decide))
  | ⟨6, _⟩ => hit7 v f _ _ _ _ (6 : Fin 8) r d (by decide)
  | ⟨7, _⟩ => hit7 v f _ _ _ _ (7 : Fin 8) r d (by decide)

/-- One head's column of the carried sums, at a row. -/
theorem cBlk_apply (C : Vec Ideal S8x256x1 .f32) (h : Fin 8) (r : Fin 256) (off : Fin 3 → ℕ) (inb) (hoff : off = ![h.val, 0, 0]) :
    cBlk C off inb (ix3 (0 : Fin 1) r (0 : Fin 1)) = C (ix3 h r (0 : Fin 1)) := by
  subst hoff
  refine congrArg C (funext fun a => Fin.ext ?_)
  match a with
  | ⟨0, _⟩ => show h.val + 1 * 0 = h.val; omega
  | ⟨1, _⟩ => show 0 + 1 * r.val = r.val; omega
  | ⟨2, _⟩ => rfl

/-- One pair's lanes of the accumulator, at a lane of one of its heads. -/
theorem aBlk_apply (A : Vec Ideal S256x512 .f32) (h : Fin 8) (r : Fin 256) (d : Fin 64) (off : Fin 2 → ℕ) (inb)
    (hoff : off = ![0, 128 * (h.val / 2)]) : aBlk A off inb (ix2 r (half h d)) = A (ix2 r (lane h d)) := by
  subst hoff
  refine congrArg A (funext fun a => Fin.ext ?_)
  match a with
  | ⟨0, _⟩ => show 0 + 1 * r.val = r.val; omega
  | ⟨1, _⟩ => show 128 * (h.val / 2) + 1 * (64 * (h.val % 2) + d.val) = 64 * h.val + d.val; omega

end Reads

/-! ## The state between trips -/

/-- With the blocks from `J` on taken in, every head's carried sum and accumulator are those of the keys from `256 J` on. -/
structure Sums (Q : Vec Ideal S1x256x512 .bf16) (K V : Vec Ideal S1x8192x512 .bf16) (b J : ℕ) (C : Vec Ideal S8x256x1 .f32)
    (A : Vec Ideal S256x512 .f32) : Prop where
  carry : ∀ (h : Fin 8) (r : Fin 256), C (ix3 h r (0 : Fin 1)) = cs (zN Q K h r) (256 * b + r.val) (256 * J) 8192
  acc : ∀ (h : Fin 8) (r : Fin 256) (d : Fin 64),
    A (ix2 r (lane h d)) = os (zN Q K h r) (vN V h d) (256 * b + r.val) (256 * J) 8192

/-- One trip takes in the block before those taken in so far. -/
theorem trip_sums {Q : Vec Ideal S1x256x512 .bf16} {K V : Vec Ideal S1x8192x512 .bf16} (hQ : ∀ i, ∃ x : ℝ, Q i = x) (hK : ∀ i, ∃ x : ℝ, K i = x)
    (𝒱 : Variants) (c : Dev nD) (bd : Option 𝒱.V) (i : grid0.Coords) (arg2 : Memref sig .tc .vmem S1x256x512 .bf16) (harg2 : arg2.IsWhole) (arg3 : Memref sig .tc .vmem S1x8192x512 .bf16) (harg3 : arg3.IsWhole) (arg4 : Memref sig .tc .vmem S1x8192x512 .bf16) (harg4 : arg4.IsWhole) (arg5 : Memref sig .tc .vmem S1x256x512 .f32) (harg5 : arg5.IsWhole) (arg6 : Memref sig .tc .vmem S8x256x1 .f32) (harg6 : arg6.IsWhole) (arg7 : Memref sig .tc .vmem S256x512 .f32) (harg7 : arg7.IsWhole) (arg1 : BitVec 32) (v2 : IVec S256x128 1) (v8 : FVec Ideal S256x128 .bf16) (v11 : FVec Ideal S256x128 .bf16) (v17 : FVec Ideal S256x128 .bf16) (v20 : FVec Ideal S256x128 .bf16) (v26 : FVec Ideal S256x128 .bf16) (v29 : FVec Ideal S256x128 .bf16) (v35 : FVec Ideal S256x128 .bf16) (v38 : FVec Ideal S256x128 .bf16) (v53 : FVec Ideal S256x256 .bf16) (X_arg3 : BufTy.Contents (Elt Ideal) arg3.view.ty) (X_arg4 : BufTy.Contents (Elt Ideal) arg4.view.ty) (k : Fin (k0_t1_loop i).trips) (acc : BitVec 32) (f_arg6 : BufTy.Contents (Elt Ideal) arg6.view.ty) (f_arg7 : BufTy.Contents (Elt Ideal) arg7.view.ty)
    (h2 : v2 = k0_pay131) (h53 : v53 = k0_pay147) (hq0 : IsHead Q 0 v8) (hq1 : IsHead Q 1 v11) (hq2 : IsHead Q 2 v17) (hq3 : IsHead Q 3 v20) (hq4 : IsHead Q 4 v26) (hq5 : IsHead Q 5 v29) (hq6 : IsHead Q 6 v35) (hq7 : IsHead Q 7 v38)
    (hX3 : arg3.view.read (Elt Ideal) X_arg3 = K) (hX4 : arg4.view.read (Elt Ideal) X_arg4 = V) (J : ℕ) (hJ : J + 1 + k.val = (i 1).val)
    (hS : Sums Q K V (i 1).val (J + 1) (arg6.view.read (Elt Ideal) f_arg6) (arg7.view.read (Elt Ideal) f_arg7)) :
    Sums Q K V (i 1).val J
      (arg6.view.read (Elt Ideal) (arg6.view.writes (Elt Ideal) f_arg6 (tripL_k0_t1 (F := Ideal) 𝒱 c bd i arg2 harg2 arg3 harg3 arg4 harg4 arg5 harg5 arg6 harg6 arg7 harg7 arg1 v2 v8 v11 v17 v20 v26 v29 v35 v38 v53 X_arg3 X_arg4 k acc f_arg6 f_arg7).1))
      (arg7.view.read (Elt Ideal) (arg7.view.writes (Elt Ideal) f_arg7 (tripL_k0_t1 (F := Ideal) 𝒱 c bd i arg2 harg2 arg3 harg3 arg4 harg4 arg5 harg5 arg6 harg6 arg7 harg7 arg1 v2 v8 v11 v17 v20 v26 v29 v35 v38 v53 X_arg3 X_arg4 k acc f_arg6 f_arg7).2)) := by
  subst h2 h53
  have hb : (i 1).val < 32 := (i 1).isLt
  have ea : 256 * ((i 1).val - 1 - k.val) = 256 * J := by omega
  have e : 256 * (J + 1) = 256 * ((i 1).val - 1 - k.val) + 256 := by omega
  rw [trip_pieces]
  refine ⟨fun h r => ?_, fun h r d => ?_⟩
  · refine (read8 _ _ _ _ _ _ _ _ _ _ h r).trans ?_
    rw [← ea]
    match h with
    | ⟨0, _⟩ => exact carry_off hQ hK hq0 (hX3 ▸ isBlk_kvBlk _ (0 : Fin 8) _ _ (k0_off5_inb i k) (off5_eq i k)) (by omega) (by omega) r _ ((cBlk_apply _ (0 : Fin 8) r _ _ rfl).trans (hS.carry (0 : Fin 8) r |>.trans (by rw [e])))
    | ⟨1, _⟩ => exact carry_off hQ hK hq1 (hX3 ▸ isBlk_kvBlk _ (1 : Fin 8) _ _ (k0_off5_inb i k) (off5_eq i k)) (by omega) (by omega) r _ ((cBlk_apply _ (1 : Fin 8) r _ _ rfl).trans (hS.carry (1 : Fin 8) r |>.trans (by rw [e])))
    | ⟨2, _⟩ => exact carry_off hQ hK hq2 (hX3 ▸ isBlk_kvBlk _ (2 : Fin 8) _ _ (k0_off6_inb i k) (off6_eq i k)) (by omega) (by omega) r _ ((cBlk_apply _ (2 : Fin 8) r _ _ rfl).trans (hS.carry (2 : Fin 8) r |>.trans (by rw [e])))
    | ⟨3, _⟩ => exact carry_off hQ hK hq3 (hX3 ▸ isBlk_kvBlk _ (3 : Fin 8) _ _ (k0_off6_inb i k) (off6_eq i k)) (by omega) (by omega) r _ ((cBlk_apply _ (3 : Fin 8) r _ _ rfl).trans (hS.carry (3 : Fin 8) r |>.trans (by rw [e])))
    | ⟨4, _⟩ => exact carry_off hQ hK hq4 (hX3 ▸ isBlk_kvBlk _ (4 : Fin 8) _ _ (k0_off7_inb i k) (off7_eq i k)) (by omega) (by omega) r _ ((cBlk_apply _ (4 : Fin 8) r _ _ rfl).trans (hS.carry (4 : Fin 8) r |>.trans (by rw [e])))
    | ⟨5, _⟩ => exact carry_off hQ hK hq5 (hX3 ▸ isBlk_kvBlk _ (5 : Fin 8) _ _ (k0_off7_inb i k) (off7_eq i k)) (by omega) (by omega) r _ ((cBlk_apply _ (5 : Fin 8) r _ _ rfl).trans (hS.carry (5 : Fin 8) r |>.trans (by rw [e])))
    | ⟨6, _⟩ => exact carry_off hQ hK hq6 (hX3 ▸ isBlk_kvBlk _ (6 : Fin 8) _ _ (k0_off8_inb i k) (off8_eq i k)) (by omega) (by omega) r _ ((cBlk_apply _ (6 : Fin 8) r _ _ rfl).trans (hS.carry (6 : Fin 8) r |>.trans (by rw [e])))
    | ⟨7, _⟩ => exact carry_off hQ hK hq7 (hX3 ▸ isBlk_kvBlk _ (7 : Fin 8) _ _ (k0_off8_inb i k) (off8_eq i k)) (by omega) (by omega) r _ ((cBlk_apply _ (7 : Fin 8) r _ _ rfl).trans (hS.carry (7 : Fin 8) r |>.trans (by rw [e])))
  · refine (read4 _ _ _ _ _ _ h r d).trans ?_
    rw [← ea]
    match h with
    | ⟨0, _⟩ => exact (acc_lo _ _ _ (0 : Fin 8) (by decide) r d).trans (values_off hQ hK hq0 (hX3 ▸ isBlk_kvBlk _ (0 : Fin 8) _ _ (k0_off5_inb i k) (off5_eq i k)) (hX4 ▸ isBlk_kvBlk _ (0 : Fin 8) _ _ (k0_off5_inb i k) (off5_eq i k)) (by omega) (by omega) r _
        ((cBlk_apply _ (0 : Fin 8) r _ _ rfl).trans (hS.carry (0 : Fin 8) r |>.trans (by rw [e]))) d _ ((aBlk_apply _ (0 : Fin 8) r d _ _ rfl).trans (hS.acc (0 : Fin 8) r d |>.trans (by rw [e]))))
    | ⟨1, _⟩ => exact (acc_hi _ _ _ (1 : Fin 8) (by decide) r d).trans (values_off hQ hK hq1 (hX3 ▸ isBlk_kvBlk _ (1 : Fin 8) _ _ (k0_off5_inb i k) (off5_eq i k)) (hX4 ▸ isBlk_kvBlk _ (1 : Fin 8) _ _ (k0_off5_inb i k) (off5_eq i k)) (by omega) (by omega) r _
        ((cBlk_apply _ (1 : Fin 8) r _ _ rfl).trans (hS.carry (1 : Fin 8) r |>.trans (by rw [e]))) d _ ((aBlk_apply _ (1 : Fin 8) r d _ _ rfl).trans (hS.acc (1 : Fin 8) r d |>.trans (by rw [e]))))
    | ⟨2, _⟩ => exact (acc_lo _ _ _ (2 : Fin 8) (by decide) r d).trans (values_off hQ hK hq2 (hX3 ▸ isBlk_kvBlk _ (2 : Fin 8) _ _ (k0_off6_inb i k) (off6_eq i k)) (hX4 ▸ isBlk_kvBlk _ (2 : Fin 8) _ _ (k0_off6_inb i k) (off6_eq i k)) (by omega) (by omega) r _
        ((cBlk_apply _ (2 : Fin 8) r _ _ rfl).trans (hS.carry (2 : Fin 8) r |>.trans (by rw [e]))) d _ ((aBlk_apply _ (2 : Fin 8) r d _ _ rfl).trans (hS.acc (2 : Fin 8) r d |>.trans (by rw [e]))))
    | ⟨3, _⟩ => exact (acc_hi _ _ _ (3 : Fin 8) (by decide) r d).trans (values_off hQ hK hq3 (hX3 ▸ isBlk_kvBlk _ (3 : Fin 8) _ _ (k0_off6_inb i k) (off6_eq i k)) (hX4 ▸ isBlk_kvBlk _ (3 : Fin 8) _ _ (k0_off6_inb i k) (off6_eq i k)) (by omega) (by omega) r _
        ((cBlk_apply _ (3 : Fin 8) r _ _ rfl).trans (hS.carry (3 : Fin 8) r |>.trans (by rw [e]))) d _ ((aBlk_apply _ (3 : Fin 8) r d _ _ rfl).trans (hS.acc (3 : Fin 8) r d |>.trans (by rw [e]))))
    | ⟨4, _⟩ => exact (acc_lo _ _ _ (4 : Fin 8) (by decide) r d).trans (values_off hQ hK hq4 (hX3 ▸ isBlk_kvBlk _ (4 : Fin 8) _ _ (k0_off7_inb i k) (off7_eq i k)) (hX4 ▸ isBlk_kvBlk _ (4 : Fin 8) _ _ (k0_off7_inb i k) (off7_eq i k)) (by omega) (by omega) r _
        ((cBlk_apply _ (4 : Fin 8) r _ _ rfl).trans (hS.carry (4 : Fin 8) r |>.trans (by rw [e]))) d _ ((aBlk_apply _ (4 : Fin 8) r d _ _ rfl).trans (hS.acc (4 : Fin 8) r d |>.trans (by rw [e]))))
    | ⟨5, _⟩ => exact (acc_hi _ _ _ (5 : Fin 8) (by decide) r d).trans (values_off hQ hK hq5 (hX3 ▸ isBlk_kvBlk _ (5 : Fin 8) _ _ (k0_off7_inb i k) (off7_eq i k)) (hX4 ▸ isBlk_kvBlk _ (5 : Fin 8) _ _ (k0_off7_inb i k) (off7_eq i k)) (by omega) (by omega) r _
        ((cBlk_apply _ (5 : Fin 8) r _ _ rfl).trans (hS.carry (5 : Fin 8) r |>.trans (by rw [e]))) d _ ((aBlk_apply _ (5 : Fin 8) r d _ _ rfl).trans (hS.acc (5 : Fin 8) r d |>.trans (by rw [e]))))
    | ⟨6, _⟩ => exact (acc_lo _ _ _ (6 : Fin 8) (by decide) r d).trans (values_off hQ hK hq6 (hX3 ▸ isBlk_kvBlk _ (6 : Fin 8) _ _ (k0_off8_inb i k) (off8_eq i k)) (hX4 ▸ isBlk_kvBlk _ (6 : Fin 8) _ _ (k0_off8_inb i k) (off8_eq i k)) (by omega) (by omega) r _
        ((cBlk_apply _ (6 : Fin 8) r _ _ rfl).trans (hS.carry (6 : Fin 8) r |>.trans (by rw [e]))) d _ ((aBlk_apply _ (6 : Fin 8) r d _ _ rfl).trans (hS.acc (6 : Fin 8) r d |>.trans (by rw [e]))))
    | ⟨7, _⟩ => exact (acc_hi _ _ _ (7 : Fin 8) (by decide) r d).trans (values_off hQ hK hq7 (hX3 ▸ isBlk_kvBlk _ (7 : Fin 8) _ _ (k0_off8_inb i k) (off8_eq i k)) (hX4 ▸ isBlk_kvBlk _ (7 : Fin 8) _ _ (k0_off8_inb i k) (off8_eq i k)) (by omega) (by omega) r _
        ((cBlk_apply _ (7 : Fin 8) r _ _ rfl).trans (hS.carry (7 : Fin 8) r |>.trans (by rw [e]))) d _ ((aBlk_apply _ (7 : Fin 8) r d _ _ rfl).trans (hS.acc (7 : Fin 8) r d |>.trans (by rw [e]))))

/-- After `n` trips the blocks from `i - n` on are taken in. -/
theorem loop_sums {Q : Vec Ideal S1x256x512 .bf16} {K V : Vec Ideal S1x8192x512 .bf16} (hQ : ∀ i, ∃ x : ℝ, Q i = x) (hK : ∀ i, ∃ x : ℝ, K i = x)
    (𝒱 : Variants) (c : Dev nD) (bd : Option 𝒱.V) (i : grid0.Coords) (arg2 : Memref sig .tc .vmem S1x256x512 .bf16) (harg2 : arg2.IsWhole) (arg3 : Memref sig .tc .vmem S1x8192x512 .bf16) (harg3 : arg3.IsWhole) (arg4 : Memref sig .tc .vmem S1x8192x512 .bf16) (harg4 : arg4.IsWhole) (arg5 : Memref sig .tc .vmem S1x256x512 .f32) (harg5 : arg5.IsWhole) (arg6 : Memref sig .tc .vmem S8x256x1 .f32) (harg6 : arg6.IsWhole) (arg7 : Memref sig .tc .vmem S256x512 .f32) (harg7 : arg7.IsWhole) (arg1 : BitVec 32) (v2 : IVec S256x128 1) (v8 : FVec Ideal S256x128 .bf16) (v11 : FVec Ideal S256x128 .bf16) (v17 : FVec Ideal S256x128 .bf16) (v20 : FVec Ideal S256x128 .bf16) (v26 : FVec Ideal S256x128 .bf16) (v29 : FVec Ideal S256x128 .bf16) (v35 : FVec Ideal S256x128 .bf16) (v38 : FVec Ideal S256x128 .bf16) (v53 : FVec Ideal S256x256 .bf16) (X_arg3 : BufTy.Contents (Elt Ideal) arg3.view.ty) (X_arg4 : BufTy.Contents (Elt Ideal) arg4.view.ty)
    (G6 : BufTy.Contents (Elt Ideal) arg6.view.ty) (G7 : BufTy.Contents (Elt Ideal) arg7.view.ty) (init : BitVec 32)
    (h2 : v2 = k0_pay131) (h53 : v53 = k0_pay147) (hq0 : IsHead Q 0 v8) (hq1 : IsHead Q 1 v11) (hq2 : IsHead Q 2 v17) (hq3 : IsHead Q 3 v20) (hq4 : IsHead Q 4 v26) (hq5 : IsHead Q 5 v29) (hq6 : IsHead Q 6 v35) (hq7 : IsHead Q 7 v38)
    (hX3 : arg3.view.read (Elt Ideal) X_arg3 = K) (hX4 : arg4.view.read (Elt Ideal) X_arg4 = V)
    (hS : Sums Q K V (i 1).val (i 1).val (arg6.view.read (Elt Ideal) G6) (arg7.view.read (Elt Ideal) G7)) (n : ℕ) :
    n ≤ (i 1).val → Sums Q K V (i 1).val ((i 1).val - n)
      (arg6.view.read (Elt Ideal) (arg6.view.writes (Elt Ideal) G6 (st_k0_t1 (F := Ideal) 𝒱 c bd i arg2 harg2 arg3 harg3 arg4 harg4 arg5 harg5 arg6 harg6 arg7 harg7 arg1 v2 v8 v11 v17 v20 v26 v29 v35 v38 v53 X_arg3 X_arg4 G6 G7 init n).2.1))
      (arg7.view.read (Elt Ideal) (arg7.view.writes (Elt Ideal) G7 (st_k0_t1 (F := Ideal) 𝒱 c bd i arg2 harg2 arg3 harg3 arg4 harg4 arg5 harg5 arg6 harg6 arg7 harg7 arg1 v2 v8 v11 v17 v20 v26 v29 v35 v38 v53 X_arg3 X_arg4 G6 G7 init n).2.2)) := by
  induction n with
  | zero => exact fun _ => hS
  | succ n ih =>
    intro hn
    have hk : n < (k0_t1_loop i).trips := by rw [t1_trips]; omega
    have hstep := trip_sums hQ hK 𝒱 c bd i arg2 harg2 arg3 harg3 arg4 harg4 arg5 harg5 arg6 harg6 arg7 harg7 arg1 v2 v8 v11 v17 v20 v26 v29 v35 v38 v53 X_arg3 X_arg4 ⟨n, hk⟩ (st_k0_t1 (F := Ideal) 𝒱 c bd i arg2 harg2 arg3 harg3 arg4 harg4 arg5 harg5 arg6 harg6 arg7 harg7 arg1 v2 v8 v11 v17 v20 v26 v29 v35 v38 v53 X_arg3 X_arg4 G6 G7 init n).1 _ _ h2 h53 hq0 hq1 hq2 hq3 hq4 hq5 hq6 hq7 hX3 hX4
      ((i 1).val - (n + 1)) (by show (i 1).val - (n + 1) + 1 + n = (i 1).val; omega)
      ((show (i 1).val - n = (i 1).val - (n + 1) + 1 by omega) ▸ ih (by omega))
    rw [← View.writes_append, ← View.writes_append] at hstep
    rw [st_k0_t1_succ 𝒱 c bd i arg2 harg2 arg3 harg3 arg4 harg4 arg5 harg5 arg6 harg6 arg7 harg7 arg1 v2 v8 v11 v17 v20 v26 v29 v35 v38 v53 X_arg3 X_arg4 G6 G7 init ⟨n, hk⟩]
    exact hstep

end Cert.Proof.SB
-- ==== Proof.SbStart.lean ====
/-
  The state when the kernel's sweep begins: the query's own block taken in.
-/
module

public import proofs.«01_k».proof.Proof.SbLoop

@[expose] public section

set_option maxRecDepth 16384

noncomputable section

open Idealize.ShloMosaic Idealize.ShloMosaic.ValueIdx Idealize.SL.Sem Cert.KernelIdeal Cert.KernelIdeal.Gen

namespace Cert.Proof.SB

/-- The zero fill of the carried sums. -/
theorem fill6 {κ : Kind} {sp : Space} (v : View sig κ sp S8x256x1 .f32) (f : v.ty.Contents (Elt Ideal)) (h : Fin 8) (r : Fin 256) :
    v.read (Elt Ideal) (v.writes (Elt Ideal) f kernelRun0_A.sl.HS0_1) (ix3 h r (0 : Fin 1)) = 0 :=
  (View.read_writes_cons_unit_of_mem v f inb_S8x256x1_S8x256x1_0_0_0 (k0_pay145 (F := Ideal)) [] _ (ix3 h r (0 : Fin 1)) rfl (fun a => by
    match a with
    | ⟨0, _⟩ => show h.val = 0 + h.val; omega
    | ⟨1, _⟩ => show r.val = 0 + r.val; omega
    | ⟨2, _⟩ => rfl)).trans Ideal.ofBits_zero_f32

/-- The zero fill of the accumulator. -/
theorem fill7 {κ : Kind} {sp : Space} (v : View sig κ sp S256x512 .f32) (f : v.ty.Contents (Elt Ideal)) (r : Fin 256) (l : Fin 512) :
    v.read (Elt Ideal) (v.writes (Elt Ideal) f kernelRun0_A.sl.HS1_1) (ix2 r l) = 0 :=
  (View.read_writes_cons_unit_of_mem v f inb_S256x512_S256x512_0_0 (k0_pay146 (F := Ideal)) [] _ (ix2 r l) rfl (fun a => by
    match a with
    | ⟨0, _⟩ => show r.val = 0 + r.val; omega
    | ⟨1, _⟩ => show l.val = 0 + l.val; omega)).trans Ideal.ofBits_zero_f32

/-- The block loaded from a whole staged array is the array's. -/
theorem isBlk_read {m : Memref sig .tc .vmem S1x8192x512 .bf16} (hm : m.IsWhole) (x : Vec Ideal S1x8192x512 .bf16) (h : Fin 8) (a : ℕ)
    (off : Fin 3 → ℕ) (inb) (hoff : off = ![0, a, 128 * (h.val / 2)]) : IsBlk x h a (kvBlk (m.view.read (Elt Ideal) (hm.unread x)) off inb) := by
  rw [hm.read_unread]
  exact isBlk_kvBlk x h a off inb hoff

variable (c : Dev nD) (i : grid0.Coords)
  (arg2 : Memref sig .tc .vmem S1x256x512 .bf16) (harg2 : arg2.IsWhole) (arg3 : Memref sig .tc .vmem S1x8192x512 .bf16)
  (harg3 : arg3.IsWhole) (arg4 : Memref sig .tc .vmem S1x8192x512 .bf16) (harg4 : arg4.IsWhole)
  (arg6 : Memref sig .tc .vmem S8x256x1 .f32) (arg7 : Memref sig .tc .vmem S256x512 .f32)
  (x0 : Vec Ideal S1x256x512 .bf16) (x1 x2 : Vec Ideal S1x8192x512 .bf16)

/-- Head 0's carried sum is zero when its own block begins. -/
theorem zero_carry0 (r : Fin 256) :
    (arg6.view.readCov kernelRun0_A.sl.HS0_1 (Rect.unit (s := S8x256x1) ![0, 0, 0] S1x256x1.size inb_S8x256x1_S1x256x1_0_0_0).toLoadRect : Vec Ideal S1x256x1 .f32) (ix3 (0 : Fin 1) r (0 : Fin 1)) = 0 := by
  refine (cBlk_apply (arg6.view.read (Elt Ideal) (arg6.view.writes (Elt Ideal) arg6.view.junk kernelRun0_A.sl.HS0_1)) (0 : Fin 8) r _ inb_S8x256x1_S1x256x1_0_0_0 rfl).trans ?_
  exact fill6 _ _ _ _

/-- Head 1's carried sum is zero when its own block begins. -/
theorem zero_carry1 (r : Fin 256) :
    (arg6.view.readCov (kernelRun0_A.sl.HS0_2 c i arg2 harg2 arg3 harg3 arg6 x0 x1) (Rect.unit (s := S8x256x1) ![1, 0, 0] S1x256x1.size inb_S8x256x1_S1x256x1_1_0_0).toLoadRect : Vec Ideal S1x256x1 .f32) (ix3 (0 : Fin 1) r (0 : Fin 1)) = 0 := by
  refine (cBlk_apply (arg6.view.read (Elt Ideal) (arg6.view.writes (Elt Ideal) arg6.view.junk (kernelRun0_A.sl.HS0_2 c i arg2 harg2 arg3 harg3 arg6 x0 x1))) (1 : Fin 8) r _ inb_S8x256x1_S1x256x1_1_0_0 rfl).trans ?_
  rw [own_carry0, miss6 _ _ 0 _ _ _ _ (1 : Fin 8) r rfl (by decide)]
  exact fill6 _ _ _ _

/-- Head 2's carried sum is zero when its own block begins. -/
theorem zero_carry2 (r : Fin 256) :
    (arg6.view.readCov (kernelRun0_A.sl.HS0_3 c i arg2 harg2 arg3 harg3 arg6 x0 x1) (Rect.unit (s := S8x256x1) ![2, 0, 0] S1x256x1.size inb_S8x256x1_S1x256x1_2_0_0).toLoadRect : Vec Ideal S1x256x1 .f32) (ix3 (0 : Fin 1) r (0 : Fin 1)) = 0 := by
  refine (cBlk_apply (arg6.view.read (Elt Ideal) (arg6.view.writes (Elt Ideal) arg6.view.junk (kernelRun0_A.sl.HS0_3 c i arg2 harg2 arg3 harg3 arg6 x0 x1))) (2 : Fin 8) r _ inb_S8x256x1_S1x256x1_2_0_0 rfl).trans ?_
  rw [own_carry1, miss6 _ _ 1 _ _ _ _ (2 : Fin 8) r rfl (by decide)]
  rw [own_carry0, miss6 _ _ 0 _ _ _ _ (2 : Fin 8) r rfl (by decide)]
  exact fill6 _ _ _ _

/-- Head 3's carried sum is zero when its own block begins. -/
theorem zero_carry3 (r : Fin 256) :
    (arg6.view.readCov (kernelRun0_A.sl.HS0_4 c i arg2 harg2 arg3 harg3 arg6 x0 x1) (Rect.unit (s := S8x256x1) ![3, 0, 0] S1x256x1.size inb_S8x256x1_S1x256x1_3_0_0).toLoadRect : Vec Ideal S1x256x1 .f32) (ix3 (0 : Fin 1) r (0 : Fin 1)) = 0 := by
  refine (cBlk_apply (arg6.view.read (Elt Ideal) (arg6.view.writes (Elt Ideal) arg6.view.junk (kernelRun0_A.sl.HS0_4 c i arg2 harg2 arg3 harg3 arg6 x0 x1))) (3 : Fin 8) r _ inb_S8x256x1_S1x256x1_3_0_0 rfl).trans ?_
  rw [own_carry2, miss6 _ _ 2 _ _ _ _ (3 : Fin 8) r rfl (by decide)]
  rw [own_carry1, miss6 _ _ 1 _ _ _ _ (3 : Fin 8) r rfl (by decide)]
  rw [own_carry0, miss6 _ _ 0 _ _ _ _ (3 : Fin 8) r rfl (by decide)]
  exact fill6 _ _ _ _

/-- Head 4's carried sum is zero when its own block begins. -/
theorem zero_carry4 (r : Fin 256) :
    (arg6.view.readCov (kernelRun0_A.sl.HS0_5 c i arg2 harg2 arg3 harg3 arg6 x0 x1) (Rect.unit (s := S8x256x1) ![4, 0, 0] S1x256x1.size inb_S8x256x1_S1x256x1_4_0_0).toLoadRect : Vec Ideal S1x256x1 .f32) (ix3 (0 : Fin 1) r (0 : Fin 1)) = 0 := by
  refine (cBlk_apply (arg6.view.read (Elt Ideal) (arg6.view.writes (Elt Ideal) arg6.view.junk (kernelRun0_A.sl.HS0_5 c i arg2 harg2 arg3 harg3 arg6 x0 x1))) (4 : Fin 8) r _ inb_S8x256x1_S1x256x1_4_0_0 rfl).trans ?_
  rw [own_carry3, miss6 _ _ 3 _ _ _ _ (4 : Fin 8) r rfl (by decide)]
  rw [own_carry2, miss6 _ _ 2 _ _ _ _ (4 : Fin 8) r rfl (by decide)]
  rw [own_carry1, miss6 _ _ 1 _ _ _ _ (4 : Fin 8) r rfl (by decide)]
  rw [own_carry0, miss6 _ _ 0 _ _ _ _ (4 : Fin 8) r rfl (by decide)]
  exact fill6 _ _ _ _

/-- Head 5's carried sum is zero when its own block begins. -/
theorem zero_carry5 (r : Fin 256) :
    (arg6.view.readCov (kernelRun0_A.sl.HS0_6 c i arg2 harg2 arg3 harg3 arg6 x0 x1) (Rect.unit (s := S8x256x1) ![5, 0, 0] S1x256x1.size inb_S8x256x1_S1x256x1_5_0_0).toLoadRect : Vec Ideal S1x256x1 .f32) (ix3 (0 : Fin 1) r (0 : Fin 1)) = 0 := by
  refine (cBlk_apply (arg6.view.read (Elt Ideal) (arg6.view.writes (Elt Ideal) arg6.view.junk (kernelRun0_A.sl.HS0_6 c i arg2 harg2 arg3 harg3 arg6 x0 x1))) (5 : Fin 8) r _ inb_S8x256x1_S1x256x1_5_0_0 rfl).trans ?_
  rw [own_carry4, miss6 _ _ 4 _ _ _ _ (5 : Fin 8) r rfl (by decide)]
  rw [own_carry3, miss6 _ _ 3 _ _ _ _ (5 : Fin 8) r rfl (by decide)]
  rw [own_carry2, miss6 _ _ 2 _ _ _ _ (5 : Fin 8) r rfl (by decide)]
  rw [own_carry1, miss6 _ _ 1 _ _ _ _ (5 : Fin 8) r rfl (by decide)]
  rw [own_carry0, miss6 _ _ 0 _ _ _ _ (5 : Fin 8) r rfl (by decide)]
  exact fill6 _ _ _ _

/-- Head 6's carried sum is zero when its own block begins. -/
theorem zero_carry6 (r : Fin 256) :
    (arg6.view.readCov (kernelRun0_A.sl.HS0_7 c i arg2 harg2 arg3 harg3 arg6 x0 x1) (Rect.unit (s := S8x256x1) ![6, 0, 0] S1x256x1.size inb_S8x256x1_S1x256x1_6_0_0).toLoadRect : Vec Ideal S1x256x1 .f32) (ix3 (0 : Fin 1) r (0 : Fin 1)) = 0 := by
  refine (cBlk_apply (arg6.view.read (Elt Ideal) (arg6.view.writes (Elt Ideal) arg6.view.junk (kernelRun0_A.sl.HS0_7 c i arg2 harg2 arg3 harg3 arg6 x0 x1))) (6 : Fin 8) r _ inb_S8x256x1_S1x256x1_6_0_0 rfl).trans ?_
  rw [own_carry5, miss6 _ _ 5 _ _ _ _ (6 : Fin 8) r rfl (by decide)]
  rw [own_carry4, miss6 _ _ 4 _ _ _ _ (6 : Fin 8) r rfl (by decide)]
  rw [own_carry3, miss6 _ _ 3 _ _ _ _ (6 : Fin 8) r rfl (by decide)]
  rw [own_carry2, miss6 _ _ 2 _ _ _ _ (6 : Fin 8) r rfl (by decide)]
  rw [own_carry1, miss6 _ _ 1 _ _ _ _ (6 : Fin 8) r rfl (by decide)]
  rw [own_carry0, miss6 _ _ 0 _ _ _ _ (6 : Fin 8) r rfl (by decide)]
  exact fill6 _ _ _ _

/-- Head 7's carried sum is zero when its own block begins. -/
theorem zero_carry7 (r : Fin 256) :
    (arg6.view.readCov (kernelRun0_A.sl.HS0_8 c i arg2 harg2 arg3 harg3 arg6 x0 x1) (Rect.unit (s := S8x256x1) ![7, 0, 0] S1x256x1.size inb_S8x256x1_S1x256x1_7_0_0).toLoadRect : Vec Ideal S1x256x1 .f32) (ix3 (0 : Fin 1) r (0 : Fin 1)) = 0 := by
  refine (cBlk_apply (arg6.view.read (Elt Ideal) (arg6.view.writes (Elt Ideal) arg6.view.junk (kernelRun0_A.sl.HS0_8 c i arg2 harg2 arg3 harg3 arg6 x0 x1))) (7 : Fin 8) r _ inb_S8x256x1_S1x256x1_7_0_0 rfl).trans ?_
  rw [own_carry6, miss6 _ _ 6 _ _ _ _ (7 : Fin 8) r rfl (by decide)]
  rw [own_carry5, miss6 _ _ 5 _ _ _ _ (7 : Fin 8) r rfl (by decide)]
  rw [own_carry4, miss6 _ _ 4 _ _ _ _ (7 : Fin 8) r rfl (by decide)]
  rw [own_carry3, miss6 _ _ 3 _ _ _ _ (7 : Fin 8) r rfl (by decide)]
  rw [own_carry2, miss6 _ _ 2 _ _ _ _ (7 : Fin 8) r rfl (by decide)]
  rw [own_carry1, miss6 _ _ 1 _ _ _ _ (7 : Fin 8) r rfl (by decide)]
  rw [own_carry0, miss6 _ _ 0 _ _ _ _ (7 : Fin 8) r rfl (by decide)]
  exact fill6 _ _ _ _

/-- Head 0's accumulator is zero when its own block begins. -/
theorem zero_values0 (r : Fin 256) (d : Fin 64) :
    (arg7.view.readCov kernelRun0_A.sl.HS1_1 (Rect.unit (s := S256x512) ![0, 0] S256x128.size inb_S256x512_S256x128_0_0).toLoadRect : Vec Ideal S256x128 .f32) (ix2 r (half (0 : Fin 8) d)) = 0 := by
  refine (aBlk_apply (arg7.view.read (Elt Ideal) (arg7.view.writes (Elt Ideal) arg7.view.junk kernelRun0_A.sl.HS1_1)) (0 : Fin 8) r d _ inb_S256x512_S256x128_0_0 (by decide)).trans ?_
  exact fill7 _ _ _ _

/-- Head 1's accumulator is zero when its own block begins. -/
theorem zero_values1 (r : Fin 256) (d : Fin 64) :
    (arg7.view.readCov kernelRun0_A.sl.HS1_1 (Rect.unit (s := S256x512) ![0, 0] S256x128.size inb_S256x512_S256x128_0_0).toLoadRect : Vec Ideal S256x128 .f32) (ix2 r (half (1 : Fin 8) d)) = 0 := by
  refine (aBlk_apply (arg7.view.read (Elt Ideal) (arg7.view.writes (Elt Ideal) arg7.view.junk kernelRun0_A.sl.HS1_1)) (1 : Fin 8) r d _ inb_S256x512_S256x128_0_0 (by decide)).trans ?_
  exact fill7 _ _ _ _

/-- Head 2's accumulator is zero when its own block begins. -/
theorem zero_values2 (r : Fin 256) (d : Fin 64) :
    (arg7.view.readCov (kernelRun0_A.sl.HS1_2 c i arg2 harg2 arg3 harg3 arg4 harg4 arg6 arg7 x0 x1 x2) (Rect.unit (s := S256x512) ![0, 128] S256x128.size inb_S256x512_S256x128_0_128).toLoadRect : Vec Ideal S256x128 .f32) (ix2 r (half (2 : Fin 8) d)) = 0 := by
  refine (aBlk_apply (arg7.view.read (Elt Ideal) (arg7.view.writes (Elt Ideal) arg7.view.junk (kernelRun0_A.sl.HS1_2 c i arg2 harg2 arg3 harg3 arg4 harg4 arg6 arg7 x0 x1 x2))) (2 : Fin 8) r d _ inb_S256x512_S256x128_0_128 (by decide)).trans ?_
  rw [own_values0, miss7 _ _ 0 ![0, 0] _ _ _ (2 : Fin 8) r d (by decide) (by decide)]
  exact fill7 _ _ _ _

/-- Head 3's accumulator is zero when its own block begins. -/
theorem zero_values3 (r : Fin 256) (d : Fin 64) :
    (arg7.view.readCov (kernelRun0_A.sl.HS1_2 c i arg2 harg2 arg3 harg3 arg4 harg4 arg6 arg7 x0 x1 x2) (Rect.unit (s := S256x512) ![0, 128] S256x128.size inb_S256x512_S256x128_0_128).toLoadRect : Vec Ideal S256x128 .f32) (ix2 r (half (3 : Fin 8) d)) = 0 := by
  refine (aBlk_apply (arg7.view.read (Elt Ideal) (arg7.view.writes (Elt Ideal) arg7.view.junk (kernelRun0_A.sl.HS1_2 c i arg2 harg2 arg3 harg3 arg4 harg4 arg6 arg7 x0 x1 x2))) (3 : Fin 8) r d _ inb_S256x512_S256x128_0_128 (by decide)).trans ?_
  rw [own_values0, miss7 _ _ 0 ![0, 0] _ _ _ (3 : Fin 8) r d (by decide) (by decide)]
  exact fill7 _ _ _ _

/-- Head 4's accumulator is zero when its own block begins. -/
theorem zero_values4 (r : Fin 256) (d : Fin 64) :
    (arg7.view.readCov (kernelRun0_A.sl.HS1_3 c i arg2 harg2 arg3 harg3 arg4 harg4 arg6 arg7 x0 x1 x2) (Rect.unit (s := S256x512) ![0, 256] S256x128.size inb_S256x512_S256x128_0_256).toLoadRect : Vec Ideal S256x128 .f32) (ix2 r (half (4 : Fin 8) d)) = 0 := by
  refine (aBlk_apply (arg7.view.read (Elt Ideal) (arg7.view.writes (Elt Ideal) arg7.view.junk (kernelRun0_A.sl.HS1_3 c i arg2 harg2 arg3 harg3 arg4 harg4 arg6 arg7 x0 x1 x2))) (4 : Fin 8) r d _ inb_S256x512_S256x128_0_256 (by decide)).trans ?_
  rw [own_values1, miss7 _ _ 1 ![0, 128] _ _ _ (4 : Fin 8) r d (by decide) (by decide)]
  rw [own_values0, miss7 _ _ 0 ![0, 0] _ _ _ (4 : Fin 8) r d (by decide) (by decide)]
  exact fill7 _ _ _ _

/-- Head 5's accumulator is zero when its own block begins. -/
theorem zero_values5 (r : Fin 256) (d : Fin 64) :
    (arg7.view.readCov (kernelRun0_A.sl.HS1_3 c i arg2 harg2 arg3 harg3 arg4 harg4 arg6 arg7 x0 x1 x2) (Rect.unit (s := S256x512) ![0, 256] S256x128.size inb_S256x512_S256x128_0_256).toLoadRect : Vec Ideal S256x128 .f32) (ix2 r (half (5 : Fin 8) d)) = 0 := by
  refine (aBlk_apply (arg7.view.read (Elt Ideal) (arg7.view.writes (Elt Ideal) arg7.view.junk (kernelRun0_A.sl.HS1_3 c i arg2 harg2 arg3 harg3 arg4 harg4 arg6 arg7 x0 x1 x2))) (5 : Fin 8) r d _ inb_S256x512_S256x128_0_256 (by decide)).trans ?_
  rw [own_values1, miss7 _ _ 1 ![0, 128] _ _ _ (5 : Fin 8) r d (by decide) (by decide)]
  rw [own_values0, miss7 _ _ 0 ![0, 0] _ _ _ (5 : Fin 8) r d (by decide) (by decide)]
  exact fill7 _ _ _ _

/-- Head 6's accumulator is zero when its own block begins. -/
theorem zero_values6 (r : Fin 256) (d : Fin 64) :
    (arg7.view.readCov (kernelRun0_A.sl.HS1_4 c i arg2 harg2 arg3 harg3 arg4 harg4 arg6 arg7 x0 x1 x2) (Rect.unit (s := S256x512) ![0, 384] S256x128.size inb_S256x512_S256x128_0_384).toLoadRect : Vec Ideal S256x128 .f32) (ix2 r (half (6 : Fin 8) d)) = 0 := by
  refine (aBlk_apply (arg7.view.read (Elt Ideal) (arg7.view.writes (Elt Ideal) arg7.view.junk (kernelRun0_A.sl.HS1_4 c i arg2 harg2 arg3 harg3 arg4 harg4 arg6 arg7 x0 x1 x2))) (6 : Fin 8) r d _ inb_S256x512_S256x128_0_384 (by decide)).trans ?_
  rw [own_values2, miss7 _ _ 2 ![0, 256] _ _ _ (6 : Fin 8) r d (by decide) (by decide)]
  rw [own_values1, miss7 _ _ 1 ![0, 128] _ _ _ (6 : Fin 8) r d (by decide) (by decide)]
  rw [own_values0, miss7 _ _ 0 ![0, 0] _ _ _ (6 : Fin 8) r d (by decide) (by decide)]
  exact fill7 _ _ _ _

/-- Head 7's accumulator is zero when its own block begins. -/
theorem zero_values7 (r : Fin 256) (d : Fin 64) :
    (arg7.view.readCov (kernelRun0_A.sl.HS1_4 c i arg2 harg2 arg3 harg3 arg4 harg4 arg6 arg7 x0 x1 x2) (Rect.unit (s := S256x512) ![0, 384] S256x128.size inb_S256x512_S256x128_0_384).toLoadRect : Vec Ideal S256x128 .f32) (ix2 r (half (7 : Fin 8) d)) = 0 := by
  refine (aBlk_apply (arg7.view.read (Elt Ideal) (arg7.view.writes (Elt Ideal) arg7.view.junk (kernelRun0_A.sl.HS1_4 c i arg2 harg2 arg3 harg3 arg4 harg4 arg6 arg7 x0 x1 x2))) (7 : Fin 8) r d _ inb_S256x512_S256x128_0_384 (by decide)).trans ?_
  rw [own_values2, miss7 _ _ 2 ![0, 256] _ _ _ (7 : Fin 8) r d (by decide) (by decide)]
  rw [own_values1, miss7 _ _ 1 ![0, 128] _ _ _ (7 : Fin 8) r d (by decide) (by decide)]
  rw [own_values0, miss7 _ _ 0 ![0, 0] _ _ _ (7 : Fin 8) r d (by decide) (by decide)]
  exact fill7 _ _ _ _

/-- Head 0's queries are head 0's. -/
theorem own_isHead0 : IsHead x0 (0 : Fin 8) (kernelRun0_A.sl.r (F := Ideal) c arg2 harg2 x0) := by
  rw [own_query0, harg2.read_unread]
  exact isHead_lo x0 (0 : Fin 8) _ _ (by decide) (by decide)

/-- Head 1's queries are head 1's. -/
theorem own_isHead1 : IsHead x0 (1 : Fin 8) (kernelRun0_A.sl.r_1 (F := Ideal) c arg2 harg2 x0) := by
  rw [own_query1, harg2.read_unread]
  exact isHead_hi x0 (1 : Fin 8) _ _ (by decide) (by decide)

/-- Head 2's queries are head 2's. -/
theorem own_isHead2 : IsHead x0 (2 : Fin 8) (kernelRun0_A.sl.r_2 (F := Ideal) c arg2 harg2 x0) := by
  rw [own_query2, harg2.read_unread]
  exact isHead_lo x0 (2 : Fin 8) _ _ (by decide) (by decide)

/-- Head 3's queries are head 3's. -/
theorem own_isHead3 : IsHead x0 (3 : Fin 8) (kernelRun0_A.sl.r_3 (F := Ideal) c arg2 harg2 x0) := by
  rw [own_query3, harg2.read_unread]
  exact isHead_hi x0 (3 : Fin 8) _ _ (by decide) (by decide)

/-- Head 4's queries are head 4's. -/
theorem own_isHead4 : IsHead x0 (4 : Fin 8) (kernelRun0_A.sl.r_4 (F := Ideal) c arg2 harg2 x0) := by
  rw [own_query4, harg2.read_unread]
  exact isHead_lo x0 (4 : Fin 8) _ _ (by decide) (by decide)

/-- Head 5's queries are head 5's. -/
theorem own_isHead5 : IsHead x0 (5 : Fin 8) (kernelRun0_A.sl.r_5 (F := Ideal) c arg2 harg2 x0) := by
  rw [own_query5, harg2.read_unread]
  exact isHead_hi x0 (5 : Fin 8) _ _ (by decide) (by decide)

/-- Head 6's queries are head 6's. -/
theorem own_isHead6 : IsHead x0 (6 : Fin 8) (kernelRun0_A.sl.r_7 (F := Ideal) c arg2 harg2 x0) := by
  rw [own_query6, harg2.read_unread]
  exact isHead_lo x0 (6 : Fin 8) _ _ (by decide) (by decide)

/-- Head 7's queries are head 7's. -/
theorem own_isHead7 : IsHead x0 (7 : Fin 8) (kernelRun0_A.sl.r_8 (F := Ideal) c arg2 harg2 x0) := by
  rw [own_query7, harg2.read_unread]
  exact isHead_hi x0 (7 : Fin 8) _ _ (by decide) (by decide)

/-- After the query's own block the sums are those of the keys from that block on. -/
theorem own_sums (hQ : ∀ i, ∃ x : ℝ, x0 i = x) (hK : ∀ i, ∃ x : ℝ, x1 i = x) :
    Sums x0 x1 x2 (i 1).val (i 1).val
      (arg6.view.read (Elt Ideal) (arg6.view.writes (Elt Ideal) arg6.view.junk (kernelRun0_A.sl.HS0_9 c i arg2 harg2 arg3 harg3 arg6 x0 x1)))
      (arg7.view.read (Elt Ideal) (arg7.view.writes (Elt Ideal) arg7.view.junk (kernelRun0_A.sl.HS1_5 c i arg2 harg2 arg3 harg3 arg4 harg4 arg6 arg7 x0 x1 x2))) := by
  have hb : (i 1).val < 32 := (i 1).isLt
  refine ⟨fun h r => ?_, fun h r d => ?_⟩
  · match h with
    | ⟨0, _⟩ =>
      show View.read (Elt Ideal) arg6.view _ (ix3 (0 : Fin 8) r (0 : Fin 1)) = cs (zN x0 x1 (0 : Fin 8) r) _ _ _
      rw [own_carry7, miss6 _ _ 7 _ _ _ _ (0 : Fin 8) r rfl (by decide)]
      rw [own_carry6, miss6 _ _ 6 _ _ _ _ (0 : Fin 8) r rfl (by decide)]
      rw [own_carry5, miss6 _ _ 5 _ _ _ _ (0 : Fin 8) r rfl (by decide)]
      rw [own_carry4, miss6 _ _ 4 _ _ _ _ (0 : Fin 8) r rfl (by decide)]
      rw [own_carry3, miss6 _ _ 3 _ _ _ _ (0 : Fin 8) r rfl (by decide)]
      rw [own_carry2, miss6 _ _ 2 _ _ _ _ (0 : Fin 8) r rfl (by decide)]
      rw [own_carry1, miss6 _ _ 1 _ _ _ _ (0 : Fin 8) r rfl (by decide)]
      rw [own_carry0, hit6 _ _ ![0, 0, 0] _ _ _ (0 : Fin 8) r rfl]
      exact carry_diag hQ hK (own_isHead0 c arg2 harg2 x0) (isBlk_read harg3 x1 (0 : Fin 8) _ _ (k0_off1_inb i) (off1_eq i)) (by omega) r _ (zero_carry0 arg6 r)
    | ⟨1, _⟩ =>
      show View.read (Elt Ideal) arg6.view _ (ix3 (1 : Fin 8) r (0 : Fin 1)) = cs (zN x0 x1 (1 : Fin 8) r) _ _ _
      rw [own_carry7, miss6 _ _ 7 _ _ _ _ (1 : Fin 8) r rfl (by decide)]
      rw [own_carry6, miss6 _ _ 6 _ _ _ _ (1 : Fin 8) r rfl (by decide)]
      rw [own_carry5, miss6 _ _ 5 _ _ _ _ (1 : Fin 8) r rfl (by decide)]
      rw [own_carry4, miss6 _ _ 4 _ _ _ _ (1 : Fin 8) r rfl (by decide)]
      rw [own_carry3, miss6 _ _ 3 _ _ _ _ (1 : Fin 8) r rfl (by decide)]
      rw [own_carry2, miss6 _ _ 2 _ _ _ _ (1 : Fin 8) r rfl (by decide)]
      rw [own_carry1, hit6 _ _ ![1, 0, 0] _ _ _ (1 : Fin 8) r rfl]
      exact carry_diag hQ hK (own_isHead1 c arg2 harg2 x0) (isBlk_read harg3 x1 (1 : Fin 8) _ _ (k0_off1_inb i) (off1_eq i)) (by omega) r _ (zero_carry1 c i arg2 harg2 arg3 harg3 arg6 x0 x1 r)
    | ⟨2, _⟩ =>
      show View.read (Elt Ideal) arg6.view _ (ix3 (2 : Fin 8) r (0 : Fin 1)) = cs (zN x0 x1 (2 : Fin 8) r) _ _ _
      rw [own_carry7, miss6 _ _ 7 _ _ _ _ (2 : Fin 8) r rfl (by decide)]
      rw [own_carry6, miss6 _ _ 6 _ _ _ _ (2 : Fin 8) r rfl (by decide)]
      rw [own_carry5, miss6 _ _ 5 _ _ _ _ (2 : Fin 8) r rfl (by decide)]
      rw [own_carry4, miss6 _ _ 4 _ _ _ _ (2 : Fin 8) r rfl (by decide)]
      rw [own_carry3, miss6 _ _ 3 _ _ _ _ (2 : Fin 8) r rfl (by decide)]
      rw [own_carry2, hit6 _ _ ![2, 0, 0] _ _ _ (2 : Fin 8) r rfl]
      exact carry_diag hQ hK (own_isHead2 c arg2 harg2 x0) (isBlk_read harg3 x1 (2 : Fin 8) _ _ (k0_off2_inb i) (off2_eq i)) (by omega) r _ (zero_carry2 c i arg2 harg2 arg3 harg3 arg6 x0 x1 r)
    | ⟨3, _⟩ =>
      show View.read (Elt Ideal) arg6.view _ (ix3 (3 : Fin 8) r (0 : Fin 1)) = cs (zN x0 x1 (3 : Fin 8) r) _ _ _
      rw [own_carry7, miss6 _ _ 7 _ _ _ _ (3 : Fin 8) r rfl (by decide)]
      rw [own_carry6, miss6 _ _ 6 _ _ _ _ (3 : Fin 8) r rfl (by decide)]
      rw [own_carry5, miss6 _ _ 5 _ _ _ _ (3 : Fin 8) r rfl (by decide)]
      rw [own_carry4, miss6 _ _ 4 _ _ _ _ (3 : Fin 8) r rfl (by decide)]
      rw [own_carry3, hit6 _ _ ![3, 0, 0] _ _ _ (3 : Fin 8) r rfl]
      exact carry_diag hQ hK (own_isHead3 c arg2 harg2 x0) (isBlk_read harg3 x1 (3 : Fin 8) _ _ (k0_off2_inb i) (off2_eq i)) (by omega) r _ (zero_carry3 c i arg2 harg2 arg3 harg3 arg6 x0 x1 r)
    | ⟨4, _⟩ =>
      show View.read (Elt Ideal) arg6.view _ (ix3 (4 : Fin 8) r (0 : Fin 1)) = cs (zN x0 x1 (4 : Fin 8) r) _ _ _
      rw [own_carry7, miss6 _ _ 7 _ _ _ _ (4 : Fin 8) r rfl (by decide)]
      rw [own_carry6, miss6 _ _ 6 _ _ _ _ (4 : Fin 8) r rfl (by decide)]
      rw [own_carry5, miss6 _ _ 5 _ _ _ _ (4 : Fin 8) r rfl (by decide)]
      rw [own_carry4, hit6 _ _ ![4, 0, 0] _ _ _ (4 : Fin 8) r rfl]
      exact carry_diag hQ hK (own_isHead4 c arg2 harg2 x0) (isBlk_read harg3 x1 (4 : Fin 8) _ _ (k0_off3_inb i) (off3_eq i)) (by omega) r _ (zero_carry4 c i arg2 harg2 arg3 harg3 arg6 x0 x1 r)
    | ⟨5, _⟩ =>
      show View.read (Elt Ideal) arg6.view _ (ix3 (5 : Fin 8) r (0 : Fin 1)) = cs (zN x0 x1 (5 : Fin 8) r) _ _ _
      rw [own_carry7, miss6 _ _ 7 _ _ _ _ (5 : Fin 8) r rfl (by decide)]
      rw [own_carry6, miss6 _ _ 6 _ _ _ _ (5 : Fin 8) r rfl (by decide)]
      rw [own_carry5, hit6 _ _ ![5, 0, 0] _ _ _ (5 : Fin 8) r rfl]
      exact carry_diag hQ hK (own_isHead5 c arg2 harg2 x0) (isBlk_read harg3 x1 (5 : Fin 8) _ _ (k0_off3_inb i) (off3_eq i)) (by omega) r _ (zero_carry5 c i arg2 harg2 arg3 harg3 arg6 x0 x1 r)
    | ⟨6, _⟩ =>
      show View.read (Elt Ideal) arg6.view _ (ix3 (6 : Fin 8) r (0 : Fin 1)) = cs (zN x0 x1 (6 : Fin 8) r) _ _ _
      rw [own_carry7, miss6 _ _ 7 _ _ _ _ (6 : Fin 8) r rfl (by decide)]
      rw [own_carry6, hit6 _ _ ![6, 0, 0] _ _ _ (6 : Fin 8) r rfl]
      exact carry_diag hQ hK (own_isHead6 c arg2 harg2 x0) (isBlk_read harg3 x1 (6 : Fin 8) _ _ (k0_off4_inb i) (off4_eq i)) (by omega) r _ (zero_carry6 c i arg2 harg2 arg3 harg3 arg6 x0 x1 r)
    | ⟨7, _⟩ =>
      show View.read (Elt Ideal) arg6.view _ (ix3 (7 : Fin 8) r (0 : Fin 1)) = cs (zN x0 x1 (7 : Fin 8) r) _ _ _
      rw [own_carry7, hit6 _ _ ![7, 0, 0] _ _ _ (7 : Fin 8) r rfl]
      exact carry_diag hQ hK (own_isHead7 c arg2 harg2 x0) (isBlk_read harg3 x1 (7 : Fin 8) _ _ (k0_off4_inb i) (off4_eq i)) (by omega) r _ (zero_carry7 c i arg2 harg2 arg3 harg3 arg6 x0 x1 r)
  · match h with
    | ⟨0, _⟩ =>
      show View.read (Elt Ideal) arg7.view _ (ix2 r (lane (0 : Fin 8) d)) = os (zN x0 x1 (0 : Fin 8) r) (vN x2 (0 : Fin 8) d) _ _ _
      rw [own_values3, miss7 _ _ 3 ![0, 384] _ _ _ (0 : Fin 8) r d (by decide) (by decide)]
      rw [own_values2, miss7 _ _ 2 ![0, 256] _ _ _ (0 : Fin 8) r d (by decide) (by decide)]
      rw [own_values1, miss7 _ _ 1 ![0, 128] _ _ _ (0 : Fin 8) r d (by decide) (by decide)]
      rw [own_values0, hit7 _ _ ![0, 0] _ _ _ (0 : Fin 8) r d (by decide)]
      exact (acc_lo _ _ _ (0 : Fin 8) (by decide) r d).trans (values_diag hQ hK (own_isHead0 c arg2 harg2 x0) (isBlk_read harg3 x1 (0 : Fin 8) _ _ (k0_off1_inb i) (off1_eq i))
        (isBlk_read harg4 x2 (0 : Fin 8) _ _ (k0_off1_inb i) (off1_eq i)) (by omega) r _ (zero_carry0 arg6 r) d _ (zero_values0 arg7 r d))
    | ⟨1, _⟩ =>
      show View.read (Elt Ideal) arg7.view _ (ix2 r (lane (1 : Fin 8) d)) = os (zN x0 x1 (1 : Fin 8) r) (vN x2 (1 : Fin 8) d) _ _ _
      rw [own_values3, miss7 _ _ 3 ![0, 384] _ _ _ (1 : Fin 8) r d (by decide) (by decide)]
      rw [own_values2, miss7 _ _ 2 ![0, 256] _ _ _ (1 : Fin 8) r d (by decide) (by decide)]
      rw [own_values1, miss7 _ _ 1 ![0, 128] _ _ _ (1 : Fin 8) r d (by decide) (by decide)]
      rw [own_values0, hit7 _ _ ![0, 0] _ _ _ (1 : Fin 8) r d (by decide)]
      exact (acc_hi _ _ _ (1 : Fin 8) (by decide) r d).trans (values_diag hQ hK (own_isHead1 c arg2 harg2 x0) (isBlk_read harg3 x1 (1 : Fin 8) _ _ (k0_off1_inb i) (off1_eq i))
        (isBlk_read harg4 x2 (1 : Fin 8) _ _ (k0_off1_inb i) (off1_eq i)) (by omega) r _ (zero_carry1 c i arg2 harg2 arg3 harg3 arg6 x0 x1 r) d _ (zero_values1 arg7 r d))
    | ⟨2, _⟩ =>
      show View.read (Elt Ideal) arg7.view _ (ix2 r (lane (2 : Fin 8) d)) = os (zN x0 x1 (2 : Fin 8) r) (vN x2 (2 : Fin 8) d) _ _ _
      rw [own_values3, miss7 _ _ 3 ![0, 384] _ _ _ (2 : Fin 8) r d (by decide) (by decide)]
      rw [own_values2, miss7 _ _ 2 ![0, 256] _ _ _ (2 : Fin 8) r d (by decide) (by decide)]
      rw [own_values1, hit7 _ _ ![0, 128] _ _ _ (2 : Fin 8) r d (by decide)]
      exact (acc_lo _ _ _ (2 : Fin 8) (by decide) r d).trans (values_diag hQ hK (own_isHead2 c arg2 harg2 x0) (isBlk_read harg3 x1 (2 : Fin 8) _ _ (k0_off2_inb i) (off2_eq i))
        (isBlk_read harg4 x2 (2 : Fin 8) _ _ (k0_off2_inb i) (off2_eq i)) (by omega) r _ (zero_carry2 c i arg2 harg2 arg3 harg3 arg6 x0 x1 r) d _ (zero_values2 c i arg2 harg2 arg3 harg3 arg4 harg4 arg6 arg7 x0 x1 x2 r d))
    | ⟨3, _⟩ =>
      show View.read (Elt Ideal) arg7.view _ (ix2 r (lane (3 : Fin 8) d)) = os (zN x0 x1 (3 : Fin 8) r) (vN x2 (3 : Fin 8) d) _ _ _
      rw [own_values3, miss7 _ _ 3 ![0, 384] _ _ _ (3 : Fin 8) r d (by decide) (by decide)]
      rw [own_values2, miss7 _ _ 2 ![0, 256] _ _ _ (3 : Fin 8) r d (by decide) (by decide)]
      rw [own_values1, hit7 _ _ ![0, 128] _ _ _ (3 : Fin 8) r d (by decide)]
      exact (acc_hi _ _ _ (3 : Fin 8) (by decide) r d).trans (values_diag hQ hK (own_isHead3 c arg2 harg2 x0) (isBlk_read harg3 x1 (3 : Fin 8) _ _ (k0_off2_inb i) (off2_eq i))
        (isBlk_read harg4 x2 (3 : Fin 8) _ _ (k0_off2_inb i) (off2_eq i)) (by omega) r _ (zero_carry3 c i arg2 harg2 arg3 harg3 arg6 x0 x1 r) d _ (zero_values3 c i arg2 harg2 arg3 harg3 arg4 harg4 arg6 arg7 x0 x1 x2 r d))
    | ⟨4, _⟩ =>
      show View.read (Elt Ideal) arg7.view _ (ix2 r (lane (4 : Fin 8) d)) = os (zN x0 x1 (4 : Fin 8) r) (vN x2 (4 : Fin 8) d) _ _ _
      rw [own_values3, miss7 _ _ 3 ![0, 384] _ _ _ (4 : Fin 8) r d (by decide) (by decide)]
      rw [own_values2, hit7 _ _ ![0, 256] _ _ _ (4 : Fin 8) r d (by decide)]
      exact (acc_lo _ _ _ (4 : Fin 8) (by decide) r d).trans (values_diag hQ hK (own_isHead4 c arg2 harg2 x0) (isBlk_read harg3 x1 (4 : Fin 8) _ _ (k0_off3_inb i) (off3_eq i))
        (isBlk_read harg4 x2 (4 : Fin 8) _ _ (k0_off3_inb i) (off3_eq i)) (by omega) r _ (zero_carry4 c i arg2 harg2 arg3 harg3 arg6 x0 x1 r) d _ (zero_values4 c i arg2 harg2 arg3 harg3 arg4 harg4 arg6 arg7 x0 x1 x2 r d))
    | ⟨5, _⟩ =>
      show View.read (Elt Ideal) arg7.view _ (ix2 r (lane (5 : Fin 8) d)) = os (zN x0 x1 (5 : Fin 8) r) (vN x2 (5 : Fin 8) d) _ _ _
      rw [own_values3, miss7 _ _ 3 ![0, 384] _ _ _ (5 : Fin 8) r d (by decide) (by decide)]
      rw [own_values2, hit7 _ _ ![0, 256] _ _ _ (5 : Fin 8) r d (by decide)]
      exact (acc_hi _ _ _ (5 : Fin 8) (by decide) r d).trans (values_diag hQ hK (own_isHead5 c arg2 harg2 x0) (isBlk_read harg3 x1 (5 : Fin 8) _ _ (k0_off3_inb i) (off3_eq i))
        (isBlk_read harg4 x2 (5 : Fin 8) _ _ (k0_off3_inb i) (off3_eq i)) (by omega) r _ (zero_carry5 c i arg2 harg2 arg3 harg3 arg6 x0 x1 r) d _ (zero_values5 c i arg2 harg2 arg3 harg3 arg4 harg4 arg6 arg7 x0 x1 x2 r d))
    | ⟨6, _⟩ =>
      show View.read (Elt Ideal) arg7.view _ (ix2 r (lane (6 : Fin 8) d)) = os (zN x0 x1 (6 : Fin 8) r) (vN x2 (6 : Fin 8) d) _ _ _
      rw [own_values3, hit7 _ _ ![0, 384] _ _ _ (6 : Fin 8) r d (by decide)]
      exact (acc_lo _ _ _ (6 : Fin 8) (by decide) r d).trans (values_diag hQ hK (own_isHead6 c arg2 harg2 x0) (isBlk_read harg3 x1 (6 : Fin 8) _ _ (k0_off4_inb i) (off4_eq i))
        (isBlk_read harg4 x2 (6 : Fin 8) _ _ (k0_off4_inb i) (off4_eq i)) (by omega) r _ (zero_carry6 c i arg2 harg2 arg3 harg3 arg6 x0 x1 r) d _ (zero_values6 c i arg2 harg2 arg3 harg3 arg4 harg4 arg6 arg7 x0 x1 x2 r d))
    | ⟨7, _⟩ =>
      show View.read (Elt Ideal) arg7.view _ (ix2 r (lane (7 : Fin 8) d)) = os (zN x0 x1 (7 : Fin 8) r) (vN x2 (7 : Fin 8) d) _ _ _
      rw [own_values3, hit7 _ _ ![0, 384] _ _ _ (7 : Fin 8) r d (by decide)]
      exact (acc_hi _ _ _ (7 : Fin 8) (by decide) r d).trans (values_diag hQ hK (own_isHead7 c arg2 harg2 x0) (isBlk_read harg3 x1 (7 : Fin 8) _ _ (k0_off4_inb i) (off4_eq i))
        (isBlk_read harg4 x2 (7 : Fin 8) _ _ (k0_off4_inb i) (off4_eq i)) (by omega) r _ (zero_carry7 c i arg2 harg2 arg3 harg3 arg6 x0 x1 r) d _ (zero_values7 c i arg2 harg2 arg3 harg3 arg4 harg4 arg6 arg7 x0 x1 x2 r d))

end Cert.Proof.SB
-- ==== Proof.SbValue.lean ====
/-
  What the kernel's call leaves in its output array: for every batch, head, query and lane the weighted values
  of the keys before the query.
-/
module

public import proofs.«01_k».proof.Proof.SbStart

@[expose] public section

set_option maxRecDepth 16384

noncomputable section

open Idealize.ShloMosaic Idealize.ShloMosaic.ValueIdx Idealize.SL.Sem Cert.KernelIdeal Cert.KernelIdeal.Gen

namespace Cert.Proof.SB

/-- One store of a whole output block, read back. -/
theorem whole_read {sp : Space} {κ : Kind} (v : View sig κ sp S1x256x512 .f32) (f : v.ty.Contents (Elt Ideal)) (A : Vec Ideal S256x512 .f32)
    (r : Fin 256) (l : Fin 512) :
    v.read (Elt Ideal) (v.writes (Elt Ideal) f
      [⟨Rect.unit (s := S1x256x512) ![0, 0, 0] ![1, 256, 512] inb_S1x256x512_S1x256x512_0_0_0, k0_pay2 A⟩]) (ix3 (0 : Fin 1) r l) = A (ix2 r l) := by
  refine (View.read_writes_cons_unit_of_mem v f inb_S1x256x512_S1x256x512_0_0_0 (k0_pay2 A) [] _ (ix3 (0 : Fin 1) r l) rfl (fun a => by
    match a with
    | ⟨0, _⟩ => rfl
    | ⟨1, _⟩ => show r.val = 0 + r.val; omega
    | ⟨2, _⟩ => show l.val = 0 + l.val; omega)).trans ?_
  unfold k0_pay2
  refine (shapeCast_addUnit_apply ![256, 512] _ _ (ix3 (0 : Fin 1) r l)).trans (congrArg A ?_)
  funext a; match a with | ⟨0, _⟩ => rfl | ⟨1, _⟩ => rfl

section Point

variable (c : Dev nD) (i : grid0.Coords)
  (arg2 : Memref sig .tc .vmem S1x256x512 .bf16) (harg2 : arg2.IsWhole) (arg3 : Memref sig .tc .vmem S1x8192x512 .bf16)
  (harg3 : arg3.IsWhole) (arg4 : Memref sig .tc .vmem S1x8192x512 .bf16) (harg4 : arg4.IsWhole)
  (arg5 : Memref sig .tc .vmem S1x256x512 .f32) (harg5 : arg5.IsWhole)
  (arg6 : Memref sig .tc .vmem S8x256x1 .f32) (harg6 : arg6.IsWhole) (arg7 : Memref sig .tc .vmem S256x512 .f32) (harg7 : arg7.IsWhole)
  (x0 : Vec Ideal S1x256x512 .bf16) (x1 x2 : Vec Ideal S1x8192x512 .bf16)

/-- The one store of a grid point to the output: the accumulator, as last left. -/
theorem run_pieces : (kernelRun0_A (F := Ideal) c i arg2 harg2 arg3 harg3 arg4 harg4 arg5 harg5 arg6 harg6 arg7 harg7 x0 x1 x2).1
    = [⟨Rect.unit (s := S1x256x512) ![0, 0, 0] ![1, 256, 512] inb_S1x256x512_S1x256x512_0_0_0, k0_pay2 (kernelRun0_A.sl.v448 c i arg2 harg2 arg3 harg3 arg4 harg4 arg5 harg5 arg6 harg6 arg7 harg7 x0 x1 x2)⟩] := by
  unfold kernelRun0_A
  rfl

/-- The accumulator as last left: all blocks taken in. -/
theorem last_acc (hQ : ∀ i, ∃ x : ℝ, x0 i = x) (hK : ∀ i, ∃ x : ℝ, x1 i = x) (h : Fin 8) (r : Fin 256) (d : Fin 64) :
    (kernelRun0_A.sl.v448 c i arg2 harg2 arg3 harg3 arg4 harg4 arg5 harg5 arg6 harg6 arg7 harg7 x0 x1 x2 : Vec Ideal S256x512 .f32) (ix2 r (lane h d))
      = os (zN x0 x1 h r) (vN x2 h d) (256 * (i 1).val + r.val) 0 8192 := by
  have hs := (loop_sums hQ hK Variants.none c none i arg2 harg2 arg3 harg3 arg4 harg4 arg5 harg5 arg6 harg6 arg7 harg7 (BitVec.ofNat 32 (i 1).val)
    k0_pay131 (kernelRun0_A.sl.r c arg2 harg2 x0) (kernelRun0_A.sl.r_1 c arg2 harg2 x0) (kernelRun0_A.sl.r_2 c arg2 harg2 x0) (kernelRun0_A.sl.r_3 c arg2 harg2 x0) (kernelRun0_A.sl.r_4 c arg2 harg2 x0) (kernelRun0_A.sl.r_5 c arg2 harg2 x0) (kernelRun0_A.sl.r_7 c arg2 harg2 x0) (kernelRun0_A.sl.r_8 c arg2 harg2 x0) k0_pay147 (harg3.unread x1) (harg4.unread x2) _ _ 0#32 rfl rfl (own_isHead0 c arg2 harg2 x0) (own_isHead1 c arg2 harg2 x0) (own_isHead2 c arg2 harg2 x0) (own_isHead3 c arg2 harg2 x0) (own_isHead4 c arg2 harg2 x0) (own_isHead5 c arg2 harg2 x0) (own_isHead6 c arg2 harg2 x0) (own_isHead7 c arg2 harg2 x0) (harg3.read_unread x1) (harg4.read_unread x2)
    (own_sums c i arg2 harg2 arg3 harg3 arg4 harg4 arg6 arg7 x0 x1 x2 hQ hK) (i 1).val le_rfl).acc h r d
  rw [Nat.sub_self, Nat.mul_zero, ← View.writes_append] at hs
  refine Eq.trans ?_ hs
  unfold kernelRun0_A.sl.v448
  rw [show Scf.trips (k0_t2_loop i).lb (k0_t2_loop i).ub (k0_t2_loop i).st = 0 from t2_trips i,
    show Scf.trips (k0_t1_loop i).lb (k0_t1_loop i).ub (k0_t1_loop i).st = (i 1).val from t1_trips i]
  refine congrArg (arg7.view.read (Elt Ideal) _) (funext fun a => Fin.ext ?_)
  match a with
  | ⟨0, _⟩ => show 0 + 1 * r.val = r.val; omega
  | ⟨1, _⟩ => show 0 + 1 * (lane h d).val = (lane h d).val; omega

/-- What a grid point leaves in the output's staging buffer. -/
theorem out_apply (hQ : ∀ i, ∃ x : ℝ, x0 i = x) (hK : ∀ i, ∃ x : ℝ, x1 i = x) (h : Fin 8) (r : Fin 256) (d : Fin 64) :
    out0_A_3 (F := Ideal) c i arg2 harg2 arg3 harg3 arg4 harg4 arg5 harg5 arg6 harg6 arg7 harg7 x0 x1 x2 (ix3 (0 : Fin 1) r (lane h d))
      = os (zN x0 x1 h r) (vN x2 h d) (256 * (i 1).val + r.val) 0 8192 := by
  have e := last_acc c i arg2 harg2 arg3 harg3 arg4 harg4 arg5 harg5 arg6 harg6 arg7 harg7 x0 x1 x2 hQ hK h r d
  unfold out0_A_3
  rw [run_pieces]
  generalize kernelRun0_A.sl.v448 (F := Ideal) c i arg2 harg2 arg3 harg3 arg4 harg4 arg5 harg5 arg6 harg6 arg7 harg7 x0 x1 x2 = A at e ⊢
  exact (whole_read VO0_3 VO0_3.junk A r (lane h d)).trans e

end Point

/-! ## Over the grid -/

/-- Query `t`'s score with key `s`, for batch `b` and head `h`. -/
def zG (Q K : Vec Ideal S4x8192x512 .bf16) (b : Fin 4) (h : Fin 8) (t : Fin 8192) (s : ℕ) : EReal :=
  if hs : s < 8192 then ∑ d : Fin 64, Q (ix3 b t (lane h d)) * K (ix3 b (⟨s, hs⟩ : Fin 8192) (lane h d)) else 0

/-- Lane `d` of key `s`'s value, for batch `b` and head `h`. -/
def vG (V : Vec Ideal S4x8192x512 .bf16) (b : Fin 4) (h : Fin 8) (d : Fin 64) (s : ℕ) : EReal :=
  if hs : s < 8192 then V (ix3 b (⟨s, hs⟩ : Fin 8192) (lane h d)) else 0

theorem rect0_off : ∀ t : Fin grid0.N, (win0_0.rect t).off = ![((grid0.coords t) 0).val, 256 * ((grid0.coords t) 1).val, 0] := by decide +kernel
theorem rect1_off : ∀ t : Fin grid0.N, (win0_1.rect t).off = ![((grid0.coords t) 0).val, 0, 0] := by decide +kernel
theorem rect2_off : ∀ t : Fin grid0.N, (win0_2.rect t).off = ![((grid0.coords t) 0).val, 0, 0] := by decide +kernel
theorem rect3_off : ∀ t : Fin grid0.N, (win0_3.rect t).off = ![((grid0.coords t) 0).val, 256 * ((grid0.coords t) 1).val, 0] := by decide +kernel
theorem flush3 : ∀ t : Fin grid0.N, win0_3.flush t = true := by decide +kernel

/-- The grid point of batch `b` and query tile `j`. -/
def pointOf (b : Fin 4) (j : Fin 32) : Fin cfg0.N := ⟨32 * b.val + j.val, by show _ < 128; omega⟩

theorem pointOf_coords : ∀ (b : Fin 4) (j : Fin 32),
    ((grid0.coords (pointOf b j)) 0).val = b.val ∧ ((grid0.coords (pointOf b j)) 1).val = j.val := by decide +kernel

variable (m : (ℓ : Loc nD τ sig) → Buf (Elt Ideal) ℓ) (c : Dev nD)

/-- The queries as launched. -/
def argQ : Vec Ideal S4x8192x512 .bf16 := m ((c.tc).loc main_arg0)
/-- The keys as launched. -/
def argK : Vec Ideal S4x8192x512 .bf16 := m ((c.tc).loc main_arg1)
/-- The values as launched. -/
def argV : Vec Ideal S4x8192x512 .bf16 := m ((c.tc).loc main_arg2)

/-- The query block of a grid point, as rows of the whole array. -/
theorem iblk0_apply (t : Fin cfg0.N) (b : Fin 4) (j : Fin 32) (hb : ((grid0.coords t) 0).val = b.val) (hj : ((grid0.coords t) 1).val = j.val)
    (r : Fin 256) (l : Fin 512) :
    (iblk m c 0 t : Vec Ideal S1x256x512 .bf16) (ix3 (0 : Fin 1) r l)
      = argQ m c (ix3 b (⟨256 * j.val + r.val, by omega⟩ : Fin 8192) l) := by
  refine congrArg (argQ m c) (funext fun a => Fin.ext ?_)
  have e := rect0_off t
  match a with
  | ⟨0, _⟩ => show (win0_0.rect t).off (0 : Fin 3) + 1 * 0 = b.val; rw [e]; exact hb
  | ⟨1, _⟩ => show (win0_0.rect t).off (1 : Fin 3) + 1 * r.val = 256 * j.val + r.val; rw [e, ← hj]; show 256 * _ + 1 * r.val = _; omega
  | ⟨2, _⟩ => show (win0_0.rect t).off (2 : Fin 3) + 1 * l.val = l.val; rw [e]; show 0 + 1 * l.val = l.val; omega

/-- The keys of a grid point are those of its batch. -/
theorem iblk1_apply (t : Fin cfg0.N) (b : Fin 4) (hb : ((grid0.coords t) 0).val = b.val) (s : Fin 8192) (l : Fin 512) :
    (iblk m c 1 t : Vec Ideal S1x8192x512 .bf16) (ix3 (0 : Fin 1) s l)
      = argK m c (ix3 b s l) := by
  refine congrArg (argK m c) (funext fun a => Fin.ext ?_)
  have e := rect1_off t
  match a with
  | ⟨0, _⟩ => show (win0_1.rect t).off (0 : Fin 3) + 1 * 0 = b.val; rw [e]; exact hb
  | ⟨1, _⟩ => show (win0_1.rect t).off (1 : Fin 3) + 1 * s.val = s.val; rw [e]; show 0 + 1 * s.val = s.val; omega
  | ⟨2, _⟩ => show (win0_1.rect t).off (2 : Fin 3) + 1 * l.val = l.val; rw [e]; show 0 + 1 * l.val = l.val; omega

/-- The values of a grid point are those of its batch. -/
theorem iblk2_apply (t : Fin cfg0.N) (b : Fin 4) (hb : ((grid0.coords t) 0).val = b.val) (s : Fin 8192) (l : Fin 512) :
    (iblk m c 2 t : Vec Ideal S1x8192x512 .bf16) (ix3 (0 : Fin 1) s l)
      = argV m c (ix3 b s l) := by
  refine congrArg (argV m c) (funext fun a => Fin.ext ?_)
  have e := rect2_off t
  match a with
  | ⟨0, _⟩ => show (win0_2.rect t).off (0 : Fin 3) + 1 * 0 = b.val; rw [e]; exact hb
  | ⟨1, _⟩ => show (win0_2.rect t).off (1 : Fin 3) + 1 * s.val = s.val; rw [e]; show 0 + 1 * s.val = s.val; omega
  | ⟨2, _⟩ => show (win0_2.rect t).off (2 : Fin 3) + 1 * l.val = l.val; rw [e]; show 0 + 1 * l.val = l.val; omega

/-- The stick-breaking attention: for every batch, head, query and lane the weighted values of the keys before the query. -/
def G (Q K V : Vec Ideal S4x8192x512 .bf16) : Vec Ideal S4x8192x512 .f32 := fun y =>
  os (zG Q K (y 0) (⟨(y 2).val / 64, by have : (y 2).val < 512 := (y 2).isLt; omega⟩ : Fin 8) (y 1))
    (vG V (y 0) (⟨(y 2).val / 64, by have : (y 2).val < 512 := (y 2).isLt; omega⟩ : Fin 8) (⟨(y 2).val % 64, by omega⟩ : Fin 64))
    (y 1).val 0 8192

theorem G_apply (Q K V : Vec Ideal S4x8192x512 .bf16) (b : Fin 4) (t : Fin 8192) (h : Fin 8) (d : Fin 64) :
    G Q K V (ix3 b t (lane h d)) = os (zG Q K b h t) (vG V b h d) t.val 0 8192 := by
  have e1 : (⟨(64 * h.val + d.val) / 64, by omega⟩ : Fin 8) = h := Fin.ext (by show (64 * h.val + d.val) / 64 = h.val; omega)
  have e2 : (⟨(64 * h.val + d.val) % 64, by omega⟩ : Fin 64) = d := Fin.ext (by show (64 * h.val + d.val) % 64 = d.val; omega)
  show os (zG Q K b (⟨(64 * h.val + d.val) / 64, _⟩ : Fin 8) t) (vG V b (⟨(64 * h.val + d.val) / 64, _⟩ : Fin 8) (⟨(64 * h.val + d.val) % 64, _⟩ : Fin 64)) t.val 0 8192 = _
  rw [e1, e2]

/-- Every lane is a head's lane. -/
theorem lane_of (l : Fin 512) : ∃ (h : Fin 8) (d : Fin 64), l = lane h d :=
  ⟨⟨l.val / 64, by omega⟩, ⟨l.val % 64, by omega⟩, Fin.ext (by show l.val = 64 * (l.val / 64) + l.val % 64; omega)⟩

/-- The queries of a grid point are real where the launched ones are. -/
theorem iblk0_real (hQ : ∀ i, ∃ x : ℝ, argQ m c i = (x : EReal)) (b : Fin 4) (j : Fin 32) (i : S1x256x512.Idx) :
    ∃ x : ℝ, (iblk m c 0 (pointOf b j) : Vec Ideal S1x256x512 .bf16) i = (x : EReal) := by
  obtain ⟨z, r, l, rfl⟩ : ∃ (z : Fin 1) (r : Fin 256) (l : Fin 512), i = ix3 z r l := ⟨_, _, _, eq_ix3 i⟩
  obtain rfl := Subsingleton.elim z 0
  rw [iblk0_apply m c _ b j (pointOf_coords b j).1 (pointOf_coords b j).2]; exact hQ _

/-- The keys of a grid point are real where the launched ones are. -/
theorem iblk1_real (hK : ∀ i, ∃ x : ℝ, argK m c i = (x : EReal)) (b : Fin 4) (j : Fin 32) (i : S1x8192x512.Idx) :
    ∃ x : ℝ, (iblk m c 1 (pointOf b j) : Vec Ideal S1x8192x512 .bf16) i = (x : EReal) := by
  obtain ⟨z, r, l, rfl⟩ : ∃ (z : Fin 1) (r : Fin 8192) (l : Fin 512), i = ix3 z r l := ⟨_, _, _, eq_ix3 i⟩
  obtain rfl := Subsingleton.elim z 0
  rw [iblk1_apply m c _ b (pointOf_coords b j).1]; exact hK _

/-- The scores of a grid point are those of its batch and query. -/
theorem scores_eq (b : Fin 4) (j : Fin 32) (h : Fin 8) (r : Fin 256) :
    zN (iblk m c 0 (pointOf b j)) (iblk m c 1 (pointOf b j)) h r
      = zG (argQ m c) (argK m c) b h (⟨256 * j.val + r.val, by omega⟩ : Fin 8192) := by
  funext s
  unfold zN zG
  split
  · refine Finset.sum_congr rfl fun d _ => ?_
    rw [iblk0_apply m c _ b j (pointOf_coords b j).1 (pointOf_coords b j).2, iblk1_apply m c _ b (pointOf_coords b j).1]
  · rfl

/-- The values of a grid point are those of its batch. -/
theorem values_eq (b : Fin 4) (j : Fin 32) (h : Fin 8) (d : Fin 64) : vN (iblk m c 2 (pointOf b j)) h d = vG (argV m c) b h d := by
  funext s
  unfold vN vG
  split
  · rw [iblk2_apply m c _ b (pointOf_coords b j).1]
  · rfl

/-- What a grid point leaves is its block of the stick-breaking attention. -/
theorem point_eq (hQ : ∀ i, ∃ x : ℝ, argQ m c i = (x : EReal)) (hK : ∀ i, ∃ x : ℝ, argK m c i = (x : EReal)) (b : Fin 4) (j : Fin 32)
    (r : Fin 256) (h : Fin 8) (d : Fin 64) :
    outsAt0 m c (pointOf b j) (ix3 (0 : Fin 1) r (lane h d))
      = G (argQ m c) (argK m c) (argV m c) (ix3 b (⟨256 * j.val + r.val, by omega⟩ : Fin 8192) (lane h d)) := by
  have e := out_apply c (grid0.coords (pointOf b j)) (ms0_0 (pointOf b j)) (hs0_0 (pointOf b j)) (ms0_1 (pointOf b j)) (hs0_1 (pointOf b j))
    (ms0_2 (pointOf b j)) (hs0_2 (pointOf b j)) (ms0_3 (pointOf b j)) (hs0_3 (pointOf b j)) scM0_0 (Memref.isWhole_whole _) scM0_1
    (Memref.isWhole_whole _) (iblk m c 0 (pointOf b j)) (iblk m c 1 (pointOf b j)) (iblk m c 2 (pointOf b j))
    (iblk0_real m c hQ b j) (iblk1_real m c hK b j) h r d
  rw [scores_eq, values_eq, (pointOf_coords b j).2] at e
  rw [G_apply]
  exact e

/-- Where a grid point's block lies in the output array. -/
theorem place_eq (b : Fin 4) (j : Fin 32) (r : Fin 256) (l : Fin 512) :
    (win0_3.rect (pointOf b j)).emb (ix3 (0 : Fin 1) r l) = ix3 b (⟨256 * j.val + r.val, by omega⟩ : Fin 8192) l := by
  have e := rect3_off (pointOf b j)
  obtain ⟨hb, hj⟩ := pointOf_coords b j
  refine funext fun a => Fin.ext ?_
  match a with
  | ⟨0, _⟩ => show (win0_3.rect (pointOf b j)).off (0 : Fin 3) + 1 * 0 = b.val; rw [e]; exact hb
  | ⟨1, _⟩ => show (win0_3.rect (pointOf b j)).off (1 : Fin 3) + 1 * r.val = 256 * j.val + r.val; rw [e, ← hj]; show 256 * _ + 1 * r.val = _; omega
  | ⟨2, _⟩ => show (win0_3.rect (pointOf b j)).off (2 : Fin 3) + 1 * l.val = l.val; rw [e]; show 0 + 1 * l.val = _; omega

/-- The output array as the call leaves it. -/
def outArr : Vec Ideal S4x8192x512 .f32 := (dats m 0 c).arrAt 3 cfg0.N

/-- A grid point's block of the output array is what the point left. -/
theorem block_eq (b : Fin 4) (j : Fin 32) (r : Fin 256) (l : Fin 512) :
    outArr m c (ix3 b (⟨256 * j.val + r.val, by omega⟩ : Fin 8192) l) = outsAt0 m c (pointOf b j) (ix3 (0 : Fin 1) r l) := by
  rw [← place_eq]
  have e := congrFun (Cert.KernelIdeal.Value.blocks3 m c (pointOf b j) (flush3 _)) (ix3 (0 : Fin 1) r l)
  rw [Cert.KernelIdeal.Value.flushed3] at e
  exact e

/-- With real queries and keys the call leaves the stick-breaking attention of its arguments. -/
theorem final_eq (hQ : ∀ i, ∃ x : ℝ, argQ m c i = (x : EReal)) (hK : ∀ i, ∃ x : ℝ, argK m c i = (x : EReal)) :
    outArr m c = G (argQ m c) (argK m c) (argV m c) := by
  funext y
  obtain ⟨b, q, l, rfl⟩ : ∃ (b : Fin 4) (q : Fin 8192) (l : Fin 512), y = ix3 b q l := ⟨_, _, _, eq_ix3 y⟩
  obtain ⟨h, d, rfl⟩ := lane_of l
  obtain ⟨j, r, rfl⟩ : ∃ (j : Fin 32) (r : Fin 256), q = (⟨256 * j.val + r.val, by omega⟩ : Fin 8192) :=
    ⟨⟨q.val / 256, by omega⟩, ⟨q.val % 256, by omega⟩, Fin.ext (by show q.val = 256 * (q.val / 256) + q.val % 256; omega)⟩
  rw [block_eq, point_eq m c hQ hK]

end Cert.Proof.SB
-- ==== Proof.SbRef.lean ====
/-
  What the reference computes, element by element: the same weighted values of the keys before the query.
-/
module

public import proofs.«01_k».proof.Proof.SbValue
public import proofs.«01_k».proof.Proof.Gen.ReferenceIdeal.Read

@[expose] public section

set_option maxRecDepth 16384

noncomputable section

open Idealize.ShloMosaic Idealize.ShloMosaic.ValueIdx Idealize.SL.Sem Cert.ReferenceIdeal Cert.ReferenceIdeal.Gen Cert.ReferenceIdeal.Read

namespace Cert.Proof.SB

/-! ## The running sum from the right -/

/-- Adding along a list from a start. -/
theorem foldl_add_map {ι : Type} (l : List ι) (g : ι → EReal) (v : EReal) : l.foldl (fun r n => r + g n) v = v + (l.map g).sum := by
  induction l generalizing v with
  | nil => simp
  | cons a l ih => rw [List.foldl_cons, ih, List.map_cons, List.sum_cons, add_assoc]

/-- The window of the running sum: one row of 8192 places. -/
abbrev Win : Shape := ⟨4, ![1, 1, 1, 8192]⟩

/-- The places of the window, counted by their last coordinate. -/
def winEquiv : Win.Idx ≃ Fin 8192 where
  toFun i := i 3
  invFun k := ix4 (0 : Fin 1) (0 : Fin 1) (0 : Fin 1) k
  left_inv i := funext fun a => Fin.ext (by
    match a with
    | ⟨0, _⟩ => have h : (i 0).val < 1 := (i 0).isLt; show 0 = (i 0).val; omega
    | ⟨1, _⟩ => have h : (i 1).val < 1 := (i 1).isLt; show 0 = (i 1).val; omega
    | ⟨2, _⟩ => have h : (i 2).val < 1 := (i 2).isLt; show 0 = (i 2).val; omega
    | ⟨3, _⟩ => rfl)
  right_inv _ := rfl

/-- A sum over the places shifted by `s`, those past the end left out, is the sum from `s` on. -/
theorem sum_shift (f : ℕ → EReal) (s : ℕ) (hs : s < 8192) :
    ∑ k : Fin 8192, (if s + k.val < 8192 then f (s + k.val) else 0) = ∑ k ∈ Finset.Ico s 8192, f k := by
  rw [Fin.sum_univ_eq_sum_range (fun k => if s + k < 8192 then f (s + k) else 0) 8192, Finset.sum_Ico_eq_sum_range]
  rw [← Finset.sum_subset (s₁ := Finset.range (8192 - s)) (s₂ := Finset.range 8192)]
  · refine Finset.sum_congr rfl fun k hk => if_pos ?_
    have := Finset.mem_range.mp hk; omega
  · intro k hk; have := Finset.mem_range.mp hk; exact Finset.mem_range.mpr (by omega)
  · intro k _ hk
    refine if_neg ?_
    have : ¬ k < 8192 - s := fun h => hk (Finset.mem_range.mpr h)
    omega

/-- The running sum from the right over the last axis: at `s` everything from `s` on, added. -/
theorem cumsum_apply (x : Vec Ideal S4x8x8192x8192 .f32) (v : Vec Ideal S_ .f32) (hv : ∀ i, v i = (0 : EReal)) (b : Fin 4) (h : Fin 8)
    (t s : Fin 8192) (f : ℕ → EReal) (hf : ∀ k : Fin 8192, x (ix4 b h t k) = f k.val) :
    Host.reduceWindowAdd (F := Ideal) (φ := .f32) ![1, 1, 1, 8192] ![1, 1, 1, 1] ![0, 0, 0, 0] ![0, 0, 0, 8191] x v
      reduceWindows_S4x8x8192x8192_S4x8x8192x8192_w1s1p0_0_w1s1p0_0_w1s1p0_0_w8192s1p0_8191 h_S_ (ix4 b h t s)
      = ∑ k ∈ Finset.Ico s.val 8192, f k := by
  unfold Host.reduceWindowAdd
  rw [Ideal.hostReduceWindowAdd_def, hv]
  unfold Ideal.hostReduceWindowAdd Host.reduceWindow
  refine (foldl_add_map _ _ _).trans ?_
  rw [zero_add, ← Fin.sum_univ_def]
  refine Eq.trans (?_ : _ = ∑ k : Fin 8192, (if s.val + k.val < 8192 then f (s.val + k.val) else 0)) (sum_shift f s.val s.isLt)
  refine Fintype.sum_equiv (Win.rowMajor.symm.trans winEquiv) _ _ fun n => ?_
  have hv : ∀ a, ((Win.rowMajor.symm n) a).val < (![1, 1, 1, 8192] : Fin 4 → ℕ) a := fun a => ((Win.rowMajor.symm n) a).isLt
  have h0 : ((Win.rowMajor.symm n) 0).val < 1 := hv 0
  have h1 : ((Win.rowMajor.symm n) 1).val < 1 := hv 1
  have h2 : ((Win.rowMajor.symm n) 2).val < 1 := hv 2
  show _ = if s.val + ((Win.rowMajor.symm n) 3).val < 8192 then f (s.val + ((Win.rowMajor.symm n) 3).val) else 0
  split
  · next hin =>
    have hk : s.val * 1 + ((Win.rowMajor.symm n) 3).val - 0 < 8192 := (hin 3).2
    rw [if_pos (by omega)]
    refine (congrArg x (funext fun a => Fin.ext ?_)).trans (hf ⟨s.val + ((Win.rowMajor.symm n) 3).val, by omega⟩)
    match a with
    | ⟨0, _⟩ => show b.val * 1 + ((Win.rowMajor.symm n) 0).val - 0 = b.val; omega
    | ⟨1, _⟩ => show h.val * 1 + ((Win.rowMajor.symm n) 1).val - 0 = h.val; omega
    | ⟨2, _⟩ => show t.val * 1 + ((Win.rowMajor.symm n) 2).val - 0 = t.val; omega
    | ⟨3, _⟩ => show s.val * 1 + ((Win.rowMajor.symm n) 3).val - 0 = s.val + ((Win.rowMajor.symm n) 3).val; omega
  · next hin =>
    refine (if_neg fun hlt => hin fun a => ?_).symm
    match a with
    | ⟨0, _⟩ => exact ⟨Nat.zero_le _, show b.val * 1 + ((Win.rowMajor.symm n) 0).val - 0 < 4 by omega⟩
    | ⟨1, _⟩ => exact ⟨Nat.zero_le _, show h.val * 1 + ((Win.rowMajor.symm n) 1).val - 0 < 8 by omega⟩
    | ⟨2, _⟩ => exact ⟨Nat.zero_le _, show t.val * 1 + ((Win.rowMajor.symm n) 2).val - 0 < 8192 by omega⟩
    | ⟨3, _⟩ => exact ⟨Nat.zero_le _, show s.val * 1 + ((Win.rowMajor.symm n) 3).val - 0 < 8192 by omega⟩

/-! ## One element at a time -/

section Elements
variable (Q K V : Vec Ideal S4x8192x512 .bf16) (b : Fin 4) (h : Fin 8) (t : Fin 8192)

/-- The scores. -/
theorem score_apply (s : Fin 8192) : val_main_v7 (F := Ideal) Q K (ix4 b h t s) = zG Q K b h t s.val := by
  rw [val_main_v7_apply, zG, dif_pos s.isLt]
  refine Finset.sum_congr rfl fun d _ => ?_
  rw [val_main_v1_apply, val_main_v3_apply]
  refine congrArg₂ (fun a b : EReal => a * b) (congrArg Q (funext fun a => Fin.ext ?_)) (congrArg K (funext fun a => Fin.ext ?_))
  · match a with
    | ⟨0, _⟩ => show (((b.val * 8192 + t.val) * 8 + h.val) * 64 + d.val) / 4194304 = b.val; omega
    | ⟨1, _⟩ => show (((b.val * 8192 + t.val) * 8 + h.val) * 64 + d.val) / 512 % 8192 = t.val; omega
    | ⟨2, _⟩ => show (((b.val * 8192 + t.val) * 8 + h.val) * 64 + d.val) % 512 = 64 * h.val + d.val; omega
  · match a with
    | ⟨0, _⟩ => show (((b.val * 8192 + s.val) * 8 + h.val) * 64 + d.val) / 4194304 = b.val; omega
    | ⟨1, _⟩ => show (((b.val * 8192 + s.val) * 8 + h.val) * 64 + d.val) / 512 % 8192 = s.val; omega
    | ⟨2, _⟩ => show (((b.val * 8192 + s.val) * 8 + h.val) * 64 + d.val) % 512 = 64 * h.val + d.val; omega

/-- The values, a head's lanes apart. -/
theorem value_apply (s : Fin 8192) (d : Fin 64) : val_main_v5 (F := Ideal) V (ix4 b s h d) = vG V b h d s.val := by
  rw [val_main_v5_apply, vG, dif_pos s.isLt]
  refine congrArg V (funext fun a => Fin.ext ?_)
  match a with
  | ⟨0, _⟩ => show (((b.val * 8192 + s.val) * 8 + h.val) * 64 + d.val) / 4194304 = b.val; omega
  | ⟨1, _⟩ => show (((b.val * 8192 + s.val) * 8 + h.val) * 64 + d.val) / 512 % 8192 = s.val; omega
  | ⟨2, _⟩ => show (((b.val * 8192 + s.val) * 8 + h.val) * 64 + d.val) % 512 = 64 * h.val + d.val; omega

/-- The mask: the key comes before the query. -/
theorem earlier_apply (s : Fin 8192) : val_main_v13 (F := Ideal) (ix4 (0 : Fin 1) (0 : Fin 1) t s) = BitVec.ofBool (decide (s.val < t.val)) := by
  rw [val_main_v13_apply, val_main_v12_apply, val_main_v10_apply, val_main_v11_apply, val_main_v8_apply, val_main_v9_apply]
  rw [val_main_v6_apply, val_main_v6_apply]
  exact WordCmp.cmpi_slt_ofNat (show s.val < 2 ^ 31 by omega) (show t.val < 2 ^ 31 by omega)

/-- The mask, laid over batches and heads. -/
theorem mask1_apply (s : Fin 8192) : val_main_call1_v1 (F := Ideal) (ix4 b h t s) = BitVec.ofBool (decide (s.val < t.val)) := by
  rw [val_main_call1_v1_apply, ← earlier_apply t s]
  exact congrArg _ (funext fun a => Fin.ext (by match a with | ⟨0, _⟩ => rfl | ⟨1, _⟩ => rfl | ⟨2, _⟩ => rfl | ⟨3, _⟩ => rfl))

/-- The same mask again. -/
theorem mask4_apply (s : Fin 8192) : val_main_call4_v1 (F := Ideal) (ix4 b h t s) = BitVec.ofBool (decide (s.val < t.val)) := by
  rw [val_main_call4_v1_apply, ← earlier_apply t s]
  exact congrArg _ (funext fun a => Fin.ext (by match a with | ⟨0, _⟩ => rfl | ⟨1, _⟩ => rfl | ⟨2, _⟩ => rfl | ⟨3, _⟩ => rfl))

end Elements

/-- Nothing differs from itself. -/
theorem une_self (x : EReal) : FloatOps.cmpf (F := Ideal) (φ := .f32) .une x x = 0#1 := by
  show BitVec.ofBool (decide (x ≠ x)) = 0#1
  simp

/-- The choice by a decided mask. -/
theorem select_ofBool (p : Prop) [Decidable p] (a b : EReal) : Scalar.select (BitVec.ofBool (decide p)) a b = if p then a else b := by
  by_cases hp : p
  · rw [if_pos hp, decide_eq_true hp]; rfl
  · rw [if_neg hp, decide_eq_false hp]; rfl

section Elements
variable (Q K V : Vec Ideal S4x8192x512 .bf16) (hQ : ∀ i, ∃ x : ℝ, Q i = (x : EReal)) (hK : ∀ i, ∃ x : ℝ, K i = (x : EReal))
  (b : Fin 4) (h : Fin 8) (t : Fin 8192)

include hQ hK in
/-- Real queries and keys have real scores. -/
theorem zG_real (s : ℕ) : ∃ x : ℝ, zG Q K b h t s = (x : EReal) := by
  unfold zG
  split
  · exact sum_real _ _ fun d _ => mul_real (hQ _) (hK _)
  · exact ⟨0, rfl⟩

/-- The log-sigmoid of a negated score. -/
theorem logsig_neg_apply (i : S4x8x8192x8192.Idx) : val_main_v15 (F := Ideal) Q K i
    = -(max (- -(val_main_v7 (F := Ideal) Q K i : EReal)) 0 + Ideal.log1p (Ideal.exp (-(max (- -(val_main_v7 (F := Ideal) Q K i : EReal)) (- - -(val_main_v7 (F := Ideal) Q K i : EReal)))))) := by
  have h3 : val_main_call0_call0_v3 (F := Ideal) Q K i = (- -(val_main_v7 (F := Ideal) Q K i : EReal)) := by
    rw [val_main_call0_call0_v3_apply, val_main_call0_call0_v2_apply, val_main_call0_call0_cst_apply, val_main_call0_v0_apply, val_main_v14_apply]
    show (- -(val_main_v7 (F := Ideal) Q K i : EReal)) - (Ideal.ofBits .f32 0x00000000#32 : EReal) = _
    rw [Ideal.ofBits_zero_f32, sub_zero]
  rw [val_main_v15_apply, val_main_call0_v1_apply, val_main_call0_call0_v4_apply, h3, une_self, select_zero,
    val_main_call0_call0_v11_apply, val_main_call0_call0_v1_apply, val_main_call0_call0_v0_apply, val_main_call0_call0_cst_apply,
    val_main_call0_v0_apply, val_main_v14_apply, val_main_call0_call0_v10_apply, val_main_call0_call0_v9_apply, val_main_call0_call0_v8_apply,
    val_main_call0_call0_v7_apply, h3]
  show -(max (- -(val_main_v7 (F := Ideal) Q K i : EReal)) (Ideal.ofBits .f32 0x00000000#32 : EReal) + _) = _
  rw [Ideal.ofBits_zero_f32]
  rfl

/-- The log-sigmoid of a score. -/
theorem logsig_apply (i : S4x8x8192x8192.Idx) : val_main_v19 (F := Ideal) Q K i
    = -(max (-(val_main_v7 (F := Ideal) Q K i : EReal)) 0 + Ideal.log1p (Ideal.exp (-(max (-(val_main_v7 (F := Ideal) Q K i : EReal)) (- -(val_main_v7 (F := Ideal) Q K i : EReal)))))) := by
  have h3 : val_main_call3_call0_v3 (F := Ideal) Q K i = (-(val_main_v7 (F := Ideal) Q K i : EReal)) := by
    rw [val_main_call3_call0_v3_apply, val_main_call3_call0_v2_apply, val_main_call3_call0_cst_apply, val_main_call3_v0_apply]
    show (-(val_main_v7 (F := Ideal) Q K i : EReal)) - (Ideal.ofBits .f32 0x00000000#32 : EReal) = _
    rw [Ideal.ofBits_zero_f32, sub_zero]
  rw [val_main_v19_apply, val_main_call3_v1_apply, val_main_call3_call0_v4_apply, h3, une_self, select_zero,
    val_main_call3_call0_v11_apply, val_main_call3_call0_v1_apply, val_main_call3_call0_v0_apply, val_main_call3_call0_cst_apply,
    val_main_call3_v0_apply, val_main_call3_call0_v10_apply, val_main_call3_call0_v9_apply, val_main_call3_call0_v8_apply,
    val_main_call3_call0_v7_apply, h3]
  show -(max (-(val_main_v7 (F := Ideal) Q K i : EReal)) (Ideal.ofBits .f32 0x00000000#32 : EReal) + _) = _
  rw [Ideal.ofBits_zero_f32]
  rfl

include hQ hK in
/-- The masked logarithms. -/
theorem masked_apply (s : Fin 8192) : val_main_v16 (F := Ideal) Q K (ix4 b h t s) = lm (zG Q K b h t) t.val s.val := by
  obtain ⟨x, hx⟩ := zG_real Q K hQ hK b h t s.val
  rw [val_main_v16_apply, mask1_apply, select_ofBool, logsig_neg_apply, score_apply, lm, hx, logSigmoid_neg_coe,
    val_main_call1_v2_apply, val_main_call1_v0_apply, val_main_cst_apply]
  congr 1
  exact Ideal.ofBits_zero_f32

include hQ hK in
/-- The logarithms of the keys in between, added. -/
theorem between_apply (s : Fin 8192) : val_main_v18 (F := Ideal) Q K (ix4 b h t s) = cs (zG Q K b h t) t.val (s.val + 1) 8192 := by
  have e : val_main_v17 (F := Ideal) Q K (ix4 b h t s) = cs (zG Q K b h t) t.val s.val 8192 := by
    unfold val_main_v17
    refine cumsum_apply _ _ (fun i => ?_) b h t s (lm (zG Q K b h t) t.val) (fun k => masked_apply Q K hQ hK b h t k)
    rw [val_main_call2_v0_apply, val_main_call2_cst_apply]
    exact Ideal.ofBits_zero_f32
  obtain ⟨x, hx⟩ := lm_real (t := t.val) (s := s.val) (zG_real Q K hQ hK b h t s.val)
  rw [val_main_v18_apply, e, masked_apply Q K hQ hK, ← cs_head _ _ _ _ s.isLt, hx]
  obtain ⟨y, hy⟩ : ∃ y : ℝ, cs (zG Q K b h t) t.val (s.val + 1) 8192 = (y : EReal) :=
    sum_real _ _ fun k _ => lm_real (zG_real Q K hQ hK b h t k)
  rw [hy]
  show ((y : EReal) + (x : EReal)) - (x : EReal) = _
  rw [← EReal.coe_add, ← EReal.coe_sub, add_sub_cancel_right]

include hQ hK in
/-- The attention weights. -/
theorem weight_apply (s : Fin 8192) : val_main_v22 (F := Ideal) Q K (ix4 b h t s) = wt (zG Q K b h t) t.val 8192 s.val := by
  obtain ⟨x, hx⟩ := zG_real Q K hQ hK b h t s.val
  rw [val_main_v22_apply, mask4_apply, select_ofBool, val_main_v21_apply, val_main_v20_apply, logsig_apply, score_apply, between_apply Q K hQ hK,
    wt, hx, logSigmoid_coe, val_main_call4_v2_apply, val_main_call4_v0_apply, val_main_cst_0_apply]
  congr 1
  exact Ideal.ofBits_zero_f32

include hQ hK in
/-- For real queries and keys the reference is the stick-breaking attention. -/
theorem ref_eq : val_main_v25 (F := Ideal) Q K V = G Q K V := by
  funext y
  obtain ⟨b, t, l, rfl⟩ : ∃ (b : Fin 4) (t : Fin 8192) (l : Fin 512), y = ix3 b t l := ⟨_, _, _, eq_ix3 y⟩
  obtain ⟨h, d, rfl⟩ := lane_of l
  rw [G_apply, val_main_v25_apply, val_main_v24_apply]
  have e : idx_main_v24 (idx_main_v25 (ix3 b t (lane h d))) = ix4 b h d t := funext fun a => Fin.ext (by
    match a with
    | ⟨0, _⟩ => show ((b.val * 8192 + t.val) * 512 + (64 * h.val + d.val)) / 4194304 = b.val; omega
    | ⟨1, _⟩ => show ((b.val * 8192 + t.val) * 512 + (64 * h.val + d.val)) / 64 % 8 = h.val; omega
    | ⟨2, _⟩ => show ((b.val * 8192 + t.val) * 512 + (64 * h.val + d.val)) % 64 = d.val; omega
    | ⟨3, _⟩ => show ((b.val * 8192 + t.val) * 512 + (64 * h.val + d.val)) / 512 % 8192 = t.val; omega)
  rw [e, val_main_v23_apply]
  have el : ∀ s : Fin 8192, lidx_main_v23 (ix4 b h d t) s = ix4 b s h d := fun s => funext fun a => Fin.ext (by
    match a with | ⟨0, _⟩ => rfl | ⟨1, _⟩ => rfl | ⟨2, _⟩ => rfl | ⟨3, _⟩ => rfl)
  have er : ∀ s : Fin 8192, ridx_main_v23 (ix4 b h d t) s = ix4 b h t s := fun s => funext fun a => Fin.ext (by
    match a with | ⟨0, _⟩ => rfl | ⟨1, _⟩ => rfl | ⟨2, _⟩ => rfl | ⟨3, _⟩ => rfl)
  unfold os
  rw [← Finset.range_eq_Ico, ← Fin.sum_univ_eq_sum_range (fun s => wt (zG Q K b h t) t.val 8192 s * vG V b h d s) 8192]
  refine Finset.sum_congr rfl fun s _ => ?_
  rw [el, er, value_apply, weight_apply Q K hQ hK, mul_comm]

end Elements

end Cert.Proof.SB
-- ==== Proof.SbClaim.lean ====
/-
  The claims of the stick-breaking attention's call: its precondition read as "queries and keys are real", and the
  equality of the kernel's and the reference's results.
-/
module

public import proofs.«01_k».proof.Defs
public import proofs.«01_k».proof.Proof.SbRef
public import proofs.«01_k».proof.Proof.Gen.ReferenceIdeal.Run

@[expose] public section

set_option maxRecDepth 16384

noncomputable section

open Idealize.ShloMosaic Idealize.ShloMosaic.ValueIdx Idealize.SL.Sem

namespace Cert.Proof.SB

/-- The facts the precondition's program states. -/
theorem pre_facts : Cert.Pre_finite_qk.Facts := ⟨by decide, by decide⟩

attribute [local instance] pre_facts

/-- Below infinity in absolute value is real. -/
theorem real_of_lt {x : EReal} (h : FloatOps.cmpf (F := Ideal) (φ := .f32) .olt (max x (-x)) (Ideal.ofBits .f32 0x7F800000#32) = 1#1) :
    ∃ y : ℝ, x = (y : EReal) := by
  have e : Ideal.ofBits .f32 0x7F800000#32 = (⊤ : EReal) := by simp [Ideal.ofBits, Ideal.ieee]
  rw [e] at h
  have h' : BitVec.ofBool (decide (max x (-x) < (⊤ : EReal))) = 1#1 := h
  have hlt : max x (-x) < (⊤ : EReal) := by
    by_contra hn
    rw [decide_eq_false hn] at h'
    exact absurd h' (by decide)
  refine ⟨x.toReal, (EReal.coe_toReal ?_ ?_).symm⟩
  · rintro rfl; exact absurd (lt_of_le_of_lt (le_max_left _ _) hlt) (lt_irrefl _)
  · rintro rfl; exact absurd (lt_of_le_of_lt (le_max_right _ _) hlt) (by simp)

/-- The precondition makes the queries and the keys real. -/
theorem real_of_pre (Q K V : Vec Ideal Cert.KernelIdeal.S4x8192x512 .bf16)
    (h1 : (Cert.Pre_finite_qk.fn (F := Ideal) Q K V).1 = fun _ => 1#1) (h2 : (Cert.Pre_finite_qk.fn (F := Ideal) Q K V).2 = fun _ => 1#1) :
    (∀ i, ∃ x : ℝ, Q i = (x : EReal)) ∧ (∀ i, ∃ x : ℝ, K i = (x : EReal)) :=
  ⟨fun i => real_of_lt (congrFun h1 i), fun i => real_of_lt (congrFun h2 i)⟩

/-- The kernel's and the reference's results are equal wherever queries and keys are finite. -/
theorem algebraic : Cert.algebraic_KernelIdeal_ReferenceIdeal_pre_finite_qk (hKernelIdeal := Cert.KernelIdeal.Gen.facts)
    (hReferenceIdeal := Cert.ReferenceIdeal.Gen.facts) (hPre_finite_qk := pre_facts) := fun m ρ m' ρ' hpre hag =>
  ⟨fun c => G (argQ m c) (argK m c) (argV m c),
    (θ_run _ _ _).mono (fun _ h c => ⟨(h c).1.trans (by
        have hr := real_of_pre (argQ m c) (argK m c) (argV m c) (hpre c).1 (hpre c).2
        exact final_eq m c hr.1 hr.2), (h c).2⟩) (Cert.KernelIdeal.Value.run_blocks m ρ),
    (θ_run _ _ _).mono (fun _ h c => ⟨(h c).1.trans (by
        have hr := real_of_pre (argQ m c) (argK m c) (argV m c) (hpre c).1 (hpre c).2
        rw [Cert.ReferenceIdeal.Read.val_main_v25_eq, (hag c).1, (hag c).2.1, (hag c).2.2]
        exact ref_eq (argQ m c) (argK m c) (argV m c) hr.1 hr.2), (h c).2⟩) (Cert.ReferenceIdeal.Value.run m' ρ')⟩

/-- The reference runs, keeps its arguments and ends quiescent. -/
theorem frame_ref : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.SB
-- ==== Proof.Rows.lean ====
/-
  The row operations of the layer's dense calls, on functions of one coordinate, and a kernel block's operations read
  row by row: the root-mean-square normalisation, its modulation, and the logistic's spellings.
-/
module

public import proofs.«01_k».proof.Proof.SbMath
public import Idealize.ShloMosaic.Lib.MatmulPlain
public import Idealize.ShloMosaic.Lib.Pipeline.Value
public import Idealize.ShloMosaic.PureOps.Ideal.Laws

@[expose] public section

set_option maxRecDepth 16384

noncomputable section

open Idealize.ShloMosaic Idealize.ShloMosaic.ValueIdx

namespace Cert.Proof.Rows

/-- The word of the float 1. -/
def one : EReal := Ideal.ofBits .f32 0x3F800000#32
/-- The word of the float 0. -/
def zero : EReal := Ideal.ofBits .f32 0x00000000#32
/-- The word of the float 1024, a row's length. -/
def len : EReal := Ideal.ofBits .f32 0x44800000#32
/-- The word of the float nearest to a millionth. -/
def eps : EReal := Ideal.ofBits .f32 0x358637BD#32

theorem one_eq : one = 1 := by
  unfold one
  simp [Ideal.ofBits, Ideal.ieee]
  rw [← EReal.coe_mul]
  norm_num
theorem zero_eq : zero = 0 := Ideal.ofBits_zero_f32

/-- A row over the root of its mean square, times a weight. -/
def rms {n : ℕ} (x g : Fin n → EReal) (l : Fin n) : EReal :=
  x l * Ideal.rsqrt (Ideal.div (∑ k, x k * x k) len + eps) * g l

/-- A normalised row, scaled by one more than `sc` and shifted by `sh`. -/
def modulated {n : ℕ} (x g sc sh : Fin n → EReal) (l : Fin n) : EReal := rms x g l * (one + sc l) + sh l

/-- A row times a matrix. -/
def rowMul {n k : ℕ} (h : Fin n → EReal) (W : Fin n → Fin k → EReal) (j : Fin k) : EReal := ∑ i, h i * W i j

/-- The logistic function. -/
def sigm (x : EReal) : EReal := Ideal.div one (one + Ideal.exp (-x))

/-- The exponential is nowhere negative. -/
theorem exp_nonneg (x : EReal) : 0 ≤ Ideal.exp x := by
  induction x using EReal.rec with
  | bot => exact le_refl _
  | top => exact le_top
  | coe r => exact EReal.coe_nonneg.mpr (Real.exp_pos r).le

/-- One and an exponential are not zero together. -/
theorem one_add_exp_ne (x : EReal) : one + Ideal.exp x ≠ 0 := by
  rw [one_eq]
  exact ne_of_gt (lt_of_lt_of_le zero_lt_one (le_add_of_nonneg_right (exp_nonneg x)))

/-- A value over one and the exponential of its negative is the value times its logistic. -/
theorem div_eq_mul_sigm (x : EReal) : Ideal.div x (one + Ideal.exp (zero - x)) = x * sigm x := by
  rw [zero_eq, zero_sub]
  unfold sigm Ideal.div
  rw [if_neg (one_add_exp_ne _), if_neg (one_add_exp_ne _), one_eq, one_mul]

/-- The kernel's spelling of the logistic. -/
theorem div_eq_sigm (x : EReal) : Ideal.div one (one + Ideal.exp (zero - x)) = sigm x := by
  rw [zero_eq, zero_sub]; rfl

section Block

variable {M N : ℕ}

/-- A row vector laid under a block reads its lane. -/
theorem row_apply (hN : N ≠ 1) (g : FVec Ideal ⟨2, ![1, N]⟩ .f32) (h : (⟨2, ![1, N]⟩ : Shape).Broadcasts ⟨2, ![M, N]⟩) (r : Fin M) (l : Fin N) :
    broadcastTo ⟨2, ![M, N]⟩ g h (ix2 r l) = g (ix2 (0 : Fin 1) l) :=
  broadcastTo_apply g h (ix2 r l) (ix2 (0 : Fin 1) l) (fun a => by
    match a with
    | ⟨0, _⟩ => show 0 = if (1 : ℕ) = 1 then 0 else _; rw [if_pos rfl]
    | ⟨1, _⟩ => show l.val = if N = 1 then 0 else l.val; rw [if_neg hN])

/-- A column vector laid beside a block reads its row. -/
theorem col_apply (hM : M ≠ 1) (g : FVec Ideal ⟨2, ![M, 1]⟩ .f32) (h : (⟨2, ![M, 1]⟩ : Shape).Broadcasts ⟨2, ![M, N]⟩) (r : Fin M) (l : Fin N) :
    broadcastTo ⟨2, ![M, N]⟩ g h (ix2 r l) = g (ix2 r (0 : Fin 1)) :=
  broadcastTo_apply g h (ix2 r l) (ix2 r (0 : Fin 1)) (fun a => by
    match a with
    | ⟨0, _⟩ => show r.val = if M = 1 then 0 else r.val; rw [if_neg hM]
    | ⟨1, _⟩ => show 0 = if (1 : ℕ) = 1 then 0 else _; rw [if_pos rfl])

/-- A vector of a block's rows, as a column. -/
theorem toCol_apply (v : FVec Ideal ⟨1, ![M]⟩ .f32) (h : (⟨1, ![M]⟩ : Shape).ShapeCasts ⟨2, ![M, 1]⟩) (r : Fin M) :
    shapeCast ⟨2, ![M, 1]⟩ v h (ix2 r (0 : Fin 1)) = v (ix1 r) :=
  shapeCast_apply v h _ _ (by
    rewrite [Shape.rowMajor_val_one, Shape.rowMajor_val_two]
    show r.val = r.val * 1 + 0
    omega)

/-- A block's normalisation: every row over the root of its mean square, times the weights. -/
def rmsBlock (x : FVec Ideal ⟨2, ![M, N]⟩ .f32) (g : FVec Ideal ⟨2, ![1, N]⟩ .f32)
    (hr : (⟨2, ![M, N]⟩ : Shape).Reduces [1] ⟨1, ![M]⟩) (hs : (⟨1, ![M]⟩ : Shape).ShapeCasts ⟨2, ![M, 1]⟩)
    (hc : (⟨2, ![M, 1]⟩ : Shape).Broadcasts ⟨2, ![M, N]⟩) (hg : (⟨2, ![1, N]⟩ : Shape).Broadcasts ⟨2, ![M, N]⟩) : FVec Ideal ⟨2, ![M, N]⟩ .f32 :=
  mulf (mulf x (broadcastTo ⟨2, ![M, N]⟩ (rsqrt (addf (divf (shapeCast ⟨2, ![M, 1]⟩
      (multiReduction .add [1] ⟨1, ![M]⟩ (mulf x x) 0x00000000#32 hr (.inl rfl) rfl) hs)
      (broadcast ⟨2, ![M, 1]⟩ (Scalar.ofBits .f32 0x44800000#32))) (broadcast ⟨2, ![M, 1]⟩ (Scalar.ofBits .f32 0x358637BD#32)))) hc))
    (broadcastTo ⟨2, ![M, N]⟩ g hg)

/-- A block's normalisation, row by row. -/
theorem rmsBlock_apply (hM : M ≠ 1) (hN : N ≠ 1) (x : FVec Ideal ⟨2, ![M, N]⟩ .f32) (g : FVec Ideal ⟨2, ![1, N]⟩ .f32)
    (hr : (⟨2, ![M, N]⟩ : Shape).Reduces [1] ⟨1, ![M]⟩) (hs : (⟨1, ![M]⟩ : Shape).ShapeCasts ⟨2, ![M, 1]⟩)
    (hc : (⟨2, ![M, 1]⟩ : Shape).Broadcasts ⟨2, ![M, N]⟩) (hg : (⟨2, ![1, N]⟩ : Shape).Broadcasts ⟨2, ![M, N]⟩) (r : Fin M) (l : Fin N) :
    rmsBlock x g hr hs hc hg (ix2 r l) = rms (fun k => x (ix2 r k)) (fun k => g (ix2 (0 : Fin 1) k)) l := by
  unfold rmsBlock rms
  show x (ix2 r l) * broadcastTo ⟨2, ![M, N]⟩ _ hc (ix2 r l) * broadcastTo ⟨2, ![M, N]⟩ g hg (ix2 r l) = _
  rw [row_apply hN, col_apply hM]
  show x (ix2 r l) * Ideal.rsqrt (Ideal.div (shapeCast ⟨2, ![M, 1]⟩ _ hs (ix2 r (0 : Fin 1))) len + eps) * _ = _
  rw [toCol_apply]
  refine congrArg (fun t => x (ix2 r l) * Ideal.rsqrt (Ideal.div t len + eps) * g (ix2 (0 : Fin 1) l))
    ((Ideal.multiReduction_add_single (mulf x x) 0x00000000#32 hr (.inl rfl) rfl (ix1 r)).trans (Finset.sum_congr rfl fun k _ => ?_))
  have e : hr.lift (ix1 r) k = ix2 r k := by
    refine funext fun a => Fin.ext ?_
    rw [hr.lift_val]
    match a with
    | ⟨0, _⟩ => rfl
    | ⟨1, _⟩ => rfl
  rw [e]
  rfl

/-- A normalised block's modulation: scaled by one more than `sc`, shifted by `sh`. -/
theorem modBlock_apply (hN : N ≠ 1) (y : FVec Ideal ⟨2, ![M, N]⟩ .f32) (sc sh : FVec Ideal ⟨2, ![1, N]⟩ .f32)
    (hg : (⟨2, ![1, N]⟩ : Shape).Broadcasts ⟨2, ![M, N]⟩) (r : Fin M) (l : Fin N) :
    addf (mulf y (broadcastTo ⟨2, ![M, N]⟩ (addf (broadcast ⟨2, ![1, N]⟩ (Scalar.ofBits .f32 0x3F800000#32)) sc) hg)) (broadcastTo ⟨2, ![M, N]⟩ sh hg) (ix2 r l)
      = y (ix2 r l) * (one + sc (ix2 (0 : Fin 1) l)) + sh (ix2 (0 : Fin 1) l) := by
  show y (ix2 r l) * broadcastTo ⟨2, ![M, N]⟩ _ hg (ix2 r l) + broadcastTo ⟨2, ![M, N]⟩ sh hg (ix2 r l) = _
  rw [row_apply hN, row_apply hN]
  rfl

end Block

end Cert.Proof.Rows
-- ==== Proof.FfnBlock.lean ====
/-
  One grid point of the feed-forward call: 256 rows of the stream, normalised and modulated, through the gated
  feed-forward part taken in eleven chunks of 256 inner lanes, normalised again, scaled and added to the rows.
-/
module

public import proofs.«01_k».proof.Proof.Rows
public import proofs.«01_k».proof.Proof.Gen.FfnIdeal.Frame

@[expose] public section

set_option maxRecDepth 16384

noncomputable section

open Idealize.ShloMosaic Idealize.ShloMosaic.ValueIdx Idealize.SL.Sem Cert.FfnIdeal Cert.FfnIdeal.Gen Cert.Proof.Rows

namespace Cert.Proof.FF

/-! ## The mathematics of one row -/

/-- Inner lane `j` of the gated part: the gate's projection times its logistic, times the other projection. -/
def inner (h : Fin 1024 → EReal) (Wg Wu : Fin 1024 → Fin 2816 → EReal) (j : Fin 2816) : EReal :=
  rowMul h Wg j * sigm (rowMul h Wg j) * rowMul h Wu j

/-- The gated feed-forward part of a row. -/
def ffn (h : Fin 1024 → EReal) (Wg Wu : Fin 1024 → Fin 2816 → EReal) (Wd : Fin 2816 → Fin 1024 → EReal) (l : Fin 1024) : EReal :=
  rowMul (inner h Wg Wu) Wd l

/-- A row of the stream with the feed-forward part's normalised and scaled result added. -/
def rowOut (x sh sc g n1 n2 : Fin 1024 → EReal) (Wg Wu : Fin 1024 → Fin 2816 → EReal) (Wd : Fin 2816 → Fin 1024 → EReal) (l : Fin 1024) : EReal :=
  x l + g l * rms (ffn (modulated x n1 sc sh) Wg Wu Wd) n2 l

/-! ## The chunks -/

/-- The chunk of a projection: its product with the block. -/
def proj (h : FVec Ideal S256x1024 .bf16) (w : Vec Ideal S1024x256 .bf16) : FVec Ideal S256x256 .f32 :=
  matmul dot_S256x1024_S1024x256_S256x256_1_0_0_1_n_n none h (shapeCast S1024x256 w shapeCasts_S1024x256_S1024x256 : FVec Ideal S1024x256 .bf16)
    (constant S256x256 .f32 0x00000000#32)

/-- A chunk's inner lanes. -/
def actBlock (h : FVec Ideal S256x1024 .bf16) (wg wu : Vec Ideal S1024x256 .bf16) : FVec Ideal S256x256 .f32 :=
  mulf (divf (proj h wg) (addf (broadcast S256x256 (Scalar.ofBits .f32 0x3F800000#32))
    (exp (subf (broadcast S256x256 (Scalar.ofBits .f32 0x00000000#32)) (proj h wg))))) (proj h wu)

/-- A chunk's share of the result. -/
def chunk (h : FVec Ideal S256x1024 .bf16) (wg wu : Vec Ideal S1024x256 .bf16) (wd : Vec Ideal S256x1024 .bf16) : FVec Ideal S256x1024 .f32 :=
  matmul dot_S256x256_S256x1024_S256x1024_1_0_0_1_n_n none (truncf .bf16 (actBlock h wg wu) bitsLt_bf16_f32 : FVec Ideal S256x256 .bf16)
    (shapeCast S256x1024 wd shapeCasts_S256x1024_S256x1024 : FVec Ideal S256x1024 .bf16) (constant S256x1024 .f32 0x00000000#32)

theorem cols_inb {n : ℕ} (hn : n < 11) : ∀ a, (![0, 256 * n] : Fin 2 → ℕ) a + S1024x256.size a ≤ S1024x2816.size a := fun a => by
  match a with
  | ⟨0, _⟩ => show 0 + 1024 ≤ 1024; omega
  | ⟨1, _⟩ => show 256 * n + 256 ≤ 2816; omega

theorem rows_inb {n : ℕ} (hn : n < 11) : ∀ a, (![256 * n, 0] : Fin 2 → ℕ) a + S256x1024.size a ≤ S2816x1024.size a := fun a => by
  match a with
  | ⟨0, _⟩ => show 256 * n + 256 ≤ 2816; omega
  | ⟨1, _⟩ => show 0 + 1024 ≤ 1024; omega

/-- Columns `256 n …` of a projection's matrix. -/
def cols (w : Vec Ideal S1024x2816 .bf16) {n : ℕ} (hn : n < 11) : Vec Ideal S1024x256 .bf16 :=
  View.ld w (Rect.unit (s := S1024x2816) ![0, 256 * n] S1024x256.size (cols_inb hn))

/-- Rows `256 n …` of the last matrix. -/
def rowsOf (w : Vec Ideal S2816x1024 .bf16) {n : ℕ} (hn : n < 11) : Vec Ideal S256x1024 .bf16 :=
  View.ld w (Rect.unit (s := S2816x1024) ![256 * n, 0] S256x1024.size (rows_inb hn))

/-- The first `n` chunks added up. -/
def accum (h : FVec Ideal S256x1024 .bf16) (wg wu : Vec Ideal S1024x2816 .bf16) (wd : Vec Ideal S2816x1024 .bf16) :
    (n : ℕ) → n ≤ 11 → FVec Ideal S256x1024 .f32
  | 0, _ => broadcast S256x1024 (Scalar.ofBits .f32 0x00000000#32)
  | n + 1, hn => addf (accum h wg wu wd n (Nat.le_of_succ_le hn)) (chunk h (cols wg hn) (cols wu hn) (rowsOf wd hn))

/-- The block as the chunks take it: normalised and modulated. -/
def hBlock (x : Vec Ideal S256x1024 .f32) (sh sc : Vec Ideal S1x1x1024 .f32) (n1 : Vec Ideal S1x1024 .f32) : FVec Ideal S256x1024 .f32 :=
  addf (mulf (rmsBlock (M := 256) (N := 1024) x (shapeCast S1x1024 n1 shapeCasts_S1x1024_S1x1024) reduces_S256x1024_S256 shapeCasts_S256_S256x1
      broadcasts_S256x1_S256x1024 broadcasts_S1x1024_S256x1024)
      (broadcastTo S256x1024 (addf (broadcast S1x1024 (Scalar.ofBits .f32 0x3F800000#32)) (shapeCast S1x1024 sc shapeCasts_S1x1x1024_S1x1024)) broadcasts_S1x1024_S256x1024))
    (broadcastTo S256x1024 (shapeCast S1x1024 sh shapeCasts_S1x1x1024_S1x1024) broadcasts_S1x1024_S256x1024)

/-- What a point leaves: the block with the normalised and scaled sum of the chunks added. -/
def outBlock (x : Vec Ideal S256x1024 .f32) (sh sc g : Vec Ideal S1x1x1024 .f32) (n1 n2 : Vec Ideal S1x1024 .f32) (wg wu : Vec Ideal S1024x2816 .bf16)
    (wd : Vec Ideal S2816x1024 .bf16) : FVec Ideal S256x1024 .f32 :=
  addf x (mulf (broadcastTo S256x1024 (shapeCast S1x1024 g shapeCasts_S1x1x1024_S1x1024) broadcasts_S1x1024_S256x1024)
    (rmsBlock (M := 256) (N := 1024) (accum (truncf .bf16 (hBlock x sh sc n1) bitsLt_bf16_f32) wg wu wd 11 le_rfl) (shapeCast S1x1024 n2 shapeCasts_S1x1024_S1x1024)
      reduces_S256x1024_S256 shapeCasts_S256_S256x1 broadcasts_S256x1_S256x1024 broadcasts_S1x1024_S256x1024))

theorem off2 : (![0, 0] : Fin 2 → ℕ) = fun _ => 0 := funext fun a => by match a with | ⟨0, _⟩ => rfl | ⟨1, _⟩ => rfl
theorem off3 : (![0, 0, 0] : Fin 3 → ℕ) = fun _ => 0 := funext fun a => by match a with | ⟨0, _⟩ => rfl | ⟨1, _⟩ => rfl | ⟨2, _⟩ => rfl

/-- The point's store, over its input blocks, is that block. -/
theorem out_eq (x0 : Vec Ideal S256x1024 .f32) (x1 x2 x3 : Vec Ideal S1x1x1024 .f32) (x4 x5 : Vec Ideal S1x1024 .f32) (x6 x7 : Vec Ideal S1024x2816 .bf16)
    (x8 : Vec Ideal S2816x1024 .bf16) : out0_9 x0 x1 x2 x3 x4 x5 x6 x7 x8 = outBlock x0 x2 x1 x3 x4 x5 x6 x7 x8 := by
  unfold out0_9 k0_pay20
  rw [View.canon_cons_unit_zero off2, View.ld_unit_zero off2 _ x0, View.ld_unit_zero off2 _ x4, View.ld_unit_zero off2 _ x5, View.ld_unit_zero off3 _ x1,
    View.ld_unit_zero off3 _ x2, View.ld_unit_zero off3 _ x3]
  rfl

/-! ## The block, row by row -/

/-- A row of a block. -/
def rowOf {M N : ℕ} {φ : FTy} (x : FVec Ideal ⟨2, ![M, N]⟩ φ) (r : Fin M) (k : Fin N) : EReal := x (ix2 r k)

/-- A chunk of a projection, row by row. -/
theorem proj_apply (h : FVec Ideal S256x1024 .bf16) (w : Vec Ideal S1024x2816 .bf16) {n : ℕ} (hn : n < 11) (r q : Fin 256) :
    proj h (cols w hn) (ix2 r q) = rowMul (rowOf h r) (fun k j => w (ix2 k j)) (⟨256 * n + q.val, by omega⟩ : Fin 2816) := by
  unfold proj
  refine (Ideal.matmul_plain_apply none h _ _ r q).trans ?_
  show Ideal.ofBits .f32 0x00000000#32 + _ = _
  rw [Ideal.ofBits_zero_f32, zero_add]
  refine Finset.sum_congr rfl fun k _ => congrArg (h (ix2 r k) * ·) ?_
  refine (shapeCast_apply _ _ _ (ix2 k q) rfl).trans ?_
  refine congrArg w (funext fun a => Fin.ext ?_)
  match a with
  | ⟨0, _⟩ => show 0 + 1 * k.val = k.val; omega
  | ⟨1, _⟩ => show 256 * n + 1 * q.val = 256 * n + q.val; omega

/-- A chunk's inner lanes, row by row. -/
theorem act_apply (h : FVec Ideal S256x1024 .bf16) (wg wu : Vec Ideal S1024x2816 .bf16) {n : ℕ} (hn : n < 11) (r q : Fin 256) :
    actBlock h (cols wg hn) (cols wu hn) (ix2 r q)
      = inner (rowOf h r) (fun k j => wg (ix2 k j)) (fun k j => wu (ix2 k j)) (⟨256 * n + q.val, by omega⟩ : Fin 2816) := by
  show Ideal.div (proj h (cols wg hn) (ix2 r q)) (one + Ideal.exp (zero - proj h (cols wg hn) (ix2 r q))) * proj h (cols wu hn) (ix2 r q) = _
  rw [div_eq_mul_sigm, proj_apply, proj_apply]
  rfl

/-- Inner lane `j`'s share of the result's lane `l`. -/
def share (h : FVec Ideal S256x1024 .bf16) (wg wu : Vec Ideal S1024x2816 .bf16) (wd : Vec Ideal S2816x1024 .bf16) (r : Fin 256) (l : Fin 1024) (j : ℕ) : EReal :=
  if hj : j < 2816 then inner (rowOf h r) (fun k j => wg (ix2 k j)) (fun k j => wu (ix2 k j)) ⟨j, hj⟩ * wd (ix2 (⟨j, hj⟩ : Fin 2816) l) else 0

/-- A chunk adds its inner lanes' shares. -/
theorem chunk_apply (h : FVec Ideal S256x1024 .bf16) (wg wu : Vec Ideal S1024x2816 .bf16) (wd : Vec Ideal S2816x1024 .bf16) {n : ℕ} (hn : n < 11)
    (r : Fin 256) (l : Fin 1024) :
    chunk h (cols wg hn) (cols wu hn) (rowsOf wd hn) (ix2 r l) = ∑ q ∈ Finset.range 256, share h wg wu wd r l (256 * n + q) := by
  unfold chunk
  refine (Ideal.matmul_plain_apply none _ _ _ r l).trans ?_
  show Ideal.ofBits .f32 0x00000000#32 + _ = _
  rw [Ideal.ofBits_zero_f32, zero_add, Finset.sum_range]
  refine Finset.sum_congr rfl fun q _ => ?_
  unfold share
  rw [dif_pos (by omega), ← act_apply h wg wu hn r q]
  refine congrArg (actBlock h (cols wg hn) (cols wu hn) (ix2 r q) * ·) ?_
  refine (shapeCast_apply _ _ _ (ix2 q l) rfl).trans ?_
  refine congrArg wd (funext fun a => Fin.ext ?_)
  match a with
  | ⟨0, _⟩ => show 256 * n + 1 * q.val = 256 * n + q.val; omega
  | ⟨1, _⟩ => show 0 + 1 * l.val = l.val; omega

/-- The first chunks' sum is the sum of their inner lanes' shares. -/
theorem accum_apply (h : FVec Ideal S256x1024 .bf16) (wg wu : Vec Ideal S1024x2816 .bf16) (wd : Vec Ideal S2816x1024 .bf16) (r : Fin 256) (l : Fin 1024) :
    ∀ (n : ℕ) (hn : n ≤ 11), accum h wg wu wd n hn (ix2 r l) = ∑ j ∈ Finset.range (256 * n), share h wg wu wd r l j
  | 0, _ => Ideal.ofBits_zero_f32
  | n + 1, hn => by
    show accum h wg wu wd n _ (ix2 r l) + chunk h (cols wg hn) (cols wu hn) (rowsOf wd hn) (ix2 r l) = _
    rw [accum_apply h wg wu wd r l n, chunk_apply, Nat.mul_succ, Finset.sum_range_add]

/-- All chunks together are the gated feed-forward part of the row. -/
theorem accum_all (h : FVec Ideal S256x1024 .bf16) (wg wu : Vec Ideal S1024x2816 .bf16) (wd : Vec Ideal S2816x1024 .bf16) (r : Fin 256) (l : Fin 1024) :
    accum h wg wu wd 11 le_rfl (ix2 r l)
      = ffn (rowOf h r) (fun k j => wg (ix2 k j)) (fun k j => wu (ix2 k j)) (fun j l => wd (ix2 j l)) l := by
  rw [accum_apply]
  unfold ffn rowMul
  refine (Finset.sum_range (share h wg wu wd r l)).trans (Finset.sum_congr rfl fun j _ => ?_)
  unfold share
  rw [dif_pos j.isLt]

/-- A vector with two unit axes, one dropped. -/
theorem drop_apply (v : Vec Ideal S1x1x1024 .f32) (l : Fin 1024) :
    (shapeCast S1x1024 v shapeCasts_S1x1x1024_S1x1024 : FVec Ideal S1x1024 .f32) (ix2 (0 : Fin 1) l) = v (ix3 (0 : Fin 1) (0 : Fin 1) l) :=
  shapeCast_apply v _ _ _ (by
    rewrite [Shape.rowMajor_val_three, Shape.rowMajor_val_two]
    rfl)

/-- A row vector cast to its own shape. -/
theorem same_apply (v : Vec Ideal S1x1024 .f32) (l : Fin 1024) :
    (shapeCast S1x1024 v shapeCasts_S1x1024_S1x1024 : FVec Ideal S1x1024 .f32) (ix2 (0 : Fin 1) l) = v (ix2 (0 : Fin 1) l) :=
  shapeCast_apply v _ _ _ rfl

/-- The block the chunks take, row by row. -/
theorem hBlock_apply (x : Vec Ideal S256x1024 .f32) (sh sc : Vec Ideal S1x1x1024 .f32) (n1 : Vec Ideal S1x1024 .f32) (r : Fin 256) (l : Fin 1024) :
    hBlock x sh sc n1 (ix2 r l) = modulated (fun k => x (ix2 r k)) (fun k => n1 (ix2 (0 : Fin 1) k)) (fun k => sc (ix3 (0 : Fin 1) (0 : Fin 1) k))
      (fun k => sh (ix3 (0 : Fin 1) (0 : Fin 1) k)) l := by
  refine (modBlock_apply (M := 256) (N := 1024) (by decide) _ _ _ _ r l).trans ?_
  rw [rmsBlock_apply (by decide) (by decide), drop_apply, drop_apply]
  simp only [same_apply]
  rfl

/-- What a point leaves, row by row. -/
theorem outBlock_apply (x : Vec Ideal S256x1024 .f32) (sh sc g : Vec Ideal S1x1x1024 .f32) (n1 n2 : Vec Ideal S1x1024 .f32) (wg wu : Vec Ideal S1024x2816 .bf16)
    (wd : Vec Ideal S2816x1024 .bf16) (r : Fin 256) (l : Fin 1024) :
    outBlock x sh sc g n1 n2 wg wu wd (ix2 r l) = rowOut (fun k => x (ix2 r k)) (fun k => sh (ix3 (0 : Fin 1) (0 : Fin 1) k))
      (fun k => sc (ix3 (0 : Fin 1) (0 : Fin 1) k)) (fun k => g (ix3 (0 : Fin 1) (0 : Fin 1) k)) (fun k => n1 (ix2 (0 : Fin 1) k))
      (fun k => n2 (ix2 (0 : Fin 1) k)) (fun k j => wg (ix2 k j)) (fun k j => wu (ix2 k j)) (fun j l => wd (ix2 j l)) l := by
  show x (ix2 r l) + broadcastTo S256x1024 _ _ (ix2 r l) * rmsBlock (M := 256) (N := 1024) _ _ _ _ _ _ (ix2 r l) = _
  rw [rmsBlock_apply (by decide) (by decide), row_apply (M := 256) (N := 1024) (by decide), drop_apply]
  simp only [same_apply, accum_all]
  have e : rowOf (truncf .bf16 (hBlock x sh sc n1) bitsLt_bf16_f32 : FVec Ideal S256x1024 .bf16) r
      = modulated (fun k => x (ix2 r k)) (fun k => n1 (ix2 (0 : Fin 1) k)) (fun k => sc (ix3 (0 : Fin 1) (0 : Fin 1) k)) (fun k => sh (ix3 (0 : Fin 1) (0 : Fin 1) k)) :=
    funext fun k => hBlock_apply x sh sc n1 r k
  rw [e]
  rfl

end Cert.Proof.FF
-- ==== Proof.FfnValue.lean ====
/-
  What the feed-forward call leaves in its output array: every row of the stream with its feed-forward part's
  normalised and scaled result added.
-/
module

public import proofs.«01_k».proof.Proof.FfnBlock
public import proofs.«01_k».proof.Proof.Gen.FfnIdeal.Value

@[expose] public section

set_option maxRecDepth 16384

noncomputable section

open Idealize.ShloMosaic Idealize.ShloMosaic.ValueIdx Idealize.SL.Sem Cert.FfnIdeal Cert.FfnIdeal.Gen Cert.Proof.Rows

namespace Cert.Proof.FF

/-- The batch element of a row of the flattened batch. -/
def batch (t : Fin 32768) : Fin 4 := ⟨t.val / 8192, by omega⟩

/-- The feed-forward call's result, from its arguments as launched: every row on its own, with its batch element's modulation. -/
def G (x : Vec Ideal S32768x1024 .f32) (sh sc g : Vec Ideal S4x1x1024 .f32) (n1 n2 : Vec Ideal S1x1024 .f32) (wg wu : Vec Ideal S1x1024x2816 .f32)
    (wd : Vec Ideal S1x2816x1024 .f32) : Vec Ideal S32768x1024 .f32 := fun y =>
  rowOut (fun k => x (ix2 (y 0) k)) (fun k => sh (ix3 (batch (y 0)) (0 : Fin 1) k)) (fun k => sc (ix3 (batch (y 0)) (0 : Fin 1) k))
    (fun k => g (ix3 (batch (y 0)) (0 : Fin 1) k)) (fun k => n1 (ix2 (0 : Fin 1) k)) (fun k => n2 (ix2 (0 : Fin 1) k))
    (fun k j => wg (ix3 (0 : Fin 1) k j)) (fun k j => wu (ix3 (0 : Fin 1) k j)) (fun j l => wd (ix3 (0 : Fin 1) j l)) (y 1)

/-! ## Where the blocks lie -/

theorem rect0_off : ∀ t : Fin grid0.N, (win0_0.rect t).off = ![256 * t.val, 0] := by decide +kernel
theorem rect1_off : ∀ t : Fin grid0.N, (win0_1.rect t).off = ![t.val / 32, 0, 0] := by decide +kernel
theorem rect2_off : ∀ t : Fin grid0.N, (win0_2.rect t).off = ![t.val / 32, 0, 0] := by decide +kernel
theorem rect3_off : ∀ t : Fin grid0.N, (win0_3.rect t).off = ![t.val / 32, 0, 0] := by decide +kernel
theorem rect4_off : ∀ t : Fin grid0.N, (win0_4.rect t).off = ![0, 0] := by decide +kernel
theorem rect5_off : ∀ t : Fin grid0.N, (win0_5.rect t).off = ![0, 0] := by decide +kernel
theorem rect6_off : ∀ t : Fin grid0.N, (win0_6.rect t).off = ![0, 0] := by decide +kernel
theorem rect7_off : ∀ t : Fin grid0.N, (win0_7.rect t).off = ![0, 0] := by decide +kernel
theorem rect8_off : ∀ t : Fin grid0.N, (win0_8.rect t).off = ![0, 0] := by decide +kernel
theorem rect9_off : ∀ t : Fin grid0.N, (win0_9.rect t).off = ![256 * t.val, 0] := by decide +kernel

variable (m : (ℓ : Loc nD τ sig) → Buf (Elt Ideal) ℓ) (c : Dev nD)

/-- The arguments as launched: the stream's rows, -/
def argX : Vec Ideal S32768x1024 .f32 := m ((c.tc).loc main_arg0)
/-- the shift, -/
def argSh : Vec Ideal S4x1x1024 .f32 := m ((c.tc).loc main_arg1)
/-- the scale, -/
def argSc : Vec Ideal S4x1x1024 .f32 := m ((c.tc).loc main_arg2)
/-- the result's factor, -/
def argG : Vec Ideal S4x1x1024 .f32 := m ((c.tc).loc main_arg3)
/-- the two normalisations' weights, -/
def argN1 : Vec Ideal S1x1024 .f32 := m ((c.tc).loc main_arg4)
def argN2 : Vec Ideal S1x1024 .f32 := m ((c.tc).loc main_arg5)
/-- and the three matrices. -/
def argWg : Vec Ideal S1x1024x2816 .f32 := m ((c.tc).loc main_arg6)
def argWu : Vec Ideal S1x1024x2816 .f32 := m ((c.tc).loc main_arg7)
def argWd : Vec Ideal S1x2816x1024 .f32 := m ((c.tc).loc main_arg8)

/-- A matrix under a unit axis, the axis dropped and the values cast. -/
theorem castMat_apply {n k : ℕ} (w : FVec Ideal ⟨3, ![1, n, k]⟩ .f32) (h : (⟨3, ![1, n, k]⟩ : Shape).ShapeCasts ⟨2, ![n, k]⟩) (i : Fin n) (j : Fin k) :
    (truncf .bf16 (shapeCast ⟨2, ![n, k]⟩ w h : FVec Ideal ⟨2, ![n, k]⟩ .f32) bitsLt_bf16_f32 : FVec Ideal ⟨2, ![n, k]⟩ .bf16) (ix2 i j) = w (ix3 (0 : Fin 1) i j) := by
  refine (shapeCast_dropUnit_apply ![n, k] w h (ix2 i j)).trans (congrArg w (funext fun a => ?_))
  match a with | ⟨0, _⟩ => rfl | ⟨1, _⟩ => rfl | ⟨2, _⟩ => rfl

/-- The matrices and the weights as the call finds them. -/
theorem entry_wg (k : Fin 1024) (j : Fin 2816) : (V m c main_v1 : Vec Ideal S1024x2816 .bf16) (ix2 k j) = argWg m c (ix3 (0 : Fin 1) k j) :=
  castMat_apply (argWg m c) shapeCasts_S1x1024x2816_S1024x2816 k j
theorem entry_wu (k : Fin 1024) (j : Fin 2816) : (V m c main_v3 : Vec Ideal S1024x2816 .bf16) (ix2 k j) = argWu m c (ix3 (0 : Fin 1) k j) :=
  castMat_apply (argWu m c) shapeCasts_S1x1024x2816_S1024x2816 k j
theorem entry_wd (j : Fin 2816) (l : Fin 1024) : (V m c main_v5 : Vec Ideal S2816x1024 .bf16) (ix2 j l) = argWd m c (ix3 (0 : Fin 1) j l) :=
  castMat_apply (argWd m c) shapeCasts_S1x2816x1024_S2816x1024 j l

/-- A weight vector cast to one axis and back. -/
theorem weight_apply (n : Vec Ideal S1x1024 .f32) (k : Fin 1024) :
    (broadcastInDim S1x1024 ![1] bcast_S1024_S1x1024_1 (shapeCast S1024 n shapeCasts_S1x1024_S1024 : FVec Ideal S1024 .f32) : FVec Ideal S1x1024 .f32) (ix2 (0 : Fin 1) k)
      = n (ix2 (0 : Fin 1) k) := by
  refine (broadcastInDim_apply ![1] bcast_S1024_S1x1024_1 _ (ix2 (0 : Fin 1) k) (ix1 k) (fun a => by
    match a with | ⟨0, _⟩ => show k.val = if (1024 : ℕ) = 1 then 0 else k.val; rw [if_neg (by decide)])).trans ?_
  exact shapeCast_apply n _ _ _ (by
    rewrite [Shape.rowMajor_val_two, Shape.rowMajor_val_one]
    show 0 * 1024 + k.val = k.val
    omega)

theorem entry_n1 (k : Fin 1024) : (V m c main_v7 : Vec Ideal S1x1024 .f32) (ix2 (0 : Fin 1) k) = argN1 m c (ix2 (0 : Fin 1) k) :=
  weight_apply (argN1 m c) k
theorem entry_n2 (k : Fin 1024) : (V m c main_v9 : Vec Ideal S1x1024 .f32) (ix2 (0 : Fin 1) k) = argN2 m c (ix2 (0 : Fin 1) k) :=
  weight_apply (argN2 m c) k

/-! ## The blocks of a point -/

/-- Row `256 t + r` of the flattened batch. -/
def rowAt (t : Fin cfg0.N) (r : Fin 256) : Fin 32768 := ⟨256 * t.val + r.val, by have : t.val < 128 := t.isLt; omega⟩

/-- A point's rows are rows of the stream. -/
theorem iblk0_apply (t : Fin cfg0.N) (r : Fin 256) (k : Fin 1024) :
    (iblk m c 0 t : Vec Ideal S256x1024 .f32) (ix2 r k) = argX m c (ix2 (rowAt t r) k) := by
  refine congrArg (argX m c) (funext fun a => Fin.ext ?_)
  have e := rect0_off t
  match a with
  | ⟨0, _⟩ => show (win0_0.rect t).off (0 : Fin 2) + 1 * r.val = 256 * t.val + r.val; rw [e]; show 256 * t.val + 1 * r.val = _; omega
  | ⟨1, _⟩ => show (win0_0.rect t).off (1 : Fin 2) + 1 * k.val = k.val; rw [e]; show 0 + 1 * k.val = _; omega

/-- A point's rows lie in one batch element. -/
theorem batch_rowAt (t : Fin cfg0.N) (r : Fin 256) : (batch (rowAt t r)).val = t.val / 32 := by
  show (256 * t.val + r.val) / 8192 = t.val / 32
  omega

/-- A point's modulation vectors are those of its batch element: the scale, -/
theorem iblk1_apply (t : Fin cfg0.N) (r : Fin 256) (k : Fin 1024) :
    (iblk m c 1 t : Vec Ideal S1x1x1024 .f32) (ix3 (0 : Fin 1) (0 : Fin 1) k) = argSc m c (ix3 (batch (rowAt t r)) (0 : Fin 1) k) := by
  refine congrArg (argSc m c) (funext fun a => Fin.ext ?_)
  have e := rect1_off t
  match a with
  | ⟨0, _⟩ => show (win0_1.rect t).off (0 : Fin 3) + 1 * 0 = _; rw [e]; exact (batch_rowAt t r).symm
  | ⟨1, _⟩ => show (win0_1.rect t).off (1 : Fin 3) + 1 * 0 = 0; rw [e]; rfl
  | ⟨2, _⟩ => show (win0_1.rect t).off (2 : Fin 3) + 1 * k.val = k.val; rw [e]; show 0 + 1 * k.val = _; omega
/-- the shift -/
theorem iblk2_apply (t : Fin cfg0.N) (r : Fin 256) (k : Fin 1024) :
    (iblk m c 2 t : Vec Ideal S1x1x1024 .f32) (ix3 (0 : Fin 1) (0 : Fin 1) k) = argSh m c (ix3 (batch (rowAt t r)) (0 : Fin 1) k) := by
  refine congrArg (argSh m c) (funext fun a => Fin.ext ?_)
  have e := rect2_off t
  match a with
  | ⟨0, _⟩ => show (win0_2.rect t).off (0 : Fin 3) + 1 * 0 = _; rw [e]; exact (batch_rowAt t r).symm
  | ⟨1, _⟩ => show (win0_2.rect t).off (1 : Fin 3) + 1 * 0 = 0; rw [e]; rfl
  | ⟨2, _⟩ => show (win0_2.rect t).off (2 : Fin 3) + 1 * k.val = k.val; rw [e]; show 0 + 1 * k.val = _; omega
/-- and the result's factor. -/
theorem iblk3_apply (t : Fin cfg0.N) (r : Fin 256) (k : Fin 1024) :
    (iblk m c 3 t : Vec Ideal S1x1x1024 .f32) (ix3 (0 : Fin 1) (0 : Fin 1) k) = argG m c (ix3 (batch (rowAt t r)) (0 : Fin 1) k) := by
  refine congrArg (argG m c) (funext fun a => Fin.ext ?_)
  have e := rect3_off t
  match a with
  | ⟨0, _⟩ => show (win0_3.rect t).off (0 : Fin 3) + 1 * 0 = _; rw [e]; exact (batch_rowAt t r).symm
  | ⟨1, _⟩ => show (win0_3.rect t).off (1 : Fin 3) + 1 * 0 = 0; rw [e]; rfl
  | ⟨2, _⟩ => show (win0_3.rect t).off (2 : Fin 3) + 1 * k.val = k.val; rw [e]; show 0 + 1 * k.val = _; omega

/-- An index of a whole array through a rectangle at its origin. -/
theorem origin_eq {n k : ℕ} (off : Fin 2 → ℕ) (e : off = ![0, 0]) (i : Fin n) (j : Fin k) (a : Fin 2) : off a + 1 * ((ix2 i j) a).val = ((ix2 i j) a).val := by
  subst e
  match a with
  | ⟨0, _⟩ => show 0 + 1 * i.val = i.val; omega
  | ⟨1, _⟩ => show 0 + 1 * j.val = j.val; omega

/-- The weights and the matrices are whole at every point. -/
theorem iblk4_apply (t : Fin cfg0.N) (k : Fin 1024) : (iblk m c 4 t : Vec Ideal S1x1024 .f32) (ix2 (0 : Fin 1) k) = argN1 m c (ix2 (0 : Fin 1) k) :=
  (congrArg (V m c main_v7 : Vec Ideal S1x1024 .f32) (funext fun a => Fin.ext (origin_eq _ (rect4_off t) (0 : Fin 1) k a))).trans (entry_n1 m c k)
theorem iblk5_apply (t : Fin cfg0.N) (k : Fin 1024) : (iblk m c 5 t : Vec Ideal S1x1024 .f32) (ix2 (0 : Fin 1) k) = argN2 m c (ix2 (0 : Fin 1) k) :=
  (congrArg (V m c main_v9 : Vec Ideal S1x1024 .f32) (funext fun a => Fin.ext (origin_eq _ (rect5_off t) (0 : Fin 1) k a))).trans (entry_n2 m c k)
theorem iblk6_apply (t : Fin cfg0.N) (k : Fin 1024) (j : Fin 2816) : (iblk m c 6 t : Vec Ideal S1024x2816 .bf16) (ix2 k j) = argWg m c (ix3 (0 : Fin 1) k j) :=
  (congrArg (V m c main_v1 : Vec Ideal S1024x2816 .bf16) (funext fun a => Fin.ext (origin_eq _ (rect6_off t) k j a))).trans (entry_wg m c k j)
theorem iblk7_apply (t : Fin cfg0.N) (k : Fin 1024) (j : Fin 2816) : (iblk m c 7 t : Vec Ideal S1024x2816 .bf16) (ix2 k j) = argWu m c (ix3 (0 : Fin 1) k j) :=
  (congrArg (V m c main_v3 : Vec Ideal S1024x2816 .bf16) (funext fun a => Fin.ext (origin_eq _ (rect7_off t) k j a))).trans (entry_wu m c k j)
theorem iblk8_apply (t : Fin cfg0.N) (j : Fin 2816) (l : Fin 1024) : (iblk m c 8 t : Vec Ideal S2816x1024 .bf16) (ix2 j l) = argWd m c (ix3 (0 : Fin 1) j l) :=
  (congrArg (V m c main_v5 : Vec Ideal S2816x1024 .bf16) (funext fun a => Fin.ext (origin_eq _ (rect8_off t) j l a))).trans (entry_wd m c j l)

/-- The call's result, from the arguments in memory. -/
def GM : Vec Ideal S32768x1024 .f32 :=
  G (argX m c) (argSh m c) (argSc m c) (argG m c) (argN1 m c) (argN2 m c) (argWg m c) (argWu m c) (argWd m c)

/-- What a grid point leaves in the output's staging buffer. -/
def left (t : Fin cfg0.N) : Vec Ideal S256x1024 .f32 :=
  out0_9 (iblk m c 0 t) (iblk m c 1 t) (iblk m c 2 t) (iblk m c 3 t) (iblk m c 4 t) (iblk m c 5 t) (iblk m c 6 t) (iblk m c 7 t) (iblk m c 8 t)

/-- A grid point leaves its rows of the result. -/
theorem point_eq (t : Fin cfg0.N) (r : Fin 256) (l : Fin 1024) : left m c t (ix2 r l) = GM m c (ix2 (rowAt t r) l) := by
  unfold left
  rw [out_eq, outBlock_apply]
  simp only [iblk0_apply, iblk1_apply m c t r, iblk2_apply m c t r, iblk3_apply m c t r, iblk4_apply, iblk5_apply, iblk6_apply, iblk7_apply, iblk8_apply]
  rfl

/-- Where a grid point's block lies in the output array. -/
theorem place_eq (t : Fin cfg0.N) (r : Fin 256) (l : Fin 1024) : (win0_9.rect t).emb (ix2 r l) = ix2 (rowAt t r) l := by
  have e := rect9_off t
  refine funext fun a => Fin.ext ?_
  match a with
  | ⟨0, _⟩ => show (win0_9.rect t).off (0 : Fin 2) + 1 * r.val = 256 * t.val + r.val; rw [e]; show 256 * t.val + 1 * r.val = _; omega
  | ⟨1, _⟩ => show (win0_9.rect t).off (1 : Fin 2) + 1 * l.val = l.val; rw [e]; show 0 + 1 * l.val = _; omega

/-- The output array as the call leaves it. -/
def outArr : Vec Ideal S32768x1024 .f32 := (dats m 0 c).arrAt 9 cfg0.N

/-- A grid point's block of the output array is what the point left. -/
theorem block_eq (t : Fin cfg0.N) (r : Fin 256) (l : Fin 1024) : outArr m c (ix2 (rowAt t r) l) = left m c t (ix2 r l) := by
  rw [← place_eq]
  have e := congrFun (Cert.FfnIdeal.Value.blocks9 m c t (flush0_9 t)) (ix2 r l)
  rw [Cert.FfnIdeal.Value.flushed9] at e
  exact e

/-- The call leaves the feed-forward result of its arguments. -/
theorem final_eq : outArr m c = GM m c := by
  funext y
  obtain ⟨s, l, rfl⟩ : ∃ (s : Fin 32768) (l : Fin 1024), y = ix2 s l := ⟨_, _, eq_ix2 y⟩
  obtain ⟨t, r, rfl⟩ : ∃ (t : Fin cfg0.N) (r : Fin 256), s = rowAt t r :=
    ⟨⟨s.val / 256, by show _ < 128; omega⟩, ⟨s.val % 256, by omega⟩, Fin.ext (by show s.val = 256 * (s.val / 256) + s.val % 256; omega)⟩
  rw [block_eq, point_eq]

end Cert.Proof.FF
-- ==== Proof.HostRows.lean ====
/-
  The references' row operations read row by row: the root-mean-square normalisation of a batch of sequences, and its
  modulation.
-/
module

public import proofs.«01_k».proof.Proof.Rows
public import Idealize.ShloMosaic.Lib.StableHlo

@[expose] public section

set_option maxRecDepth 16384

noncomputable section

open Idealize.ShloMosaic Idealize.ShloMosaic.ValueIdx

namespace Cert.Proof.Rows

variable {B T N : ℕ}

/-- A constant laid over an array. -/
theorem const_apply {s : Shape} (w : BitVec 32) (h : (⟨0, ![]⟩ : Shape).BroadcastsInDim s ![]) (i : s.Idx) :
    (broadcastInDim s ![] h (constant ⟨0, ![]⟩ .f32 w : FVec Ideal ⟨0, ![]⟩ .f32) : FVec Ideal s .f32) i = Ideal.ofBits .f32 w := rfl

/-- A coordinate is itself, or zero where the axis has one place. -/
theorem coord_eq {n : ℕ} (k : Fin n) : k.val = if n = 1 then 0 else k.val := by
  split
  · omega
  · rfl

/-- A weight vector laid over every row of a batch. -/
theorem weights_apply (g : FVec Ideal ⟨1, ![N]⟩ .f32) (h1 : (⟨1, ![N]⟩ : Shape).BroadcastsInDim ⟨3, ![1, 1, N]⟩ ![2])
    (h2 : (⟨3, ![1, 1, N]⟩ : Shape).BroadcastsInDim ⟨3, ![B, T, N]⟩ ![0, 1, 2]) (b : Fin B) (t : Fin T) (l : Fin N) :
    (broadcastInDim ⟨3, ![B, T, N]⟩ ![0, 1, 2] h2 (broadcastInDim ⟨3, ![1, 1, N]⟩ ![2] h1 g) : FVec Ideal ⟨3, ![B, T, N]⟩ .f32) (ix3 b t l) = g (ix1 l) := by
  refine (broadcastInDim_apply ![0, 1, 2] h2 _ (ix3 b t l) (ix3 (0 : Fin 1) (0 : Fin 1) l) (fun a => ?_)).trans
    (broadcastInDim_apply ![2] h1 g (ix3 (0 : Fin 1) (0 : Fin 1) l) (ix1 l) (fun a => ?_))
  · match a with
    | ⟨0, _⟩ => show 0 = if (1 : ℕ) = 1 then 0 else _; rw [if_pos rfl]
    | ⟨1, _⟩ => show 0 = if (1 : ℕ) = 1 then 0 else _; rw [if_pos rfl]
    | ⟨2, _⟩ => exact coord_eq l
  · match a with | ⟨0, _⟩ => exact coord_eq l

/-- One modulation vector per sequence, laid over its rows. -/
theorem mods_apply (g : FVec Ideal ⟨3, ![B, 1, N]⟩ .f32) (h : (⟨3, ![B, 1, N]⟩ : Shape).BroadcastsInDim ⟨3, ![B, T, N]⟩ ![0, 1, 2])
    (b : Fin B) (t : Fin T) (l : Fin N) :
    (broadcastInDim ⟨3, ![B, T, N]⟩ ![0, 1, 2] h g : FVec Ideal ⟨3, ![B, T, N]⟩ .f32) (ix3 b t l) = g (ix3 b (0 : Fin 1) l) := by
  refine broadcastInDim_apply ![0, 1, 2] h _ (ix3 b t l) (ix3 b (0 : Fin 1) l) (fun a => ?_)
  match a with
  | ⟨0, _⟩ => exact coord_eq b
  | ⟨1, _⟩ => show 0 = if (1 : ℕ) = 1 then 0 else _; rw [if_pos rfl]
  | ⟨2, _⟩ => exact coord_eq l

/-- A batch's normalisation: every row over the root of its mean square, times the weights. -/
def rmsHost (y : FVec Ideal ⟨3, ![B, T, N]⟩ .f32) (g : FVec Ideal ⟨1, ![N]⟩ .f32)
    (hr : (⟨3, ![B, T, N]⟩ : Shape).ReducesTo [2] ⟨2, ![B, T]⟩) (h0 : 0 < (⟨0, ![]⟩ : Shape).numel)
    (hk : (⟨2, ![B, T]⟩ : Shape).BroadcastsInDim ⟨3, ![B, T, 1]⟩ ![0, 1]) (hc : (⟨0, ![]⟩ : Shape).BroadcastsInDim ⟨3, ![B, T, 1]⟩ ![])
    (hl : (⟨3, ![B, T, 1]⟩ : Shape).BroadcastsInDim ⟨3, ![B, T, N]⟩ ![0, 1, 2])
    (h1 : (⟨1, ![N]⟩ : Shape).BroadcastsInDim ⟨3, ![1, 1, N]⟩ ![2])
    (h2 : (⟨3, ![1, 1, N]⟩ : Shape).BroadcastsInDim ⟨3, ![B, T, N]⟩ ![0, 1, 2]) : FVec Ideal ⟨3, ![B, T, N]⟩ .f32 :=
  mulf (mulf y (broadcastInDim ⟨3, ![B, T, N]⟩ ![0, 1, 2] hl (Host.rsqrt (addf
    (Host.divf (broadcastInDim ⟨3, ![B, T, 1]⟩ ![0, 1] hk (Host.reduceAdd (mulf y y) (constant ⟨0, ![]⟩ .f32 0x00000000#32) hr h0))
      (broadcastInDim ⟨3, ![B, T, 1]⟩ ![] hc (constant ⟨0, ![]⟩ .f32 0x44800000#32)))
    (broadcastInDim ⟨3, ![B, T, 1]⟩ ![] hc (constant ⟨0, ![]⟩ .f32 0x358637BD#32))))))
    (broadcastInDim ⟨3, ![B, T, N]⟩ ![0, 1, 2] h2 (broadcastInDim ⟨3, ![1, 1, N]⟩ ![2] h1 g))

/-- A batch's normalisation, row by row. -/
theorem rmsHost_apply (y : FVec Ideal ⟨3, ![B, T, N]⟩ .f32) (g : FVec Ideal ⟨1, ![N]⟩ .f32)
    (hr : (⟨3, ![B, T, N]⟩ : Shape).ReducesTo [2] ⟨2, ![B, T]⟩) (hq : (⟨3, ![B, T, N]⟩ : Shape).Reduces [2] ⟨2, ![B, T]⟩)
    (h0 : 0 < (⟨0, ![]⟩ : Shape).numel)
    (hk : (⟨2, ![B, T]⟩ : Shape).BroadcastsInDim ⟨3, ![B, T, 1]⟩ ![0, 1]) (hc : (⟨0, ![]⟩ : Shape).BroadcastsInDim ⟨3, ![B, T, 1]⟩ ![])
    (hl : (⟨3, ![B, T, 1]⟩ : Shape).BroadcastsInDim ⟨3, ![B, T, N]⟩ ![0, 1, 2])
    (h1 : (⟨1, ![N]⟩ : Shape).BroadcastsInDim ⟨3, ![1, 1, N]⟩ ![2])
    (h2 : (⟨3, ![1, 1, N]⟩ : Shape).BroadcastsInDim ⟨3, ![B, T, N]⟩ ![0, 1, 2]) (b : Fin B) (t : Fin T) (l : Fin N) :
    rmsHost y g hr h0 hk hc hl h1 h2 (ix3 b t l) = rms (fun k => y (ix3 b t k)) (fun k => g (ix1 k)) l := by
  unfold rmsHost rms
  show y (ix3 b t l) * broadcastInDim ⟨3, ![B, T, N]⟩ ![0, 1, 2] hl (_ : FVec Ideal ⟨3, ![B, T, 1]⟩ .f32) (ix3 b t l) * broadcastInDim ⟨3, ![B, T, N]⟩ ![0, 1, 2] h2 (broadcastInDim ⟨3, ![1, 1, N]⟩ ![2] h1 g) (ix3 b t l) = _
  rw [weights_apply]
  rw [broadcastInDim_apply ![0, 1, 2] hl _ (ix3 b t l) (ix3 b t (0 : Fin 1)) (fun a => by
    match a with
    | ⟨0, _⟩ => exact coord_eq b
    | ⟨1, _⟩ => exact coord_eq t
    | ⟨2, _⟩ => show 0 = if (1 : ℕ) = 1 then 0 else _; rw [if_pos rfl])]
  show y (ix3 b t l) * Ideal.rsqrt (Ideal.div (broadcastInDim ⟨3, ![B, T, 1]⟩ ![0, 1] hk (_ : FVec Ideal ⟨2, ![B, T]⟩ .f32) (ix3 b t (0 : Fin 1))) len + eps) * _ = _
  rw [broadcastInDim_apply ![0, 1] hk _ (ix3 b t (0 : Fin 1)) (ix2 b t) (fun a => by
    match a with
    | ⟨0, _⟩ => exact coord_eq b
    | ⟨1, _⟩ => exact coord_eq t)]
  refine congrArg (fun s => y (ix3 b t l) * Ideal.rsqrt (Ideal.div s len + eps) * g (ix1 l))
    ((Ideal.hostReduceAdd_single hr hq (mulf y y) _ (ix2 b t)).trans ?_)
  refine (congrArg (· + _) (show _ = (0 : EReal) from zero_eq)).trans ((zero_add _).trans (Finset.sum_congr rfl fun k _ => ?_))
  have e : hq.lift (ix2 b t) k = ix3 b t k := by
    refine funext fun a => Fin.ext ?_
    rw [hq.lift_val]
    match a with
    | ⟨0, _⟩ => rfl
    | ⟨1, _⟩ => rfl
    | ⟨2, _⟩ => rfl
  rw [e]
  rfl

/-- A normalised batch's modulation: scaled by one more than `sc`, shifted by `sh`. -/
theorem modHost_apply (y : FVec Ideal ⟨3, ![B, T, N]⟩ .f32) (sc sh : FVec Ideal ⟨3, ![B, 1, N]⟩ .f32)
    (hc : (⟨0, ![]⟩ : Shape).BroadcastsInDim ⟨3, ![B, 1, N]⟩ ![]) (h : (⟨3, ![B, 1, N]⟩ : Shape).BroadcastsInDim ⟨3, ![B, T, N]⟩ ![0, 1, 2])
    (b : Fin B) (t : Fin T) (l : Fin N) :
    addf (mulf y (broadcastInDim ⟨3, ![B, T, N]⟩ ![0, 1, 2] h
        (addf (broadcastInDim ⟨3, ![B, 1, N]⟩ ![] hc (constant ⟨0, ![]⟩ .f32 0x3F800000#32)) sc)))
      (broadcastInDim ⟨3, ![B, T, N]⟩ ![0, 1, 2] h sh) (ix3 b t l)
      = y (ix3 b t l) * (one + sc (ix3 b (0 : Fin 1) l)) + sh (ix3 b (0 : Fin 1) l) := by
  show y (ix3 b t l) * broadcastInDim ⟨3, ![B, T, N]⟩ ![0, 1, 2] h (_ : FVec Ideal ⟨3, ![B, 1, N]⟩ .f32) (ix3 b t l) + broadcastInDim ⟨3, ![B, T, N]⟩ ![0, 1, 2] h sh (ix3 b t l) = _
  rw [mods_apply, mods_apply]
  rfl

end Cert.Proof.Rows
-- ==== Proof.FfnRef.lean ====
/-
  What the feed-forward reference computes, row by row: the same function of a row, its batch element's modulation and
  the weights.
-/
module

public import proofs.«01_k».proof.Proof.FfnValue
public import proofs.«01_k».proof.Proof.HostRows
public import proofs.«01_k».proof.Proof.Gen.FfnReferenceIdeal.Read

@[expose] public section

set_option maxRecDepth 16384

noncomputable section

open Idealize.ShloMosaic Idealize.ShloMosaic.ValueIdx Idealize.SL.Sem Cert.FfnReferenceIdeal Cert.FfnReferenceIdeal.Gen Cert.FfnReferenceIdeal.Read
open Cert.Proof.Rows

namespace Cert.Proof.FF

/-- A row's place in its batch element. -/
def place (s : Fin 32768) : Fin 8192 := ⟨s.val % 8192, by omega⟩

variable (x : Vec Ideal S32768x1024 .f32) (sh sc g : Vec Ideal S4x1x1024 .f32) (n1 n2 : Vec Ideal S1x1024 .f32)
  (wg wu : Vec Ideal S1x1024x2816 .f32) (wd : Vec Ideal S1x2816x1024 .f32) (s : Fin 32768)

/-- The stream's rows, batch element by batch element. -/
theorem stream_apply (k : Fin 1024) : val_main_v0 (F := Ideal) x (ix3 (batch s) (place s) k) = x (ix2 s k) := by
  refine (val_main_v0_apply _ _).trans (congrArg x (funext fun a => Fin.ext ?_))
  match a with
  | ⟨0, _⟩ => show ((s.val / 8192 * 8192 + s.val % 8192) * 1024 + k.val) / 1024 = s.val; omega
  | ⟨1, _⟩ => show ((s.val / 8192 * 8192 + s.val % 8192) * 1024 + k.val) % 1024 = k.val; omega

/-- The first normalisation's weights. -/
theorem n1_apply (k : Fin 1024) : val_main_v1 (F := Ideal) n1 (ix1 k) = n1 (ix2 (0 : Fin 1) k) := by
  refine (val_main_v1_apply _ _).trans (congrArg n1 (funext fun a => Fin.ext ?_))
  match a with
  | ⟨0, _⟩ => rfl
  | ⟨1, _⟩ => show k.val % 1024 = k.val; omega

/-- The second normalisation's weights. -/
theorem n2_apply (k : Fin 1024) : val_main_v29 (F := Ideal) n2 (ix1 k) = n2 (ix2 (0 : Fin 1) k) := by
  refine (val_main_v29_apply _ _).trans (congrArg n2 (funext fun a => Fin.ext ?_))
  match a with
  | ⟨0, _⟩ => rfl
  | ⟨1, _⟩ => show k.val % 1024 = k.val; omega

/-- The matrices, their unit axis dropped. -/
theorem wg_apply (k : Fin 1024) (j : Fin 2816) : val_main_v21 (F := Ideal) wg (ix2 k j) = wg (ix3 (0 : Fin 1) k j) := by
  refine (shapeCast_dropUnit_apply ![1024, 2816] wg _ (ix2 k j)).trans (congrArg wg (funext fun a => ?_))
  match a with | ⟨0, _⟩ => rfl | ⟨1, _⟩ => rfl | ⟨2, _⟩ => rfl
theorem wu_apply (k : Fin 1024) (j : Fin 2816) : val_main_v24 (F := Ideal) wu (ix2 k j) = wu (ix3 (0 : Fin 1) k j) := wg_apply wu k j
theorem wd_apply (j : Fin 2816) (l : Fin 1024) : val_main_v27 (F := Ideal) wd (ix2 j l) = wd (ix3 (0 : Fin 1) j l) := by
  refine (shapeCast_dropUnit_apply ![2816, 1024] wd _ (ix2 j l)).trans (congrArg wd (funext fun a => ?_))
  match a with | ⟨0, _⟩ => rfl | ⟨1, _⟩ => rfl | ⟨2, _⟩ => rfl

/-- A row of the stream with its batch element's modulation, normalised and modulated. -/
def hid : Fin 1024 → EReal :=
  modulated (fun k => x (ix2 s k)) (fun k => n1 (ix2 (0 : Fin 1) k)) (fun k => sc (ix3 (batch s) (0 : Fin 1) k)) (fun k => sh (ix3 (batch s) (0 : Fin 1) k))

/-- The reference's normalised and modulated rows. -/
theorem hid_apply (k : Fin 1024) : val_main_v20 (F := Ideal) x sh sc n1 (ix3 (batch s) (place s) k) = hid x sh sc n1 s k := by
  refine (modHost_apply (val_main_v14 (F := Ideal) x n1) sc sh bcast_S_S4x1x1024 bcast_S4x1x1024_S4x8192x1024_0_1_2 (batch s) (place s) k).trans ?_
  have e := rmsHost_apply (val_main_v0 (F := Ideal) x) (val_main_v1 (F := Ideal) n1) reducesTo_S4x8192x1024_S4x8192_d2 (by decide) h_S_
    bcast_S4x8192_S4x8192x1_0_1 bcast_S_S4x8192x1 bcast_S4x8192x1_S4x8192x1024_0_1_2 bcast_S1024_S1x1x1024_2 bcast_S1x1x1024_S4x8192x1024_0_1_2 (batch s) (place s) k
  refine (congrArg (· * (one + sc (ix3 (batch s) (0 : Fin 1) k)) + sh (ix3 (batch s) (0 : Fin 1) k)) e).trans ?_
  simp only [stream_apply, n1_apply]
  rfl

/-- The reference's two projections of a row. -/
theorem gate_apply (j : Fin 2816) : val_main_v22 (F := Ideal) x sh sc n1 wg (ix3 (batch s) (place s) j)
    = rowMul (hid x sh sc n1 s) (fun k j => wg (ix3 (0 : Fin 1) k j)) j := by
  refine (val_main_v22_apply ..).trans (Finset.sum_congr rfl fun k _ => ?_)
  refine congrArg₂ (· * ·) ((congrArg _ ?_).trans (hid_apply x sh sc n1 s k)) ((congrArg _ ?_).trans (wg_apply wg k j))
  · exact funext fun a => by match a with | ⟨0, _⟩ => rfl | ⟨1, _⟩ => rfl | ⟨2, _⟩ => rfl
  · exact funext fun a => by match a with | ⟨0, _⟩ => rfl | ⟨1, _⟩ => rfl
theorem up_apply (j : Fin 2816) : val_main_v25 (F := Ideal) x sh sc n1 wu (ix3 (batch s) (place s) j)
    = rowMul (hid x sh sc n1 s) (fun k j => wu (ix3 (0 : Fin 1) k j)) j := gate_apply x sh sc n1 wu s j

/-- The reference's inner lanes. -/
theorem inner_apply (j : Fin 2816) : val_main_v26 (F := Ideal) x sh sc n1 wg wu (ix3 (batch s) (place s) j)
    = inner (hid x sh sc n1 s) (fun k j => wg (ix3 (0 : Fin 1) k j)) (fun k j => wu (ix3 (0 : Fin 1) k j)) j := by
  show val_main_v22 (F := Ideal) x sh sc n1 wg (ix3 (batch s) (place s) j) * sigm (val_main_v22 (F := Ideal) x sh sc n1 wg (ix3 (batch s) (place s) j))
    * val_main_v25 (F := Ideal) x sh sc n1 wu (ix3 (batch s) (place s) j) = _
  rw [gate_apply, up_apply]
  rfl

/-- The reference's feed-forward part of a row. -/
theorem ffn_apply (l : Fin 1024) : val_main_v28 (F := Ideal) x sh sc n1 wg wu wd (ix3 (batch s) (place s) l)
    = ffn (hid x sh sc n1 s) (fun k j => wg (ix3 (0 : Fin 1) k j)) (fun k j => wu (ix3 (0 : Fin 1) k j)) (fun j l => wd (ix3 (0 : Fin 1) j l)) l := by
  unfold ffn rowMul
  refine (val_main_v28_apply ..).trans (Finset.sum_congr rfl fun j _ => ?_)
  refine congrArg₂ (· * ·) ((congrArg _ ?_).trans (inner_apply x sh sc n1 wg wu s j)) ((congrArg _ ?_).trans (wd_apply wd j l))
  · exact funext fun a => by match a with | ⟨0, _⟩ => rfl | ⟨1, _⟩ => rfl | ⟨2, _⟩ => rfl
  · exact funext fun a => by match a with | ⟨0, _⟩ => rfl | ⟨1, _⟩ => rfl

/-- The reference's result, a row at a time. -/
theorem result_apply (l : Fin 1024) : val_main_v45 (F := Ideal) x sh sc g n1 n2 wg wu wd (ix3 (batch s) (place s) l)
    = G x sh sc g n1 n2 wg wu wd (ix2 s l) := by
  show val_main_v0 (F := Ideal) x (ix3 (batch s) (place s) l) + val_main_v43 (F := Ideal) g (ix3 (batch s) (place s) l)
    * val_main_v42 (F := Ideal) x sh sc n1 n2 wg wu wd (ix3 (batch s) (place s) l) = _
  have e := rmsHost_apply (val_main_v28 (F := Ideal) x sh sc n1 wg wu wd) (val_main_v29 (F := Ideal) n2) reducesTo_S4x8192x1024_S4x8192_d2 (by decide) h_S_
    bcast_S4x8192_S4x8192x1_0_1 bcast_S_S4x8192x1 bcast_S4x8192x1_S4x8192x1024_0_1_2 bcast_S1024_S1x1x1024_2 bcast_S1x1x1024_S4x8192x1024_0_1_2 (batch s) (place s) l
  have e2 := mods_apply g bcast_S4x1x1024_S4x8192x1024_0_1_2 (batch s) (place s) l
  refine congrArg₂ (· + ·) (stream_apply x s l) (congrArg₂ (· * ·) e2 (e.trans ?_))
  simp only [ffn_apply, n2_apply]
  rfl

/-- The reference computes the feed-forward result of its arguments. -/
theorem ref_eq : val_main_v46 (F := Ideal) x sh sc g n1 n2 wg wu wd = G x sh sc g n1 n2 wg wu wd := by
  funext y
  obtain ⟨s, l, rfl⟩ : ∃ (s : Fin 32768) (l : Fin 1024), y = ix2 s l := ⟨_, _, eq_ix2 y⟩
  refine (val_main_v46_apply ..).trans ((congrArg _ ?_).trans (result_apply x sh sc g n1 n2 wg wu wd s l))
  refine funext fun a => Fin.ext ?_
  match a with
  | ⟨0, _⟩ => show (s.val * 1024 + l.val) / 8388608 = s.val / 8192; omega
  | ⟨1, _⟩ => show (s.val * 1024 + l.val) / 1024 % 8192 = s.val % 8192; omega
  | ⟨2, _⟩ => show (s.val * 1024 + l.val) % 1024 = l.val; omega

end Cert.Proof.FF
-- ==== Proof.FfnClaim.lean ====
/-
  The claims of the feed-forward call: the equality of the kernel's and the reference's results, and the reference's frame.
-/
module

public import proofs.«01_k».proof.Defs
public import proofs.«01_k».proof.Proof.FfnRef
public import proofs.«01_k».proof.Proof.Gen.FfnReferenceIdeal.Run

@[expose] public section

set_option maxRecDepth 16384

noncomputable section

open Idealize.ShloMosaic Idealize.ShloMosaic.ValueIdx Idealize.SL.Sem

namespace Cert.Proof.FF

/-- The kernel's and the reference's results are equal, whatever the arguments. -/
theorem algebraic : Cert.algebraic_FfnIdeal_FfnReferenceIdeal (hFfnIdeal := Cert.FfnIdeal.Gen.facts)
    (hFfnReferenceIdeal := Cert.FfnReferenceIdeal.Gen.facts) := fun m ρ m' ρ' _ hag =>
  ⟨fun c => GM m c,
    (θ_run _ _ _).mono (fun _ h c => ⟨(h c).1.trans (by exact final_eq m c), (h c).2⟩) (Cert.FfnIdeal.Value.run_blocks m ρ),
    (θ_run _ _ _).mono (fun _ h c => ⟨(h c).1.trans (by
        obtain ⟨e0, e1, e2, e3, e4, e5, e6, e7, e8⟩ := hag c
        rw [Cert.FfnReferenceIdeal.Read.val_main_v46_eq, e0, e1, e2, e3, e4, e5, e6, e7, e8]
        exact ref_eq (argX m c) (argSh m c) (argSc m c) (argG m c) (argN1 m c) (argN2 m c) (argWg m c) (argWu m c) (argWd m c)), (h c).2⟩)
      (Cert.FfnReferenceIdeal.Value.run m' ρ')⟩

/-- The reference runs, keeps its arguments and ends quiescent. -/
theorem frame_ref : Cert.quiescent_FfnReferenceIdeal (hFfnReferenceIdeal := Cert.FfnReferenceIdeal.Gen.facts) := fun m ρ _ =>
  (θ_run Cert.FfnReferenceIdeal.defs _ _).mono (fun r h => ⟨fun c => (h c).2, sem_eq_zero_of_no_sems (by decide) r.2⟩)
    (Cert.FfnReferenceIdeal.Value.run (F := Ideal) m ρ)

end Cert.Proof.FF
-- ==== Proof.Products.lean ====
/-
  A kernel block's matrix products read row by row, and loads of a matrix's columns.
-/
module

public import proofs.«01_k».proof.Proof.Rows
public import Idealize.ShloMosaic.Lib.Pipeline.FrameBody

@[expose] public section

set_option maxRecDepth 16384

noncomputable section

open Idealize.ShloMosaic Idealize.ShloMosaic.ValueIdx Idealize.SL.Sem

namespace Cert.Proof.Rows

/-- A block's product with a matrix, from a zero accumulator: every row of the block times the matrix. -/
theorem product_apply {M K N : ℕ} (x : FVec Ideal ⟨2, ![M, K]⟩ .bf16) (w : FVec Ideal ⟨2, ![K, N]⟩ .bf16)
    (h : (⟨2, ![K, N]⟩ : Shape).ShapeCasts ⟨2, ![K, N]⟩) (r : Fin M) (j : Fin N) :
    FloatOps.matmul (DotDims.plain M K N) none x (shapeCast ⟨2, ![K, N]⟩ w h : FVec Ideal ⟨2, ![K, N]⟩ .bf16)
        (constant ⟨2, ![M, N]⟩ .f32 0x00000000#32) (ix2 r j)
      = rowMul (fun k => x (ix2 r k)) (fun k j => w (ix2 k j)) j := by
  refine (Ideal.matmul_plain_apply none x _ _ r j).trans ?_
  show Ideal.ofBits .f32 0x00000000#32 + _ = _
  rw [Ideal.ofBits_zero_f32, zero_add]
  exact Finset.sum_congr rfl fun k _ => congrArg (x (ix2 r k) * ·) (shapeCast_apply _ _ _ (ix2 k j) rfl)

/-- A load of the columns from `off` on reads the matrix that many columns further on. -/
theorem cols_apply {e : EltTy} {K N n off : ℕ} (w : Vec Ideal ⟨2, ![K, N]⟩ e)
    (h : ∀ a, (![0, off] : Fin 2 → ℕ) a + (⟨2, ![K, n]⟩ : Shape).size a ≤ (⟨2, ![K, N]⟩ : Shape).size a) (k : Fin K) (j : Fin n) (hj : off + j.val < N) :
    (View.ld w (Rect.unit (s := ⟨2, ![K, N]⟩) ![0, off] (⟨2, ![K, n]⟩ : Shape).size h) : Vec Ideal ⟨2, ![K, n]⟩ e) (ix2 k j) = w (ix2 k ⟨off + j.val, hj⟩) := by
  refine congrArg w (funext fun a => Fin.ext ?_)
  match a with
  | ⟨0, _⟩ => show 0 + 1 * k.val = k.val; omega
  | ⟨1, _⟩ => show off + 1 * j.val = off + j.val; omega

/-- A product with the columns from `off` on, the block's row given as a function: that row times the matrix, `off` further on. -/
theorem product_cols_apply {M K N n off : ℕ} (x : FVec Ideal ⟨2, ![M, K]⟩ .bf16) (w : Vec Ideal ⟨2, ![K, N]⟩ .bf16)
    (hs : (⟨2, ![K, n]⟩ : Shape).ShapeCasts ⟨2, ![K, n]⟩)
    (h : ∀ a, (![0, off] : Fin 2 → ℕ) a + (⟨2, ![K, n]⟩ : Shape).size a ≤ (⟨2, ![K, N]⟩ : Shape).size a) (r : Fin M) (f : Fin K → EReal)
    (hf : ∀ k, x (ix2 r k) = f k) (j : Fin n) (hj : off + j.val < N) :
    FloatOps.matmul (DotDims.plain M K n) none x (shapeCast ⟨2, ![K, n]⟩
        (View.ld w (Rect.unit (s := ⟨2, ![K, N]⟩) ![0, off] (⟨2, ![K, n]⟩ : Shape).size h) : Vec Ideal ⟨2, ![K, n]⟩ .bf16) hs : FVec Ideal ⟨2, ![K, n]⟩ .bf16)
        (constant ⟨2, ![M, n]⟩ .f32 0x00000000#32) (ix2 r j)
      = rowMul f (fun k q => w (ix2 k q)) ⟨off + j.val, hj⟩ :=
  (product_apply x _ hs r j).trans (Finset.sum_congr rfl fun k _ => congrArg₂ (· * ·) (hf k) (cols_apply w h k j hj))

/-- Matrices side by side, read in the columns of one of them. -/
theorem joined_apply {e : EltTy} {K N n : ℕ} (xs : List ((s : Shape) × (s.Idx → Elt Ideal e))) (h : Shape.Concatenates (xs.map (·.1)) ⟨2, ![K, N]⟩ 1)
    (k : Fin K) (q : Fin N) (p : ℕ) (hp : p < xs.length) (x₁ : Vec Ideal ⟨2, ![K, n]⟩ e) (hx : xs[p] = ⟨⟨2, ![K, n]⟩, x₁⟩) (pre : ℕ)
    (hpre : (((xs.take p).map (·.1)).map fun s => if h : s.rank = (⟨2, ![K, N]⟩ : Shape).rank then s.size (Fin.cast h.symm (1 : Fin 2)) else 0).sum = pre)
    (l : Fin n) (hl : pre + l.val = q.val) :
    concatenate ⟨2, ![K, N]⟩ 1 xs h (ix2 k q) = x₁ (ix2 k l) :=
  concatenate_apply_piece 1 xs h (ix2 k q) p hp _ x₁ hx rfl pre hpre (ix2 k l) (fun b hb => by
    match b with
    | ⟨0, _⟩ => rfl
    | ⟨1, _⟩ => exact absurd rfl hb) hl

/-- Columns of a matrix, read in the matrix. -/
theorem colsOf_apply {e : EltTy} {K N n off : ℕ} (w : Vec Ideal ⟨2, ![K, N]⟩ e) (h : (⟨2, ![K, N]⟩ : Shape).Slices ![0, off] ⟨2, ![K, n]⟩)
    (k : Fin K) (l : Fin n) (hl : off + l.val < N) :
    extractStridedSlice ⟨2, ![K, n]⟩ ![0, off] w h (ix2 k l) = w (ix2 k ⟨off + l.val, hl⟩) :=
  extractStridedSlice_apply ![0, off] w h (ix2 k l) (ix2 k ⟨off + l.val, hl⟩) (fun a => by
    match a with
    | ⟨0, _⟩ => show k.val = 0 + k.val; omega
    | ⟨1, _⟩ => rfl)

end Cert.Proof.Rows
-- ==== Proof.InprojBlock.lean ====
/-
  One grid point of the input projections: 256 rows of the stream, normalised and modulated, through the matrices of the
  two branches and of the gates, and through the indexer's matrix in a product split over leading and trailing parts.
-/
module

public import proofs.«01_k».proof.Proof.FfnBlock
public import proofs.«01_k».proof.Proof.Products
public import proofs.«01_k».proof.Proof.Gen.InprojIdeal.Frame

@[expose] public section

set_option maxRecDepth 16384

noncomputable section

open Idealize.ShloMosaic Idealize.ShloMosaic.ValueIdx Idealize.SL.Sem Cert.InprojIdeal Cert.InprojIdeal.Gen Cert.Proof.Rows

namespace Cert.Proof.IN

/-- The word of one eighth, by which queries are scaled. -/
def eighth : EReal := Ideal.ofBits .f32 0x3E000000#32

/-- A row through a matrix in a product split in three: leading part by leading part, the row's trailing part by the
    leading matrix, and the row by the trailing matrix. -/
def splitMul {n k : ℕ} (h : Fin n → EReal) (W D : Fin n → Fin k → EReal) (j : Fin k) : EReal :=
  rowMul h W j + rowMul (fun i => h i - h i) W j + rowMul h D j

/-- Where the row is real and the trailing matrix is nothing in a column, the split product is the product in that column. -/
theorem splitMul_eq {n k : ℕ} (h : Fin n → EReal) (W D : Fin n → Fin k → EReal) (j : Fin k) (hh : ∀ i, ∃ y : ℝ, h i = y) (hD : ∀ i, D i j = 0) :
    splitMul h W D j = rowMul h W j := by
  have e1 : rowMul (fun i => h i - h i) W j = 0 := Finset.sum_eq_zero fun i _ => by
    obtain ⟨y, hy⟩ := hh i
    show (h i - h i) * W i j = 0
    rw [hy, ← EReal.coe_sub, sub_self, EReal.coe_zero, zero_mul]
  have e2 : rowMul h D j = 0 := Finset.sum_eq_zero fun i _ => by rw [hD, mul_zero]
  unfold splitMul
  rw [e1, e2, add_zero, add_zero]

variable (x0 : Vec Ideal S256x1024 .f32) (x1 x2 : Vec Ideal S1x1x1024 .f32) (x3 : Vec Ideal S1x1024 .f32) (x4 : Vec Ideal S1024x3072 .bf16)
  (x5 : Vec Ideal S1024x2048 .bf16) (x6 x7 : Vec Ideal S1024x512 .bf16) (r : Fin 256)

/-- A row of the point's block, normalised and modulated. -/
def hRow : Fin 1024 → EReal :=
  modulated (fun k => x0 (ix2 r k)) (fun k => x3 (ix2 (0 : Fin 1) k)) (fun k => x1 (ix3 (0 : Fin 1) (0 : Fin 1) k)) (fun k => x2 (ix3 (0 : Fin 1) (0 : Fin 1) k))

/-- A row of the point's block through the branches' matrices. -/
def mainRow (q : Fin 3072) : EReal := rowMul (hRow x0 x1 x2 x3 r) (fun k j => x4 (ix2 k j)) q

/-- The block the products take. -/
theorem h_eq : k0_pay7 (View.ld x0 r0_0) (View.ld x3 r0_1) (View.ld x1 r0_2) (View.ld x2 r0_2)
    = truncf .bf16 (FF.hBlock x0 x2 x1 x3) bitsLt_bf16_f32 := by
  rw [View.ld_unit_zero FF.off2 _ x0, View.ld_unit_zero FF.off2 _ x3, View.ld_unit_zero FF.off3 _ x1, View.ld_unit_zero FF.off3 _ x2]
  rfl

theorem h_apply (k : Fin 1024) : k0_pay7 (View.ld x0 r0_0) (View.ld x3 r0_1) (View.ld x1 r0_2) (View.ld x2 r0_2) (ix2 r k) = hRow x0 x1 x2 x3 r k := by
  rw [h_eq]
  exact FF.hBlock_apply x0 x2 x1 x3 r k

/-- The block's trailing part. -/
theorem d_apply (k : Fin 1024) : k0_pay8 (View.ld x0 r0_0) (View.ld x3 r0_1) (View.ld x1 r0_2) (View.ld x2 r0_2) (ix2 r k)
    = hRow x0 x1 x2 x3 r k - hRow x0 x1 x2 x3 r k := by
  have e := h_apply x0 x1 x2 x3 r k
  exact congrArg₂ (· - ·) e e

/-! ## What a point leaves, output by output -/

/-- The first branch's scaled queries, -/
theorem out8_apply (l : Fin 512) : out0_8 x0 x1 x2 x3 x4 x5 x6 x7 (ix2 r l) = mainRow x0 x1 x2 x3 x4 r ⟨0 + l.val, by omega⟩ * eighth := by
  unfold out0_8
  rw [View.canon_cons_unit_zero FF.off2]
  exact congrArg (· * eighth) (product_cols_apply (M := 256) (K := 1024) (N := 3072) (n := 512) _ x4 shapeCasts_S1024x512_S1024x512
    inb_S1024x3072_S1024x512_0_0 r _ (h_apply x0 x1 x2 x3 r) l (by omega))
/-- its keys -/
theorem out9_apply (l : Fin 512) : out0_9 x0 x1 x2 x3 x4 x5 x6 x7 (ix2 r l) = mainRow x0 x1 x2 x3 x4 r ⟨512 + l.val, by omega⟩ := by
  unfold out0_9
  rw [View.canon_cons_unit_zero FF.off2]
  exact product_cols_apply (M := 256) (K := 1024) (N := 3072) (n := 512) _ x4 shapeCasts_S1024x512_S1024x512
    inb_S1024x3072_S1024x512_0_512 r _ (h_apply x0 x1 x2 x3 r) l (by omega)
/-- and its values. -/
theorem out10_apply (l : Fin 512) : out0_10 x0 x1 x2 x3 x4 x5 x6 x7 (ix2 r l) = mainRow x0 x1 x2 x3 x4 r ⟨1024 + l.val, by omega⟩ := by
  unfold out0_10
  rw [View.canon_cons_unit_zero FF.off2]
  exact product_cols_apply (M := 256) (K := 1024) (N := 3072) (n := 512) _ x4 shapeCasts_S1024x512_S1024x512
    inb_S1024x3072_S1024x512_0_1024 r _ (h_apply x0 x1 x2 x3 r) l (by omega)
/-- The second branch's scaled queries, -/
theorem out11_apply (l : Fin 512) : out0_11 x0 x1 x2 x3 x4 x5 x6 x7 (ix2 r l) = mainRow x0 x1 x2 x3 x4 r ⟨1536 + l.val, by omega⟩ * eighth := by
  unfold out0_11
  rw [View.canon_cons_unit_zero FF.off2]
  exact congrArg (· * eighth) (product_cols_apply (M := 256) (K := 1024) (N := 3072) (n := 512) _ x4 shapeCasts_S1024x512_S1024x512
    inb_S1024x3072_S1024x512_0_1536 r _ (h_apply x0 x1 x2 x3 r) l (by omega))
/-- its keys -/
theorem out12_apply (l : Fin 512) : out0_12 x0 x1 x2 x3 x4 x5 x6 x7 (ix2 r l) = mainRow x0 x1 x2 x3 x4 r ⟨2048 + l.val, by omega⟩ := by
  unfold out0_12
  rw [View.canon_cons_unit_zero FF.off2]
  exact product_cols_apply (M := 256) (K := 1024) (N := 3072) (n := 512) _ x4 shapeCasts_S1024x512_S1024x512
    inb_S1024x3072_S1024x512_0_2048 r _ (h_apply x0 x1 x2 x3 r) l (by omega)
/-- and its values. -/
theorem out13_apply (l : Fin 512) : out0_13 x0 x1 x2 x3 x4 x5 x6 x7 (ix2 r l) = mainRow x0 x1 x2 x3 x4 r ⟨2560 + l.val, by omega⟩ := by
  unfold out0_13
  rw [View.canon_cons_unit_zero FF.off2]
  exact product_cols_apply (M := 256) (K := 1024) (N := 3072) (n := 512) _ x4 shapeCasts_S1024x512_S1024x512
    inb_S1024x3072_S1024x512_0_2560 r _ (h_apply x0 x1 x2 x3 r) l (by omega)

/-- The gates: the logistic of a row through the gates' matrix. -/
def gateRow (q : Fin 2048) : EReal := sigm (rowMul (hRow x0 x1 x2 x3 r) (fun k j => x5 (ix2 k j)) q)

/-- Half of the gates, as stored. -/
theorem half_apply {off : ℕ} (h : ∀ a, (![0, off] : Fin 2 → ℕ) a + S1024x1024.size a ≤ S1024x2048.size a) (l : Fin 1024) (hl : off + l.val < 2048) :
    k0_pay19 (k0_pay7 (View.ld x0 r0_0) (View.ld x3 r0_1) (View.ld x1 r0_2) (View.ld x2 r0_2))
        (View.ld x5 (Rect.unit (s := S1024x2048) ![0, off] S1024x1024.size h)) (ix2 r l) = gateRow x0 x1 x2 x3 x5 r ⟨off + l.val, hl⟩ := by
  have e := product_cols_apply (M := 256) (K := 1024) (N := 2048) (n := 1024) _ x5 shapeCasts_S1024x1024_S1024x1024 h r _ (h_apply x0 x1 x2 x3 r) l hl
  refine Eq.trans ?_ (congrArg sigm e)
  exact div_eq_sigm _

/-- The gates' two halves lie side by side. -/
theorem out18_apply (q : Fin 2048) : out0_18 x0 x1 x2 x3 x4 x5 x6 x7 (ix2 r q) = gateRow x0 x1 x2 x3 x5 r q := by
  refine View.canon_apply_of_pieces (Val := Elt Ideal) (e := .bf16) (fun y : S256x2048.Idx => (gateRow x0 x1 x2 x3 x5 (y 0) (y 1) : Elt Ideal .bf16)) _ ?_ (ix2 r q) (cover0_18 _ _ _)
  intro pc hpc
  rcases List.mem_cons.mp hpc with rfl | hpc
  · intro y
    obtain ⟨r', l, rfl⟩ : ∃ (r' : Fin 256) (l : Fin 1024), y = ix2 r' l := ⟨_, _, eq_ix2 y⟩
    refine (half_apply x0 x1 x2 x3 x5 r' inb_S1024x2048_S1024x1024_0_1024 l (by omega)).trans ?_
    refine congrArg₂ (gateRow x0 x1 x2 x3 x5) (Fin.ext ?_) (Fin.ext ?_)
    · show r'.val = 0 + 1 * r'.val; omega
    · show 1024 + l.val = 1024 + 1 * l.val; omega
  rcases List.mem_cons.mp hpc with rfl | hpc
  · intro y
    obtain ⟨r', l, rfl⟩ : ∃ (r' : Fin 256) (l : Fin 1024), y = ix2 r' l := ⟨_, _, eq_ix2 y⟩
    refine (half_apply x0 x1 x2 x3 x5 r' inb_S1024x2048_S1024x1024_0_0 l (by omega)).trans ?_
    refine congrArg₂ (gateRow x0 x1 x2 x3 x5) (Fin.ext ?_) (Fin.ext ?_)
    · show r'.val = 0 + 1 * r'.val; omega
    · show 0 + l.val = 0 + 1 * l.val; omega
  nomatch hpc

/-- A row through the indexer's matrix, in the split product. -/
def idxRow (q : Fin 512) : EReal := splitMul (hRow x0 x1 x2 x3 r) (fun k j => x6 (ix2 k j)) (fun k j => x7 (ix2 k j)) q

/-- The split product's block. -/
def idxBlock : Vec Ideal S256x512 .f32 :=
  k0_pay1 (k0_pay22 x0 x1 x2 x3 x4 x5 x6 x7) (k0_pay23 x0 x1 x2 x3 x4 x5 x6 x7) (k0_pay24 x0 x1 x2 x3 x4 x5 x6 x7) (View.ld x7 r0_14)

theorem idx_apply (q : Fin 512) : idxBlock x0 x1 x2 x3 x4 x5 x6 x7 (ix2 r q) = idxRow x0 x1 x2 x3 x6 x7 r q := by
  have e6 : (View.ld x6 r0_14 : Vec Ideal S1024x512 .bf16) = x6 := View.ld_unit_zero FF.off2 _ x6
  have e7 : (View.ld x7 r0_14 : Vec Ideal S1024x512 .bf16) = x7 := View.ld_unit_zero FF.off2 _ x7
  unfold idxBlock k0_pay22 k0_pay23 k0_pay24
  rw [e6, e7]
  refine congrArg₂ (· + ·) (congrArg₂ (· + ·) ?_ ?_) ?_
  · exact (product_apply (M := 256) (K := 1024) (N := 512) _ x6 shapeCasts_S1024x512_S1024x512 r q).trans
      (Finset.sum_congr rfl fun k _ => congrArg (· * x6 (ix2 k q)) (h_apply x0 x1 x2 x3 r k))
  · exact (product_apply (M := 256) (K := 1024) (N := 512) _ x6 shapeCasts_S1024x512_S1024x512 r q).trans
      (Finset.sum_congr rfl fun k _ => congrArg (· * x6 (ix2 k q)) (d_apply x0 x1 x2 x3 r k))
  · exact (product_apply (M := 256) (K := 1024) (N := 512) _ x7 shapeCasts_S1024x512_S1024x512 r q).trans
      (Finset.sum_congr rfl fun k _ => congrArg (· * x7 (ix2 k q)) (h_apply x0 x1 x2 x3 r k))

/-- The indexer's scaled queries -/
theorem out19_apply (l : Fin 256) : out0_19 x0 x1 x2 x3 x4 x5 x6 x7 (ix2 r l) = idxRow x0 x1 x2 x3 x6 x7 r ⟨0 + l.val, by omega⟩ * eighth := by
  unfold out0_19
  rw [View.canon_cons_unit_zero FF.off2]
  exact congrArg (· * eighth) ((colsOf_apply (e := .f32) (K := 256) (N := 512) (n := 256) (off := 0) (idxBlock x0 x1 x2 x3 x4 x5 x6 x7) slices_S256x512_o0_0_S256x256 r l (by omega)).trans
    (idx_apply x0 x1 x2 x3 x4 x5 x6 x7 r _))
/-- and its keys. -/
theorem out22_apply (l : Fin 64) : out0_22 x0 x1 x2 x3 x4 x5 x6 x7 (ix2 r l) = idxRow x0 x1 x2 x3 x6 x7 r ⟨256 + l.val, by omega⟩ := by
  unfold out0_22
  rw [View.canon_cons_unit_zero FF.off2]
  exact (colsOf_apply (e := .f32) (K := 256) (N := 512) (n := 64) (off := 256) (idxBlock x0 x1 x2 x3 x4 x5 x6 x7) slices_S256x512_o0_256_S256x64 r l (by omega)).trans
    (idx_apply x0 x1 x2 x3 x4 x5 x6 x7 r _)

end Cert.Proof.IN
-- ==== Proof.InprojValue.lean ====
/-
  What the projecting call leaves in the output arrays that are read on: every row of the stream, normalised and
  modulated, through its columns of the projecting matrix.
-/
module

public import proofs.«01_k».proof.Proof.FfnRef
public import proofs.«01_k».proof.Proof.SbHead
public import proofs.«01_k».proof.Proof.InprojBlock
public import proofs.«01_k».proof.Proof.Gen.InprojIdeal.Value

@[expose] public section

set_option maxRecDepth 16384

noncomputable section

open Idealize.ShloMosaic Idealize.ShloMosaic.ValueIdx Idealize.SL.Sem Cert.InprojIdeal Cert.InprojIdeal.Gen Cert.Proof.Rows

namespace Cert.Proof.IN

/-! ## The results -/

section Results

variable (x : Vec Ideal S32768x1024 .f32) (sh sc : Vec Ideal S4x1x1024 .f32) (n : Vec Ideal S1x1024 .f32) (w : Vec Ideal S1x1024x5444 .f32)

/-- A row of the stream through a column of the projecting matrix. -/
def proj (s : Fin 32768) (q : Fin 5444) : EReal := rowMul (FF.hid x sh sc n s) (fun k j => w (ix3 (0 : Fin 1) k j)) q

/-- A result is `K` columns of the projection, from column `off` on, -/
def cols {e : EltTy} {K : ℕ} (off : ℕ) (h : off + K ≤ 5444) (f : EReal → Elt Ideal e) : Vec Ideal ⟨2, ![32768, K]⟩ e := fun y =>
  f (proj x sh sc n w (y 0) ⟨off + (y 1).val, Nat.lt_of_lt_of_le (Nat.add_lt_add_left (y 1).isLt off) h⟩)

/-- taken as they are, scaled, or through the logistic function: the first branch's queries, keys and values, -/
def resQa : Vec Ideal S32768x512 .bf16 := cols x sh sc n w (e := .bf16) 0 (by decide) (fun v => v * eighth)
def resKa : Vec Ideal S32768x512 .f32 := cols x sh sc n w (e := .f32) 512 (by decide) (fun v => v)
def resVa : Vec Ideal S32768x512 .f32 := cols x sh sc n w (e := .f32) 1024 (by decide) (fun v => v)
/-- the second branch's, -/
def resQb : Vec Ideal S32768x512 .bf16 := cols x sh sc n w (e := .bf16) 1860 (by decide) (fun v => v * eighth)
def resKb : Vec Ideal S32768x512 .f32 := cols x sh sc n w (e := .f32) 2372 (by decide) (fun v => v)
def resVb : Vec Ideal S32768x512 .f32 := cols x sh sc n w (e := .f32) 2884 (by decide) (fun v => v)
/-- the gates, -/
def resGate : Vec Ideal S32768x2048 .bf16 := cols x sh sc n w (e := .bf16) 3396 (by decide) (fun v => sigm v)
/-- and the indexer's queries and keys. -/
def resIq : Vec Ideal S32768x256 .f32 := cols x sh sc n w (e := .f32) 1536 (by decide) (fun v => v * eighth)
def resIk : Vec Ideal S32768x64 .f32 := cols x sh sc n w (e := .f32) 1792 (by decide) (fun v => v)

end Results

/-! ## The matrices as the call finds them -/

section Matrices

variable (w : Vec Ideal S1x1024x5444 .f32) (k : Fin 1024)

/-- The projecting matrix without its unit axis. -/
def mat : Vec Ideal S1024x5444 .f32 := shapeCast S1024x5444 w shapeCasts_S1x1024x5444_S1024x5444

theorem mat_apply (q : Fin 5444) : mat w (ix2 k q) = w (ix3 (0 : Fin 1) k q) := FF.castMat_apply w shapeCasts_S1x1024x5444_S1024x5444 k q

/-- Some of its columns. -/
theorem part_apply {K off : ℕ} (h : S1024x5444.Slices ![0, off] ⟨2, ![1024, K]⟩) (l : Fin K) (hl : off + l.val < 5444) :
    extractStridedSlice ⟨2, ![1024, K]⟩ ![0, off] (mat w) h (ix2 k l) = w (ix3 (0 : Fin 1) k ⟨off + l.val, hl⟩) :=
  (colsOf_apply (e := .f32) (K := 1024) (N := 5444) (n := K) (off := off) (mat w) h k l hl).trans (mat_apply w k _)

/-- The parts that make the branches' matrix, -/
def mainParts : List ((s : Shape) × (s.Idx → Elt Ideal .f32)) :=
  [⟨S1024x512, extractStridedSlice S1024x512 ![0, 0] (mat w) slices_S1024x5444_S1024x512_0_0⟩,
   ⟨S1024x512, extractStridedSlice S1024x512 ![0, 512] (mat w) slices_S1024x5444_S1024x512_0_512⟩,
   ⟨S1024x512, extractStridedSlice S1024x512 ![0, 1024] (mat w) slices_S1024x5444_S1024x512_0_1024⟩,
   ⟨S1024x512, extractStridedSlice S1024x512 ![0, 1860] (mat w) slices_S1024x5444_S1024x512_0_1860⟩,
   ⟨S1024x512, extractStridedSlice S1024x512 ![0, 2372] (mat w) slices_S1024x5444_S1024x512_0_2372⟩,
   ⟨S1024x512, extractStridedSlice S1024x512 ![0, 2884] (mat w) slices_S1024x5444_S1024x512_0_2884⟩]
/-- the gates' -/
def gateParts : List ((s : Shape) × (s.Idx → Elt Ideal .f32)) :=
  [⟨S1024x1024, extractStridedSlice S1024x1024 ![0, 3396] (mat w) slices_S1024x5444_S1024x1024_0_3396⟩,
   ⟨S1024x1024, extractStridedSlice S1024x1024 ![0, 4420] (mat w) slices_S1024x5444_S1024x1024_0_4420⟩]
/-- and the indexer's. -/
def idxParts : List ((s : Shape) × (s.Idx → Elt Ideal .f32)) :=
  [⟨S1024x256, extractStridedSlice S1024x256 ![0, 1536] (mat w) slices_S1024x5444_S1024x256_0_1536⟩,
   ⟨S1024x64, extractStridedSlice S1024x64 ![0, 1792] (mat w) slices_S1024x5444_S1024x64_0_1792⟩,
   ⟨S1024x64, extractStridedSlice S1024x64 ![0, 1792] (mat w) slices_S1024x5444_S1024x64_0_1792⟩,
   ⟨S1024x4, extractStridedSlice S1024x4 ![0, 1856] (mat w) slices_S1024x5444_S1024x4_0_1856⟩,
   ⟨S1024x124, broadcastInDim S1024x124 ![] bcast_S_S1024x124 (constant S_ .f32 0x00000000#32 : FVec Ideal S_ .f32)⟩]

def mainMat : Vec Ideal S1024x3072 .f32 :=
  concatenate S1024x3072 1 (mainParts w) concatenates_S1024x512_S1024x512_S1024x512_S1024x512_S1024x512_S1024x512_S1024x3072_d1
def gateMat : Vec Ideal S1024x2048 .f32 := concatenate S1024x2048 1 (gateParts w) concatenates_S1024x1024_S1024x1024_S1024x2048_d1
def idxMat : Vec Ideal S1024x512 .f32 := concatenate S1024x512 1 (idxParts w) concatenates_S1024x256_S1024x64_S1024x64_S1024x4_S1024x124_S1024x512_d1

/-- The branches' matrix in each of its parts: the first branch's queries, keys and values, -/
theorem main0 (l : Fin 512) : mainMat w (ix2 k ⟨0 + l.val, by omega⟩) = w (ix3 (0 : Fin 1) k ⟨0 + l.val, by omega⟩) :=
  (joined_apply (e := .f32) (mainParts w) _ k ⟨0 + l.val, by omega⟩ 0 (by show 0 < 6; decide) _ rfl 0 rfl l rfl).trans (part_apply w k _ l _)
theorem main1 (l : Fin 512) : mainMat w (ix2 k ⟨512 + l.val, by omega⟩) = w (ix3 (0 : Fin 1) k ⟨512 + l.val, by omega⟩) :=
  (joined_apply (e := .f32) (mainParts w) _ k ⟨512 + l.val, by omega⟩ 1 (by show 1 < 6; decide) _ rfl 512 rfl l rfl).trans (part_apply w k _ l _)
theorem main2 (l : Fin 512) : mainMat w (ix2 k ⟨1024 + l.val, by omega⟩) = w (ix3 (0 : Fin 1) k ⟨1024 + l.val, by omega⟩) :=
  (joined_apply (e := .f32) (mainParts w) _ k ⟨1024 + l.val, by omega⟩ 2 (by show 2 < 6; decide) _ rfl 1024 rfl l rfl).trans (part_apply w k _ l _)
/-- and the second branch's. -/
theorem main3 (l : Fin 512) : mainMat w (ix2 k ⟨1536 + l.val, by omega⟩) = w (ix3 (0 : Fin 1) k ⟨1860 + l.val, by omega⟩) :=
  (joined_apply (e := .f32) (mainParts w) _ k ⟨1536 + l.val, by omega⟩ 3 (by show 3 < 6; decide) _ rfl 1536 rfl l rfl).trans (part_apply w k _ l _)
theorem main4 (l : Fin 512) : mainMat w (ix2 k ⟨2048 + l.val, by omega⟩) = w (ix3 (0 : Fin 1) k ⟨2372 + l.val, by omega⟩) :=
  (joined_apply (e := .f32) (mainParts w) _ k ⟨2048 + l.val, by omega⟩ 4 (by show 4 < 6; decide) _ rfl 2048 rfl l rfl).trans (part_apply w k _ l _)
theorem main5 (l : Fin 512) : mainMat w (ix2 k ⟨2560 + l.val, by omega⟩) = w (ix3 (0 : Fin 1) k ⟨2884 + l.val, by omega⟩) :=
  (joined_apply (e := .f32) (mainParts w) _ k ⟨2560 + l.val, by omega⟩ 5 (by show 5 < 6; decide) _ rfl 2560 rfl l rfl).trans (part_apply w k _ l _)

/-- The gates' matrix. -/
theorem gateMat_apply (q : Fin 2048) : gateMat w (ix2 k q) = w (ix3 (0 : Fin 1) k ⟨3396 + q.val, by omega⟩) := by
  by_cases hq : q.val < 1024
  · exact (joined_apply (e := .f32) (gateParts w) _ k q 0 (by show 0 < 2; decide) _ rfl 0 rfl (⟨q.val, hq⟩ : Fin 1024) (Nat.zero_add _)).trans
      (part_apply w k _ _ (by show 3396 + q.val < 5444; omega))
  · refine (joined_apply (e := .f32) (gateParts w) _ k q 1 (by show 1 < 2; decide) _ rfl 1024 rfl (⟨q.val - 1024, by omega⟩ : Fin 1024)
      (by show 1024 + (q.val - 1024) = q.val; omega)).trans ((part_apply w k _ _ (by show 4420 + (q.val - 1024) < 5444; omega)).trans ?_)
    exact congrArg w (congrArg (ix3 (0 : Fin 1) k) (Fin.ext (by show 4420 + (q.val - 1024) = 3396 + q.val; omega)))

/-- The indexer's matrix in its queries and keys. -/
theorem idx0 (l : Fin 256) : idxMat w (ix2 k ⟨0 + l.val, by omega⟩) = w (ix3 (0 : Fin 1) k ⟨1536 + l.val, by omega⟩) :=
  (joined_apply (e := .f32) (idxParts w) _ k ⟨0 + l.val, by omega⟩ 0 (by show 0 < 5; decide) _ rfl 0 rfl l rfl).trans (part_apply w k _ l _)
theorem idx1 (l : Fin 64) : idxMat w (ix2 k ⟨256 + l.val, by omega⟩) = w (ix3 (0 : Fin 1) k ⟨1792 + l.val, by omega⟩) :=
  (joined_apply (e := .f32) (idxParts w) _ k ⟨256 + l.val, by omega⟩ 1 (by show 1 < 5; decide) _ rfl 256 rfl l rfl).trans (part_apply w k _ l _)

end Matrices

/-! ## Real rows -/

theorem eps_pos : ∃ e : ℝ, 0 < e ∧ eps = (e : EReal) := by
  unfold eps
  simp [Ideal.ofBits, Ideal.ieee]
  refine ⟨_, ?_, (EReal.coe_mul _ _).symm⟩
  norm_num

theorem len_eq : len = ((1024 : ℝ) : EReal) := by
  unfold len
  simp [Ideal.ofBits, Ideal.ieee]
  rw [← EReal.coe_mul]
  norm_num

theorem add_real {x y : EReal} (hx : ∃ a : ℝ, x = a) (hy : ∃ a : ℝ, y = a) : ∃ a : ℝ, x + y = a := by
  obtain ⟨a, rfl⟩ := hx
  obtain ⟨b, rfl⟩ := hy
  exact ⟨a + b, (EReal.coe_add a b).symm⟩

/-- A sum of squares of reals is real and not negative. -/
theorem squares_real {n : ℕ} (x : Fin n → EReal) (hx : ∀ k, ∃ a : ℝ, x k = a) : ∃ a : ℝ, 0 ≤ a ∧ ∑ k, x k * x k = (a : EReal) := by
  obtain ⟨a, ha⟩ := SB.sum_real Finset.univ (fun k => x k * x k) (fun k _ => SB.mul_real (hx k) (hx k))
  refine ⟨a, EReal.coe_nonneg.mp (ha ▸ Finset.sum_nonneg fun k _ => ?_), ha⟩
  obtain ⟨b, hb⟩ := hx k
  rw [hb, ← EReal.coe_mul]
  exact EReal.coe_nonneg.mpr (mul_self_nonneg b)

/-- A real row's normalisation and modulation are real. -/
theorem modulated_real {n : ℕ} (x g sc sh : Fin n → EReal) (hx : ∀ k, ∃ a : ℝ, x k = a) (hg : ∀ k, ∃ a : ℝ, g k = a) (hsc : ∀ k, ∃ a : ℝ, sc k = a)
    (hsh : ∀ k, ∃ a : ℝ, sh k = a) (l : Fin n) : ∃ a : ℝ, modulated x g sc sh l = a := by
  obtain ⟨a, ha0, ha⟩ := squares_real x hx
  obtain ⟨e, he0, he⟩ := eps_pos
  have hr : ∃ b : ℝ, Ideal.rsqrt (Ideal.div (∑ k, x k * x k) len + eps) = b := by
    rw [ha, he, len_eq]
    unfold Ideal.div
    rw [if_neg (by rw [EReal.coe_eq_zero]; norm_num), ← EReal.coe_inv, ← EReal.coe_mul, ← EReal.coe_add]
    have hp : 0 < a * (1024 : ℝ)⁻¹ + e := by positivity
    refine ⟨(Real.sqrt (a * (1024 : ℝ)⁻¹ + e))⁻¹, ?_⟩
    show (if a * (1024 : ℝ)⁻¹ + e < 0 then (⊥ : EReal) else if a * (1024 : ℝ)⁻¹ + e = 0 then ⊤ else ((Real.sqrt (a * (1024 : ℝ)⁻¹ + e))⁻¹ : ℝ)) = _
    rw [if_neg (not_lt.mpr hp.le), if_neg hp.ne']
  exact add_real (SB.mul_real (SB.mul_real (SB.mul_real (hx l) hr) (hg l)) (add_real ⟨1, one_eq.trans EReal.coe_one.symm⟩ (hsc l))) (hsh l)

/-! ## Where the blocks lie -/

theorem rect0_off : ∀ t : Fin grid0.N, (win0_0.rect t).off = ![256 * t.val, 0] := by decide +kernel
theorem rect1_off : ∀ t : Fin grid0.N, (win0_1.rect t).off = ![t.val / 32, 0, 0] := by decide +kernel
theorem rect2_off : ∀ t : Fin grid0.N, (win0_2.rect t).off = ![t.val / 32, 0, 0] := by decide +kernel
theorem rect3_off : ∀ t : Fin grid0.N, (win0_3.rect t).off = ![0, 0] := by decide +kernel
theorem rect4_off : ∀ t : Fin grid0.N, (win0_4.rect t).off = ![0, 0] := by decide +kernel
theorem rect5_off : ∀ t : Fin grid0.N, (win0_5.rect t).off = ![0, 0] := by decide +kernel
theorem rect6_off : ∀ t : Fin grid0.N, (win0_6.rect t).off = ![0, 0] := by decide +kernel
theorem rect7_off : ∀ t : Fin grid0.N, (win0_7.rect t).off = ![0, 0] := by decide +kernel
theorem rect8_off : ∀ t : Fin grid0.N, (win0_8.rect t).off = ![256 * t.val, 0] := by decide +kernel
theorem rect9_off : ∀ t : Fin grid0.N, (win0_9.rect t).off = ![256 * t.val, 0] := by decide +kernel
theorem rect10_off : ∀ t : Fin grid0.N, (win0_10.rect t).off = ![256 * t.val, 0] := by decide +kernel
theorem rect11_off : ∀ t : Fin grid0.N, (win0_11.rect t).off = ![256 * t.val, 0] := by decide +kernel
theorem rect12_off : ∀ t : Fin grid0.N, (win0_12.rect t).off = ![256 * t.val, 0] := by decide +kernel
theorem rect13_off : ∀ t : Fin grid0.N, (win0_13.rect t).off = ![256 * t.val, 0] := by decide +kernel
theorem rect18_off : ∀ t : Fin grid0.N, (win0_18.rect t).off = ![256 * t.val, 0] := by decide +kernel
theorem rect19_off : ∀ t : Fin grid0.N, (win0_19.rect t).off = ![256 * t.val, 0] := by decide +kernel
theorem rect22_off : ∀ t : Fin grid0.N, (win0_22.rect t).off = ![256 * t.val, 0] := by decide +kernel

variable (m : (ℓ : Loc nD τ sig) → Buf (Elt Ideal) ℓ) (c : Dev nD)

/-- The arguments as launched: the stream's rows, -/
def argX : Vec Ideal S32768x1024 .f32 := m ((c.tc).loc main_arg0)
/-- the shift, -/
def argSh : Vec Ideal S4x1x1024 .f32 := m ((c.tc).loc main_arg1)
/-- the scale, -/
def argSc : Vec Ideal S4x1x1024 .f32 := m ((c.tc).loc main_arg2)
/-- the normalisation's weights -/
def argN : Vec Ideal S1x1024 .f32 := m ((c.tc).loc main_arg3)
/-- and the projecting matrix. -/
def argW : Vec Ideal S1x1024x5444 .f32 := m ((c.tc).loc main_arg4)

/-- The weights and the matrices as the call finds them. -/
theorem entry_n (k : Fin 1024) : (V m c main_v24 : Vec Ideal S1x1024 .f32) (ix2 (0 : Fin 1) k) = argN m c (ix2 (0 : Fin 1) k) :=
  FF.weight_apply (argN m c) k
theorem entry_main (k : Fin 1024) (j : Fin 3072) : (V m c main_v8 : Vec Ideal S1024x3072 .bf16) (ix2 k j) = mainMat (argW m c) (ix2 k j) := rfl
theorem entry_gate (k : Fin 1024) (j : Fin 2048) : (V m c main_v12 : Vec Ideal S1024x2048 .bf16) (ix2 k j) = gateMat (argW m c) (ix2 k j) := rfl
theorem entry_idx (k : Fin 1024) (j : Fin 512) : (V m c main_v19 : Vec Ideal S1024x512 .bf16) (ix2 k j) = idxMat (argW m c) (ix2 k j) := rfl
theorem entry_lo (k : Fin 1024) (j : Fin 512) : (V m c main_v22 : Vec Ideal S1024x512 .bf16) (ix2 k j)
    = (idxMat (argW m c) (ix2 k j) - idxMat (argW m c) (ix2 k j) : EReal) := rfl

/-! ## The blocks of a point -/

/-- Row `256 t + r` of the flattened batch. -/
def rowAt (t : Fin cfg0.N) (r : Fin 256) : Fin 32768 := ⟨256 * t.val + r.val, by have : t.val < 128 := t.isLt; omega⟩

/-- An index of an array of rows through point `t`'s rectangle of rows. -/
theorem rows_eq {K : ℕ} (t : Fin cfg0.N) (off : Fin 2 → ℕ) (e : off = ![256 * t.val, 0]) (r : Fin 256) (k : Fin K) (a : Fin 2) :
    off a + 1 * ((ix2 r k) a).val = ((ix2 (rowAt t r) k) a).val := by
  subst e
  match a with
  | ⟨0, _⟩ => show 256 * t.val + 1 * r.val = 256 * t.val + r.val; omega
  | ⟨1, _⟩ => show 0 + 1 * k.val = k.val; omega

/-- A point's rows lie in one batch element. -/
theorem batch_rowAt (t : Fin cfg0.N) (r : Fin 256) : (FF.batch (rowAt t r)).val = t.val / 32 := by
  show (256 * t.val + r.val) / 8192 = t.val / 32
  omega

/-- An index of a modulation through point `t`'s rectangle: the batch element's row. -/
theorem mods_eq (t : Fin cfg0.N) (off : Fin 3 → ℕ) (e : off = ![t.val / 32, 0, 0]) (r : Fin 256) (k : Fin 1024) (a : Fin 3) :
    off a + 1 * ((ix3 (0 : Fin 1) (0 : Fin 1) k) a).val = ((ix3 (FF.batch (rowAt t r)) (0 : Fin 1) k) a).val := by
  subst e
  match a with
  | ⟨0, _⟩ => exact (batch_rowAt t r).symm
  | ⟨1, _⟩ => rfl
  | ⟨2, _⟩ => show 0 + 1 * k.val = k.val; omega

/-- A point's rows are rows of the stream, its modulations those of its batch element, its weights and matrices whole. -/
theorem iblk0_apply (t : Fin cfg0.N) (r : Fin 256) (k : Fin 1024) : (iblk m c 0 t : Vec Ideal S256x1024 .f32) (ix2 r k) = argX m c (ix2 (rowAt t r) k) :=
  congrArg (argX m c) (funext fun a => Fin.ext (rows_eq t _ (rect0_off t) r k a))
theorem iblk1_apply (t : Fin cfg0.N) (r : Fin 256) (k : Fin 1024) :
    (iblk m c 1 t : Vec Ideal S1x1x1024 .f32) (ix3 (0 : Fin 1) (0 : Fin 1) k) = argSc m c (ix3 (FF.batch (rowAt t r)) (0 : Fin 1) k) :=
  congrArg (argSc m c) (funext fun a => Fin.ext (mods_eq t _ (rect1_off t) r k a))
theorem iblk2_apply (t : Fin cfg0.N) (r : Fin 256) (k : Fin 1024) :
    (iblk m c 2 t : Vec Ideal S1x1x1024 .f32) (ix3 (0 : Fin 1) (0 : Fin 1) k) = argSh m c (ix3 (FF.batch (rowAt t r)) (0 : Fin 1) k) :=
  congrArg (argSh m c) (funext fun a => Fin.ext (mods_eq t _ (rect2_off t) r k a))
theorem iblk3_apply (t : Fin cfg0.N) (k : Fin 1024) : (iblk m c 3 t : Vec Ideal S1x1024 .f32) (ix2 (0 : Fin 1) k) = argN m c (ix2 (0 : Fin 1) k) :=
  (congrArg (V m c main_v24 : Vec Ideal S1x1024 .f32) (funext fun a => Fin.ext (FF.origin_eq _ (rect3_off t) (0 : Fin 1) k a))).trans (entry_n m c k)
theorem iblk4_apply (t : Fin cfg0.N) (k : Fin 1024) (j : Fin 3072) : (iblk m c 4 t : Vec Ideal S1024x3072 .bf16) (ix2 k j) = mainMat (argW m c) (ix2 k j) :=
  (congrArg (V m c main_v8 : Vec Ideal S1024x3072 .bf16) (funext fun a => Fin.ext (FF.origin_eq _ (rect4_off t) k j a))).trans (entry_main m c k j)
theorem iblk5_apply (t : Fin cfg0.N) (k : Fin 1024) (j : Fin 2048) : (iblk m c 5 t : Vec Ideal S1024x2048 .bf16) (ix2 k j) = gateMat (argW m c) (ix2 k j) :=
  (congrArg (V m c main_v12 : Vec Ideal S1024x2048 .bf16) (funext fun a => Fin.ext (FF.origin_eq _ (rect5_off t) k j a))).trans (entry_gate m c k j)
theorem iblk6_apply (t : Fin cfg0.N) (k : Fin 1024) (j : Fin 512) : (iblk m c 6 t : Vec Ideal S1024x512 .bf16) (ix2 k j) = idxMat (argW m c) (ix2 k j) :=
  (congrArg (V m c main_v19 : Vec Ideal S1024x512 .bf16) (funext fun a => Fin.ext (FF.origin_eq _ (rect6_off t) k j a))).trans (entry_idx m c k j)
theorem iblk7_apply (t : Fin cfg0.N) (k : Fin 1024) (j : Fin 512) :
    (iblk m c 7 t : Vec Ideal S1024x512 .bf16) (ix2 k j) = (idxMat (argW m c) (ix2 k j) - idxMat (argW m c) (ix2 k j) : EReal) :=
  (congrArg (V m c main_v22 : Vec Ideal S1024x512 .bf16) (funext fun a => Fin.ext (FF.origin_eq _ (rect7_off t) k j a))).trans (entry_lo m c k j)

/-- A row of the flattened batch, normalised and modulated. -/
def hidAt (s : Fin 32768) : Fin 1024 → EReal := FF.hid (argX m c) (argSh m c) (argSc m c) (argN m c) s
/-- A row of the flattened batch through a column of the projecting matrix. -/
def projAt (s : Fin 32768) (q : Fin 5444) : EReal := proj (argX m c) (argSh m c) (argSc m c) (argN m c) (argW m c) s q

/-- A point's normalised and modulated rows. -/
theorem hRow_eq (t : Fin cfg0.N) (r : Fin 256) : hRow (iblk m c 0 t) (iblk m c 1 t) (iblk m c 2 t) (iblk m c 3 t) r = hidAt m c (rowAt t r) := by
  unfold hRow
  simp only [iblk0_apply, iblk1_apply m c t r, iblk2_apply m c t r, iblk3_apply]
  rfl

/-- A row through the branches' matrix in a column is the projection in the column's place. -/
theorem mainRow_eq (t : Fin cfg0.N) (r : Fin 256) (q : Fin 3072) (q' : Fin 5444) (h : ∀ k, mainMat (argW m c) (ix2 k q) = argW m c (ix3 (0 : Fin 1) k q')) :
    mainRow (iblk m c 0 t) (iblk m c 1 t) (iblk m c 2 t) (iblk m c 3 t) (iblk m c 4 t) r q = projAt m c (rowAt t r) q' := by
  unfold mainRow
  rw [hRow_eq]
  exact Finset.sum_congr rfl fun k _ => congrArg (hidAt m c (rowAt t r) k * ·) ((iblk4_apply m c t k q).trans (h k))

/-- A gate is the logistic of the projection in the gate's place. -/
theorem gateRow_eq (t : Fin cfg0.N) (r : Fin 256) (q : Fin 2048) :
    gateRow (iblk m c 0 t) (iblk m c 1 t) (iblk m c 2 t) (iblk m c 3 t) (iblk m c 5 t) r q = sigm (projAt m c (rowAt t r) ⟨3396 + q.val, by omega⟩) := by
  unfold gateRow
  rw [hRow_eq]
  exact congrArg sigm (Finset.sum_congr rfl fun k _ => congrArg (hidAt m c (rowAt t r) k * ·) ((iblk5_apply m c t k q).trans (gateMat_apply _ k q)))

/-- Every argument is real. -/
structure Reals : Prop where
  x : ∀ i, ∃ a : ℝ, argX m c i = a
  sh : ∀ i, ∃ a : ℝ, argSh m c i = a
  sc : ∀ i, ∃ a : ℝ, argSc m c i = a
  n : ∀ i, ∃ a : ℝ, argN m c i = a
  w : ∀ i, ∃ a : ℝ, argW m c i = a

/-- Of real arguments, a row through the indexer's matrix in the split product is the projection in the column's place. -/
theorem idxRow_eq (hr : Reals m c) (t : Fin cfg0.N) (r : Fin 256) (q : Fin 512) (q' : Fin 5444)
    (h : ∀ k, idxMat (argW m c) (ix2 k q) = argW m c (ix3 (0 : Fin 1) k q')) :
    idxRow (iblk m c 0 t) (iblk m c 1 t) (iblk m c 2 t) (iblk m c 3 t) (iblk m c 6 t) (iblk m c 7 t) r q = projAt m c (rowAt t r) q' := by
  unfold idxRow
  rw [hRow_eq]
  refine (splitMul_eq _ _ _ q (fun i => ?_) (fun i => ?_)).trans
    (Finset.sum_congr rfl fun k _ => congrArg (hidAt m c (rowAt t r) k * ·) ((iblk6_apply m c t k q).trans (h k)))
  · exact modulated_real _ _ _ _ (fun _ => hr.x _) (fun _ => hr.n _) (fun _ => hr.sc _) (fun _ => hr.sh _) i
  · obtain ⟨a, ha⟩ := hr.w (ix3 (0 : Fin 1) i q')
    refine (iblk7_apply m c t i q).trans ?_
    rw [h i, ha, ← EReal.coe_sub, sub_self, EReal.coe_zero]

/-! ## The arrays -/

/-- Every row lies in a point's block. -/
theorem exists_row (s : Fin 32768) : ∃ (t : Fin cfg0.N) (r : Fin 256), s = rowAt t r :=
  ⟨⟨s.val / 256, by show _ < 128; omega⟩, ⟨s.val % 256, by omega⟩, Fin.ext (by show s.val = 256 * (s.val / 256) + s.val % 256; omega)⟩

/-- Arrays of rows that agree in every point's block are equal. -/
theorem arr_ext {e : EltTy} {K : ℕ} (A B : Vec Ideal ⟨2, ![32768, K]⟩ e)
    (h : ∀ (t : Fin cfg0.N) (r : Fin 256) (l : Fin K), A (ix2 (rowAt t r) l) = B (ix2 (rowAt t r) l)) : A = B := by
  funext y
  obtain ⟨s, l, rfl⟩ : ∃ (s : Fin 32768) (l : Fin K), y = ix2 s l := ⟨_, _, eq_ix2 y⟩
  obtain ⟨t, r, rfl⟩ := exists_row s
  exact h t r l

/-- The output arrays as the call leaves them. -/
def arrQa : Vec Ideal S32768x512 .bf16 := (dats m 0 c).arrAt 8 cfg0.N
def arrKa : Vec Ideal S32768x512 .f32 := (dats m 0 c).arrAt 9 cfg0.N
def arrVa : Vec Ideal S32768x512 .f32 := (dats m 0 c).arrAt 10 cfg0.N
def arrQb : Vec Ideal S32768x512 .bf16 := (dats m 0 c).arrAt 11 cfg0.N
def arrKb : Vec Ideal S32768x512 .f32 := (dats m 0 c).arrAt 12 cfg0.N
def arrVb : Vec Ideal S32768x512 .f32 := (dats m 0 c).arrAt 13 cfg0.N
def arrGate : Vec Ideal S32768x2048 .bf16 := (dats m 0 c).arrAt 18 cfg0.N
def arrIq : Vec Ideal S32768x256 .f32 := (dats m 0 c).arrAt 19 cfg0.N
def arrIk : Vec Ideal S32768x64 .f32 := (dats m 0 c).arrAt 22 cfg0.N

variable (t : Fin cfg0.N) (r : Fin 256)

/-- A grid point's block of each array is what the point left. -/
theorem block8 (l : Fin 512) : arrQa m c (ix2 (rowAt t r) l) = out0_8 (iblk m c 0 t) (iblk m c 1 t) (iblk m c 2 t) (iblk m c 3 t) (iblk m c 4 t) (iblk m c 5 t) (iblk m c 6 t) (iblk m c 7 t) (ix2 r l) := by
  rw [show ix2 (rowAt t r) l = (win0_8.rect t).emb (ix2 r l) from (funext fun a => Fin.ext (rows_eq t _ (rect8_off t) r l a)).symm]
  have e := congrFun (Cert.InprojIdeal.Value.blocks8 m c t (flush0_8 t)) (ix2 r l)
  rw [Cert.InprojIdeal.Value.flushed8] at e
  exact e
theorem block9 (l : Fin 512) : arrKa m c (ix2 (rowAt t r) l) = out0_9 (iblk m c 0 t) (iblk m c 1 t) (iblk m c 2 t) (iblk m c 3 t) (iblk m c 4 t) (iblk m c 5 t) (iblk m c 6 t) (iblk m c 7 t) (ix2 r l) := by
  rw [show ix2 (rowAt t r) l = (win0_9.rect t).emb (ix2 r l) from (funext fun a => Fin.ext (rows_eq t _ (rect9_off t) r l a)).symm]
  have e := congrFun (Cert.InprojIdeal.Value.blocks9 m c t (flush0_9 t)) (ix2 r l)
  rw [Cert.InprojIdeal.Value.flushed9] at e
  exact e
theorem block10 (l : Fin 512) : arrVa m c (ix2 (rowAt t r) l) = out0_10 (iblk m c 0 t) (iblk m c 1 t) (iblk m c 2 t) (iblk m c 3 t) (iblk m c 4 t) (iblk m c 5 t) (iblk m c 6 t) (iblk m c 7 t) (ix2 r l) := by
  rw [show ix2 (rowAt t r) l = (win0_10.rect t).emb (ix2 r l) from (funext fun a => Fin.ext (rows_eq t _ (rect10_off t) r l a)).symm]
  have e := congrFun (Cert.InprojIdeal.Value.blocks10 m c t (flush0_10 t)) (ix2 r l)
  rw [Cert.InprojIdeal.Value.flushed10] at e
  exact e
theorem block11 (l : Fin 512) : arrQb m c (ix2 (rowAt t r) l) = out0_11 (iblk m c 0 t) (iblk m c 1 t) (iblk m c 2 t) (iblk m c 3 t) (iblk m c 4 t) (iblk m c 5 t) (iblk m c 6 t) (iblk m c 7 t) (ix2 r l) := by
  rw [show ix2 (rowAt t r) l = (win0_11.rect t).emb (ix2 r l) from (funext fun a => Fin.ext (rows_eq t _ (rect11_off t) r l a)).symm]
  have e := congrFun (Cert.InprojIdeal.Value.blocks11 m c t (flush0_11 t)) (ix2 r l)
  rw [Cert.InprojIdeal.Value.flushed11] at e
  exact e
theorem block12 (l : Fin 512) : arrKb m c (ix2 (rowAt t r) l) = out0_12 (iblk m c 0 t) (iblk m c 1 t) (iblk m c 2 t) (iblk m c 3 t) (iblk m c 4 t) (iblk m c 5 t) (iblk m c 6 t) (iblk m c 7 t) (ix2 r l) := by
  rw [show ix2 (rowAt t r) l = (win0_12.rect t).emb (ix2 r l) from (funext fun a => Fin.ext (rows_eq t _ (rect12_off t) r l a)).symm]
  have e := congrFun (Cert.InprojIdeal.Value.blocks12 m c t (flush0_12 t)) (ix2 r l)
  rw [Cert.InprojIdeal.Value.flushed12] at e
  exact e
theorem block13 (l : Fin 512) : arrVb m c (ix2 (rowAt t r) l) = out0_13 (iblk m c 0 t) (iblk m c 1 t) (iblk m c 2 t) (iblk m c 3 t) (iblk m c 4 t) (iblk m c 5 t) (iblk m c 6 t) (iblk m c 7 t) (ix2 r l) := by
  rw [show ix2 (rowAt t r) l = (win0_13.rect t).emb (ix2 r l) from (funext fun a => Fin.ext (rows_eq t _ (rect13_off t) r l a)).symm]
  have e := congrFun (Cert.InprojIdeal.Value.blocks13 m c t (flush0_13 t)) (ix2 r l)
  rw [Cert.InprojIdeal.Value.flushed13] at e
  exact e
theorem block18 (l : Fin 2048) : arrGate m c (ix2 (rowAt t r) l) = out0_18 (iblk m c 0 t) (iblk m c 1 t) (iblk m c 2 t) (iblk m c 3 t) (iblk m c 4 t) (iblk m c 5 t) (iblk m c 6 t) (iblk m c 7 t) (ix2 r l) := by
  rw [show ix2 (rowAt t r) l = (win0_18.rect t).emb (ix2 r l) from (funext fun a => Fin.ext (rows_eq t _ (rect18_off t) r l a)).symm]
  have e := congrFun (Cert.InprojIdeal.Value.blocks18 m c t (flush0_18 t)) (ix2 r l)
  rw [Cert.InprojIdeal.Value.flushed18] at e
  exact e
theorem block19 (l : Fin 256) : arrIq m c (ix2 (rowAt t r) l) = out0_19 (iblk m c 0 t) (iblk m c 1 t) (iblk m c 2 t) (iblk m c 3 t) (iblk m c 4 t) (iblk m c 5 t) (iblk m c 6 t) (iblk m c 7 t) (ix2 r l) := by
  rw [show ix2 (rowAt t r) l = (win0_19.rect t).emb (ix2 r l) from (funext fun a => Fin.ext (rows_eq t _ (rect19_off t) r l a)).symm]
  have e := congrFun (Cert.InprojIdeal.Value.blocks19 m c t (flush0_19 t)) (ix2 r l)
  rw [Cert.InprojIdeal.Value.flushed19] at e
  exact e
theorem block22 (l : Fin 64) : arrIk m c (ix2 (rowAt t r) l) = out0_22 (iblk m c 0 t) (iblk m c 1 t) (iblk m c 2 t) (iblk m c 3 t) (iblk m c 4 t) (iblk m c 5 t) (iblk m c 6 t) (iblk m c 7 t) (ix2 r l) := by
  rw [show ix2 (rowAt t r) l = (win0_22.rect t).emb (ix2 r l) from (funext fun a => Fin.ext (rows_eq t _ (rect22_off t) r l a)).symm]
  have e := congrFun (Cert.InprojIdeal.Value.blocks22 m c t (flush0_22 t)) (ix2 r l)
  rw [Cert.InprojIdeal.Value.flushed22] at e
  exact e

omit t r

/-- The first branch's scaled queries, keys and values, -/
theorem qa_eq : arrQa m c = resQa (argX m c) (argSh m c) (argSc m c) (argN m c) (argW m c) := arr_ext (e := .bf16) _ _ fun t r l =>
  (block8 m c t r l).trans ((out8_apply (iblk m c 0 t) (iblk m c 1 t) (iblk m c 2 t) (iblk m c 3 t) (iblk m c 4 t) (iblk m c 5 t) (iblk m c 6 t) (iblk m c 7 t) r l).trans (congrArg (· * eighth) (mainRow_eq m c t r _ _ fun k => main0 (argW m c) k l)))
theorem ka_eq : arrKa m c = resKa (argX m c) (argSh m c) (argSc m c) (argN m c) (argW m c) := arr_ext (e := .f32) _ _ fun t r l =>
  (block9 m c t r l).trans ((out9_apply (iblk m c 0 t) (iblk m c 1 t) (iblk m c 2 t) (iblk m c 3 t) (iblk m c 4 t) (iblk m c 5 t) (iblk m c 6 t) (iblk m c 7 t) r l).trans (mainRow_eq m c t r _ _ fun k => main1 (argW m c) k l))
theorem va_eq : arrVa m c = resVa (argX m c) (argSh m c) (argSc m c) (argN m c) (argW m c) := arr_ext (e := .f32) _ _ fun t r l =>
  (block10 m c t r l).trans ((out10_apply (iblk m c 0 t) (iblk m c 1 t) (iblk m c 2 t) (iblk m c 3 t) (iblk m c 4 t) (iblk m c 5 t) (iblk m c 6 t) (iblk m c 7 t) r l).trans (mainRow_eq m c t r _ _ fun k => main2 (argW m c) k l))
/-- the second branch's, -/
theorem qb_eq : arrQb m c = resQb (argX m c) (argSh m c) (argSc m c) (argN m c) (argW m c) := arr_ext (e := .bf16) _ _ fun t r l =>
  (block11 m c t r l).trans ((out11_apply (iblk m c 0 t) (iblk m c 1 t) (iblk m c 2 t) (iblk m c 3 t) (iblk m c 4 t) (iblk m c 5 t) (iblk m c 6 t) (iblk m c 7 t) r l).trans (congrArg (· * eighth) (mainRow_eq m c t r _ _ fun k => main3 (argW m c) k l)))
theorem kb_eq : arrKb m c = resKb (argX m c) (argSh m c) (argSc m c) (argN m c) (argW m c) := arr_ext (e := .f32) _ _ fun t r l =>
  (block12 m c t r l).trans ((out12_apply (iblk m c 0 t) (iblk m c 1 t) (iblk m c 2 t) (iblk m c 3 t) (iblk m c 4 t) (iblk m c 5 t) (iblk m c 6 t) (iblk m c 7 t) r l).trans (mainRow_eq m c t r _ _ fun k => main4 (argW m c) k l))
theorem vb_eq : arrVb m c = resVb (argX m c) (argSh m c) (argSc m c) (argN m c) (argW m c) := arr_ext (e := .f32) _ _ fun t r l =>
  (block13 m c t r l).trans ((out13_apply (iblk m c 0 t) (iblk m c 1 t) (iblk m c 2 t) (iblk m c 3 t) (iblk m c 4 t) (iblk m c 5 t) (iblk m c 6 t) (iblk m c 7 t) r l).trans (mainRow_eq m c t r _ _ fun k => main5 (argW m c) k l))
/-- the gates, -/
theorem gate_eq : arrGate m c = resGate (argX m c) (argSh m c) (argSc m c) (argN m c) (argW m c) := arr_ext (e := .bf16) _ _ fun t r l =>
  (block18 m c t r l).trans ((out18_apply (iblk m c 0 t) (iblk m c 1 t) (iblk m c 2 t) (iblk m c 3 t) (iblk m c 4 t) (iblk m c 5 t) (iblk m c 6 t) (iblk m c 7 t) r l).trans (gateRow_eq m c t r l))
/-- and, of real arguments, the indexer's scaled queries and its keys. -/
theorem iq_eq (hr : Reals m c) : arrIq m c = resIq (argX m c) (argSh m c) (argSc m c) (argN m c) (argW m c) := arr_ext (e := .f32) _ _ fun t r l =>
  (block19 m c t r l).trans ((out19_apply (iblk m c 0 t) (iblk m c 1 t) (iblk m c 2 t) (iblk m c 3 t) (iblk m c 4 t) (iblk m c 5 t) (iblk m c 6 t) (iblk m c 7 t) r l).trans (congrArg (· * eighth) (idxRow_eq m c hr t r _ _ fun k => idx0 (argW m c) k l)))
theorem ik_eq (hr : Reals m c) : arrIk m c = resIk (argX m c) (argSh m c) (argSc m c) (argN m c) (argW m c) := arr_ext (e := .f32) _ _ fun t r l =>
  (block22 m c t r l).trans ((out22_apply (iblk m c 0 t) (iblk m c 1 t) (iblk m c 2 t) (iblk m c 3 t) (iblk m c 4 t) (iblk m c 5 t) (iblk m c 6 t) (iblk m c 7 t) r l).trans (idxRow_eq m c hr t r _ _ fun k => idx1 (argW m c) k l))

end Cert.Proof.IN
-- ==== Proof.InprojRef.lean ====
/-
  What the projections' reference computes, row by row: the same columns of the projection.
-/
module

public import proofs.«01_k».proof.Proof.InprojValue
public import proofs.«01_k».proof.Proof.Gen.InprojReferenceIdeal.Read

@[expose] public section

set_option maxRecDepth 16384

noncomputable section

open Idealize.ShloMosaic Idealize.ShloMosaic.ValueIdx Idealize.SL.Sem Cert.InprojReferenceIdeal Cert.InprojReferenceIdeal.Gen Cert.InprojReferenceIdeal.Read
open Cert.Proof.Rows

namespace Cert.Proof.IN

/-- The batch's rows, flattened: a row is its place in its batch element. -/
theorem flat_apply {e : EltTy} {K : ℕ} (y : Vec Ideal ⟨3, ![4, 8192, K]⟩ e) (h : (⟨3, ![4, 8192, K]⟩ : Shape).ShapeCasts ⟨2, ![32768, K]⟩)
    (s : Fin 32768) (l : Fin K) : shapeCast ⟨2, ![32768, K]⟩ y h (ix2 s l) = y (ix3 (FF.batch s) (FF.place s) l) :=
  shapeCast_apply y h _ _ (by
    rewrite [Shape.rowMajor_val_three, Shape.rowMajor_val_two]
    show (s.val / 8192 * 8192 + s.val % 8192) * K + l.val = s.val * K + l.val
    rw [Nat.div_add_mod'])

/-- Columns of the batch's rows. -/
theorem slice_apply {e : EltTy} {K off : ℕ} (y : Vec Ideal ⟨3, ![4, 8192, 5444]⟩ e) (h : (⟨3, ![4, 8192, 5444]⟩ : Shape).Slices ![0, 0, off] ⟨3, ![4, 8192, K]⟩)
    (b : Fin 4) (p : Fin 8192) (l : Fin K) (hl : off + l.val < 5444) :
    extractStridedSlice ⟨3, ![4, 8192, K]⟩ ![0, 0, off] y h (ix3 b p l) = y (ix3 b p ⟨off + l.val, hl⟩) :=
  extractStridedSlice_apply ![0, 0, off] y h (ix3 b p l) (ix3 b p ⟨off + l.val, hl⟩) (fun a => by
    match a with
    | ⟨0, _⟩ => show b.val = 0 + b.val; omega
    | ⟨1, _⟩ => show p.val = 0 + p.val; omega
    | ⟨2, _⟩ => rfl)

/-- Arrays of rows that agree everywhere are equal. -/
theorem rows_ext {e : EltTy} {K : ℕ} (A B : Vec Ideal ⟨2, ![32768, K]⟩ e) (h : ∀ (s : Fin 32768) (l : Fin K), A (ix2 s l) = B (ix2 s l)) : A = B := by
  funext y
  obtain ⟨s, l, rfl⟩ : ∃ (s : Fin 32768) (l : Fin K), y = ix2 s l := ⟨_, _, eq_ix2 y⟩
  exact h s l

variable (x : Vec Ideal S32768x1024 .f32) (sh sc : Vec Ideal S4x1x1024 .f32) (n : Vec Ideal S1x1024 .f32) (w : Vec Ideal S1x1024x5444 .f32) (s : Fin 32768)

/-- The reference's projection of a row. -/
theorem ref_proj (q : Fin 5444) : val_main_v22 (F := Ideal) x sh sc n w (ix3 (FF.batch s) (FF.place s) q) = proj x sh sc n w s q := by
  unfold proj rowMul
  refine (val_main_v22_apply ..).trans (Finset.sum_congr rfl fun k _ => ?_)
  refine congrArg₂ (· * ·) ((congrArg _ ?_).trans (FF.hid_apply x sh sc n s k))
    ((congrArg _ ?_).trans (FF.castMat_apply w shapeCasts_S1x1024x5444_S1024x5444 k q))
  · exact funext fun a => by match a with | ⟨0, _⟩ => rfl | ⟨1, _⟩ => rfl | ⟨2, _⟩ => rfl
  · exact funext fun a => by match a with | ⟨0, _⟩ => rfl | ⟨1, _⟩ => rfl

/-- Columns of it. -/
theorem ref_cols {K off : ℕ} (h : S4x8192x5444.Slices ![0, 0, off] ⟨3, ![4, 8192, K]⟩) (l : Fin K) (hl : off + l.val < 5444) :
    extractStridedSlice ⟨3, ![4, 8192, K]⟩ ![0, 0, off] (val_main_v22 (F := Ideal) x sh sc n w) h (ix3 (FF.batch s) (FF.place s) l)
      = proj x sh sc n w s ⟨off + l.val, hl⟩ :=
  (slice_apply (e := .f32) (val_main_v22 (F := Ideal) x sh sc n w) h _ _ l hl).trans (ref_proj x sh sc n w s _)

omit s

/-- The reference's results: the first branch's scaled queries, keys and values, -/
theorem ref_qa : val_main_v54 (F := Ideal) x sh sc n w = resQa x sh sc n w := rows_ext (e := .bf16) _ _ fun s l =>
  (flat_apply (e := .f32) (K := 512) (val_main_v35 (F := Ideal) x sh sc n w) _ s l).trans (congrArg (· * eighth) (ref_cols x sh sc n w s _ l _))
theorem ref_ka : val_main_v55 (F := Ideal) x sh sc n w = resKa x sh sc n w := rows_ext (e := .f32) _ _ fun s l =>
  (flat_apply (e := .f32) (K := 512) (val_main_v24 (F := Ideal) x sh sc n w) _ s l).trans (ref_cols x sh sc n w s _ l _)
theorem ref_va : val_main_v56 (F := Ideal) x sh sc n w = resVa x sh sc n w := rows_ext (e := .f32) _ _ fun s l =>
  (flat_apply (e := .f32) (K := 512) (val_main_v25 (F := Ideal) x sh sc n w) _ s l).trans (ref_cols x sh sc n w s _ l _)
/-- the second branch's, -/
theorem ref_qb : val_main_v58 (F := Ideal) x sh sc n w = resQb x sh sc n w := rows_ext (e := .bf16) _ _ fun s l =>
  (flat_apply (e := .f32) (K := 512) (val_main_v37 (F := Ideal) x sh sc n w) _ s l).trans (congrArg (· * eighth) (ref_cols x sh sc n w s _ l _))
theorem ref_kb : val_main_v59 (F := Ideal) x sh sc n w = resKb x sh sc n w := rows_ext (e := .f32) _ _ fun s l =>
  (flat_apply (e := .f32) (K := 512) (val_main_v30 (F := Ideal) x sh sc n w) _ s l).trans (ref_cols x sh sc n w s _ l _)
theorem ref_vb : val_main_v60 (F := Ideal) x sh sc n w = resVb x sh sc n w := rows_ext (e := .f32) _ _ fun s l =>
  (flat_apply (e := .f32) (K := 512) (val_main_v31 (F := Ideal) x sh sc n w) _ s l).trans (ref_cols x sh sc n w s _ l _)
/-- the indexer's scaled queries and its keys, -/
theorem ref_iq : val_main_v63 (F := Ideal) x sh sc n w = resIq x sh sc n w := rows_ext (e := .f32) _ _ fun s l =>
  (flat_apply (e := .f32) (K := 256) (val_main_v39 (F := Ideal) x sh sc n w) _ s l).trans (congrArg (· * eighth) (ref_cols x sh sc n w s _ l _))
theorem ref_ik : val_main_v64 (F := Ideal) x sh sc n w = resIk x sh sc n w := rows_ext (e := .f32) _ _ fun s l =>
  (flat_apply (e := .f32) (K := 64) (val_main_v27 (F := Ideal) x sh sc n w) _ s l).trans (ref_cols x sh sc n w s _ l _)

/-- The two branches' gates -/
def gateHalves : List ((s : Shape) × (s.Idx → Elt Ideal .f32)) :=
  [⟨S4x8192x1024, val_main_v45 (F := Ideal) x sh sc n w⟩, ⟨S4x8192x1024, val_main_v51 (F := Ideal) x sh sc n w⟩]

/-- lie side by side. -/
theorem ref_gates (s : Fin 32768) (q : Fin 2048) : val_main_v52 (F := Ideal) x sh sc n w (ix3 (FF.batch s) (FF.place s) q)
    = sigm (proj x sh sc n w s ⟨3396 + q.val, by omega⟩) := by
  by_cases hq : q.val < 1024
  · refine (concatenate_apply_piece 2 (gateHalves x sh sc n w) concatenates_S4x8192x1024_S4x8192x1024_S4x8192x2048_d2 (ix3 (FF.batch s) (FF.place s) q) 0 (by show 0 < 2; decide) S4x8192x1024
      (val_main_v45 (F := Ideal) x sh sc n w) rfl rfl 0 rfl (ix3 (FF.batch s) (FF.place s) (⟨q.val, hq⟩ : Fin 1024)) (fun b hb => by
        match b with
        | ⟨0, _⟩ => rfl
        | ⟨1, _⟩ => rfl
        | ⟨2, _⟩ => exact absurd rfl hb) (Nat.zero_add _)).trans ?_
    exact congrArg sigm (ref_cols x sh sc n w s slices_S4x8192x5444_S4x8192x1024_0_0_3396 _ (by show 3396 + q.val < 5444; omega))
  · refine (concatenate_apply_piece 2 (gateHalves x sh sc n w) concatenates_S4x8192x1024_S4x8192x1024_S4x8192x2048_d2 (ix3 (FF.batch s) (FF.place s) q) 1 (by show 1 < 2; decide) S4x8192x1024
      (val_main_v51 (F := Ideal) x sh sc n w) rfl rfl 1024 rfl (ix3 (FF.batch s) (FF.place s) (⟨q.val - 1024, by omega⟩ : Fin 1024)) (fun b hb => by
        match b with
        | ⟨0, _⟩ => rfl
        | ⟨1, _⟩ => rfl
        | ⟨2, _⟩ => exact absurd rfl hb) (by show 1024 + (q.val - 1024) = q.val; omega)).trans ?_
    refine congrArg sigm ((ref_cols x sh sc n w s slices_S4x8192x5444_S4x8192x1024_0_0_4420 _ (by show 4420 + (q.val - 1024) < 5444; omega)).trans ?_)
    exact congrArg (proj x sh sc n w s) (Fin.ext (by show 4420 + (q.val - 1024) = 3396 + q.val; omega))

/-- and the gates. -/
theorem ref_gate : val_main_v62 (F := Ideal) x sh sc n w = resGate x sh sc n w := rows_ext (e := .bf16) _ _ fun s l =>
  (flat_apply (e := .f32) (K := 2048) (val_main_v52 (F := Ideal) x sh sc n w) _ s l).trans (ref_gates x sh sc n w s l)

end Cert.Proof.IN
-- ==== Proof.InprojClaim.lean ====
/-
  The claims of the projecting call: its precondition read as "every argument is real", the equality of the kernel's and
  the reference's results, and the reference's frame.
-/
module

public import proofs.«01_k».proof.Defs
public import proofs.«01_k».proof.Proof.SbClaim
public import proofs.«01_k».proof.Proof.InprojRef
public import proofs.«01_k».proof.Proof.Gen.InprojReferenceIdeal.Run

@[expose] public section

set_option maxRecDepth 16384

noncomputable section

open Idealize.ShloMosaic Idealize.ShloMosaic.ValueIdx Idealize.SL.Sem

namespace Cert.Proof.IN

/-- The facts the precondition's program states. -/
theorem pre_facts : Cert.Pre_finite_in.Facts := ⟨by decide, by decide, by decide, by decide⟩

attribute [local instance] pre_facts

/-- The precondition makes every argument real. -/
theorem reals_of_pre (m : (ℓ : Loc Cert.InprojIdeal.nD Cert.InprojIdeal.τ Cert.InprojIdeal.sig) → Buf (Elt Ideal) ℓ)
    (h : Cert.Pre_InprojIdeal_finite_in m) (c : Dev Cert.InprojIdeal.nD) : Reals m c := by
  obtain ⟨h0, h1, h2, h3, h4⟩ := h c
  exact ⟨fun i => SB.real_of_lt (congrFun h0 i), fun i => SB.real_of_lt (congrFun h1 i), fun i => SB.real_of_lt (congrFun h2 i),
    fun i => SB.real_of_lt (congrFun h3 i), fun i => SB.real_of_lt (congrFun h4 i)⟩

/-- The kernel's and the reference's results are equal wherever the arguments are finite. -/
theorem algebraic : Cert.algebraic_InprojIdeal_InprojReferenceIdeal_pre_finite_in (hInprojIdeal := Cert.InprojIdeal.Gen.facts)
    (hInprojReferenceIdeal := Cert.InprojReferenceIdeal.Gen.facts) (hPre_finite_in := pre_facts) := fun m ρ m' ρ' hpre hag => by
  refine ⟨fun c => resQa (argX m c) (argSh m c) (argSc m c) (argN m c) (argW m c),
    fun c => resKa (argX m c) (argSh m c) (argSc m c) (argN m c) (argW m c),
    fun c => resVa (argX m c) (argSh m c) (argSc m c) (argN m c) (argW m c),
    fun c => resQb (argX m c) (argSh m c) (argSc m c) (argN m c) (argW m c),
    fun c => resKb (argX m c) (argSh m c) (argSc m c) (argN m c) (argW m c),
    fun c => resVb (argX m c) (argSh m c) (argSc m c) (argN m c) (argW m c),
    fun c => resGate (argX m c) (argSh m c) (argSc m c) (argN m c) (argW m c),
    fun c => resIq (argX m c) (argSh m c) (argSc m c) (argN m c) (argW m c),
    fun c => resIk (argX m c) (argSh m c) (argSc m c) (argN m c) (argW m c),
    (θ_run _ _ _).mono (fun _ h c => ?_) (Cert.InprojIdeal.Value.run_blocks m ρ),
    (θ_run _ _ _).mono (fun _ h c => ?_) (Cert.InprojReferenceIdeal.Value.run m' ρ')⟩
  · have hr := reals_of_pre m hpre c
    obtain ⟨h0, h1, h2, h3, h4, h5, _, _, _, _, h10, h11, _, _, h14, hargs⟩ := h c
    exact ⟨h0.trans (qa_eq m c), h1.trans (ka_eq m c), h2.trans (va_eq m c), h3.trans (qb_eq m c), h4.trans (kb_eq m c), h5.trans (vb_eq m c),
      h10.trans (gate_eq m c), h11.trans (iq_eq m c hr), h14.trans (ik_eq m c hr), hargs⟩
  · obtain ⟨e0, e1, e2, e3, e4⟩ := hag c
    obtain ⟨h0, h1, h2, h3, h4, h5, h6, h7, h8, hargs⟩ := h c
    refine ⟨h0.trans ((Cert.InprojReferenceIdeal.Read.val_main_v54_eq _ _ _ _ _).trans ?_),
      h1.trans ((Cert.InprojReferenceIdeal.Read.val_main_v55_eq _ _ _ _ _).trans ?_),
      h2.trans ((Cert.InprojReferenceIdeal.Read.val_main_v56_eq _ _ _ _ _).trans ?_),
      h3.trans ((Cert.InprojReferenceIdeal.Read.val_main_v58_eq _ _ _ _ _).trans ?_),
      h4.trans ((Cert.InprojReferenceIdeal.Read.val_main_v59_eq _ _ _ _ _).trans ?_),
      h5.trans ((Cert.InprojReferenceIdeal.Read.val_main_v60_eq _ _ _ _ _).trans ?_),
      h6.trans ((Cert.InprojReferenceIdeal.Read.val_main_v62_eq _ _ _ _ _).trans ?_),
      h7.trans ((Cert.InprojReferenceIdeal.Read.val_main_v63_eq _ _ _ _ _).trans ?_),
      h8.trans ((Cert.InprojReferenceIdeal.Read.val_main_v64_eq _ _ _ _ _).trans ?_), hargs⟩ <;> rw [e0, e1, e2, e3, e4]
    · exact ref_qa (argX m c) (argSh m c) (argSc m c) (argN m c) (argW m c)
    · exact ref_ka (argX m c) (argSh m c) (argSc m c) (argN m c) (argW m c)
    · exact ref_va (argX m c) (argSh m c) (argSc m c) (argN m c) (argW m c)
    · exact ref_qb (argX m c) (argSh m c) (argSc m c) (argN m c) (argW m c)
    · exact ref_kb (argX m c) (argSh m c) (argSc m c) (argN m c) (argW m c)
    · exact ref_vb (argX m c) (argSh m c) (argSc m c) (argN m c) (argW m c)
    · exact ref_gate (argX m c) (argSh m c) (argSc m c) (argN m c) (argW m c)
    · exact ref_iq (argX m c) (argSh m c) (argSc m c) (argN m c) (argW m c)
    · exact ref_ik (argX m c) (argSh m c) (argSc m c) (argN m c) (argW m c)

/-- The reference runs, keeps its arguments and ends quiescent. -/
theorem frame_ref : Cert.quiescent_InprojReferenceIdeal (hInprojReferenceIdeal := Cert.InprojReferenceIdeal.Gen.facts) := fun m ρ _ =>
  (θ_run Cert.InprojReferenceIdeal.defs _ _).mono
    (fun r h => ⟨fun c => (h c).2.2.2.2.2.2.2.2.2, sem_eq_zero_of_no_sems (by decide) r.2⟩)
    (Cert.InprojReferenceIdeal.Value.run (F := Ideal) m ρ)

end Cert.Proof.IN
-- ==== Proof.MergeBlock.lean ====
/-
  One grid point of the merging call: 256 rows of the two branches, each through its own matrix and under its own gates,
  their sum through the closing matrix, normalised, scaled and added to the rows of the stream.
-/
module

public import proofs.«01_k».proof.Proof.FfnBlock
public import proofs.«01_k».proof.Proof.Products
public import proofs.«01_k».proof.Proof.Gen.MergeIdeal.Frame

@[expose] public section

set_option maxRecDepth 16384

noncomputable section

open Idealize.ShloMosaic Idealize.ShloMosaic.ValueIdx Idealize.SL.Sem Cert.MergeIdeal Cert.MergeIdeal.Gen Cert.Proof.Rows

namespace Cert.Proof.MG

/-! ## The mathematics of one row -/

/-- The two branches of a row through their matrices, under the gates of the first and of the second half. -/
def mixed (ya yb : Fin 512 → EReal) (gt : Fin 2048 → EReal) (Wa Wb : Fin 512 → Fin 1024 → EReal) (l : Fin 1024) : EReal :=
  gt ⟨0 + l.val, by omega⟩ * rowMul ya Wa l + gt ⟨1024 + l.val, by omega⟩ * rowMul yb Wb l

/-- A row of the stream with the merged branches' normalised and scaled result added. -/
def rowOut (ya yb : Fin 512 → EReal) (gt : Fin 2048 → EReal) (x g n : Fin 1024 → EReal) (Wa Wb : Fin 512 → Fin 1024 → EReal)
    (Wo : Fin 1024 → Fin 1024 → EReal) (l : Fin 1024) : EReal :=
  x l + g l * rms (rowMul (mixed ya yb gt Wa Wb) Wo) n l

/-! ## The block -/

/-- A branch through its matrix, under its gates. -/
def branch (y : Vec Ideal S256x512 .f32) (w : Vec Ideal S512x1024 .bf16) (gt : Vec Ideal S256x1024 .bf16) : FVec Ideal S256x1024 .f32 :=
  mulf (extf .f32 gt bitsLt_bf16_f32) (matmul dot_S256x512_S512x1024_S256x1024_1_0_0_1_n_n none (truncf .bf16 y bitsLt_bf16_f32 : FVec Ideal S256x512 .bf16)
    (shapeCast S512x1024 w shapeCasts_S512x1024_S512x1024 : FVec Ideal S512x1024 .bf16) (constant S256x1024 .f32 0x00000000#32))

/-- The first and the second half of the gates. -/
def gateA (gt : Vec Ideal S256x2048 .bf16) : Vec Ideal S256x1024 .bf16 := View.ld gt r0_2
def gateB (gt : Vec Ideal S256x2048 .bf16) : Vec Ideal S256x1024 .bf16 := View.ld gt r0_3

/-- The branches' sum through the closing matrix. -/
def mergedBlock (ya yb : Vec Ideal S256x512 .f32) (gt : Vec Ideal S256x2048 .bf16) (wa wb : Vec Ideal S512x1024 .bf16) (wo : Vec Ideal S1024x1024 .bf16) :
    FVec Ideal S256x1024 .f32 :=
  matmul dot_S256x1024_S1024x1024_S256x1024_1_0_0_1_n_n none (truncf .bf16 (addf (branch ya wa (gateA gt)) (branch yb wb (gateB gt))) bitsLt_bf16_f32 : FVec Ideal S256x1024 .bf16)
    (shapeCast S1024x1024 wo shapeCasts_S1024x1024_S1024x1024 : FVec Ideal S1024x1024 .bf16) (constant S256x1024 .f32 0x00000000#32)

/-- What a point leaves: the stream's block with the normalised and scaled merge added. -/
def outBlock (ya yb : Vec Ideal S256x512 .f32) (gt : Vec Ideal S256x2048 .bf16) (x : Vec Ideal S256x1024 .f32) (g : Vec Ideal S1x1x1024 .f32)
    (n : Vec Ideal S1x1024 .f32) (wa wb : Vec Ideal S512x1024 .bf16) (wo : Vec Ideal S1024x1024 .bf16) : FVec Ideal S256x1024 .f32 :=
  addf x (mulf (broadcastTo S256x1024 (shapeCast S1x1024 g shapeCasts_S1x1x1024_S1x1024) broadcasts_S1x1024_S256x1024)
    (rmsBlock (M := 256) (N := 1024) (mergedBlock ya yb gt wa wb wo) (shapeCast S1x1024 n shapeCasts_S1x1024_S1x1024)
      reduces_S256x1024_S256 shapeCasts_S256_S256x1 broadcasts_S256x1_S256x1024 broadcasts_S1x1024_S256x1024))

/-- The point's store, over its input blocks, is that block. -/
theorem out_eq (x0 x1 : Vec Ideal S256x512 .f32) (x2 : Vec Ideal S256x2048 .bf16) (x3 : Vec Ideal S256x1024 .f32) (x4 : Vec Ideal S1x1x1024 .f32)
    (x5 : Vec Ideal S1x1024 .f32) (x6 x7 : Vec Ideal S512x1024 .bf16) (x8 : Vec Ideal S1024x1024 .bf16) :
    out0_9 x0 x1 x2 x3 x4 x5 x6 x7 x8 = outBlock x0 x1 x2 x3 x4 x5 x6 x7 x8 := by
  unfold out0_9
  rw [View.canon_cons_unit_zero FF.off2, View.ld_unit_zero FF.off2 _ x0, View.ld_unit_zero FF.off2 _ x1, View.ld_unit_zero FF.off2 _ x3,
    View.ld_unit_zero FF.off3 _ x4, View.ld_unit_zero FF.off2 _ x5, View.ld_unit_zero FF.off2 _ x6, View.ld_unit_zero FF.off2 _ x7, View.ld_unit_zero FF.off2 _ x8]
  rfl

/-! ## The block, row by row -/

/-- The halves of the gates, row by row. -/
theorem gateA_apply (gt : Vec Ideal S256x2048 .bf16) (r : Fin 256) (l : Fin 1024) :
    gateA gt (ix2 r l) = gt (ix2 r (⟨0 + l.val, by omega⟩ : Fin 2048)) :=
  cols_apply (K := 256) (N := 2048) (n := 1024) (off := 0) gt inb_S256x2048_S256x1024_0_0 r l (by omega)
theorem gateB_apply (gt : Vec Ideal S256x2048 .bf16) (r : Fin 256) (l : Fin 1024) :
    gateB gt (ix2 r l) = gt (ix2 r (⟨1024 + l.val, by omega⟩ : Fin 2048)) :=
  cols_apply (K := 256) (N := 2048) (n := 1024) (off := 1024) gt inb_S256x2048_S256x1024_0_1024 r l (by omega)

/-- A branch, row by row. -/
theorem branch_apply (y : Vec Ideal S256x512 .f32) (w : Vec Ideal S512x1024 .bf16) (gt : Vec Ideal S256x1024 .bf16) (r : Fin 256) (l : Fin 1024) :
    branch y w gt (ix2 r l) = gt (ix2 r l) * rowMul (fun k => y (ix2 r k)) (fun k j => w (ix2 k j)) l :=
  congrArg (gt (ix2 r l) * ·) (product_apply (M := 256) (K := 512) (N := 1024) y w shapeCasts_S512x1024_S512x1024 r l)

/-- The merged branches, row by row. -/
theorem merged_apply (ya yb : Vec Ideal S256x512 .f32) (gt : Vec Ideal S256x2048 .bf16) (wa wb : Vec Ideal S512x1024 .bf16) (wo : Vec Ideal S1024x1024 .bf16)
    (r : Fin 256) (l : Fin 1024) :
    mergedBlock ya yb gt wa wb wo (ix2 r l) = rowMul (mixed (fun k => ya (ix2 r k)) (fun k => yb (ix2 r k)) (fun k => gt (ix2 r k))
      (fun k j => wa (ix2 k j)) (fun k j => wb (ix2 k j))) (fun k j => wo (ix2 k j)) l := by
  refine (product_apply (M := 256) (K := 1024) (N := 1024) (addf (branch ya wa (gateA gt)) (branch yb wb (gateB gt))) wo shapeCasts_S1024x1024_S1024x1024 r l).trans ?_
  refine congrArg (fun f => rowMul f (fun k j => wo (ix2 k j)) l) (funext fun k => ?_)
  show branch ya wa (gateA gt) (ix2 r k) + branch yb wb (gateB gt) (ix2 r k) = _
  rw [branch_apply, branch_apply, gateA_apply, gateB_apply]
  rfl

/-- What a point leaves, row by row. -/
theorem outBlock_apply (ya yb : Vec Ideal S256x512 .f32) (gt : Vec Ideal S256x2048 .bf16) (x : Vec Ideal S256x1024 .f32) (g : Vec Ideal S1x1x1024 .f32)
    (n : Vec Ideal S1x1024 .f32) (wa wb : Vec Ideal S512x1024 .bf16) (wo : Vec Ideal S1024x1024 .bf16) (r : Fin 256) (l : Fin 1024) :
    outBlock ya yb gt x g n wa wb wo (ix2 r l) = rowOut (fun k => ya (ix2 r k)) (fun k => yb (ix2 r k)) (fun k => gt (ix2 r k)) (fun k => x (ix2 r k))
      (fun k => g (ix3 (0 : Fin 1) (0 : Fin 1) k)) (fun k => n (ix2 (0 : Fin 1) k)) (fun k j => wa (ix2 k j)) (fun k j => wb (ix2 k j)) (fun k j => wo (ix2 k j)) l := by
  show x (ix2 r l) + broadcastTo S256x1024 _ _ (ix2 r l) * rmsBlock (M := 256) (N := 1024) _ _ _ _ _ _ (ix2 r l) = _
  rw [rmsBlock_apply (by decide) (by decide), row_apply (M := 256) (N := 1024) (by decide), FF.drop_apply]
  simp only [FF.same_apply, merged_apply]
  rfl

end Cert.Proof.MG
-- ==== Proof.MergeValue.lean ====
/-
  What the merging call leaves in its output array: every row of the stream with its merged branches' normalised and
  scaled result added.
-/
module

public import proofs.«01_k».proof.Proof.FfnValue
public import proofs.«01_k».proof.Proof.MergeBlock
public import proofs.«01_k».proof.Proof.Gen.MergeIdeal.Value

@[expose] public section

set_option maxRecDepth 16384

noncomputable section

open Idealize.ShloMosaic Idealize.ShloMosaic.ValueIdx Idealize.SL.Sem Cert.MergeIdeal Cert.MergeIdeal.Gen Cert.Proof.Rows

namespace Cert.Proof.MG

/-- The merging call's result, from its arguments as launched: every row on its own, with its batch element's factor. -/
def G (ya yb : Vec Ideal S32768x512 .f32) (gt : Vec Ideal S32768x2048 .bf16) (x : Vec Ideal S32768x1024 .f32) (g : Vec Ideal S4x1x1024 .f32)
    (n : Vec Ideal S1x1024 .f32) (wa wb : Vec Ideal S1x512x1024 .f32) (wo : Vec Ideal S1x1024x1024 .f32) : Vec Ideal S32768x1024 .f32 := fun y =>
  rowOut (fun k => ya (ix2 (y 0) k)) (fun k => yb (ix2 (y 0) k)) (fun k => gt (ix2 (y 0) k)) (fun k => x (ix2 (y 0) k))
    (fun k => g (ix3 (FF.batch (y 0)) (0 : Fin 1) k)) (fun k => n (ix2 (0 : Fin 1) k)) (fun k j => wa (ix3 (0 : Fin 1) k j))
    (fun k j => wb (ix3 (0 : Fin 1) k j)) (fun k j => wo (ix3 (0 : Fin 1) k j)) (y 1)

/-! ## Where the blocks lie -/

theorem rect0_off : ∀ t : Fin grid0.N, (win0_0.rect t).off = ![256 * t.val, 0] := by decide +kernel
theorem rect1_off : ∀ t : Fin grid0.N, (win0_1.rect t).off = ![256 * t.val, 0] := by decide +kernel
theorem rect2_off : ∀ t : Fin grid0.N, (win0_2.rect t).off = ![256 * t.val, 0] := by decide +kernel
theorem rect3_off : ∀ t : Fin grid0.N, (win0_3.rect t).off = ![256 * t.val, 0] := by decide +kernel
theorem rect4_off : ∀ t : Fin grid0.N, (win0_4.rect t).off = ![t.val / 32, 0, 0] := by decide +kernel
theorem rect5_off : ∀ t : Fin grid0.N, (win0_5.rect t).off = ![0, 0] := by decide +kernel
theorem rect6_off : ∀ t : Fin grid0.N, (win0_6.rect t).off = ![0, 0] := by decide +kernel
theorem rect7_off : ∀ t : Fin grid0.N, (win0_7.rect t).off = ![0, 0] := by decide +kernel
theorem rect8_off : ∀ t : Fin grid0.N, (win0_8.rect t).off = ![0, 0] := by decide +kernel
theorem rect9_off : ∀ t : Fin grid0.N, (win0_9.rect t).off = ![256 * t.val, 0] := by decide +kernel

variable (m : (ℓ : Loc nD τ sig) → Buf (Elt Ideal) ℓ) (c : Dev nD)

/-- The arguments as launched: the two branches' rows, -/
def argYa : Vec Ideal S32768x512 .f32 := m ((c.tc).loc main_arg0)
def argYb : Vec Ideal S32768x512 .f32 := m ((c.tc).loc main_arg1)
/-- the gates, -/
def argGt : Vec Ideal S32768x2048 .bf16 := m ((c.tc).loc main_arg2)
/-- the stream's rows, -/
def argX : Vec Ideal S32768x1024 .f32 := m ((c.tc).loc main_arg3)
/-- the result's factor, -/
def argG : Vec Ideal S4x1x1024 .f32 := m ((c.tc).loc main_arg4)
/-- the normalisation's weights, -/
def argN : Vec Ideal S1x1024 .f32 := m ((c.tc).loc main_arg5)
/-- and the three matrices. -/
def argWa : Vec Ideal S1x512x1024 .f32 := m ((c.tc).loc main_arg6)
def argWb : Vec Ideal S1x512x1024 .f32 := m ((c.tc).loc main_arg7)
def argWo : Vec Ideal S1x1024x1024 .f32 := m ((c.tc).loc main_arg8)

/-- The matrices and the weights as the call finds them. -/
theorem entry_wa (k : Fin 512) (j : Fin 1024) : (V m c main_v1 : Vec Ideal S512x1024 .bf16) (ix2 k j) = argWa m c (ix3 (0 : Fin 1) k j) :=
  FF.castMat_apply (argWa m c) shapeCasts_S1x512x1024_S512x1024 k j
theorem entry_wb (k : Fin 512) (j : Fin 1024) : (V m c main_v3 : Vec Ideal S512x1024 .bf16) (ix2 k j) = argWb m c (ix3 (0 : Fin 1) k j) :=
  FF.castMat_apply (argWb m c) shapeCasts_S1x512x1024_S512x1024 k j
theorem entry_wo (k : Fin 1024) (j : Fin 1024) : (V m c main_v5 : Vec Ideal S1024x1024 .bf16) (ix2 k j) = argWo m c (ix3 (0 : Fin 1) k j) :=
  FF.castMat_apply (argWo m c) shapeCasts_S1x1024x1024_S1024x1024 k j
theorem entry_n (k : Fin 1024) : (V m c main_v7 : Vec Ideal S1x1024 .f32) (ix2 (0 : Fin 1) k) = argN m c (ix2 (0 : Fin 1) k) :=
  FF.weight_apply (argN m c) k

/-! ## The blocks of a point -/

/-- Row `256 t + r` of the flattened batch. -/
def rowAt (t : Fin cfg0.N) (r : Fin 256) : Fin 32768 := ⟨256 * t.val + r.val, by have : t.val < 128 := t.isLt; omega⟩

/-- An index of an array of rows through point `t`'s rectangle of rows. -/
theorem rows_eq {n : ℕ} (t : Fin cfg0.N) (off : Fin 2 → ℕ) (e : off = ![256 * t.val, 0]) (r : Fin 256) (k : Fin n) (a : Fin 2) :
    off a + 1 * ((ix2 r k) a).val = ((ix2 (rowAt t r) k) a).val := by
  subst e
  match a with
  | ⟨0, _⟩ => show 256 * t.val + 1 * r.val = 256 * t.val + r.val; omega
  | ⟨1, _⟩ => show 0 + 1 * k.val = k.val; omega

/-- A point's rows are rows of the branches, of the gates and of the stream. -/
theorem iblk0_apply (t : Fin cfg0.N) (r : Fin 256) (k : Fin 512) : (iblk m c 0 t : Vec Ideal S256x512 .f32) (ix2 r k) = argYa m c (ix2 (rowAt t r) k) :=
  congrArg (argYa m c) (funext fun a => Fin.ext (rows_eq t _ (rect0_off t) r k a))
theorem iblk1_apply (t : Fin cfg0.N) (r : Fin 256) (k : Fin 512) : (iblk m c 1 t : Vec Ideal S256x512 .f32) (ix2 r k) = argYb m c (ix2 (rowAt t r) k) :=
  congrArg (argYb m c) (funext fun a => Fin.ext (rows_eq t _ (rect1_off t) r k a))
theorem iblk2_apply (t : Fin cfg0.N) (r : Fin 256) (k : Fin 2048) : (iblk m c 2 t : Vec Ideal S256x2048 .bf16) (ix2 r k) = argGt m c (ix2 (rowAt t r) k) :=
  congrArg (argGt m c) (funext fun a => Fin.ext (rows_eq t _ (rect2_off t) r k a))
theorem iblk3_apply (t : Fin cfg0.N) (r : Fin 256) (k : Fin 1024) : (iblk m c 3 t : Vec Ideal S256x1024 .f32) (ix2 r k) = argX m c (ix2 (rowAt t r) k) :=
  congrArg (argX m c) (funext fun a => Fin.ext (rows_eq t _ (rect3_off t) r k a))

/-- A point's rows lie in one batch element. -/
theorem batch_rowAt (t : Fin cfg0.N) (r : Fin 256) : (FF.batch (rowAt t r)).val = t.val / 32 := by
  show (256 * t.val + r.val) / 8192 = t.val / 32
  omega

/-- A point's factor is that of its batch element. -/
theorem iblk4_apply (t : Fin cfg0.N) (r : Fin 256) (k : Fin 1024) :
    (iblk m c 4 t : Vec Ideal S1x1x1024 .f32) (ix3 (0 : Fin 1) (0 : Fin 1) k) = argG m c (ix3 (FF.batch (rowAt t r)) (0 : Fin 1) k) := by
  refine congrArg (argG m c) (funext fun a => Fin.ext ?_)
  have e := rect4_off t
  match a with
  | ⟨0, _⟩ => show (win0_4.rect t).off (0 : Fin 3) + 1 * 0 = _; rw [e]; exact (batch_rowAt t r).symm
  | ⟨1, _⟩ => show (win0_4.rect t).off (1 : Fin 3) + 1 * 0 = 0; rw [e]; rfl
  | ⟨2, _⟩ => show (win0_4.rect t).off (2 : Fin 3) + 1 * k.val = k.val; rw [e]; show 0 + 1 * k.val = _; omega

/-- The weights and the matrices are whole at every point. -/
theorem iblk5_apply (t : Fin cfg0.N) (k : Fin 1024) : (iblk m c 5 t : Vec Ideal S1x1024 .f32) (ix2 (0 : Fin 1) k) = argN m c (ix2 (0 : Fin 1) k) :=
  (congrArg (V m c main_v7 : Vec Ideal S1x1024 .f32) (funext fun a => Fin.ext (FF.origin_eq _ (rect5_off t) (0 : Fin 1) k a))).trans (entry_n m c k)
theorem iblk6_apply (t : Fin cfg0.N) (k : Fin 512) (j : Fin 1024) : (iblk m c 6 t : Vec Ideal S512x1024 .bf16) (ix2 k j) = argWa m c (ix3 (0 : Fin 1) k j) :=
  (congrArg (V m c main_v1 : Vec Ideal S512x1024 .bf16) (funext fun a => Fin.ext (FF.origin_eq _ (rect6_off t) k j a))).trans (entry_wa m c k j)
theorem iblk7_apply (t : Fin cfg0.N) (k : Fin 512) (j : Fin 1024) : (iblk m c 7 t : Vec Ideal S512x1024 .bf16) (ix2 k j) = argWb m c (ix3 (0 : Fin 1) k j) :=
  (congrArg (V m c main_v3 : Vec Ideal S512x1024 .bf16) (funext fun a => Fin.ext (FF.origin_eq _ (rect7_off t) k j a))).trans (entry_wb m c k j)
theorem iblk8_apply (t : Fin cfg0.N) (k : Fin 1024) (j : Fin 1024) : (iblk m c 8 t : Vec Ideal S1024x1024 .bf16) (ix2 k j) = argWo m c (ix3 (0 : Fin 1) k j) :=
  (congrArg (V m c main_v5 : Vec Ideal S1024x1024 .bf16) (funext fun a => Fin.ext (FF.origin_eq _ (rect8_off t) k j a))).trans (entry_wo m c k j)

/-- The call's result, from the arguments in memory. -/
def GM : Vec Ideal S32768x1024 .f32 :=
  G (argYa m c) (argYb m c) (argGt m c) (argX m c) (argG m c) (argN m c) (argWa m c) (argWb m c) (argWo m c)

/-- What a grid point leaves in the output's staging buffer. -/
def left (t : Fin cfg0.N) : Vec Ideal S256x1024 .f32 :=
  out0_9 (iblk m c 0 t) (iblk m c 1 t) (iblk m c 2 t) (iblk m c 3 t) (iblk m c 4 t) (iblk m c 5 t) (iblk m c 6 t) (iblk m c 7 t) (iblk m c 8 t)

/-- A grid point leaves its rows of the result. -/
theorem point_eq (t : Fin cfg0.N) (r : Fin 256) (l : Fin 1024) : left m c t (ix2 r l) = GM m c (ix2 (rowAt t r) l) := by
  unfold left
  rw [out_eq, outBlock_apply]
  simp only [iblk0_apply, iblk1_apply, iblk2_apply, iblk3_apply, iblk4_apply m c t r, iblk5_apply, iblk6_apply, iblk7_apply, iblk8_apply]
  rfl

/-- The output array as the call leaves it. -/
def outArr : Vec Ideal S32768x1024 .f32 := (dats m 0 c).arrAt 9 cfg0.N

/-- A grid point's block of the output array is what the point left. -/
theorem block_eq (t : Fin cfg0.N) (r : Fin 256) (l : Fin 1024) : outArr m c (ix2 (rowAt t r) l) = left m c t (ix2 r l) := by
  rw [show ix2 (rowAt t r) l = (win0_9.rect t).emb (ix2 r l) from (funext fun a => Fin.ext (rows_eq t _ (rect9_off t) r l a)).symm]
  have e := congrFun (Cert.MergeIdeal.Value.blocks9 m c t (flush0_9 t)) (ix2 r l)
  rw [Cert.MergeIdeal.Value.flushed9] at e
  exact e

/-- Every row lies in a point's block. -/
theorem exists_row (s : Fin 32768) : ∃ (t : Fin cfg0.N) (r : Fin 256), s = rowAt t r :=
  ⟨⟨s.val / 256, by show _ < 128; omega⟩, ⟨s.val % 256, by omega⟩, Fin.ext (by show s.val = 256 * (s.val / 256) + s.val % 256; omega)⟩

/-- The call leaves the merge of its arguments. -/
theorem final_eq : outArr m c = GM m c := by
  funext y
  obtain ⟨s, l, rfl⟩ : ∃ (s : Fin 32768) (l : Fin 1024), y = ix2 s l := ⟨_, _, eq_ix2 y⟩
  obtain ⟨t, r, rfl⟩ := exists_row s
  rw [block_eq, point_eq]

end Cert.Proof.MG
-- ==== Proof.MergeRef.lean ====
/-
  What the merging reference computes, row by row: the same function of a row of the branches, of its gates and of the
  stream, of its batch element's factor and of the weights.
-/
module

public import proofs.«01_k».proof.Proof.MergeValue
public import proofs.«01_k».proof.Proof.FfnRef
public import proofs.«01_k».proof.Proof.Gen.MergeReferenceIdeal.Read

@[expose] public section

set_option maxRecDepth 16384

noncomputable section

open Idealize.ShloMosaic Idealize.ShloMosaic.ValueIdx Idealize.SL.Sem Cert.MergeReferenceIdeal Cert.MergeReferenceIdeal.Gen Cert.MergeReferenceIdeal.Read
open Cert.Proof.Rows

namespace Cert.Proof.MG

variable (ya yb : Vec Ideal S32768x512 .f32) (gt : Vec Ideal S32768x2048 .bf16) (x : Vec Ideal S32768x1024 .f32) (g : Vec Ideal S4x1x1024 .f32)
  (n : Vec Ideal S1x1024 .f32) (wa wb : Vec Ideal S1x512x1024 .f32) (wo : Vec Ideal S1x1024x1024 .f32) (s : Fin 32768)

/-- The branches' rows and the gates, batch element by batch element. -/
theorem ya_apply (k : Fin 512) : val_main_v0 (F := Ideal) ya (ix3 (FF.batch s) (FF.place s) k) = ya (ix2 s k) := by
  refine (val_main_v0_apply _ _).trans (congrArg ya (funext fun a => Fin.ext ?_))
  match a with
  | ⟨0, _⟩ => show ((s.val / 8192 * 8192 + s.val % 8192) * 512 + k.val) / 512 = s.val; omega
  | ⟨1, _⟩ => show ((s.val / 8192 * 8192 + s.val % 8192) * 512 + k.val) % 512 = k.val; omega
theorem gates_apply (k : Fin 2048) : val_main_v4 (F := Ideal) gt (ix3 (FF.batch s) (FF.place s) k) = gt (ix2 s k) := by
  refine (val_main_v3_apply _ _).trans (congrArg gt (funext fun a => Fin.ext ?_))
  match a with
  | ⟨0, _⟩ => show ((s.val / 8192 * 8192 + s.val % 8192) * 2048 + k.val) / 2048 = s.val; omega
  | ⟨1, _⟩ => show ((s.val / 8192 * 8192 + s.val % 8192) * 2048 + k.val) % 2048 = k.val; omega

/-- The two halves of the gates. -/
theorem gateA_row (l : Fin 1024) : val_main_v5 (F := Ideal) gt (ix3 (FF.batch s) (FF.place s) l) = gt (ix2 s (⟨0 + l.val, by omega⟩ : Fin 2048)) := by
  refine (val_main_v5_apply _ _).trans ((congrArg _ (funext fun a => Fin.ext ?_)).trans (gates_apply gt s _))
  match a with | ⟨0, _⟩ => rfl | ⟨1, _⟩ => rfl | ⟨2, _⟩ => show l.val = 0 + l.val; omega
theorem gateB_row (l : Fin 1024) : val_main_v6 (F := Ideal) gt (ix3 (FF.batch s) (FF.place s) l) = gt (ix2 s (⟨1024 + l.val, by omega⟩ : Fin 2048)) := by
  refine (val_main_v6_apply _ _).trans ((congrArg _ (funext fun a => Fin.ext ?_)).trans (gates_apply gt s _))
  match a with | ⟨0, _⟩ => rfl | ⟨1, _⟩ => rfl | ⟨2, _⟩ => show _ = 1024 + l.val; first | rfl | exact Nat.add_comm ..

/-- The matrices, their unit axis dropped. -/
theorem wa_apply (k : Fin 512) (j : Fin 1024) : val_main_v7 (F := Ideal) wa (ix2 k j) = wa (ix3 (0 : Fin 1) k j) := by
  refine (shapeCast_dropUnit_apply ![512, 1024] wa _ (ix2 k j)).trans (congrArg wa (funext fun a => ?_))
  match a with | ⟨0, _⟩ => rfl | ⟨1, _⟩ => rfl | ⟨2, _⟩ => rfl
theorem wo_apply (k j : Fin 1024) : val_main_v14 (F := Ideal) wo (ix2 k j) = wo (ix3 (0 : Fin 1) k j) := by
  refine (shapeCast_dropUnit_apply ![1024, 1024] wo _ (ix2 k j)).trans (congrArg wo (funext fun a => ?_))
  match a with | ⟨0, _⟩ => rfl | ⟨1, _⟩ => rfl | ⟨2, _⟩ => rfl

/-- The reference's branches through their matrices. -/
theorem branchA_apply (l : Fin 1024) : val_main_v8 (F := Ideal) ya wa (ix3 (FF.batch s) (FF.place s) l)
    = rowMul (fun k => ya (ix2 s k)) (fun k j => wa (ix3 (0 : Fin 1) k j)) l := by
  refine (val_main_v8_apply ..).trans (Finset.sum_congr rfl fun k _ => ?_)
  refine congrArg₂ (· * ·) ((congrArg _ ?_).trans (ya_apply ya s k)) ((congrArg _ ?_).trans (wa_apply wa k l))
  · exact funext fun a => by match a with | ⟨0, _⟩ => rfl | ⟨1, _⟩ => rfl | ⟨2, _⟩ => rfl
  · exact funext fun a => by match a with | ⟨0, _⟩ => rfl | ⟨1, _⟩ => rfl
theorem branchB_apply (l : Fin 1024) : val_main_v11 (F := Ideal) yb wb (ix3 (FF.batch s) (FF.place s) l)
    = rowMul (fun k => yb (ix2 s k)) (fun k j => wb (ix3 (0 : Fin 1) k j)) l := branchA_apply yb wb s l

/-- A row of the reference's sum of the branches under their gates. -/
def mixedRow : Fin 1024 → EReal :=
  mixed (fun k => ya (ix2 s k)) (fun k => yb (ix2 s k)) (fun k => gt (ix2 s k)) (fun k j => wa (ix3 (0 : Fin 1) k j)) (fun k j => wb (ix3 (0 : Fin 1) k j))

theorem mixed_apply (l : Fin 1024) : val_main_v13 (F := Ideal) ya yb gt wa wb (ix3 (FF.batch s) (FF.place s) l) = mixedRow ya yb gt wa wb s l := by
  show val_main_v5 (F := Ideal) gt (ix3 (FF.batch s) (FF.place s) l) * val_main_v8 (F := Ideal) ya wa (ix3 (FF.batch s) (FF.place s) l)
    + val_main_v6 (F := Ideal) gt (ix3 (FF.batch s) (FF.place s) l) * val_main_v11 (F := Ideal) yb wb (ix3 (FF.batch s) (FF.place s) l) = _
  rw [gateA_row, gateB_row, branchA_apply, branchB_apply]
  rfl

/-- The reference's merged branches. -/
theorem merged_row (l : Fin 1024) : val_main_v15 (F := Ideal) ya yb gt wa wb wo (ix3 (FF.batch s) (FF.place s) l)
    = rowMul (mixedRow ya yb gt wa wb s) (fun k j => wo (ix3 (0 : Fin 1) k j)) l := by
  refine (val_main_v15_apply ..).trans (Finset.sum_congr rfl fun k _ => ?_)
  refine congrArg₂ (· * ·) ((congrArg _ ?_).trans (mixed_apply ya yb gt wa wb s k)) ((congrArg _ ?_).trans (wo_apply wo k l))
  · exact funext fun a => by match a with | ⟨0, _⟩ => rfl | ⟨1, _⟩ => rfl | ⟨2, _⟩ => rfl
  · exact funext fun a => by match a with | ⟨0, _⟩ => rfl | ⟨1, _⟩ => rfl

/-- The reference's result, a row at a time. -/
theorem result_apply (l : Fin 1024) : val_main_v32 (F := Ideal) ya yb gt x g n wa wb wo (ix3 (FF.batch s) (FF.place s) l)
    = G ya yb gt x g n wa wb wo (ix2 s l) := by
  show val_main_v2 (F := Ideal) x (ix3 (FF.batch s) (FF.place s) l) + val_main_v30 (F := Ideal) g (ix3 (FF.batch s) (FF.place s) l)
    * val_main_v29 (F := Ideal) ya yb gt n wa wb wo (ix3 (FF.batch s) (FF.place s) l) = _
  have e := rmsHost_apply (val_main_v15 (F := Ideal) ya yb gt wa wb wo) (val_main_v16 (F := Ideal) n) reducesTo_S4x8192x1024_S4x8192_d2 (by decide) h_S_
    bcast_S4x8192_S4x8192x1_0_1 bcast_S_S4x8192x1 bcast_S4x8192x1_S4x8192x1024_0_1_2 bcast_S1024_S1x1x1024_2 bcast_S1x1x1024_S4x8192x1024_0_1_2
    (FF.batch s) (FF.place s) l
  have e2 := mods_apply g bcast_S4x1x1024_S4x8192x1024_0_1_2 (FF.batch s) (FF.place s) l
  have e3 : ∀ k : Fin 1024, val_main_v16 (F := Ideal) n (ix1 k) = n (ix2 (0 : Fin 1) k) := FF.n1_apply n
  refine congrArg₂ (· + ·) (FF.stream_apply x s l) (congrArg₂ (· * ·) e2 (e.trans ?_))
  simp only [merged_row, e3]
  rfl

/-- The reference computes the merge of its arguments. -/
theorem ref_eq : val_main_v33 (F := Ideal) ya yb gt x g n wa wb wo = G ya yb gt x g n wa wb wo := by
  funext y
  obtain ⟨s, l, rfl⟩ : ∃ (s : Fin 32768) (l : Fin 1024), y = ix2 s l := ⟨_, _, eq_ix2 y⟩
  refine (val_main_v33_apply ..).trans ((congrArg _ ?_).trans (result_apply ya yb gt x g n wa wb wo s l))
  refine funext fun a => Fin.ext ?_
  match a with
  | ⟨0, _⟩ => show (s.val * 1024 + l.val) / 8388608 = s.val / 8192; omega
  | ⟨1, _⟩ => show (s.val * 1024 + l.val) / 1024 % 8192 = s.val % 8192; omega
  | ⟨2, _⟩ => show (s.val * 1024 + l.val) % 1024 = l.val; omega

end Cert.Proof.MG
-- ==== Proof.MergeClaim.lean ====
/-
  The claims of the merging call: the equality of the kernel's and the reference's results, and the reference's frame.
-/
module

public import proofs.«01_k».proof.Defs
public import proofs.«01_k».proof.Proof.MergeRef
public import proofs.«01_k».proof.Proof.Gen.MergeReferenceIdeal.Run

@[expose] public section

set_option maxRecDepth 16384

noncomputable section

open Idealize.ShloMosaic Idealize.ShloMosaic.ValueIdx Idealize.SL.Sem

namespace Cert.Proof.MG

/-- The kernel's and the reference's results are equal, whatever the arguments. -/
theorem algebraic : Cert.algebraic_MergeIdeal_MergeReferenceIdeal (hMergeIdeal := Cert.MergeIdeal.Gen.facts)
    (hMergeReferenceIdeal := Cert.MergeReferenceIdeal.Gen.facts) := fun m ρ m' ρ' _ hag =>
  ⟨fun c => GM m c,
    (θ_run _ _ _).mono (fun _ h c => ⟨(h c).1.trans (by exact final_eq m c), (h c).2⟩) (Cert.MergeIdeal.Value.run_blocks m ρ),
    (θ_run _ _ _).mono (fun _ h c => ⟨(h c).1.trans (by
        obtain ⟨e0, e1, e2, e3, e4, e5, e6, e7, e8⟩ := hag c
        rw [Cert.MergeReferenceIdeal.Read.val_main_v33_eq, e0, e1, e2, e3, e4, e5, e6, e7, e8]
        exact ref_eq (argYa m c) (argYb m c) (argGt m c) (argX m c) (argG m c) (argN m c) (argWa m c) (argWb m c) (argWo m c)), (h c).2⟩)
      (Cert.MergeReferenceIdeal.Value.run m' ρ')⟩

/-- The reference runs, keeps its arguments and ends quiescent. -/
theorem frame_ref : Cert.quiescent_MergeReferenceIdeal (hMergeReferenceIdeal := Cert.MergeReferenceIdeal.Gen.facts) := fun m ρ _ =>
  (θ_run Cert.MergeReferenceIdeal.defs _ _).mono (fun r h => ⟨fun c => (h c).2, sem_eq_zero_of_no_sems (by decide) r.2⟩)
    (Cert.MergeReferenceIdeal.Value.run (F := Ideal) m ρ)

end Cert.Proof.MG
-- ==== Proof.SampleRows.lean ====
/-
  The rows of the sample: 32 sequences of eight rows, flattened; every row with its sequence's modulation, which the
  calls are handed repeated row by row.
-/
module

public import proofs.«01_k».proof.Proof.HostRows
public import proofs.«01_k».proof.Proof.FfnBlock

@[expose] public section

set_option maxRecDepth 16384

noncomputable section

open Idealize.ShloMosaic Idealize.ShloMosaic.ValueIdx Cert.Proof.Rows

namespace Cert.Proof.SA

/-- The sequence of a row of the flattened sample. -/
def seq (s : Fin 256) : Fin 32 := ⟨s.val / 8, by omega⟩
/-- A row's place in its sequence. -/
def pos (s : Fin 256) : Fin 8 := ⟨s.val % 8, by omega⟩

/-- The sample's rows, flattened: a row is its place in its sequence. -/
theorem flat_apply {e : EltTy} {K : ℕ} (y : Vec Ideal ⟨3, ![32, 8, K]⟩ e) (h : (⟨3, ![32, 8, K]⟩ : Shape).ShapeCasts ⟨2, ![256, K]⟩)
    (s : Fin 256) (l : Fin K) : shapeCast ⟨2, ![256, K]⟩ y h (ix2 s l) = y (ix3 (seq s) (pos s) l) :=
  shapeCast_apply y h _ _ (by
    rewrite [Shape.rowMajor_val_three, Shape.rowMajor_val_two]
    show (s.val / 8 * 8 + s.val % 8) * K + l.val = s.val * K + l.val
    rw [Nat.div_add_mod'])

/-- And back: a place in a sequence is a row. -/
theorem unflat_apply {e : EltTy} {K : ℕ} (x : Vec Ideal ⟨2, ![256, K]⟩ e) (h : (⟨2, ![256, K]⟩ : Shape).ShapeCasts ⟨3, ![32, 8, K]⟩)
    (s : Fin 256) (l : Fin K) : shapeCast ⟨3, ![32, 8, K]⟩ x h (ix3 (seq s) (pos s) l) = x (ix2 s l) :=
  shapeCast_apply x h _ _ (by
    rewrite [Shape.rowMajor_val_three, Shape.rowMajor_val_two]
    show s.val * K + l.val = (s.val / 8 * 8 + s.val % 8) * K + l.val
    rw [Nat.div_add_mod'])

/-- Rows under a unit axis. -/
theorem under_apply {K : ℕ} (y : FVec Ideal ⟨2, ![256, K]⟩ .f32) (h : (⟨2, ![256, K]⟩ : Shape).BroadcastsInDim ⟨3, ![1, 256, K]⟩ ![1, 2])
    (r : Fin 256) (l : Fin K) : (broadcastInDim ⟨3, ![1, 256, K]⟩ ![1, 2] h y : FVec Ideal ⟨3, ![1, 256, K]⟩ .f32) (ix3 (0 : Fin 1) r l) = y (ix2 r l) :=
  broadcastInDim_apply ![1, 2] h y (ix3 (0 : Fin 1) r l) (ix2 r l) (fun a => by
    match a with
    | ⟨0, _⟩ => exact coord_eq r
    | ⟨1, _⟩ => exact coord_eq l)

/-- One vector per sequence, laid over its places. -/
theorem spread_apply {K : ℕ} (v : FVec Ideal ⟨2, ![32, K]⟩ .f32) (h : (⟨2, ![32, K]⟩ : Shape).BroadcastsInDim ⟨3, ![32, 8, K]⟩ ![0, 2])
    (b : Fin 32) (p : Fin 8) (l : Fin K) : (broadcastInDim ⟨3, ![32, 8, K]⟩ ![0, 2] h v : FVec Ideal ⟨3, ![32, 8, K]⟩ .f32) (ix3 b p l) = v (ix2 b l) :=
  broadcastInDim_apply ![0, 2] h v (ix3 b p l) (ix2 b l) (fun a => by
    match a with
    | ⟨0, _⟩ => exact coord_eq b
    | ⟨1, _⟩ => exact coord_eq l)

/-- One vector per sequence, repeated row by row: a row reads its sequence's. -/
theorem repeated_apply {K : ℕ} (v : FVec Ideal ⟨2, ![32, K]⟩ .f32) (h1 : (⟨2, ![32, K]⟩ : Shape).BroadcastsInDim ⟨3, ![32, 8, K]⟩ ![0, 2])
    (h2 : (⟨3, ![32, 8, K]⟩ : Shape).ShapeCasts ⟨2, ![256, K]⟩) (h3 : (⟨2, ![256, K]⟩ : Shape).BroadcastsInDim ⟨3, ![1, 256, K]⟩ ![1, 2])
    (r : Fin 256) (l : Fin K) :
    (broadcastInDim ⟨3, ![1, 256, K]⟩ ![1, 2] h3 (shapeCast ⟨2, ![256, K]⟩ (broadcastInDim ⟨3, ![32, 8, K]⟩ ![0, 2] h1 v : FVec Ideal ⟨3, ![32, 8, K]⟩ .f32) h2 :
      FVec Ideal ⟨2, ![256, K]⟩ .f32) : FVec Ideal ⟨3, ![1, 256, K]⟩ .f32) (ix3 (0 : Fin 1) r l) = v (ix2 (seq r) l) := by
  rw [under_apply]
  exact (flat_apply (e := .f32) (broadcastInDim ⟨3, ![32, 8, K]⟩ ![0, 2] h1 v : FVec Ideal ⟨3, ![32, 8, K]⟩ .f32) h2 r l).trans (spread_apply v h1 (seq r) (pos r) l)

/-- One vector per sequence, given an axis of one row. -/
theorem lifted_apply {K : ℕ} (v : FVec Ideal ⟨2, ![32, K]⟩ .f32) (h : (⟨2, ![32, K]⟩ : Shape).BroadcastsInDim ⟨3, ![32, 1, K]⟩ ![0, 2])
    (b : Fin 32) (l : Fin K) : (broadcastInDim ⟨3, ![32, 1, K]⟩ ![0, 2] h v : FVec Ideal ⟨3, ![32, 1, K]⟩ .f32) (ix3 b (0 : Fin 1) l) = v (ix2 b l) :=
  broadcastInDim_apply ![0, 2] h v (ix3 b (0 : Fin 1) l) (ix2 b l) (fun a => by
    match a with
    | ⟨0, _⟩ => exact coord_eq b
    | ⟨1, _⟩ => exact coord_eq l)

/-- A block under a unit axis, the axis dropped. -/
theorem drop_apply (v : Vec Ideal ⟨3, ![1, 256, 1024]⟩ .f32) (h : (⟨3, ![1, 256, 1024]⟩ : Shape).ShapeCasts ⟨2, ![256, 1024]⟩) (r : Fin 256) (l : Fin 1024) :
    (shapeCast ⟨2, ![256, 1024]⟩ v h : FVec Ideal ⟨2, ![256, 1024]⟩ .f32) (ix2 r l) = v (ix3 (0 : Fin 1) r l) := by
  refine (shapeCast_dropUnit_apply ![256, 1024] v h (ix2 r l)).trans (congrArg v (funext fun a => ?_))
  match a with | ⟨0, _⟩ => rfl | ⟨1, _⟩ => rfl | ⟨2, _⟩ => rfl

section Block

open Cert.FfnIdeal Cert.FfnIdeal.Gen

variable (x : Vec Ideal S256x1024 .f32) (sh sc : Vec Ideal ⟨3, ![1, 256, 1024]⟩ .f32) (n : Vec Ideal S1x1024 .f32)

/-- The sample's block, normalised and modulated, every row with a modulation of its own. -/
def hBlock (h : (⟨3, ![1, 256, 1024]⟩ : Shape).ShapeCasts S256x1024) : FVec Ideal S256x1024 .f32 :=
  addf (mulf (rmsBlock (M := 256) (N := 1024) x (shapeCast S1x1024 n shapeCasts_S1x1024_S1x1024) reduces_S256x1024_S256 shapeCasts_S256_S256x1
      broadcasts_S256x1_S256x1024 broadcasts_S1x1024_S256x1024)
      (addf (broadcast S256x1024 (Scalar.ofBits .f32 0x3F800000#32)) (shapeCast S256x1024 sc h)))
    (shapeCast S256x1024 sh h)

/-- That block, row by row. -/
theorem hBlock_apply (h : (⟨3, ![1, 256, 1024]⟩ : Shape).ShapeCasts S256x1024) (r : Fin 256) (l : Fin 1024) :
    hBlock x sh sc n h (ix2 r l) = modulated (fun k => x (ix2 r k)) (fun k => n (ix2 (0 : Fin 1) k)) (fun k => sc (ix3 (0 : Fin 1) r k))
      (fun k => sh (ix3 (0 : Fin 1) r k)) l := by
  show rmsBlock (M := 256) (N := 1024) _ _ _ _ _ _ (ix2 r l) * (one + shapeCast S256x1024 sc h (ix2 r l)) + shapeCast S256x1024 sh h (ix2 r l) = _
  rw [rmsBlock_apply (by decide) (by decide), drop_apply, drop_apply]
  simp only [FF.same_apply]
  rfl

/-- A row of the sample with its sequence's modulation, normalised and modulated. -/
def hid (x : Vec Ideal S256x1024 .f32) (sh sc : Vec Ideal ⟨2, ![32, 1024]⟩ .f32) (n : Vec Ideal S1x1024 .f32) (s : Fin 256) : Fin 1024 → EReal :=
  modulated (fun k => x (ix2 s k)) (fun k => n (ix2 (0 : Fin 1) k)) (fun k => sc (ix2 (seq s) k)) (fun k => sh (ix2 (seq s) k))

end Block

end Cert.Proof.SA
-- ==== Proof.FfnSampleValue.lean ====
/-
  What the feed-forward call over the sample leaves in its output array: every row of the sample with its feed-forward
  part's normalised and scaled result added. One grid point takes all rows.
-/
module

public import proofs.«01_k».proof.Proof.SampleRows
public import proofs.«01_k».proof.Proof.FfnValue
public import proofs.«01_k».proof.Proof.Gen.FfnSampleIdeal.Value

@[expose] public section

set_option maxRecDepth 16384

noncomputable section

open Idealize.ShloMosaic Idealize.ShloMosaic.ValueIdx Idealize.SL.Sem Cert.FfnSampleIdeal Cert.FfnSampleIdeal.Gen Cert.Proof.Rows

namespace Cert.Proof.FS

/-- The call's result, from its arguments as launched: every row on its own, with its sequence's modulation. -/
def G (x : Vec Ideal S256x1024 .f32) (sh sc g : Vec Ideal S32x1024 .f32) (n1 n2 : Vec Ideal S1x1024 .f32) (wg wu : Vec Ideal S1x1024x2816 .f32)
    (wd : Vec Ideal S1x2816x1024 .f32) : Vec Ideal S256x1024 .f32 := fun y =>
  FF.rowOut (fun k => x (ix2 (y 0) k)) (fun k => sh (ix2 (SA.seq (y 0)) k)) (fun k => sc (ix2 (SA.seq (y 0)) k))
    (fun k => g (ix2 (SA.seq (y 0)) k)) (fun k => n1 (ix2 (0 : Fin 1) k)) (fun k => n2 (ix2 (0 : Fin 1) k))
    (fun k j => wg (ix3 (0 : Fin 1) k j)) (fun k j => wu (ix3 (0 : Fin 1) k j)) (fun j l => wd (ix3 (0 : Fin 1) j l)) (y 1)

/-! ## The block -/

/-- What the point leaves: the rows with the normalised and scaled sum of the chunks added. -/
def outBlock (x : Vec Ideal S256x1024 .f32) (sh sc g : Vec Ideal S1x256x1024 .f32) (n1 n2 : Vec Ideal S1x1024 .f32) (wg wu : Vec Ideal S1024x2816 .bf16)
    (wd : Vec Ideal S2816x1024 .bf16) : FVec Ideal S256x1024 .f32 :=
  addf x (mulf (shapeCast S256x1024 g shapeCasts_S1x256x1024_S256x1024)
    (rmsBlock (M := 256) (N := 1024) (FF.accum (truncf .bf16 (SA.hBlock x sh sc n1 shapeCasts_S1x256x1024_S256x1024) bitsLt_bf16_f32) wg wu wd 11 le_rfl)
      (shapeCast S1x1024 n2 shapeCasts_S1x1024_S1x1024) reduces_S256x1024_S256 shapeCasts_S256_S256x1 broadcasts_S256x1_S256x1024 broadcasts_S1x1024_S256x1024))

/-- The point's store, over its input blocks, is that block. -/
theorem out_eq (x0 : Vec Ideal S256x1024 .f32) (x1 x2 x3 : Vec Ideal S1x256x1024 .f32) (x4 x5 : Vec Ideal S1x1024 .f32) (x6 x7 : Vec Ideal S1024x2816 .bf16)
    (x8 : Vec Ideal S2816x1024 .bf16) : out0_9 x0 x1 x2 x3 x4 x5 x6 x7 x8 = outBlock x0 x2 x1 x3 x4 x5 x6 x7 x8 := by
  unfold out0_9 k0_pay17
  rw [View.canon_cons_unit_zero FF.off2, View.ld_unit_zero FF.off2 _ x0, View.ld_unit_zero FF.off2 _ x4, View.ld_unit_zero FF.off2 _ x5,
    View.ld_unit_zero FF.off3 _ x1, View.ld_unit_zero FF.off3 _ x2, View.ld_unit_zero FF.off3 _ x3]
  rfl

/-- What the point leaves, row by row. -/
theorem outBlock_apply (x : Vec Ideal S256x1024 .f32) (sh sc g : Vec Ideal S1x256x1024 .f32) (n1 n2 : Vec Ideal S1x1024 .f32) (wg wu : Vec Ideal S1024x2816 .bf16)
    (wd : Vec Ideal S2816x1024 .bf16) (r : Fin 256) (l : Fin 1024) :
    outBlock x sh sc g n1 n2 wg wu wd (ix2 r l) = FF.rowOut (fun k => x (ix2 r k)) (fun k => sh (ix3 (0 : Fin 1) r k))
      (fun k => sc (ix3 (0 : Fin 1) r k)) (fun k => g (ix3 (0 : Fin 1) r k)) (fun k => n1 (ix2 (0 : Fin 1) k))
      (fun k => n2 (ix2 (0 : Fin 1) k)) (fun k j => wg (ix2 k j)) (fun k j => wu (ix2 k j)) (fun j l => wd (ix2 j l)) l := by
  show x (ix2 r l) + shapeCast S256x1024 g _ (ix2 r l) * rmsBlock (M := 256) (N := 1024) _ _ _ _ _ _ (ix2 r l) = _
  rw [rmsBlock_apply (by decide) (by decide), SA.drop_apply]
  simp only [FF.same_apply, FF.accum_all]
  have e : FF.rowOf (truncf .bf16 (SA.hBlock x sh sc n1 shapeCasts_S1x256x1024_S256x1024) bitsLt_bf16_f32 : FVec Ideal S256x1024 .bf16) r
      = modulated (fun k => x (ix2 r k)) (fun k => n1 (ix2 (0 : Fin 1) k)) (fun k => sc (ix3 (0 : Fin 1) r k)) (fun k => sh (ix3 (0 : Fin 1) r k)) :=
    funext fun k => SA.hBlock_apply x sh sc n1 _ r k
  rw [e]
  rfl

/-! ## Where the blocks lie: every array whole -/

theorem rect0_off : ∀ t : Fin grid0.N, (win0_0.rect t).off = ![0, 0] := by decide +kernel
theorem rect1_off : ∀ t : Fin grid0.N, (win0_1.rect t).off = ![0, 0, 0] := by decide +kernel
theorem rect2_off : ∀ t : Fin grid0.N, (win0_2.rect t).off = ![0, 0, 0] := by decide +kernel
theorem rect3_off : ∀ t : Fin grid0.N, (win0_3.rect t).off = ![0, 0, 0] := by decide +kernel
theorem rect4_off : ∀ t : Fin grid0.N, (win0_4.rect t).off = ![0, 0] := by decide +kernel
theorem rect5_off : ∀ t : Fin grid0.N, (win0_5.rect t).off = ![0, 0] := by decide +kernel
theorem rect6_off : ∀ t : Fin grid0.N, (win0_6.rect t).off = ![0, 0] := by decide +kernel
theorem rect7_off : ∀ t : Fin grid0.N, (win0_7.rect t).off = ![0, 0] := by decide +kernel
theorem rect8_off : ∀ t : Fin grid0.N, (win0_8.rect t).off = ![0, 0] := by decide +kernel
theorem rect9_off : ∀ t : Fin grid0.N, (win0_9.rect t).off = ![0, 0] := by decide +kernel

/-- An index of a whole array of three axes through a rectangle at its origin. -/
theorem origin3_eq {n k l : ℕ} (off : Fin 3 → ℕ) (e : off = ![0, 0, 0]) (i : Fin n) (j : Fin k) (q : Fin l) (a : Fin 3) :
    off a + 1 * ((ix3 i j q) a).val = ((ix3 i j q) a).val := by
  subst e
  match a with
  | ⟨0, _⟩ => show 0 + 1 * i.val = i.val; omega
  | ⟨1, _⟩ => show 0 + 1 * j.val = j.val; omega
  | ⟨2, _⟩ => show 0 + 1 * q.val = q.val; omega

variable (m : (ℓ : Loc nD τ sig) → Buf (Elt Ideal) ℓ) (c : Dev nD)

/-- The arguments as launched: the sample's rows, -/
def argX : Vec Ideal S256x1024 .f32 := m ((c.tc).loc main_arg0)
/-- the shift, -/
def argSh : Vec Ideal S32x1024 .f32 := m ((c.tc).loc main_arg1)
/-- the scale, -/
def argSc : Vec Ideal S32x1024 .f32 := m ((c.tc).loc main_arg2)
/-- the result's factor, -/
def argG : Vec Ideal S32x1024 .f32 := m ((c.tc).loc main_arg3)
/-- the two normalisations' weights, -/
def argN1 : Vec Ideal S1x1024 .f32 := m ((c.tc).loc main_arg4)
def argN2 : Vec Ideal S1x1024 .f32 := m ((c.tc).loc main_arg5)
/-- and the three matrices. -/
def argWg : Vec Ideal S1x1024x2816 .f32 := m ((c.tc).loc main_arg6)
def argWu : Vec Ideal S1x1024x2816 .f32 := m ((c.tc).loc main_arg7)
def argWd : Vec Ideal S1x2816x1024 .f32 := m ((c.tc).loc main_arg8)

/-- The modulations as the call finds them: the scale, -/
theorem entry_sc (r : Fin 256) (k : Fin 1024) : (V m c main_v12 : Vec Ideal S1x256x1024 .f32) (ix3 (0 : Fin 1) r k) = argSc m c (ix2 (SA.seq r) k) :=
  SA.repeated_apply (argSc m c) bcast_S32x1024_S32x8x1024_0_2 shapeCasts_S32x8x1024_S256x1024 bcast_S256x1024_S1x256x1024_1_2 r k
/-- the shift -/
theorem entry_sh (r : Fin 256) (k : Fin 1024) : (V m c main_v15 : Vec Ideal S1x256x1024 .f32) (ix3 (0 : Fin 1) r k) = argSh m c (ix2 (SA.seq r) k) :=
  SA.repeated_apply (argSh m c) bcast_S32x1024_S32x8x1024_0_2 shapeCasts_S32x8x1024_S256x1024 bcast_S256x1024_S1x256x1024_1_2 r k
/-- and the result's factor. -/
theorem entry_g (r : Fin 256) (k : Fin 1024) : (V m c main_v18 : Vec Ideal S1x256x1024 .f32) (ix3 (0 : Fin 1) r k) = argG m c (ix2 (SA.seq r) k) :=
  SA.repeated_apply (argG m c) bcast_S32x1024_S32x8x1024_0_2 shapeCasts_S32x8x1024_S256x1024 bcast_S256x1024_S1x256x1024_1_2 r k

/-- The blocks of the point, each its array: the rows, -/
theorem iblk0_apply (t : Fin cfg0.N) (r : Fin 256) (k : Fin 1024) : (iblk m c 0 t : Vec Ideal S256x1024 .f32) (ix2 r k) = argX m c (ix2 r k) :=
  congrArg (argX m c) (funext fun a => Fin.ext (FF.origin_eq _ (rect0_off t) r k a))
/-- the modulations, -/
theorem iblk1_apply (t : Fin cfg0.N) (r : Fin 256) (k : Fin 1024) : (iblk m c 1 t : Vec Ideal S1x256x1024 .f32) (ix3 (0 : Fin 1) r k) = argSc m c (ix2 (SA.seq r) k) :=
  (congrArg (V m c main_v12 : Vec Ideal S1x256x1024 .f32) (funext fun a => Fin.ext (origin3_eq _ (rect1_off t) (0 : Fin 1) r k a))).trans (entry_sc m c r k)
theorem iblk2_apply (t : Fin cfg0.N) (r : Fin 256) (k : Fin 1024) : (iblk m c 2 t : Vec Ideal S1x256x1024 .f32) (ix3 (0 : Fin 1) r k) = argSh m c (ix2 (SA.seq r) k) :=
  (congrArg (V m c main_v15 : Vec Ideal S1x256x1024 .f32) (funext fun a => Fin.ext (origin3_eq _ (rect2_off t) (0 : Fin 1) r k a))).trans (entry_sh m c r k)
theorem iblk3_apply (t : Fin cfg0.N) (r : Fin 256) (k : Fin 1024) : (iblk m c 3 t : Vec Ideal S1x256x1024 .f32) (ix3 (0 : Fin 1) r k) = argG m c (ix2 (SA.seq r) k) :=
  (congrArg (V m c main_v18 : Vec Ideal S1x256x1024 .f32) (funext fun a => Fin.ext (origin3_eq _ (rect3_off t) (0 : Fin 1) r k a))).trans (entry_g m c r k)
/-- the weights and the matrices. -/
theorem iblk4_apply (t : Fin cfg0.N) (k : Fin 1024) : (iblk m c 4 t : Vec Ideal S1x1024 .f32) (ix2 (0 : Fin 1) k) = argN1 m c (ix2 (0 : Fin 1) k) :=
  (congrArg (V m c main_v7 : Vec Ideal S1x1024 .f32) (funext fun a => Fin.ext (FF.origin_eq _ (rect4_off t) (0 : Fin 1) k a))).trans (FF.weight_apply (argN1 m c) k)
theorem iblk5_apply (t : Fin cfg0.N) (k : Fin 1024) : (iblk m c 5 t : Vec Ideal S1x1024 .f32) (ix2 (0 : Fin 1) k) = argN2 m c (ix2 (0 : Fin 1) k) :=
  (congrArg (V m c main_v9 : Vec Ideal S1x1024 .f32) (funext fun a => Fin.ext (FF.origin_eq _ (rect5_off t) (0 : Fin 1) k a))).trans (FF.weight_apply (argN2 m c) k)
theorem iblk6_apply (t : Fin cfg0.N) (k : Fin 1024) (j : Fin 2816) : (iblk m c 6 t : Vec Ideal S1024x2816 .bf16) (ix2 k j) = argWg m c (ix3 (0 : Fin 1) k j) :=
  (congrArg (V m c main_v1 : Vec Ideal S1024x2816 .bf16) (funext fun a => Fin.ext (FF.origin_eq _ (rect6_off t) k j a))).trans
    (FF.castMat_apply (argWg m c) shapeCasts_S1x1024x2816_S1024x2816 k j)
theorem iblk7_apply (t : Fin cfg0.N) (k : Fin 1024) (j : Fin 2816) : (iblk m c 7 t : Vec Ideal S1024x2816 .bf16) (ix2 k j) = argWu m c (ix3 (0 : Fin 1) k j) :=
  (congrArg (V m c main_v3 : Vec Ideal S1024x2816 .bf16) (funext fun a => Fin.ext (FF.origin_eq _ (rect7_off t) k j a))).trans
    (FF.castMat_apply (argWu m c) shapeCasts_S1x1024x2816_S1024x2816 k j)
theorem iblk8_apply (t : Fin cfg0.N) (j : Fin 2816) (l : Fin 1024) : (iblk m c 8 t : Vec Ideal S2816x1024 .bf16) (ix2 j l) = argWd m c (ix3 (0 : Fin 1) j l) :=
  (congrArg (V m c main_v5 : Vec Ideal S2816x1024 .bf16) (funext fun a => Fin.ext (FF.origin_eq _ (rect8_off t) j l a))).trans
    (FF.castMat_apply (argWd m c) shapeCasts_S1x2816x1024_S2816x1024 j l)

/-- The call's result, from the arguments in memory. -/
def GM : Vec Ideal S256x1024 .f32 :=
  G (argX m c) (argSh m c) (argSc m c) (argG m c) (argN1 m c) (argN2 m c) (argWg m c) (argWu m c) (argWd m c)

/-- What the grid point leaves in the output's staging buffer. -/
def left (t : Fin cfg0.N) : Vec Ideal S256x1024 .f32 :=
  out0_9 (iblk m c 0 t) (iblk m c 1 t) (iblk m c 2 t) (iblk m c 3 t) (iblk m c 4 t) (iblk m c 5 t) (iblk m c 6 t) (iblk m c 7 t) (iblk m c 8 t)

/-- The grid point leaves the result. -/
theorem point_eq (t : Fin cfg0.N) (r : Fin 256) (l : Fin 1024) : left m c t (ix2 r l) = GM m c (ix2 r l) := by
  unfold left
  rw [out_eq, outBlock_apply]
  simp only [iblk0_apply, iblk1_apply m c t r, iblk2_apply m c t r, iblk3_apply m c t r, iblk4_apply, iblk5_apply, iblk6_apply, iblk7_apply, iblk8_apply]
  rfl

/-- The output array as the call leaves it. -/
def outArr : Vec Ideal S256x1024 .f32 := (dats m 0 c).arrAt 9 cfg0.N

/-- The output array is what the grid point left. -/
theorem block_eq (t : Fin cfg0.N) (r : Fin 256) (l : Fin 1024) : outArr m c (ix2 r l) = left m c t (ix2 r l) := by
  have p : ix2 r l = (win0_9.rect t).emb (ix2 r l) := (funext fun a => Fin.ext (FF.origin_eq _ (rect9_off t) r l a)).symm
  have e := congrFun (Cert.FfnSampleIdeal.Value.blocks9 m c t (flush0_9 t)) (ix2 r l)
  rw [Cert.FfnSampleIdeal.Value.flushed9] at e
  exact (congrArg (outArr m c) p).trans e

/-- The call leaves the feed-forward result of its arguments. -/
theorem final_eq : outArr m c = GM m c := by
  funext y
  obtain ⟨s, l, rfl⟩ : ∃ (s : Fin 256) (l : Fin 1024), y = ix2 s l := ⟨_, _, eq_ix2 y⟩
  exact (block_eq m c ⟨0, by decide⟩ s l).trans (point_eq m c _ s l)

end Cert.Proof.FS
-- ==== Proof.FfnSampleRef.lean ====
/-
  What the sample's feed-forward reference computes, row by row: the same function of a row, its sequence's modulation and
  the weights.
-/
module

public import proofs.«01_k».proof.Proof.FfnSampleValue
public import proofs.«01_k».proof.Proof.FfnRef
public import proofs.«01_k».proof.Proof.Gen.FfnSampleReferenceIdeal.Read

@[expose] public section

set_option maxRecDepth 16384

noncomputable section

open Idealize.ShloMosaic Idealize.ShloMosaic.ValueIdx Idealize.SL.Sem Cert.FfnSampleReferenceIdeal Cert.FfnSampleReferenceIdeal.Gen
open Cert.FfnSampleReferenceIdeal.Read Cert.Proof.Rows Cert.Proof.SA

namespace Cert.Proof.FS

variable (x : Vec Ideal S256x1024 .f32) (sh sc g : Vec Ideal S32x1024 .f32) (n1 n2 : Vec Ideal S1x1024 .f32)
  (wg wu : Vec Ideal S1x1024x2816 .f32) (wd : Vec Ideal S1x2816x1024 .f32) (s : Fin 256)

/-- The sample's rows, sequence by sequence. -/
theorem stream_apply (k : Fin 1024) : val_main_v0 (F := Ideal) x (ix3 (seq s) (pos s) k) = x (ix2 s k) :=
  unflat_apply (e := .f32) x shapeCasts_S256x1024_S32x8x1024 s k

/-- A modulation, given an axis of one row. -/
theorem mod_apply (b : Fin 32) (k : Fin 1024) : val_main_v2 (F := Ideal) sc (ix3 b (0 : Fin 1) k) = sc (ix2 b k) :=
  lifted_apply sc bcast_S32x1024_S32x1x1024_0_2 b k

/-- The reference's normalised and modulated rows. -/
theorem hid_apply (k : Fin 1024) : val_main_v23 (F := Ideal) x sh sc n1 (ix3 (seq s) (pos s) k) = hid x sh sc n1 s k := by
  refine (modHost_apply (val_main_v17 (F := Ideal) x n1) (val_main_v2 (F := Ideal) sc) (val_main_v1 (F := Ideal) sh) bcast_S_S32x1x1024
    bcast_S32x1x1024_S32x8x1024_0_1_2 (seq s) (pos s) k).trans ?_
  have e := rmsHost_apply (val_main_v0 (F := Ideal) x) (val_main_v4 (F := Ideal) n1) reducesTo_S32x8x1024_S32x8_d2 (by decide) h_S_
    bcast_S32x8_S32x8x1_0_1 bcast_S_S32x8x1 bcast_S32x8x1_S32x8x1024_0_1_2 bcast_S1024_S1x1x1024_2 bcast_S1x1x1024_S32x8x1024_0_1_2 (seq s) (pos s) k
  refine (congrArg₂ (fun u v => u * (one + v) + val_main_v1 (F := Ideal) sh (ix3 (seq s) (0 : Fin 1) k)) e (mod_apply sc (seq s) k)).trans ?_
  refine (congrArg (fun v => _ * (one + sc (ix2 (seq s) k)) + v) (mod_apply sh (seq s) k)).trans ?_
  simp only [stream_apply]
  refine congrArg (fun v => v * (one + sc (ix2 (seq s) k)) + sh (ix2 (seq s) k)) ?_
  exact congrArg (fun f => rms (fun k => x (ix2 s k)) f k) (funext fun k => FF.n1_apply n1 k)

/-- The reference's two projections of a row. -/
theorem gate_apply (j : Fin 2816) : val_main_v25 (F := Ideal) x sh sc n1 wg (ix3 (seq s) (pos s) j)
    = rowMul (hid x sh sc n1 s) (fun k j => wg (ix3 (0 : Fin 1) k j)) j := by
  refine (val_main_v25_apply ..).trans (Finset.sum_congr rfl fun k _ => ?_)
  refine congrArg₂ (· * ·) ((congrArg _ ?_).trans (hid_apply x sh sc n1 s k)) ((congrArg _ ?_).trans (FF.wg_apply wg k j))
  · exact funext fun a => by match a with | ⟨0, _⟩ => rfl | ⟨1, _⟩ => rfl | ⟨2, _⟩ => rfl
  · exact funext fun a => by match a with | ⟨0, _⟩ => rfl | ⟨1, _⟩ => rfl
theorem up_apply (j : Fin 2816) : val_main_v28 (F := Ideal) x sh sc n1 wu (ix3 (seq s) (pos s) j)
    = rowMul (hid x sh sc n1 s) (fun k j => wu (ix3 (0 : Fin 1) k j)) j := gate_apply x sh sc n1 wu s j

/-- The reference's inner lanes. -/
theorem inner_apply (j : Fin 2816) : val_main_v29 (F := Ideal) x sh sc n1 wg wu (ix3 (seq s) (pos s) j)
    = FF.inner (hid x sh sc n1 s) (fun k j => wg (ix3 (0 : Fin 1) k j)) (fun k j => wu (ix3 (0 : Fin 1) k j)) j := by
  show val_main_v25 (F := Ideal) x sh sc n1 wg (ix3 (seq s) (pos s) j) * sigm (val_main_v25 (F := Ideal) x sh sc n1 wg (ix3 (seq s) (pos s) j))
    * val_main_v28 (F := Ideal) x sh sc n1 wu (ix3 (seq s) (pos s) j) = _
  rw [gate_apply, up_apply]
  rfl

/-- The reference's feed-forward part of a row. -/
theorem ffn_apply (l : Fin 1024) : val_main_v31 (F := Ideal) x sh sc n1 wg wu wd (ix3 (seq s) (pos s) l)
    = FF.ffn (hid x sh sc n1 s) (fun k j => wg (ix3 (0 : Fin 1) k j)) (fun k j => wu (ix3 (0 : Fin 1) k j)) (fun j l => wd (ix3 (0 : Fin 1) j l)) l := by
  unfold FF.ffn rowMul
  refine (val_main_v31_apply ..).trans (Finset.sum_congr rfl fun j _ => ?_)
  refine congrArg₂ (· * ·) ((congrArg _ ?_).trans (inner_apply x sh sc n1 wg wu s j)) ((congrArg _ ?_).trans (FF.wd_apply wd j l))
  · exact funext fun a => by match a with | ⟨0, _⟩ => rfl | ⟨1, _⟩ => rfl | ⟨2, _⟩ => rfl
  · exact funext fun a => by match a with | ⟨0, _⟩ => rfl | ⟨1, _⟩ => rfl

/-- The reference's result, a row at a time. -/
theorem result_apply (l : Fin 1024) : val_main_v48 (F := Ideal) x sh sc g n1 n2 wg wu wd (ix3 (seq s) (pos s) l)
    = G x sh sc g n1 n2 wg wu wd (ix2 s l) := by
  show val_main_v0 (F := Ideal) x (ix3 (seq s) (pos s) l) + val_main_v46 (F := Ideal) g (ix3 (seq s) (pos s) l)
    * val_main_v45 (F := Ideal) x sh sc n1 n2 wg wu wd (ix3 (seq s) (pos s) l) = _
  have e := rmsHost_apply (val_main_v31 (F := Ideal) x sh sc n1 wg wu wd) (val_main_v32 (F := Ideal) n2) reducesTo_S32x8x1024_S32x8_d2 (by decide) h_S_
    bcast_S32x8_S32x8x1_0_1 bcast_S_S32x8x1 bcast_S32x8x1_S32x8x1024_0_1_2 bcast_S1024_S1x1x1024_2 bcast_S1x1x1024_S32x8x1024_0_1_2 (seq s) (pos s) l
  have e2 := mods_apply (val_main_v3 (F := Ideal) g) bcast_S32x1x1024_S32x8x1024_0_1_2 (seq s) (pos s) l
  refine congrArg₂ (· + ·) (stream_apply x s l) (congrArg₂ (· * ·) (e2.trans (mod_apply g (seq s) l)) (e.trans ?_))
  simp only [ffn_apply]
  exact congrArg (fun f => rms _ f l) (funext fun k => FF.n1_apply n2 k)

/-- The reference computes the feed-forward result of its arguments. -/
theorem ref_eq : val_main_v49 (F := Ideal) x sh sc g n1 n2 wg wu wd = G x sh sc g n1 n2 wg wu wd := by
  funext y
  obtain ⟨s, l, rfl⟩ : ∃ (s : Fin 256) (l : Fin 1024), y = ix2 s l := ⟨_, _, eq_ix2 y⟩
  exact (flat_apply (e := .f32) (val_main_v48 (F := Ideal) x sh sc g n1 n2 wg wu wd) shapeCasts_S32x8x1024_S256x1024 s l).trans
    (result_apply x sh sc g n1 n2 wg wu wd s l)

end Cert.Proof.FS
-- ==== Proof.FfnSampleClaim.lean ====
/-
  The claims of the sample's feed-forward call: the equality of the kernel's and the reference's results, and the
  reference's frame.
-/
module

public import proofs.«01_k».proof.Defs
public import proofs.«01_k».proof.Proof.FfnSampleRef
public import proofs.«01_k».proof.Proof.Gen.FfnSampleReferenceIdeal.Run

@[expose] public section

set_option maxRecDepth 16384

noncomputable section

open Idealize.ShloMosaic Idealize.ShloMosaic.ValueIdx Idealize.SL.Sem

namespace Cert.Proof.FS

/-- The kernel's and the reference's results are equal, whatever the arguments. -/
theorem algebraic : Cert.algebraic_FfnSampleIdeal_FfnSampleReferenceIdeal (hFfnSampleIdeal := Cert.FfnSampleIdeal.Gen.facts)
    (hFfnSampleReferenceIdeal := Cert.FfnSampleReferenceIdeal.Gen.facts) := fun m ρ m' ρ' _ hag =>
  ⟨fun c => GM m c,
    (θ_run _ _ _).mono (fun _ h c => ⟨(h c).1.trans (by exact final_eq m c), (h c).2⟩) (Cert.FfnSampleIdeal.Value.run_blocks m ρ),
    (θ_run _ _ _).mono (fun _ h c => ⟨(h c).1.trans (by
        obtain ⟨e0, e1, e2, e3, e4, e5, e6, e7, e8⟩ := hag c
        rw [Cert.FfnSampleReferenceIdeal.Read.val_main_v49_eq, e0, e1, e2, e3, e4, e5, e6, e7, e8]
        exact ref_eq (argX m c) (argSh m c) (argSc m c) (argG m c) (argN1 m c) (argN2 m c) (argWg m c) (argWu m c) (argWd m c)), (h c).2⟩)
      (Cert.FfnSampleReferenceIdeal.Value.run m' ρ')⟩

/-- The reference runs, keeps its arguments and ends quiescent. -/
theorem frame_ref : Cert.quiescent_FfnSampleReferenceIdeal (hFfnSampleReferenceIdeal := Cert.FfnSampleReferenceIdeal.Gen.facts) := fun m ρ _ =>
  (θ_run Cert.FfnSampleReferenceIdeal.defs _ _).mono (fun r h => ⟨fun c => (h c).2, sem_eq_zero_of_no_sems (by decide) r.2⟩)
    (Cert.FfnSampleReferenceIdeal.Value.run (F := Ideal) m ρ)

end Cert.Proof.FS
-- ==== Proof.InprojSampleBlock.lean ====
/-
  The grid point of the sample's input projections: its 256 rows, every row with a modulation of its own, through the
  matrices of the two branches and of the gates, and through the indexer's matrix in the split product.
-/
module

public import proofs.«01_k».proof.Proof.SampleRows
public import proofs.«01_k».proof.Proof.InprojBlock
public import proofs.«01_k».proof.Proof.Gen.InprojSampleIdeal.Frame

@[expose] public section

set_option maxRecDepth 16384

noncomputable section

open Idealize.ShloMosaic Idealize.ShloMosaic.ValueIdx Idealize.SL.Sem Cert.InprojSampleIdeal Cert.InprojSampleIdeal.Gen Cert.Proof.Rows

namespace Cert.Proof.IS

open IN (eighth splitMul)

variable (x0 : Vec Ideal S256x1024 .f32) (x1 x2 : Vec Ideal S1x256x1024 .f32) (x3 : Vec Ideal S1x1024 .f32) (x4 : Vec Ideal S1024x3072 .bf16)
  (x5 : Vec Ideal S1024x2048 .bf16) (x6 x7 : Vec Ideal S1024x512 .bf16) (r : Fin 256)

/-- A row of the block, normalised and modulated. -/
def hRow : Fin 1024 → EReal :=
  modulated (fun k => x0 (ix2 r k)) (fun k => x3 (ix2 (0 : Fin 1) k)) (fun k => x1 (ix3 (0 : Fin 1) r k)) (fun k => x2 (ix3 (0 : Fin 1) r k))

/-- A row of the block through the branches' matrices. -/
def mainRow (q : Fin 3072) : EReal := rowMul (hRow x0 x1 x2 x3 r) (fun k j => x4 (ix2 k j)) q

/-- The gates: the logistic of a row through the gates' matrix. -/
def gateRow (q : Fin 2048) : EReal := sigm (rowMul (hRow x0 x1 x2 x3 r) (fun k j => x5 (ix2 k j)) q)

/-- A row through the indexer's matrix, in the split product. -/
def idxRow (q : Fin 512) : EReal := splitMul (hRow x0 x1 x2 x3 r) (fun k j => x6 (ix2 k j)) (fun k j => x7 (ix2 k j)) q

/-- The block the products take. -/
theorem h_eq : k0_pay7 (View.ld x0 r0_0) (View.ld x3 r0_1) (View.ld x1 r0_2) (View.ld x2 r0_2)
    = truncf .bf16 (SA.hBlock x0 x2 x1 x3 shapeCasts_S1x256x1024_S256x1024) bitsLt_bf16_f32 := by
  rw [View.ld_unit_zero FF.off2 _ x0, View.ld_unit_zero FF.off2 _ x3, View.ld_unit_zero FF.off3 _ x1, View.ld_unit_zero FF.off3 _ x2]
  rfl

theorem h_apply (k : Fin 1024) : k0_pay7 (View.ld x0 r0_0) (View.ld x3 r0_1) (View.ld x1 r0_2) (View.ld x2 r0_2) (ix2 r k) = hRow x0 x1 x2 x3 r k := by
  rw [h_eq]
  exact SA.hBlock_apply x0 x2 x1 x3 _ r k

/-- The block's trailing part. -/
theorem d_apply (k : Fin 1024) : k0_pay8 (View.ld x0 r0_0) (View.ld x3 r0_1) (View.ld x1 r0_2) (View.ld x2 r0_2) (ix2 r k)
    = hRow x0 x1 x2 x3 r k - hRow x0 x1 x2 x3 r k := by
  have e := h_apply x0 x1 x2 x3 r k
  exact congrArg₂ (· - ·) e e

/-- Columns of the block through the branches' matrices: 512 columns from column `off` on. -/
theorem part_apply {off : ℕ} (h : ∀ a, (![0, off] : Fin 2 → ℕ) a + S1024x512.size a ≤ S1024x3072.size a) (l : Fin 512) (hl : off + l.val < 3072) :
    k0_pay13 (k0_pay7 (View.ld x0 r0_0) (View.ld x3 r0_1) (View.ld x1 r0_2) (View.ld x2 r0_2))
        (View.ld x4 (Rect.unit (s := S1024x3072) ![0, off] S1024x512.size h)) (ix2 r l) = mainRow x0 x1 x2 x3 x4 r ⟨off + l.val, hl⟩ :=
  product_cols_apply (M := 256) (K := 1024) (N := 3072) (n := 512) _ x4 shapeCasts_S1024x512_S1024x512 h r _ (h_apply x0 x1 x2 x3 r) l hl

/-! ## What the point leaves, output by output -/

/-- The first branch's scaled queries, -/
theorem out8_apply (l : Fin 512) : out0_8 x0 x1 x2 x3 x4 x5 x6 x7 (ix2 r l) = mainRow x0 x1 x2 x3 x4 r ⟨0 + l.val, by omega⟩ * eighth := by
  unfold out0_8
  rw [View.canon_cons_unit_zero FF.off2]
  exact congrArg (· * eighth) (part_apply x0 x1 x2 x3 x4 r inb_S1024x3072_S1024x512_0_0 l (by omega))
/-- its keys -/
theorem out9_apply (l : Fin 512) : out0_9 x0 x1 x2 x3 x4 x5 x6 x7 (ix2 r l) = mainRow x0 x1 x2 x3 x4 r ⟨512 + l.val, by omega⟩ := by
  unfold out0_9
  rw [View.canon_cons_unit_zero FF.off2]
  exact part_apply x0 x1 x2 x3 x4 r inb_S1024x3072_S1024x512_0_512 l (by omega)
/-- and its values. -/
theorem out10_apply (l : Fin 512) : out0_10 x0 x1 x2 x3 x4 x5 x6 x7 (ix2 r l) = mainRow x0 x1 x2 x3 x4 r ⟨1024 + l.val, by omega⟩ := by
  unfold out0_10
  rw [View.canon_cons_unit_zero FF.off2]
  exact part_apply x0 x1 x2 x3 x4 r inb_S1024x3072_S1024x512_0_1024 l (by omega)
/-- The second branch's scaled queries, -/
theorem out11_apply (l : Fin 512) : out0_11 x0 x1 x2 x3 x4 x5 x6 x7 (ix2 r l) = mainRow x0 x1 x2 x3 x4 r ⟨1536 + l.val, by omega⟩ * eighth := by
  unfold out0_11
  rw [View.canon_cons_unit_zero FF.off2]
  exact congrArg (· * eighth) (part_apply x0 x1 x2 x3 x4 r inb_S1024x3072_S1024x512_0_1536 l (by omega))
/-- its keys -/
theorem out12_apply (l : Fin 512) : out0_12 x0 x1 x2 x3 x4 x5 x6 x7 (ix2 r l) = mainRow x0 x1 x2 x3 x4 r ⟨2048 + l.val, by omega⟩ := by
  unfold out0_12
  rw [View.canon_cons_unit_zero FF.off2]
  exact part_apply x0 x1 x2 x3 x4 r inb_S1024x3072_S1024x512_0_2048 l (by omega)
/-- and its values. -/
theorem out13_apply (l : Fin 512) : out0_13 x0 x1 x2 x3 x4 x5 x6 x7 (ix2 r l) = mainRow x0 x1 x2 x3 x4 r ⟨2560 + l.val, by omega⟩ := by
  unfold out0_13
  rw [View.canon_cons_unit_zero FF.off2]
  exact part_apply x0 x1 x2 x3 x4 r inb_S1024x3072_S1024x512_0_2560 l (by omega)

/-- Half of the gates, as stored. -/
theorem half_apply {off : ℕ} (h : ∀ a, (![0, off] : Fin 2 → ℕ) a + S1024x1024.size a ≤ S1024x2048.size a) (l : Fin 1024) (hl : off + l.val < 2048) :
    k0_pay21 (k0_pay7 (View.ld x0 r0_0) (View.ld x3 r0_1) (View.ld x1 r0_2) (View.ld x2 r0_2))
        (View.ld x5 (Rect.unit (s := S1024x2048) ![0, off] S1024x1024.size h)) (ix2 r l) = gateRow x0 x1 x2 x3 x5 r ⟨off + l.val, hl⟩ := by
  have e := product_cols_apply (M := 256) (K := 1024) (N := 2048) (n := 1024) _ x5 shapeCasts_S1024x1024_S1024x1024 h r _ (h_apply x0 x1 x2 x3 r) l hl
  refine Eq.trans ?_ (congrArg sigm e)
  exact div_eq_sigm _

/-- The gates' two halves lie side by side. -/
theorem out18_apply (q : Fin 2048) : out0_18 x0 x1 x2 x3 x4 x5 x6 x7 (ix2 r q) = gateRow x0 x1 x2 x3 x5 r q := by
  refine View.canon_apply_of_pieces (Val := Elt Ideal) (e := .bf16) (fun y : S256x2048.Idx => (gateRow x0 x1 x2 x3 x5 (y 0) (y 1) : Elt Ideal .bf16)) _ ?_ (ix2 r q) (cover0_18 _ _ _)
  intro pc hpc
  rcases List.mem_cons.mp hpc with rfl | hpc
  · intro y
    obtain ⟨r', l, rfl⟩ : ∃ (r' : Fin 256) (l : Fin 1024), y = ix2 r' l := ⟨_, _, eq_ix2 y⟩
    refine (half_apply x0 x1 x2 x3 x5 r' inb_S1024x2048_S1024x1024_0_1024 l (by omega)).trans ?_
    refine congrArg₂ (gateRow x0 x1 x2 x3 x5) (Fin.ext ?_) (Fin.ext ?_)
    · show r'.val = 0 + 1 * r'.val; omega
    · show 1024 + l.val = 1024 + 1 * l.val; omega
  rcases List.mem_cons.mp hpc with rfl | hpc
  · intro y
    obtain ⟨r', l, rfl⟩ : ∃ (r' : Fin 256) (l : Fin 1024), y = ix2 r' l := ⟨_, _, eq_ix2 y⟩
    refine (half_apply x0 x1 x2 x3 x5 r' inb_S1024x2048_S1024x1024_0_0 l (by omega)).trans ?_
    refine congrArg₂ (gateRow x0 x1 x2 x3 x5) (Fin.ext ?_) (Fin.ext ?_)
    · show r'.val = 0 + 1 * r'.val; omega
    · show 0 + l.val = 0 + 1 * l.val; omega
  nomatch hpc

/-- The split product's block. -/
def idxBlock : Vec Ideal S256x512 .f32 :=
  k0_pay1 (k0_pay25 x0 x1 x2 x3 x4 x5 x6 x7) (k0_pay26 x0 x1 x2 x3 x4 x5 x6 x7) (k0_pay30 x0 x1 x2 x3 x4 x5 x6 x7) (k0_pay31 x0 x1 x2 x3 x4 x5 x6 x7)

theorem idx_apply (q : Fin 512) : idxBlock x0 x1 x2 x3 x4 x5 x6 x7 (ix2 r q) = idxRow x0 x1 x2 x3 x6 x7 r q := by
  have e6 : (View.ld x6 r0_14 : Vec Ideal S1024x512 .bf16) = x6 := View.ld_unit_zero FF.off2 _ x6
  have e7 : (View.ld x7 r0_14 : Vec Ideal S1024x512 .bf16) = x7 := View.ld_unit_zero FF.off2 _ x7
  unfold idxBlock k0_pay25 k0_pay26 k0_pay30 k0_pay31
  rw [e6, e7]
  refine congrArg₂ (· + ·) (congrArg₂ (· + ·) ?_ ?_) ?_
  · exact (product_apply (M := 256) (K := 1024) (N := 512) _ x6 shapeCasts_S1024x512_S1024x512 r q).trans
      (Finset.sum_congr rfl fun k _ => congrArg (· * x6 (ix2 k q)) (h_apply x0 x1 x2 x3 r k))
  · exact (product_apply (M := 256) (K := 1024) (N := 512) _ x6 shapeCasts_S1024x512_S1024x512 r q).trans
      (Finset.sum_congr rfl fun k _ => congrArg (· * x6 (ix2 k q)) (d_apply x0 x1 x2 x3 r k))
  · exact (product_apply (M := 256) (K := 1024) (N := 512) _ x7 shapeCasts_S1024x512_S1024x512 r q).trans
      (Finset.sum_congr rfl fun k _ => congrArg (· * x7 (ix2 k q)) (h_apply x0 x1 x2 x3 r k))

/-- The indexer's scaled queries -/
theorem out19_apply (l : Fin 256) : out0_19 x0 x1 x2 x3 x4 x5 x6 x7 (ix2 r l) = idxRow x0 x1 x2 x3 x6 x7 r ⟨0 + l.val, by omega⟩ * eighth := by
  unfold out0_19
  rw [View.canon_cons_unit_zero FF.off2]
  exact congrArg (· * eighth) ((colsOf_apply (e := .f32) (K := 256) (N := 512) (n := 256) (off := 0) (idxBlock x0 x1 x2 x3 x4 x5 x6 x7) slices_S256x512_o0_0_S256x256 r l (by omega)).trans
    (idx_apply x0 x1 x2 x3 x4 x5 x6 x7 r _))
/-- and its keys. -/
theorem out22_apply (l : Fin 64) : out0_22 x0 x1 x2 x3 x4 x5 x6 x7 (ix2 r l) = idxRow x0 x1 x2 x3 x6 x7 r ⟨256 + l.val, by omega⟩ := by
  unfold out0_22
  rw [View.canon_cons_unit_zero FF.off2]
  exact (colsOf_apply (e := .f32) (K := 256) (N := 512) (n := 64) (off := 256) (idxBlock x0 x1 x2 x3 x4 x5 x6 x7) slices_S256x512_o0_256_S256x64 r l (by omega)).trans
    (idx_apply x0 x1 x2 x3 x4 x5 x6 x7 r _)

end Cert.Proof.IS
-- ==== Proof.InprojSampleValue.lean ====
/-
  What the sample's projecting call leaves in the output arrays that are read on: every row of the sample, normalised and
  modulated, through its columns of the projecting matrix.
-/
module

public import proofs.«01_k».proof.Proof.InprojValue
public import proofs.«01_k».proof.Proof.InprojSampleBlock
public import proofs.«01_k».proof.Proof.FfnSampleValue
public import proofs.«01_k».proof.Proof.Gen.InprojSampleIdeal.Value

@[expose] public section

set_option maxRecDepth 16384

noncomputable section

open Idealize.ShloMosaic Idealize.ShloMosaic.ValueIdx Idealize.SL.Sem Cert.InprojSampleIdeal Cert.InprojSampleIdeal.Gen Cert.Proof.Rows

namespace Cert.Proof.IS

open IN (eighth mainMat gateMat idxMat)

/-! ## The results -/

section Results

variable (x : Vec Ideal S256x1024 .f32) (sh sc : Vec Ideal S32x1024 .f32) (n : Vec Ideal S1x1024 .f32) (w : Vec Ideal S1x1024x5444 .f32)

/-- A row of the sample through a column of the projecting matrix. -/
def proj (s : Fin 256) (q : Fin 5444) : EReal := rowMul (SA.hid x sh sc n s) (fun k j => w (ix3 (0 : Fin 1) k j)) q

/-- A result is `K` columns of the projection, from column `off` on, -/
def cols {e : EltTy} {K : ℕ} (off : ℕ) (h : off + K ≤ 5444) (f : EReal → Elt Ideal e) : Vec Ideal ⟨2, ![256, K]⟩ e := fun y =>
  f (proj x sh sc n w (y 0) ⟨off + (y 1).val, Nat.lt_of_lt_of_le (Nat.add_lt_add_left (y 1).isLt off) h⟩)

/-- taken as they are, scaled, or through the logistic function: the first branch's queries, keys and values, -/
def resQa : Vec Ideal S256x512 .bf16 := cols x sh sc n w (e := .bf16) 0 (by decide) (fun v => v * eighth)
def resKa : Vec Ideal S256x512 .f32 := cols x sh sc n w (e := .f32) 512 (by decide) (fun v => v)
def resVa : Vec Ideal S256x512 .f32 := cols x sh sc n w (e := .f32) 1024 (by decide) (fun v => v)
/-- the second branch's, -/
def resQb : Vec Ideal S256x512 .bf16 := cols x sh sc n w (e := .bf16) 1860 (by decide) (fun v => v * eighth)
def resKb : Vec Ideal S256x512 .f32 := cols x sh sc n w (e := .f32) 2372 (by decide) (fun v => v)
def resVb : Vec Ideal S256x512 .f32 := cols x sh sc n w (e := .f32) 2884 (by decide) (fun v => v)
/-- the gates, -/
def resGate : Vec Ideal S256x2048 .bf16 := cols x sh sc n w (e := .bf16) 3396 (by decide) (fun v => sigm v)
/-- and the indexer's queries and keys. -/
def resIq : Vec Ideal S256x256 .f32 := cols x sh sc n w (e := .f32) 1536 (by decide) (fun v => v * eighth)
def resIk : Vec Ideal S256x64 .f32 := cols x sh sc n w (e := .f32) 1792 (by decide) (fun v => v)

end Results

/-! ## Where the blocks lie: every array whole -/

theorem rect0_off : ∀ t : Fin grid0.N, (win0_0.rect t).off = ![0, 0] := by decide +kernel
theorem rect1_off : ∀ t : Fin grid0.N, (win0_1.rect t).off = ![0, 0, 0] := by decide +kernel
theorem rect2_off : ∀ t : Fin grid0.N, (win0_2.rect t).off = ![0, 0, 0] := by decide +kernel
theorem rect3_off : ∀ t : Fin grid0.N, (win0_3.rect t).off = ![0, 0] := by decide +kernel
theorem rect4_off : ∀ t : Fin grid0.N, (win0_4.rect t).off = ![0, 0] := by decide +kernel
theorem rect5_off : ∀ t : Fin grid0.N, (win0_5.rect t).off = ![0, 0] := by decide +kernel
theorem rect6_off : ∀ t : Fin grid0.N, (win0_6.rect t).off = ![0, 0] := by decide +kernel
theorem rect7_off : ∀ t : Fin grid0.N, (win0_7.rect t).off = ![0, 0] := by decide +kernel
theorem rect8_off : ∀ t : Fin grid0.N, (win0_8.rect t).off = ![0, 0] := by decide +kernel
theorem rect9_off : ∀ t : Fin grid0.N, (win0_9.rect t).off = ![0, 0] := by decide +kernel
theorem rect10_off : ∀ t : Fin grid0.N, (win0_10.rect t).off = ![0, 0] := by decide +kernel
theorem rect11_off : ∀ t : Fin grid0.N, (win0_11.rect t).off = ![0, 0] := by decide +kernel
theorem rect12_off : ∀ t : Fin grid0.N, (win0_12.rect t).off = ![0, 0] := by decide +kernel
theorem rect13_off : ∀ t : Fin grid0.N, (win0_13.rect t).off = ![0, 0] := by decide +kernel
theorem rect18_off : ∀ t : Fin grid0.N, (win0_18.rect t).off = ![0, 0] := by decide +kernel
theorem rect19_off : ∀ t : Fin grid0.N, (win0_19.rect t).off = ![0, 0] := by decide +kernel
theorem rect22_off : ∀ t : Fin grid0.N, (win0_22.rect t).off = ![0, 0] := by decide +kernel

variable (m : (ℓ : Loc nD τ sig) → Buf (Elt Ideal) ℓ) (c : Dev nD)

/-- The arguments as launched: the sample's rows, -/
def argX : Vec Ideal S256x1024 .f32 := m ((c.tc).loc main_arg0)
/-- the shift, -/
def argSh : Vec Ideal S32x1024 .f32 := m ((c.tc).loc main_arg1)
/-- the scale, -/
def argSc : Vec Ideal S32x1024 .f32 := m ((c.tc).loc main_arg2)
/-- the normalisation's weights -/
def argN : Vec Ideal S1x1024 .f32 := m ((c.tc).loc main_arg3)
/-- and the projecting matrix. -/
def argW : Vec Ideal S1x1024x5444 .f32 := m ((c.tc).loc main_arg4)

/-- The modulations, the weights and the matrices as the call finds them. -/
theorem entry_sc (r : Fin 256) (k : Fin 1024) : (V m c main_v25 : Vec Ideal S1x256x1024 .f32) (ix3 (0 : Fin 1) r k) = argSc m c (ix2 (SA.seq r) k) :=
  SA.repeated_apply (argSc m c) bcast_S32x1024_S32x8x1024_0_2 shapeCasts_S32x8x1024_S256x1024 bcast_S256x1024_S1x256x1024_1_2 r k
theorem entry_sh (r : Fin 256) (k : Fin 1024) : (V m c main_v28 : Vec Ideal S1x256x1024 .f32) (ix3 (0 : Fin 1) r k) = argSh m c (ix2 (SA.seq r) k) :=
  SA.repeated_apply (argSh m c) bcast_S32x1024_S32x8x1024_0_2 shapeCasts_S32x8x1024_S256x1024 bcast_S256x1024_S1x256x1024_1_2 r k
theorem entry_n (k : Fin 1024) : (V m c main_v30 : Vec Ideal S1x1024 .f32) (ix2 (0 : Fin 1) k) = argN m c (ix2 (0 : Fin 1) k) :=
  FF.weight_apply (argN m c) k
theorem entry_main (k : Fin 1024) (j : Fin 3072) : (V m c main_v8 : Vec Ideal S1024x3072 .bf16) (ix2 k j) = mainMat (argW m c) (ix2 k j) := rfl
theorem entry_gate (k : Fin 1024) (j : Fin 2048) : (V m c main_v12 : Vec Ideal S1024x2048 .bf16) (ix2 k j) = gateMat (argW m c) (ix2 k j) := rfl
theorem entry_idx (k : Fin 1024) (j : Fin 512) : (V m c main_v19 : Vec Ideal S1024x512 .bf16) (ix2 k j) = idxMat (argW m c) (ix2 k j) := rfl
theorem entry_lo (k : Fin 1024) (j : Fin 512) : (V m c main_v22 : Vec Ideal S1024x512 .bf16) (ix2 k j)
    = (idxMat (argW m c) (ix2 k j) - idxMat (argW m c) (ix2 k j) : EReal) := rfl

/-! ## The blocks of the point -/

/-- The point's blocks, each its array. -/
theorem iblk0_apply (t : Fin cfg0.N) (r : Fin 256) (k : Fin 1024) : (iblk m c 0 t : Vec Ideal S256x1024 .f32) (ix2 r k) = argX m c (ix2 r k) :=
  congrArg (argX m c) (funext fun a => Fin.ext (FF.origin_eq _ (rect0_off t) r k a))
theorem iblk1_apply (t : Fin cfg0.N) (r : Fin 256) (k : Fin 1024) : (iblk m c 1 t : Vec Ideal S1x256x1024 .f32) (ix3 (0 : Fin 1) r k) = argSc m c (ix2 (SA.seq r) k) :=
  (congrArg (V m c main_v25 : Vec Ideal S1x256x1024 .f32) (funext fun a => Fin.ext (FS.origin3_eq _ (rect1_off t) (0 : Fin 1) r k a))).trans (entry_sc m c r k)
theorem iblk2_apply (t : Fin cfg0.N) (r : Fin 256) (k : Fin 1024) : (iblk m c 2 t : Vec Ideal S1x256x1024 .f32) (ix3 (0 : Fin 1) r k) = argSh m c (ix2 (SA.seq r) k) :=
  (congrArg (V m c main_v28 : Vec Ideal S1x256x1024 .f32) (funext fun a => Fin.ext (FS.origin3_eq _ (rect2_off t) (0 : Fin 1) r k a))).trans (entry_sh m c r k)
theorem iblk3_apply (t : Fin cfg0.N) (k : Fin 1024) : (iblk m c 3 t : Vec Ideal S1x1024 .f32) (ix2 (0 : Fin 1) k) = argN m c (ix2 (0 : Fin 1) k) :=
  (congrArg (V m c main_v30 : Vec Ideal S1x1024 .f32) (funext fun a => Fin.ext (FF.origin_eq _ (rect3_off t) (0 : Fin 1) k a))).trans (entry_n m c k)
theorem iblk4_apply (t : Fin cfg0.N) (k : Fin 1024) (j : Fin 3072) : (iblk m c 4 t : Vec Ideal S1024x3072 .bf16) (ix2 k j) = mainMat (argW m c) (ix2 k j) :=
  (congrArg (V m c main_v8 : Vec Ideal S1024x3072 .bf16) (funext fun a => Fin.ext (FF.origin_eq _ (rect4_off t) k j a))).trans (entry_main m c k j)
theorem iblk5_apply (t : Fin cfg0.N) (k : Fin 1024) (j : Fin 2048) : (iblk m c 5 t : Vec Ideal S1024x2048 .bf16) (ix2 k j) = gateMat (argW m c) (ix2 k j) :=
  (congrArg (V m c main_v12 : Vec Ideal S1024x2048 .bf16) (funext fun a => Fin.ext (FF.origin_eq _ (rect5_off t) k j a))).trans (entry_gate m c k j)
theorem iblk6_apply (t : Fin cfg0.N) (k : Fin 1024) (j : Fin 512) : (iblk m c 6 t : Vec Ideal S1024x512 .bf16) (ix2 k j) = idxMat (argW m c) (ix2 k j) :=
  (congrArg (V m c main_v19 : Vec Ideal S1024x512 .bf16) (funext fun a => Fin.ext (FF.origin_eq _ (rect6_off t) k j a))).trans (entry_idx m c k j)
theorem iblk7_apply (t : Fin cfg0.N) (k : Fin 1024) (j : Fin 512) :
    (iblk m c 7 t : Vec Ideal S1024x512 .bf16) (ix2 k j) = (idxMat (argW m c) (ix2 k j) - idxMat (argW m c) (ix2 k j) : EReal) :=
  (congrArg (V m c main_v22 : Vec Ideal S1024x512 .bf16) (funext fun a => Fin.ext (FF.origin_eq _ (rect7_off t) k j a))).trans (entry_lo m c k j)

/-- A row of the sample, normalised and modulated. -/
def hidAt (s : Fin 256) : Fin 1024 → EReal := SA.hid (argX m c) (argSh m c) (argSc m c) (argN m c) s
/-- A row of the sample through a column of the projecting matrix. -/
def projAt (s : Fin 256) (q : Fin 5444) : EReal := proj (argX m c) (argSh m c) (argSc m c) (argN m c) (argW m c) s q

/-- The point's normalised and modulated rows. -/
theorem hRow_eq (t : Fin cfg0.N) (r : Fin 256) : hRow (iblk m c 0 t) (iblk m c 1 t) (iblk m c 2 t) (iblk m c 3 t) r = hidAt m c r := by
  unfold hRow
  simp only [iblk0_apply, iblk1_apply m c t r, iblk2_apply m c t r, iblk3_apply]
  rfl

/-- A row through the branches' matrix in a column is the projection in the column's place. -/
theorem mainRow_eq (t : Fin cfg0.N) (r : Fin 256) (q : Fin 3072) (q' : Fin 5444) (h : ∀ k, mainMat (argW m c) (ix2 k q) = argW m c (ix3 (0 : Fin 1) k q')) :
    mainRow (iblk m c 0 t) (iblk m c 1 t) (iblk m c 2 t) (iblk m c 3 t) (iblk m c 4 t) r q = projAt m c r q' := by
  unfold mainRow
  rw [hRow_eq]
  exact Finset.sum_congr rfl fun k _ => congrArg (hidAt m c r k * ·) ((iblk4_apply m c t k q).trans (h k))

/-- A gate is the logistic of the projection in the gate's place. -/
theorem gateRow_eq (t : Fin cfg0.N) (r : Fin 256) (q : Fin 2048) :
    gateRow (iblk m c 0 t) (iblk m c 1 t) (iblk m c 2 t) (iblk m c 3 t) (iblk m c 5 t) r q = sigm (projAt m c r ⟨3396 + q.val, by omega⟩) := by
  unfold gateRow
  rw [hRow_eq]
  exact congrArg sigm (Finset.sum_congr rfl fun k _ => congrArg (hidAt m c r k * ·) ((iblk5_apply m c t k q).trans (IN.gateMat_apply _ k q)))

/-- Every argument is real. -/
structure Reals : Prop where
  x : ∀ i, ∃ a : ℝ, argX m c i = a
  sh : ∀ i, ∃ a : ℝ, argSh m c i = a
  sc : ∀ i, ∃ a : ℝ, argSc m c i = a
  n : ∀ i, ∃ a : ℝ, argN m c i = a
  w : ∀ i, ∃ a : ℝ, argW m c i = a

/-- Of real arguments, a row through the indexer's matrix in the split product is the projection in the column's place. -/
theorem idxRow_eq (hr : Reals m c) (t : Fin cfg0.N) (r : Fin 256) (q : Fin 512) (q' : Fin 5444)
    (h : ∀ k, idxMat (argW m c) (ix2 k q) = argW m c (ix3 (0 : Fin 1) k q')) :
    idxRow (iblk m c 0 t) (iblk m c 1 t) (iblk m c 2 t) (iblk m c 3 t) (iblk m c 6 t) (iblk m c 7 t) r q = projAt m c r q' := by
  unfold idxRow
  rw [hRow_eq]
  refine (IN.splitMul_eq _ _ _ q (fun i => ?_) (fun i => ?_)).trans
    (Finset.sum_congr rfl fun k _ => congrArg (hidAt m c r k * ·) ((iblk6_apply m c t k q).trans (h k)))
  · exact IN.modulated_real _ _ _ _ (fun _ => hr.x _) (fun _ => hr.n _) (fun _ => hr.sc _) (fun _ => hr.sh _) i
  · obtain ⟨a, ha⟩ := hr.w (ix3 (0 : Fin 1) i q')
    refine (iblk7_apply m c t i q).trans ?_
    rw [h i, ha, ← EReal.coe_sub, sub_self, EReal.coe_zero]

/-! ## The arrays -/

/-- Arrays of rows that agree everywhere are equal. -/
theorem rows_ext {e : EltTy} {K : ℕ} (A B : Vec Ideal ⟨2, ![256, K]⟩ e) (h : ∀ (r : Fin 256) (l : Fin K), A (ix2 r l) = B (ix2 r l)) : A = B := by
  funext y
  obtain ⟨r, l, rfl⟩ : ∃ (r : Fin 256) (l : Fin K), y = ix2 r l := ⟨_, _, eq_ix2 y⟩
  exact h r l

/-- The output arrays as the call leaves them. -/
def arrQa : Vec Ideal S256x512 .bf16 := (dats m 0 c).arrAt 8 cfg0.N
def arrKa : Vec Ideal S256x512 .f32 := (dats m 0 c).arrAt 9 cfg0.N
def arrVa : Vec Ideal S256x512 .f32 := (dats m 0 c).arrAt 10 cfg0.N
def arrQb : Vec Ideal S256x512 .bf16 := (dats m 0 c).arrAt 11 cfg0.N
def arrKb : Vec Ideal S256x512 .f32 := (dats m 0 c).arrAt 12 cfg0.N
def arrVb : Vec Ideal S256x512 .f32 := (dats m 0 c).arrAt 13 cfg0.N
def arrGate : Vec Ideal S256x2048 .bf16 := (dats m 0 c).arrAt 18 cfg0.N
def arrIq : Vec Ideal S256x256 .f32 := (dats m 0 c).arrAt 19 cfg0.N
def arrIk : Vec Ideal S256x64 .f32 := (dats m 0 c).arrAt 22 cfg0.N

/-- The one grid point. -/
def pt : Fin cfg0.N := ⟨0, by decide⟩

variable (r : Fin 256)

/-- Each array is what the point left. -/
theorem block8 (l : Fin 512) : arrQa m c (ix2 r l) = out0_8 (iblk m c 0 pt) (iblk m c 1 pt) (iblk m c 2 pt) (iblk m c 3 pt) (iblk m c 4 pt) (iblk m c 5 pt) (iblk m c 6 pt) (iblk m c 7 pt) (ix2 r l) := by
  have p : ix2 r l = (win0_8.rect pt).emb (ix2 r l) := (funext fun a => Fin.ext (FF.origin_eq _ (rect8_off pt) r l a)).symm
  have e := congrFun (Cert.InprojSampleIdeal.Value.blocks8 m c pt (flush0_8 pt)) (ix2 r l)
  rw [Cert.InprojSampleIdeal.Value.flushed8] at e
  exact (congrArg (arrQa m c) p).trans e
theorem block9 (l : Fin 512) : arrKa m c (ix2 r l) = out0_9 (iblk m c 0 pt) (iblk m c 1 pt) (iblk m c 2 pt) (iblk m c 3 pt) (iblk m c 4 pt) (iblk m c 5 pt) (iblk m c 6 pt) (iblk m c 7 pt) (ix2 r l) := by
  have p : ix2 r l = (win0_9.rect pt).emb (ix2 r l) := (funext fun a => Fin.ext (FF.origin_eq _ (rect9_off pt) r l a)).symm
  have e := congrFun (Cert.InprojSampleIdeal.Value.blocks9 m c pt (flush0_9 pt)) (ix2 r l)
  rw [Cert.InprojSampleIdeal.Value.flushed9] at e
  exact (congrArg (arrKa m c) p).trans e
theorem block10 (l : Fin 512) : arrVa m c (ix2 r l) = out0_10 (iblk m c 0 pt) (iblk m c 1 pt) (iblk m c 2 pt) (iblk m c 3 pt) (iblk m c 4 pt) (iblk m c 5 pt) (iblk m c 6 pt) (iblk m c 7 pt) (ix2 r l) := by
  have p : ix2 r l = (win0_10.rect pt).emb (ix2 r l) := (funext fun a => Fin.ext (FF.origin_eq _ (rect10_off pt) r l a)).symm
  have e := congrFun (Cert.InprojSampleIdeal.Value.blocks10 m c pt (flush0_10 pt)) (ix2 r l)
  rw [Cert.InprojSampleIdeal.Value.flushed10] at e
  exact (congrArg (arrVa m c) p).trans e
theorem block11 (l : Fin 512) : arrQb m c (ix2 r l) = out0_11 (iblk m c 0 pt) (iblk m c 1 pt) (iblk m c 2 pt) (iblk m c 3 pt) (iblk m c 4 pt) (iblk m c 5 pt) (iblk m c 6 pt) (iblk m c 7 pt) (ix2 r l) := by
  have p : ix2 r l = (win0_11.rect pt).emb (ix2 r l) := (funext fun a => Fin.ext (FF.origin_eq _ (rect11_off pt) r l a)).symm
  have e := congrFun (Cert.InprojSampleIdeal.Value.blocks11 m c pt (flush0_11 pt)) (ix2 r l)
  rw [Cert.InprojSampleIdeal.Value.flushed11] at e
  exact (congrArg (arrQb m c) p).trans e
theorem block12 (l : Fin 512) : arrKb m c (ix2 r l) = out0_12 (iblk m c 0 pt) (iblk m c 1 pt) (iblk m c 2 pt) (iblk m c 3 pt) (iblk m c 4 pt) (iblk m c 5 pt) (iblk m c 6 pt) (iblk m c 7 pt) (ix2 r l) := by
  have p : ix2 r l = (win0_12.rect pt).emb (ix2 r l) := (funext fun a => Fin.ext (FF.origin_eq _ (rect12_off pt) r l a)).symm
  have e := congrFun (Cert.InprojSampleIdeal.Value.blocks12 m c pt (flush0_12 pt)) (ix2 r l)
  rw [Cert.InprojSampleIdeal.Value.flushed12] at e
  exact (congrArg (arrKb m c) p).trans e
theorem block13 (l : Fin 512) : arrVb m c (ix2 r l) = out0_13 (iblk m c 0 pt) (iblk m c 1 pt) (iblk m c 2 pt) (iblk m c 3 pt) (iblk m c 4 pt) (iblk m c 5 pt) (iblk m c 6 pt) (iblk m c 7 pt) (ix2 r l) := by
  have p : ix2 r l = (win0_13.rect pt).emb (ix2 r l) := (funext fun a => Fin.ext (FF.origin_eq _ (rect13_off pt) r l a)).symm
  have e := congrFun (Cert.InprojSampleIdeal.Value.blocks13 m c pt (flush0_13 pt)) (ix2 r l)
  rw [Cert.InprojSampleIdeal.Value.flushed13] at e
  exact (congrArg (arrVb m c) p).trans e
theorem block18 (l : Fin 2048) : arrGate m c (ix2 r l) = out0_18 (iblk m c 0 pt) (iblk m c 1 pt) (iblk m c 2 pt) (iblk m c 3 pt) (iblk m c 4 pt) (iblk m c 5 pt) (iblk m c 6 pt) (iblk m c 7 pt) (ix2 r l) := by
  have p : ix2 r l = (win0_18.rect pt).emb (ix2 r l) := (funext fun a => Fin.ext (FF.origin_eq _ (rect18_off pt) r l a)).symm
  have e := congrFun (Cert.InprojSampleIdeal.Value.blocks18 m c pt (flush0_18 pt)) (ix2 r l)
  rw [Cert.InprojSampleIdeal.Value.flushed18] at e
  exact (congrArg (arrGate m c) p).trans e
theorem block19 (l : Fin 256) : arrIq m c (ix2 r l) = out0_19 (iblk m c 0 pt) (iblk m c 1 pt) (iblk m c 2 pt) (iblk m c 3 pt) (iblk m c 4 pt) (iblk m c 5 pt) (iblk m c 6 pt) (iblk m c 7 pt) (ix2 r l) := by
  have p : ix2 r l = (win0_19.rect pt).emb (ix2 r l) := (funext fun a => Fin.ext (FF.origin_eq _ (rect19_off pt) r l a)).symm
  have e := congrFun (Cert.InprojSampleIdeal.Value.blocks19 m c pt (flush0_19 pt)) (ix2 r l)
  rw [Cert.InprojSampleIdeal.Value.flushed19] at e
  exact (congrArg (arrIq m c) p).trans e
theorem block22 (l : Fin 64) : arrIk m c (ix2 r l) = out0_22 (iblk m c 0 pt) (iblk m c 1 pt) (iblk m c 2 pt) (iblk m c 3 pt) (iblk m c 4 pt) (iblk m c 5 pt) (iblk m c 6 pt) (iblk m c 7 pt) (ix2 r l) := by
  have p : ix2 r l = (win0_22.rect pt).emb (ix2 r l) := (funext fun a => Fin.ext (FF.origin_eq _ (rect22_off pt) r l a)).symm
  have e := congrFun (Cert.InprojSampleIdeal.Value.blocks22 m c pt (flush0_22 pt)) (ix2 r l)
  rw [Cert.InprojSampleIdeal.Value.flushed22] at e
  exact (congrArg (arrIk m c) p).trans e

omit r

/-- The first branch's scaled queries, keys and values, -/
theorem qa_eq : arrQa m c = resQa (argX m c) (argSh m c) (argSc m c) (argN m c) (argW m c) := rows_ext (e := .bf16) _ _ fun r l =>
  (block8 m c r l).trans ((out8_apply (iblk m c 0 pt) (iblk m c 1 pt) (iblk m c 2 pt) (iblk m c 3 pt) (iblk m c 4 pt) (iblk m c 5 pt) (iblk m c 6 pt) (iblk m c 7 pt) r l).trans (congrArg (· * eighth) (mainRow_eq m c pt r _ _ fun k => IN.main0 (argW m c) k l)))
theorem ka_eq : arrKa m c = resKa (argX m c) (argSh m c) (argSc m c) (argN m c) (argW m c) := rows_ext (e := .f32) _ _ fun r l =>
  (block9 m c r l).trans ((out9_apply (iblk m c 0 pt) (iblk m c 1 pt) (iblk m c 2 pt) (iblk m c 3 pt) (iblk m c 4 pt) (iblk m c 5 pt) (iblk m c 6 pt) (iblk m c 7 pt) r l).trans (mainRow_eq m c pt r _ _ fun k => IN.main1 (argW m c) k l))
theorem va_eq : arrVa m c = resVa (argX m c) (argSh m c) (argSc m c) (argN m c) (argW m c) := rows_ext (e := .f32) _ _ fun r l =>
  (block10 m c r l).trans ((out10_apply (iblk m c 0 pt) (iblk m c 1 pt) (iblk m c 2 pt) (iblk m c 3 pt) (iblk m c 4 pt) (iblk m c 5 pt) (iblk m c 6 pt) (iblk m c 7 pt) r l).trans (mainRow_eq m c pt r _ _ fun k => IN.main2 (argW m c) k l))
/-- the second branch's, -/
theorem qb_eq : arrQb m c = resQb (argX m c) (argSh m c) (argSc m c) (argN m c) (argW m c) := rows_ext (e := .bf16) _ _ fun r l =>
  (block11 m c r l).trans ((out11_apply (iblk m c 0 pt) (iblk m c 1 pt) (iblk m c 2 pt) (iblk m c 3 pt) (iblk m c 4 pt) (iblk m c 5 pt) (iblk m c 6 pt) (iblk m c 7 pt) r l).trans (congrArg (· * eighth) (mainRow_eq m c pt r _ _ fun k => IN.main3 (argW m c) k l)))
theorem kb_eq : arrKb m c = resKb (argX m c) (argSh m c) (argSc m c) (argN m c) (argW m c) := rows_ext (e := .f32) _ _ fun r l =>
  (block12 m c r l).trans ((out12_apply (iblk m c 0 pt) (iblk m c 1 pt) (iblk m c 2 pt) (iblk m c 3 pt) (iblk m c 4 pt) (iblk m c 5 pt) (iblk m c 6 pt) (iblk m c 7 pt) r l).trans (mainRow_eq m c pt r _ _ fun k => IN.main4 (argW m c) k l))
theorem vb_eq : arrVb m c = resVb (argX m c) (argSh m c) (argSc m c) (argN m c) (argW m c) := rows_ext (e := .f32) _ _ fun r l =>
  (block13 m c r l).trans ((out13_apply (iblk m c 0 pt) (iblk m c 1 pt) (iblk m c 2 pt) (iblk m c 3 pt) (iblk m c 4 pt) (iblk m c 5 pt) (iblk m c 6 pt) (iblk m c 7 pt) r l).trans (mainRow_eq m c pt r _ _ fun k => IN.main5 (argW m c) k l))
/-- the gates, -/
theorem gate_eq : arrGate m c = resGate (argX m c) (argSh m c) (argSc m c) (argN m c) (argW m c) := rows_ext (e := .bf16) _ _ fun r l =>
  (block18 m c r l).trans ((out18_apply (iblk m c 0 pt) (iblk m c 1 pt) (iblk m c 2 pt) (iblk m c 3 pt) (iblk m c 4 pt) (iblk m c 5 pt) (iblk m c 6 pt) (iblk m c 7 pt) r l).trans (gateRow_eq m c pt r l))
/-- and, of real arguments, the indexer's scaled queries and its keys. -/
theorem iq_eq (hr : Reals m c) : arrIq m c = resIq (argX m c) (argSh m c) (argSc m c) (argN m c) (argW m c) := rows_ext (e := .f32) _ _ fun r l =>
  (block19 m c r l).trans ((out19_apply (iblk m c 0 pt) (iblk m c 1 pt) (iblk m c 2 pt) (iblk m c 3 pt) (iblk m c 4 pt) (iblk m c 5 pt) (iblk m c 6 pt) (iblk m c 7 pt) r l).trans (congrArg (· * eighth) (idxRow_eq m c hr pt r _ _ fun k => IN.idx0 (argW m c) k l)))
theorem ik_eq (hr : Reals m c) : arrIk m c = resIk (argX m c) (argSh m c) (argSc m c) (argN m c) (argW m c) := rows_ext (e := .f32) _ _ fun r l =>
  (block22 m c r l).trans ((out22_apply (iblk m c 0 pt) (iblk m c 1 pt) (iblk m c 2 pt) (iblk m c 3 pt) (iblk m c 4 pt) (iblk m c 5 pt) (iblk m c 6 pt) (iblk m c 7 pt) r l).trans (idxRow_eq m c hr pt r _ _ fun k => IN.idx1 (argW m c) k l))

end Cert.Proof.IS
-- ==== Proof.InprojSampleRef.lean ====
/-
  What the reference of the sample's projections computes, row by row: the same columns of the projection.
-/
module

public import proofs.«01_k».proof.Proof.InprojSampleValue
public import proofs.«01_k».proof.Proof.FfnSampleRef
public import proofs.«01_k».proof.Proof.Gen.InprojSampleReferenceIdeal.Read

@[expose] public section

set_option maxRecDepth 16384

noncomputable section

open Idealize.ShloMosaic Idealize.ShloMosaic.ValueIdx Idealize.SL.Sem Cert.InprojSampleReferenceIdeal Cert.InprojSampleReferenceIdeal.Gen
open Cert.InprojSampleReferenceIdeal.Read Cert.Proof.Rows Cert.Proof.SA

namespace Cert.Proof.IS

open IN (eighth)

/-- Columns of the sample's rows. -/
theorem slice_apply {e : EltTy} {K off : ℕ} (y : Vec Ideal ⟨3, ![32, 8, 5444]⟩ e) (h : (⟨3, ![32, 8, 5444]⟩ : Shape).Slices ![0, 0, off] ⟨3, ![32, 8, K]⟩)
    (b : Fin 32) (p : Fin 8) (l : Fin K) (hl : off + l.val < 5444) :
    extractStridedSlice ⟨3, ![32, 8, K]⟩ ![0, 0, off] y h (ix3 b p l) = y (ix3 b p ⟨off + l.val, hl⟩) :=
  extractStridedSlice_apply ![0, 0, off] y h (ix3 b p l) (ix3 b p ⟨off + l.val, hl⟩) (fun a => by
    match a with
    | ⟨0, _⟩ => show b.val = 0 + b.val; omega
    | ⟨1, _⟩ => show p.val = 0 + p.val; omega
    | ⟨2, _⟩ => rfl)

variable (x : Vec Ideal S256x1024 .f32) (sh sc : Vec Ideal S32x1024 .f32) (n : Vec Ideal S1x1024 .f32) (w : Vec Ideal S1x1024x5444 .f32) (s : Fin 256)

/-- The reference's projection of a row. -/
theorem ref_proj (q : Fin 5444) : val_main_v24 (F := Ideal) x sh sc n w (ix3 (seq s) (pos s) q) = proj x sh sc n w s q := by
  unfold proj rowMul
  refine (val_main_v24_apply ..).trans (Finset.sum_congr rfl fun k _ => ?_)
  refine congrArg₂ (· * ·) ((congrArg _ ?_).trans (FS.hid_apply x sh sc n s k))
    ((congrArg _ ?_).trans (FF.castMat_apply w shapeCasts_S1x1024x5444_S1024x5444 k q))
  · exact funext fun a => by match a with | ⟨0, _⟩ => rfl | ⟨1, _⟩ => rfl | ⟨2, _⟩ => rfl
  · exact funext fun a => by match a with | ⟨0, _⟩ => rfl | ⟨1, _⟩ => rfl

/-- Columns of it. -/
theorem ref_cols {K off : ℕ} (h : S32x8x5444.Slices ![0, 0, off] ⟨3, ![32, 8, K]⟩) (l : Fin K) (hl : off + l.val < 5444) :
    extractStridedSlice ⟨3, ![32, 8, K]⟩ ![0, 0, off] (val_main_v24 (F := Ideal) x sh sc n w) h (ix3 (seq s) (pos s) l)
      = proj x sh sc n w s ⟨off + l.val, hl⟩ :=
  (slice_apply (e := .f32) (val_main_v24 (F := Ideal) x sh sc n w) h _ _ l hl).trans (ref_proj x sh sc n w s _)

omit s

/-- The reference's results: the first branch's scaled queries, keys and values, -/
theorem ref_qa : val_main_v56 (F := Ideal) x sh sc n w = resQa x sh sc n w := rows_ext (e := .bf16) _ _ fun s l =>
  (flat_apply (e := .f32) (K := 512) (val_main_v37 (F := Ideal) x sh sc n w) _ s l).trans (congrArg (· * eighth) (ref_cols x sh sc n w s _ l _))
theorem ref_ka : val_main_v57 (F := Ideal) x sh sc n w = resKa x sh sc n w := rows_ext (e := .f32) _ _ fun s l =>
  (flat_apply (e := .f32) (K := 512) (val_main_v26 (F := Ideal) x sh sc n w) _ s l).trans (ref_cols x sh sc n w s _ l _)
theorem ref_va : val_main_v58 (F := Ideal) x sh sc n w = resVa x sh sc n w := rows_ext (e := .f32) _ _ fun s l =>
  (flat_apply (e := .f32) (K := 512) (val_main_v27 (F := Ideal) x sh sc n w) _ s l).trans (ref_cols x sh sc n w s _ l _)
/-- the second branch's, -/
theorem ref_qb : val_main_v60 (F := Ideal) x sh sc n w = resQb x sh sc n w := rows_ext (e := .bf16) _ _ fun s l =>
  (flat_apply (e := .f32) (K := 512) (val_main_v39 (F := Ideal) x sh sc n w) _ s l).trans (congrArg (· * eighth) (ref_cols x sh sc n w s _ l _))
theorem ref_kb : val_main_v61 (F := Ideal) x sh sc n w = resKb x sh sc n w := rows_ext (e := .f32) _ _ fun s l =>
  (flat_apply (e := .f32) (K := 512) (val_main_v32 (F := Ideal) x sh sc n w) _ s l).trans (ref_cols x sh sc n w s _ l _)
theorem ref_vb : val_main_v62 (F := Ideal) x sh sc n w = resVb x sh sc n w := rows_ext (e := .f32) _ _ fun s l =>
  (flat_apply (e := .f32) (K := 512) (val_main_v33 (F := Ideal) x sh sc n w) _ s l).trans (ref_cols x sh sc n w s _ l _)
/-- the indexer's scaled queries and its keys, -/
theorem ref_iq : val_main_v65 (F := Ideal) x sh sc n w = resIq x sh sc n w := rows_ext (e := .f32) _ _ fun s l =>
  (flat_apply (e := .f32) (K := 256) (val_main_v41 (F := Ideal) x sh sc n w) _ s l).trans (congrArg (· * eighth) (ref_cols x sh sc n w s _ l _))
theorem ref_ik : val_main_v66 (F := Ideal) x sh sc n w = resIk x sh sc n w := rows_ext (e := .f32) _ _ fun s l =>
  (flat_apply (e := .f32) (K := 64) (val_main_v29 (F := Ideal) x sh sc n w) _ s l).trans (ref_cols x sh sc n w s _ l _)

/-- The two branches' gates -/
def gateHalves : List ((s : Shape) × (s.Idx → Elt Ideal .f32)) :=
  [⟨S32x8x1024, val_main_v47 (F := Ideal) x sh sc n w⟩, ⟨S32x8x1024, val_main_v53 (F := Ideal) x sh sc n w⟩]

/-- lie side by side. -/
theorem ref_gates (s : Fin 256) (q : Fin 2048) : val_main_v54 (F := Ideal) x sh sc n w (ix3 (seq s) (pos s) q)
    = sigm (proj x sh sc n w s ⟨3396 + q.val, by omega⟩) := by
  by_cases hq : q.val < 1024
  · refine (concatenate_apply_piece 2 (gateHalves x sh sc n w) concatenates_S32x8x1024_S32x8x1024_S32x8x2048_d2 (ix3 (seq s) (pos s) q) 0 (by show 0 < 2; decide) S32x8x1024
      (val_main_v47 (F := Ideal) x sh sc n w) rfl rfl 0 rfl (ix3 (seq s) (pos s) (⟨q.val, hq⟩ : Fin 1024)) (fun b hb => by
        match b with
        | ⟨0, _⟩ => rfl
        | ⟨1, _⟩ => rfl
        | ⟨2, _⟩ => exact absurd rfl hb) (Nat.zero_add _)).trans ?_
    exact congrArg sigm (ref_cols x sh sc n w s slices_S32x8x5444_S32x8x1024_0_0_3396 _ (by show 3396 + q.val < 5444; omega))
  · refine (concatenate_apply_piece 2 (gateHalves x sh sc n w) concatenates_S32x8x1024_S32x8x1024_S32x8x2048_d2 (ix3 (seq s) (pos s) q) 1 (by show 1 < 2; decide) S32x8x1024
      (val_main_v53 (F := Ideal) x sh sc n w) rfl rfl 1024 rfl (ix3 (seq s) (pos s) (⟨q.val - 1024, by omega⟩ : Fin 1024)) (fun b hb => by
        match b with
        | ⟨0, _⟩ => rfl
        | ⟨1, _⟩ => rfl
        | ⟨2, _⟩ => exact absurd rfl hb) (by show 1024 + (q.val - 1024) = q.val; omega)).trans ?_
    refine congrArg sigm ((ref_cols x sh sc n w s slices_S32x8x5444_S32x8x1024_0_0_4420 _ (by show 4420 + (q.val - 1024) < 5444; omega)).trans ?_)
    exact congrArg (proj x sh sc n w s) (Fin.ext (by show 4420 + (q.val - 1024) = 3396 + q.val; omega))

/-- and the gates. -/
theorem ref_gate : val_main_v64 (F := Ideal) x sh sc n w = resGate x sh sc n w := rows_ext (e := .bf16) _ _ fun s l =>
  (flat_apply (e := .f32) (K := 2048) (val_main_v54 (F := Ideal) x sh sc n w) _ s l).trans (ref_gates x sh sc n w s l)

end Cert.Proof.IS
-- ==== Proof.InprojSampleClaim.lean ====
/-
  The claims of the projecting call of the sample: its precondition read as "every argument is real", the equality of the kernel's and
  the reference's results, and the reference's frame.
-/
module

public import proofs.«01_k».proof.Defs
public import proofs.«01_k».proof.Proof.SbClaim
public import proofs.«01_k».proof.Proof.InprojSampleRef
public import proofs.«01_k».proof.Proof.Gen.InprojSampleReferenceIdeal.Run

@[expose] public section

set_option maxRecDepth 16384

noncomputable section

open Idealize.ShloMosaic Idealize.ShloMosaic.ValueIdx Idealize.SL.Sem

namespace Cert.Proof.IS

/-- The facts the precondition's program states. -/
theorem pre_facts : Cert.Pre_finite_in_sample.Facts := ⟨by decide, by decide, by decide, by decide⟩

attribute [local instance] pre_facts

/-- The precondition makes every argument real. -/
theorem reals_of_pre (m : (ℓ : Loc Cert.InprojSampleIdeal.nD Cert.InprojSampleIdeal.τ Cert.InprojSampleIdeal.sig) → Buf (Elt Ideal) ℓ)
    (h : Cert.Pre_InprojSampleIdeal_finite_in_sample m) (c : Dev Cert.InprojSampleIdeal.nD) : Reals m c := by
  obtain ⟨h0, h1, h2, h3, h4⟩ := h c
  exact ⟨fun i => SB.real_of_lt (congrFun h0 i), fun i => SB.real_of_lt (congrFun h1 i), fun i => SB.real_of_lt (congrFun h2 i),
    fun i => SB.real_of_lt (congrFun h3 i), fun i => SB.real_of_lt (congrFun h4 i)⟩

/-- The kernel's and the reference's results are equal wherever the arguments are finite. -/
theorem algebraic : Cert.algebraic_InprojSampleIdeal_InprojSampleReferenceIdeal_pre_finite_in_sample (hInprojSampleIdeal := Cert.InprojSampleIdeal.Gen.facts)
    (hInprojSampleReferenceIdeal := Cert.InprojSampleReferenceIdeal.Gen.facts) (hPre_finite_in_sample := pre_facts) := fun m ρ m' ρ' hpre hag => by
  refine ⟨fun c => resQa (argX m c) (argSh m c) (argSc m c) (argN m c) (argW m c),
    fun c => resKa (argX m c) (argSh m c) (argSc m c) (argN m c) (argW m c),
    fun c => resVa (argX m c) (argSh m c) (argSc m c) (argN m c) (argW m c),
    fun c => resQb (argX m c) (argSh m c) (argSc m c) (argN m c) (argW m c),
    fun c => resKb (argX m c) (argSh m c) (argSc m c) (argN m c) (argW m c),
    fun c => resVb (argX m c) (argSh m c) (argSc m c) (argN m c) (argW m c),
    fun c => resGate (argX m c) (argSh m c) (argSc m c) (argN m c) (argW m c),
    fun c => resIq (argX m c) (argSh m c) (argSc m c) (argN m c) (argW m c),
    fun c => resIk (argX m c) (argSh m c) (argSc m c) (argN m c) (argW m c),
    (θ_run _ _ _).mono (fun _ h c => ?_) (Cert.InprojSampleIdeal.Value.run_blocks m ρ),
    (θ_run _ _ _).mono (fun _ h c => ?_) (Cert.InprojSampleReferenceIdeal.Value.run m' ρ')⟩
  · have hr := reals_of_pre m hpre c
    obtain ⟨h0, h1, h2, h3, h4, h5, _, _, _, _, h10, h11, _, _, h14, hargs⟩ := h c
    exact ⟨h0.trans (qa_eq m c), h1.trans (ka_eq m c), h2.trans (va_eq m c), h3.trans (qb_eq m c), h4.trans (kb_eq m c), h5.trans (vb_eq m c),
      h10.trans (gate_eq m c), h11.trans (iq_eq m c hr), h14.trans (ik_eq m c hr), hargs⟩
  · obtain ⟨e0, e1, e2, e3, e4⟩ := hag c
    obtain ⟨h0, h1, h2, h3, h4, h5, h6, h7, h8, hargs⟩ := h c
    refine ⟨h0.trans ((Cert.InprojSampleReferenceIdeal.Read.val_main_v56_eq _ _ _ _ _).trans ?_),
      h1.trans ((Cert.InprojSampleReferenceIdeal.Read.val_main_v57_eq _ _ _ _ _).trans ?_),
      h2.trans ((Cert.InprojSampleReferenceIdeal.Read.val_main_v58_eq _ _ _ _ _).trans ?_),
      h3.trans ((Cert.InprojSampleReferenceIdeal.Read.val_main_v60_eq _ _ _ _ _).trans ?_),
      h4.trans ((Cert.InprojSampleReferenceIdeal.Read.val_main_v61_eq _ _ _ _ _).trans ?_),
      h5.trans ((Cert.InprojSampleReferenceIdeal.Read.val_main_v62_eq _ _ _ _ _).trans ?_),
      h6.trans ((Cert.InprojSampleReferenceIdeal.Read.val_main_v64_eq _ _ _ _ _).trans ?_),
      h7.trans ((Cert.InprojSampleReferenceIdeal.Read.val_main_v65_eq _ _ _ _ _).trans ?_),
      h8.trans ((Cert.InprojSampleReferenceIdeal.Read.val_main_v66_eq _ _ _ _ _).trans ?_), hargs⟩ <;> rw [e0, e1, e2, e3, e4]
    · exact ref_qa (argX m c) (argSh m c) (argSc m c) (argN m c) (argW m c)
    · exact ref_ka (argX m c) (argSh m c) (argSc m c) (argN m c) (argW m c)
    · exact ref_va (argX m c) (argSh m c) (argSc m c) (argN m c) (argW m c)
    · exact ref_qb (argX m c) (argSh m c) (argSc m c) (argN m c) (argW m c)
    · exact ref_kb (argX m c) (argSh m c) (argSc m c) (argN m c) (argW m c)
    · exact ref_vb (argX m c) (argSh m c) (argSc m c) (argN m c) (argW m c)
    · exact ref_gate (argX m c) (argSh m c) (argSc m c) (argN m c) (argW m c)
    · exact ref_iq (argX m c) (argSh m c) (argSc m c) (argN m c) (argW m c)
    · exact ref_ik (argX m c) (argSh m c) (argSc m c) (argN m c) (argW m c)

/-- The reference runs, keeps its arguments and ends quiescent. -/
theorem frame_ref : Cert.quiescent_InprojSampleReferenceIdeal (hInprojSampleReferenceIdeal := Cert.InprojSampleReferenceIdeal.Gen.facts) := fun m ρ _ =>
  (θ_run Cert.InprojSampleReferenceIdeal.defs _ _).mono
    (fun r h => ⟨fun c => (h c).2.2.2.2.2.2.2.2.2, sem_eq_zero_of_no_sems (by decide) r.2⟩)
    (Cert.InprojSampleReferenceIdeal.Value.run (F := Ideal) m ρ)

end Cert.Proof.IS
-- ==== Proof.AdaValue.lean ====
/-
  What the modulations' call leaves in its output array: every sequence's row through the matrix, with the added row. The
  six grid points take 1024 columns of the matrix each.
-/
module

public import proofs.«01_k».proof.Proof.InprojBlock
public import proofs.«01_k».proof.Proof.FfnValue
public import proofs.«01_k».proof.Proof.Gen.AdaIdeal.Value

@[expose] public section

set_option maxRecDepth 16384

noncomputable section

open Idealize.ShloMosaic Idealize.ShloMosaic.ValueIdx Idealize.SL.Sem Cert.AdaIdeal Cert.AdaIdeal.Gen Cert.Proof.Rows

namespace Cert.Proof.AD

/-! ## The sequences' rows -/

/-- The rows of the prompt's sequences, of the sample's, and the empty rows, -/
def parts (cp : Vec Ideal S4x1024 .f32) (cs : Vec Ideal S32x1024 .f32) : List ((s : Shape) × (s.Idx → Elt Ideal .f32)) :=
  [⟨S4x1024, cp⟩, ⟨S32x1024, cs⟩, ⟨S4x1024, broadcastInDim S4x1024 ![] bcast_S_S4x1024 (constant (F := Ideal) S_ .f32 0x00000000#32)⟩]

/-- one below the other. -/
def rows (cp : Vec Ideal S4x1024 .f32) (cs : Vec Ideal S32x1024 .f32) : Vec Ideal S40x1024 .f32 :=
  concatenate S40x1024 0 (parts cp cs) concatenates_S4x1024_S32x1024_S4x1024_S40x1024_d0

/-- A row of one of three pieces, in its piece. -/
theorem piece_apply {n : ℕ} (cp : Vec Ideal S4x1024 .f32) (cs : Vec Ideal S32x1024 .f32) (r : Fin 40) (k : Fin 1024) (p : ℕ) (hp : p < (parts cp cs).length)
    (x : Vec Ideal ⟨2, ![n, 1024]⟩ .f32) (hx : (parts cp cs)[p] = ⟨⟨2, ![n, 1024]⟩, x⟩) (pre : ℕ)
    (hpre : ((((parts cp cs).take p).map (·.1)).map fun s => if h : s.rank = S40x1024.rank then s.size (Fin.cast h.symm (0 : Fin 2)) else 0).sum = pre)
    (l : Fin n) (hl : pre + l.val = r.val) : rows cp cs (ix2 r k) = x (ix2 l k) :=
  concatenate_apply_piece 0 (parts cp cs) concatenates_S4x1024_S32x1024_S4x1024_S40x1024_d0 (ix2 r k) p hp _ x hx rfl pre hpre (ix2 l k) (fun b hb => by
    match b with
    | ⟨0, _⟩ => exact absurd rfl hb
    | ⟨1, _⟩ => rfl) hl

/-- Where the sequences' rows are real, every row is. -/
theorem rows_real (cp : Vec Ideal S4x1024 .f32) (cs : Vec Ideal S32x1024 .f32) (hp : ∀ i, ∃ a : ℝ, cp i = a) (hs : ∀ i, ∃ a : ℝ, cs i = a)
    (r : Fin 40) (k : Fin 1024) : ∃ a : ℝ, rows cp cs (ix2 r k) = a := by
  by_cases h1 : r.val < 4
  · rw [piece_apply cp cs r k 0 (by show 0 < 3; decide) cp rfl 0 rfl (⟨r.val, h1⟩ : Fin 4) (Nat.zero_add _)]
    exact hp _
  by_cases h2 : r.val < 36
  · rw [piece_apply cp cs r k 1 (by show 1 < 3; decide) cs rfl 4 rfl (⟨r.val - 4, by omega⟩ : Fin 32) (by show 4 + (r.val - 4) = r.val; omega)]
    exact hs _
  · rw [piece_apply cp cs r k 2 (by show 2 < 3; decide) _ rfl 36 rfl (⟨r.val - 36, by omega⟩ : Fin 4) (by show 36 + (r.val - 36) = r.val; omega)]
    exact ⟨0, Ideal.ofBits_zero_f32⟩

/-- The call's result: every row through the matrix, with the added row. -/
def G (cp : Vec Ideal S4x1024 .f32) (cs : Vec Ideal S32x1024 .f32) (w : Vec Ideal S1x1024x6144 .f32) (b : Vec Ideal S1x6144 .f32) : Vec Ideal S40x6144 .f32 := fun y =>
  rowMul (fun k => rows cp cs (ix2 (y 0) k)) (fun k j => w (ix3 (0 : Fin 1) k j)) (y 1) + b (ix2 (0 : Fin 1) (y 1))

/-! ## The block -/

/-- A block's product with a matrix, from a zero accumulator. -/
theorem plain_apply {M K N : ℕ} (x : FVec Ideal ⟨2, ![M, K]⟩ .bf16) (w : FVec Ideal ⟨2, ![K, N]⟩ .bf16) (r : Fin M) (j : Fin N) :
    FloatOps.matmul (DotDims.plain M K N) none x w (constant ⟨2, ![M, N]⟩ .f32 0x00000000#32) (ix2 r j)
      = rowMul (fun k => x (ix2 r k)) (fun k j => w (ix2 k j)) j := by
  refine (Ideal.matmul_plain_apply none x w _ r j).trans ?_
  show Ideal.ofBits .f32 0x00000000#32 + _ = _
  rw [Ideal.ofBits_zero_f32, zero_add]
  rfl

/-- A cast between equal shapes changes nothing. -/
theorem same_eq {s : Shape} {e : EltTy} (x : Vec Ideal s e) (h : s.ShapeCasts s) : shapeCast s x h = x :=
  funext fun i => shapeCast_apply x h i i rfl

/-- The block a point leaves: the split product of the rows with the point's columns, with the point's part of the added row. -/
theorem out_apply (x0 : Vec Ideal S40x1024 .f32) (x1 : Vec Ideal S1024x1024 .f32) (x2 : Vec Ideal S1x1024 .f32) (r : Fin 40) (l : Fin 1024) :
    out0_3 x0 x1 x2 (ix2 r l) = IN.splitMul (fun k => x0 (ix2 r k)) (fun k j => x1 (ix2 k j)) (fun k j => x1 (ix2 k j) - x1 (ix2 k j)) l
      + x2 (ix2 (0 : Fin 1) l) := by
  unfold out0_3 k0_pay1
  rw [View.canon_cons_unit_zero FF.off2, View.ld_unit_zero FF.off2 _ x0, View.ld_unit_zero FF.off2 _ x1, View.ld_unit_zero FF.off2 _ x2,
    same_eq x0, same_eq x1, same_eq x2]
  refine congrArg₂ (· + ·) (congrArg₂ (· + ·) (congrArg₂ (· + ·) ?_ ?_) ?_) ?_
  · exact plain_apply (M := 40) (K := 1024) (N := 1024) x0 x1 r l
  · exact plain_apply (M := 40) (K := 1024) (N := 1024) (fun i => x0 i - x0 i) x1 r l
  · exact plain_apply (M := 40) (K := 1024) (N := 1024) x0 (fun i => x1 i - x1 i) r l
  · exact row_apply (by decide) x2 broadcasts_S1x1024_S40x1024 r l

/-- The added row, flattened and laid out again, is itself. -/
theorem added_apply (b : Vec Ideal S1x6144 .f32) (j : Fin 6144) :
    (broadcastInDim S1x6144 ![1] bcast_S6144_S1x6144_1 (shapeCast S6144 b shapeCasts_S1x6144_S6144 : FVec Ideal S6144 .f32) : FVec Ideal S1x6144 .f32) (ix2 (0 : Fin 1) j)
      = b (ix2 (0 : Fin 1) j) := by
  refine (broadcastInDim_apply ![1] bcast_S6144_S1x6144_1 _ (ix2 (0 : Fin 1) j) (ix1 j) (fun a => by
    match a with | ⟨0, _⟩ => show j.val = if (6144 : ℕ) = 1 then 0 else j.val; rw [if_neg (by decide)])).trans ?_
  exact shapeCast_apply b _ _ _ (by
    rewrite [Shape.rowMajor_val_two, Shape.rowMajor_val_one]
    show 0 * 6144 + j.val = j.val
    omega)

/-! ## Where the blocks lie -/

theorem rect0_off : ∀ t : Fin grid0.N, (win0_0.rect t).off = ![0, 0] := by decide +kernel
theorem rect1_off : ∀ t : Fin grid0.N, (win0_1.rect t).off = ![0, 1024 * t.val] := by decide +kernel
theorem rect2_off : ∀ t : Fin grid0.N, (win0_2.rect t).off = ![0, 1024 * t.val] := by decide +kernel
theorem rect3_off : ∀ t : Fin grid0.N, (win0_3.rect t).off = ![0, 1024 * t.val] := by decide +kernel

/-- A point's column, in the array. -/
def colAt (t : Fin cfg0.N) (l : Fin 1024) : Fin 6144 := ⟨1024 * t.val + l.val, by have h : t.val < 6 := t.isLt; omega⟩

/-- Every column lies in a point's block. -/
theorem exists_col (q : Fin 6144) : ∃ (t : Fin cfg0.N) (l : Fin 1024), q = colAt t l :=
  ⟨⟨q.val / 1024, by show _ < 6; omega⟩, ⟨q.val % 1024, by omega⟩, Fin.ext (by show q.val = 1024 * (q.val / 1024) + q.val % 1024; omega)⟩

/-- An index of a point's columns, in the array. -/
theorem cols_eq {n : ℕ} (t : Fin cfg0.N) (off : Fin 2 → ℕ) (e : off = ![0, 1024 * t.val]) (i : Fin n) (l : Fin 1024) (a : Fin 2) :
    off a + 1 * ((ix2 i l) a).val = ((ix2 i (colAt t l)) a).val := by
  subst e
  match a with
  | ⟨0, _⟩ => show 0 + 1 * i.val = i.val; omega
  | ⟨1, _⟩ => show 1024 * t.val + 1 * l.val = 1024 * t.val + l.val; omega

variable (m : (ℓ : Loc nD τ sig) → Buf (Elt Ideal) ℓ) (c : Dev nD)

/-- The arguments as launched: the prompt's sequences, -/
def argP : Vec Ideal S4x1024 .f32 := m ((c.tc).loc main_arg0)
/-- the sample's, -/
def argS : Vec Ideal S32x1024 .f32 := m ((c.tc).loc main_arg1)
/-- the matrix -/
def argW : Vec Ideal S1x1024x6144 .f32 := m ((c.tc).loc main_arg2)
/-- and the added row. -/
def argB : Vec Ideal S1x6144 .f32 := m ((c.tc).loc main_arg3)

/-- The call's operands as it finds them: the rows, -/
theorem entry_rows (r : Fin 40) (k : Fin 1024) : (V m c main_v1 : Vec Ideal S40x1024 .f32) (ix2 r k) = rows (argP m c) (argS m c) (ix2 r k) := rfl
/-- the matrix -/
theorem entry_w (k : Fin 1024) (j : Fin 6144) : (V m c main_v2 : Vec Ideal S1024x6144 .f32) (ix2 k j) = argW m c (ix3 (0 : Fin 1) k j) :=
  FF.castMat_apply (argW m c) shapeCasts_S1x1024x6144_S1024x6144 k j
/-- and the added row. -/
theorem entry_b (j : Fin 6144) : (V m c main_v4 : Vec Ideal S1x6144 .f32) (ix2 (0 : Fin 1) j) = argB m c (ix2 (0 : Fin 1) j) := added_apply (argB m c) j

/-- A point's blocks: all rows, -/
theorem iblk0_apply (t : Fin cfg0.N) (r : Fin 40) (k : Fin 1024) : (iblk m c 0 t : Vec Ideal S40x1024 .f32) (ix2 r k) = rows (argP m c) (argS m c) (ix2 r k) :=
  (congrArg (V m c main_v1 : Vec Ideal S40x1024 .f32) (funext fun a => Fin.ext (FF.origin_eq _ (rect0_off t) r k a))).trans (entry_rows m c r k)
/-- its columns of the matrix -/
theorem iblk1_apply (t : Fin cfg0.N) (k l : Fin 1024) : (iblk m c 1 t : Vec Ideal S1024x1024 .f32) (ix2 k l) = argW m c (ix3 (0 : Fin 1) k (colAt t l)) :=
  (congrArg (V m c main_v2 : Vec Ideal S1024x6144 .f32) (funext fun a => Fin.ext (cols_eq t _ (rect1_off t) k l a))).trans (entry_w m c k _)
/-- and of the added row. -/
theorem iblk2_apply (t : Fin cfg0.N) (l : Fin 1024) : (iblk m c 2 t : Vec Ideal S1x1024 .f32) (ix2 (0 : Fin 1) l) = argB m c (ix2 (0 : Fin 1) (colAt t l)) :=
  (congrArg (V m c main_v4 : Vec Ideal S1x6144 .f32) (funext fun a => Fin.ext (cols_eq t _ (rect2_off t) (0 : Fin 1) l a))).trans (entry_b m c _)

/-- What enters the split product is real. -/
structure Reals : Prop where
  p : ∀ i, ∃ a : ℝ, argP m c i = a
  s : ∀ i, ∃ a : ℝ, argS m c i = a
  w : ∀ i, ∃ a : ℝ, argW m c i = a

/-- The call's result, from the arguments in memory. -/
def GM : Vec Ideal S40x6144 .f32 := G (argP m c) (argS m c) (argW m c) (argB m c)

/-- What a point leaves in the output's staging buffer. -/
def left (t : Fin cfg0.N) : Vec Ideal S40x1024 .f32 := out0_3 (iblk m c 0 t) (iblk m c 1 t) (iblk m c 2 t)

/-- A point leaves its columns of the result. -/
theorem point_eq (hr : Reals m c) (t : Fin cfg0.N) (r : Fin 40) (l : Fin 1024) : left m c t (ix2 r l) = GM m c (ix2 r (colAt t l)) := by
  unfold left
  rw [out_apply]
  simp only [iblk0_apply, iblk1_apply, iblk2_apply]
  rw [IN.splitMul_eq _ _ _ _ (fun k => rows_real _ _ hr.p hr.s r k) (fun k => by
    obtain ⟨a, ha⟩ := hr.w (ix3 (0 : Fin 1) k (colAt t l))
    rw [ha, ← EReal.coe_sub, sub_self, EReal.coe_zero])]
  rfl

/-- The output array as the call leaves it. -/
def outArr : Vec Ideal S40x6144 .f32 := (dats m 0 c).arrAt 3 cfg0.N

/-- A point's columns of the output array are what the point left. -/
theorem block_eq (t : Fin cfg0.N) (r : Fin 40) (l : Fin 1024) : outArr m c (ix2 r (colAt t l)) = left m c t (ix2 r l) := by
  rw [show ix2 r (colAt t l) = (win0_3.rect t).emb (ix2 r l) from (funext fun a => Fin.ext (cols_eq t _ (rect3_off t) r l a)).symm]
  have e := congrFun (Cert.AdaIdeal.Value.blocks3 m c t (flush0_3 t)) (ix2 r l)
  rw [Cert.AdaIdeal.Value.flushed3] at e
  exact e

/-- The call leaves every row's product with the added row. -/
theorem final_eq (hr : Reals m c) : outArr m c = GM m c := by
  funext y
  obtain ⟨r, q, rfl⟩ : ∃ (r : Fin 40) (q : Fin 6144), y = ix2 r q := ⟨_, _, eq_ix2 y⟩
  obtain ⟨t, l, rfl⟩ := exists_col q
  rw [block_eq, point_eq m c hr]

end Cert.Proof.AD
-- ==== Proof.AdaClaim.lean ====
/-
  The claims of the modulations' call: its precondition read as "what enters the split product is real", what the reference
  computes, the equality of the two results, and the reference's frame.
-/
module

public import proofs.«01_k».proof.Defs
public import proofs.«01_k».proof.Proof.SbClaim
public import proofs.«01_k».proof.Proof.AdaValue
public import proofs.«01_k».proof.Proof.Gen.AdaReferenceIdeal.Read
public import proofs.«01_k».proof.Proof.Gen.AdaReferenceIdeal.Run

@[expose] public section

set_option maxRecDepth 16384

noncomputable section

open Idealize.ShloMosaic Idealize.ShloMosaic.ValueIdx Idealize.SL.Sem Cert.Proof.Rows

namespace Cert.Proof.AD

/-- The reference's result is every row's product with the added row. -/
theorem ref_eq (cp : Vec Ideal Cert.AdaIdeal.S4x1024 .f32) (cs : Vec Ideal Cert.AdaIdeal.S32x1024 .f32) (w : Vec Ideal Cert.AdaIdeal.S1x1024x6144 .f32)
    (b : Vec Ideal Cert.AdaIdeal.S1x6144 .f32) : Cert.AdaReferenceIdeal.Read.val_main_v7 (F := Ideal) cp cs w b = G cp cs w b := by
  funext y
  obtain ⟨r, q, rfl⟩ : ∃ (r : Fin 40) (q : Fin 6144), y = ix2 r q := ⟨_, _, eq_ix2 y⟩
  refine (Cert.AdaReferenceIdeal.Read.val_main_v7_apply ..).trans (congrArg₂ (· + ·) ?_ ?_)
  · refine (Cert.AdaReferenceIdeal.Read.val_main_v3_apply ..).trans (Finset.sum_congr rfl fun k _ => congrArg₂ (· * ·) ?_ ?_)
    · exact congrArg (rows cp cs) (funext fun a => by match a with | ⟨0, _⟩ => rfl | ⟨1, _⟩ => rfl)
    · refine (congrArg _ ?_).trans (FF.castMat_apply w Cert.AdaIdeal.Gen.shapeCasts_S1x1024x6144_S1024x6144 k q)
      exact funext fun a => by match a with | ⟨0, _⟩ => rfl | ⟨1, _⟩ => rfl
  · rw [Cert.AdaReferenceIdeal.Read.val_main_v6_apply, Cert.AdaReferenceIdeal.Read.val_main_v5_apply, Cert.AdaReferenceIdeal.Read.val_main_v4_apply]
    refine congrArg b (funext fun a => Fin.ext ?_)
    match a with
    | ⟨0, _⟩ => rfl
    | ⟨1, _⟩ => exact Nat.mod_eq_of_lt q.isLt

/-- The facts the precondition's program states. -/
theorem pre_facts : Cert.Pre_finite_ada.Facts := ⟨by decide, by decide, by decide⟩

attribute [local instance] pre_facts

/-- The precondition makes the sequences' rows and the matrix real. -/
theorem reals_of_pre (m : (ℓ : Loc Cert.AdaIdeal.nD Cert.AdaIdeal.τ Cert.AdaIdeal.sig) → Buf (Elt Ideal) ℓ)
    (h : Cert.Pre_AdaIdeal_finite_ada m) (c : Dev Cert.AdaIdeal.nD) : Reals m c := by
  obtain ⟨h0, h1, h2⟩ := h c
  exact ⟨fun i => SB.real_of_lt (congrFun h0 i), fun i => SB.real_of_lt (congrFun h1 i), fun i => SB.real_of_lt (congrFun h2 i)⟩

/-- The kernel's and the reference's results are equal wherever the sequences' rows and the matrix are finite. -/
theorem algebraic : Cert.algebraic_AdaIdeal_AdaReferenceIdeal_pre_finite_ada (hAdaIdeal := Cert.AdaIdeal.Gen.facts)
    (hAdaReferenceIdeal := Cert.AdaReferenceIdeal.Gen.facts) (hPre_finite_ada := pre_facts) := fun m ρ m' ρ' hpre hag => by
  refine ⟨fun c => G (argP m c) (argS m c) (argW m c) (argB m c),
    (θ_run _ _ _).mono (fun _ h c => ⟨(h c).1.trans (final_eq m c (reals_of_pre m hpre c)), (h c).2⟩) (Cert.AdaIdeal.Value.run_blocks m ρ),
    (θ_run _ _ _).mono (fun _ h c => ⟨(h c).1.trans ((Cert.AdaReferenceIdeal.Read.val_main_v7_eq _ _ _ _).trans ?_), (h c).2⟩)
      (Cert.AdaReferenceIdeal.Value.run m' ρ')⟩
  obtain ⟨e0, e1, e2, e3⟩ := hag c
  rw [e0, e1, e2, e3]
  exact ref_eq (argP m c) (argS m c) (argW m c) (argB m c)

/-- The reference runs, keeps its arguments and ends quiescent. -/
theorem frame_ref : Cert.quiescent_AdaReferenceIdeal (hAdaReferenceIdeal := Cert.AdaReferenceIdeal.Gen.facts) := fun m ρ _ =>
  (θ_run Cert.AdaReferenceIdeal.defs _ _).mono
    (fun r h => ⟨fun c => (h c).2, sem_eq_zero_of_no_sems (by decide) r.2⟩)
    (Cert.AdaReferenceIdeal.Value.run (F := Ideal) m ρ)

end Cert.Proof.AD
-- ==== Proof.MergeSampleValue.lean ====
/-
  What the merging call over the sample leaves in its output array: every row of the sample with its merged branches'
  normalised and scaled result added. One grid point takes all rows.
-/
module

public import proofs.«01_k».proof.Proof.FfnSampleValue
public import proofs.«01_k».proof.Proof.MergeBlock
public import proofs.«01_k».proof.Proof.Gen.MergeSampleIdeal.Value

@[expose] public section

set_option maxRecDepth 16384

noncomputable section

open Idealize.ShloMosaic Idealize.ShloMosaic.ValueIdx Idealize.SL.Sem Cert.MergeSampleIdeal Cert.MergeSampleIdeal.Gen Cert.Proof.Rows

namespace Cert.Proof.MS

/-- The call's result, from its arguments as launched: every row on its own, with its sequence's factor. -/
def G (ya yb : Vec Ideal S256x512 .f32) (gt : Vec Ideal S256x2048 .bf16) (x : Vec Ideal S256x1024 .f32) (g : Vec Ideal S32x1024 .f32)
    (n : Vec Ideal S1x1024 .f32) (wa wb : Vec Ideal S1x512x1024 .f32) (wo : Vec Ideal S1x1024x1024 .f32) : Vec Ideal S256x1024 .f32 := fun y =>
  MG.rowOut (fun k => ya (ix2 (y 0) k)) (fun k => yb (ix2 (y 0) k)) (fun k => gt (ix2 (y 0) k)) (fun k => x (ix2 (y 0) k))
    (fun k => g (ix2 (SA.seq (y 0)) k)) (fun k => n (ix2 (0 : Fin 1) k)) (fun k j => wa (ix3 (0 : Fin 1) k j))
    (fun k j => wb (ix3 (0 : Fin 1) k j)) (fun k j => wo (ix3 (0 : Fin 1) k j)) (y 1)

/-! ## The block -/

/-- What the point leaves: the rows with the normalised and scaled merge added. -/
def outBlock (ya yb : Vec Ideal S256x512 .f32) (gt : Vec Ideal S256x2048 .bf16) (x : Vec Ideal S256x1024 .f32) (g : Vec Ideal S1x256x1024 .f32)
    (n : Vec Ideal S1x1024 .f32) (wa wb : Vec Ideal S512x1024 .bf16) (wo : Vec Ideal S1024x1024 .bf16) : FVec Ideal S256x1024 .f32 :=
  addf x (mulf (shapeCast S256x1024 g shapeCasts_S1x256x1024_S256x1024)
    (rmsBlock (M := 256) (N := 1024) (MG.mergedBlock ya yb gt wa wb wo) (shapeCast S1x1024 n shapeCasts_S1x1024_S1x1024)
      reduces_S256x1024_S256 shapeCasts_S256_S256x1 broadcasts_S256x1_S256x1024 broadcasts_S1x1024_S256x1024))

/-- The point's store, over its input blocks, is that block. -/
theorem out_eq (x0 x1 : Vec Ideal S256x512 .f32) (x2 : Vec Ideal S256x2048 .bf16) (x3 : Vec Ideal S256x1024 .f32) (x4 : Vec Ideal S1x256x1024 .f32)
    (x5 : Vec Ideal S1x1024 .f32) (x6 x7 : Vec Ideal S512x1024 .bf16) (x8 : Vec Ideal S1024x1024 .bf16) :
    out0_9 x0 x1 x2 x3 x4 x5 x6 x7 x8 = outBlock x0 x1 x2 x3 x4 x5 x6 x7 x8 := by
  unfold out0_9
  rw [View.canon_cons_unit_zero FF.off2, View.ld_unit_zero FF.off2 _ x0, View.ld_unit_zero FF.off2 _ x1, View.ld_unit_zero FF.off2 _ x3,
    View.ld_unit_zero FF.off3 _ x4, View.ld_unit_zero FF.off2 _ x5, View.ld_unit_zero FF.off2 _ x6, View.ld_unit_zero FF.off2 _ x7, View.ld_unit_zero FF.off2 _ x8]
  rfl

/-- What the point leaves, row by row. -/
theorem outBlock_apply (ya yb : Vec Ideal S256x512 .f32) (gt : Vec Ideal S256x2048 .bf16) (x : Vec Ideal S256x1024 .f32) (g : Vec Ideal S1x256x1024 .f32)
    (n : Vec Ideal S1x1024 .f32) (wa wb : Vec Ideal S512x1024 .bf16) (wo : Vec Ideal S1024x1024 .bf16) (r : Fin 256) (l : Fin 1024) :
    outBlock ya yb gt x g n wa wb wo (ix2 r l) = MG.rowOut (fun k => ya (ix2 r k)) (fun k => yb (ix2 r k)) (fun k => gt (ix2 r k)) (fun k => x (ix2 r k))
      (fun k => g (ix3 (0 : Fin 1) r k)) (fun k => n (ix2 (0 : Fin 1) k)) (fun k j => wa (ix2 k j)) (fun k j => wb (ix2 k j)) (fun k j => wo (ix2 k j)) l := by
  show x (ix2 r l) + shapeCast S256x1024 g _ (ix2 r l) * rmsBlock (M := 256) (N := 1024) _ _ _ _ _ _ (ix2 r l) = _
  rw [rmsBlock_apply (by decide) (by decide), SA.drop_apply]
  simp only [FF.same_apply, MG.merged_apply]
  rfl

/-! ## Where the blocks lie: every array whole -/

theorem rect0_off : ∀ t : Fin grid0.N, (win0_0.rect t).off = ![0, 0] := by decide +kernel
theorem rect1_off : ∀ t : Fin grid0.N, (win0_1.rect t).off = ![0, 0] := by decide +kernel
theorem rect2_off : ∀ t : Fin grid0.N, (win0_2.rect t).off = ![0, 0] := by decide +kernel
theorem rect3_off : ∀ t : Fin grid0.N, (win0_3.rect t).off = ![0, 0] := by decide +kernel
theorem rect4_off : ∀ t : Fin grid0.N, (win0_4.rect t).off = ![0, 0, 0] := by decide +kernel
theorem rect5_off : ∀ t : Fin grid0.N, (win0_5.rect t).off = ![0, 0] := by decide +kernel
theorem rect6_off : ∀ t : Fin grid0.N, (win0_6.rect t).off = ![0, 0] := by decide +kernel
theorem rect7_off : ∀ t : Fin grid0.N, (win0_7.rect t).off = ![0, 0] := by decide +kernel
theorem rect8_off : ∀ t : Fin grid0.N, (win0_8.rect t).off = ![0, 0] := by decide +kernel
theorem rect9_off : ∀ t : Fin grid0.N, (win0_9.rect t).off = ![0, 0] := by decide +kernel

variable (m : (ℓ : Loc nD τ sig) → Buf (Elt Ideal) ℓ) (c : Dev nD)

/-- The arguments as launched: the two branches' rows, -/
def argYa : Vec Ideal S256x512 .f32 := m ((c.tc).loc main_arg0)
def argYb : Vec Ideal S256x512 .f32 := m ((c.tc).loc main_arg1)
/-- the gates, -/
def argGt : Vec Ideal S256x2048 .bf16 := m ((c.tc).loc main_arg2)
/-- the sample's rows, -/
def argX : Vec Ideal S256x1024 .f32 := m ((c.tc).loc main_arg3)
/-- the result's factor, -/
def argG : Vec Ideal S32x1024 .f32 := m ((c.tc).loc main_arg4)
/-- the normalisation's weights, -/
def argN : Vec Ideal S1x1024 .f32 := m ((c.tc).loc main_arg5)
/-- and the three matrices. -/
def argWa : Vec Ideal S1x512x1024 .f32 := m ((c.tc).loc main_arg6)
def argWb : Vec Ideal S1x512x1024 .f32 := m ((c.tc).loc main_arg7)
def argWo : Vec Ideal S1x1024x1024 .f32 := m ((c.tc).loc main_arg8)

/-- The factor as the call finds it, repeated row by row. -/
theorem entry_g (r : Fin 256) (k : Fin 1024) : (V m c main_v8 : Vec Ideal S1x256x1024 .f32) (ix3 (0 : Fin 1) r k) = argG m c (ix2 (SA.seq r) k) :=
  SA.repeated_apply (argG m c) bcast_S32x1024_S32x8x1024_0_2 shapeCasts_S32x8x1024_S256x1024 bcast_S256x1024_S1x256x1024_1_2 r k

/-- The blocks of the point, each its array: the branches' rows, the gates and the sample's rows, -/
theorem iblk0_apply (t : Fin cfg0.N) (r : Fin 256) (k : Fin 512) : (iblk m c 0 t : Vec Ideal S256x512 .f32) (ix2 r k) = argYa m c (ix2 r k) :=
  congrArg (argYa m c) (funext fun a => Fin.ext (FF.origin_eq _ (rect0_off t) r k a))
theorem iblk1_apply (t : Fin cfg0.N) (r : Fin 256) (k : Fin 512) : (iblk m c 1 t : Vec Ideal S256x512 .f32) (ix2 r k) = argYb m c (ix2 r k) :=
  congrArg (argYb m c) (funext fun a => Fin.ext (FF.origin_eq _ (rect1_off t) r k a))
theorem iblk2_apply (t : Fin cfg0.N) (r : Fin 256) (k : Fin 2048) : (iblk m c 2 t : Vec Ideal S256x2048 .bf16) (ix2 r k) = argGt m c (ix2 r k) :=
  congrArg (argGt m c) (funext fun a => Fin.ext (FF.origin_eq _ (rect2_off t) r k a))
theorem iblk3_apply (t : Fin cfg0.N) (r : Fin 256) (k : Fin 1024) : (iblk m c 3 t : Vec Ideal S256x1024 .f32) (ix2 r k) = argX m c (ix2 r k) :=
  congrArg (argX m c) (funext fun a => Fin.ext (FF.origin_eq _ (rect3_off t) r k a))
/-- the factor, -/
theorem iblk4_apply (t : Fin cfg0.N) (r : Fin 256) (k : Fin 1024) : (iblk m c 4 t : Vec Ideal S1x256x1024 .f32) (ix3 (0 : Fin 1) r k) = argG m c (ix2 (SA.seq r) k) :=
  (congrArg (V m c main_v8 : Vec Ideal S1x256x1024 .f32) (funext fun a => Fin.ext (FS.origin3_eq _ (rect4_off t) (0 : Fin 1) r k a))).trans (entry_g m c r k)
/-- the weights and the matrices. -/
theorem iblk5_apply (t : Fin cfg0.N) (k : Fin 1024) : (iblk m c 5 t : Vec Ideal S1x1024 .f32) (ix2 (0 : Fin 1) k) = argN m c (ix2 (0 : Fin 1) k) :=
  (congrArg (V m c main_v10 : Vec Ideal S1x1024 .f32) (funext fun a => Fin.ext (FF.origin_eq _ (rect5_off t) (0 : Fin 1) k a))).trans (FF.weight_apply (argN m c) k)
theorem iblk6_apply (t : Fin cfg0.N) (k : Fin 512) (j : Fin 1024) : (iblk m c 6 t : Vec Ideal S512x1024 .bf16) (ix2 k j) = argWa m c (ix3 (0 : Fin 1) k j) :=
  (congrArg (V m c main_v1 : Vec Ideal S512x1024 .bf16) (funext fun a => Fin.ext (FF.origin_eq _ (rect6_off t) k j a))).trans
    (FF.castMat_apply (argWa m c) shapeCasts_S1x512x1024_S512x1024 k j)
theorem iblk7_apply (t : Fin cfg0.N) (k : Fin 512) (j : Fin 1024) : (iblk m c 7 t : Vec Ideal S512x1024 .bf16) (ix2 k j) = argWb m c (ix3 (0 : Fin 1) k j) :=
  (congrArg (V m c main_v3 : Vec Ideal S512x1024 .bf16) (funext fun a => Fin.ext (FF.origin_eq _ (rect7_off t) k j a))).trans
    (FF.castMat_apply (argWb m c) shapeCasts_S1x512x1024_S512x1024 k j)
theorem iblk8_apply (t : Fin cfg0.N) (k : Fin 1024) (j : Fin 1024) : (iblk m c 8 t : Vec Ideal S1024x1024 .bf16) (ix2 k j) = argWo m c (ix3 (0 : Fin 1) k j) :=
  (congrArg (V m c main_v5 : Vec Ideal S1024x1024 .bf16) (funext fun a => Fin.ext (FF.origin_eq _ (rect8_off t) k j a))).trans
    (FF.castMat_apply (argWo m c) shapeCasts_S1x1024x1024_S1024x1024 k j)

/-- The call's result, from the arguments in memory. -/
def GM : Vec Ideal S256x1024 .f32 :=
  G (argYa m c) (argYb m c) (argGt m c) (argX m c) (argG m c) (argN m c) (argWa m c) (argWb m c) (argWo m c)

/-- What the grid point leaves in the output's staging buffer. -/
def left (t : Fin cfg0.N) : Vec Ideal S256x1024 .f32 :=
  out0_9 (iblk m c 0 t) (iblk m c 1 t) (iblk m c 2 t) (iblk m c 3 t) (iblk m c 4 t) (iblk m c 5 t) (iblk m c 6 t) (iblk m c 7 t) (iblk m c 8 t)

/-- The grid point leaves the result. -/
theorem point_eq (t : Fin cfg0.N) (r : Fin 256) (l : Fin 1024) : left m c t (ix2 r l) = GM m c (ix2 r l) := by
  unfold left
  rw [out_eq, outBlock_apply]
  simp only [iblk0_apply, iblk1_apply, iblk2_apply, iblk3_apply, iblk4_apply m c t r, iblk5_apply, iblk6_apply, iblk7_apply, iblk8_apply]
  rfl

/-- The output array as the call leaves it. -/
def outArr : Vec Ideal S256x1024 .f32 := (dats m 0 c).arrAt 9 cfg0.N

/-- The output array is what the grid point left. -/
theorem block_eq (t : Fin cfg0.N) (r : Fin 256) (l : Fin 1024) : outArr m c (ix2 r l) = left m c t (ix2 r l) := by
  have p : ix2 r l = (win0_9.rect t).emb (ix2 r l) := (funext fun a => Fin.ext (FF.origin_eq _ (rect9_off t) r l a)).symm
  have e := congrFun (Cert.MergeSampleIdeal.Value.blocks9 m c t (flush0_9 t)) (ix2 r l)
  rw [Cert.MergeSampleIdeal.Value.flushed9] at e
  exact (congrArg (outArr m c) p).trans e

/-- The call leaves the merge of its arguments. -/
theorem final_eq : outArr m c = GM m c := by
  funext y
  obtain ⟨s, l, rfl⟩ : ∃ (s : Fin 256) (l : Fin 1024), y = ix2 s l := ⟨_, _, eq_ix2 y⟩
  exact (block_eq m c ⟨0, by decide⟩ s l).trans (point_eq m c _ s l)

end Cert.Proof.MS
-- ==== Proof.MergeSampleRef.lean ====
/-
  What the sample's merging reference computes, row by row: the same function of a row of the branches, of its gates and
  of the stream, of its sequence's factor and of the weights.
-/
module

public import proofs.«01_k».proof.Proof.MergeSampleValue
public import proofs.«01_k».proof.Proof.MergeRef
public import proofs.«01_k».proof.Proof.Gen.MergeSampleReferenceIdeal.Read

@[expose] public section

set_option maxRecDepth 16384

noncomputable section

open Idealize.ShloMosaic Idealize.ShloMosaic.ValueIdx Idealize.SL.Sem Cert.MergeSampleReferenceIdeal Cert.MergeSampleReferenceIdeal.Gen
open Cert.MergeSampleReferenceIdeal.Read Cert.Proof.Rows Cert.Proof.SA

namespace Cert.Proof.MS

variable (ya yb : Vec Ideal S256x512 .f32) (gt : Vec Ideal S256x2048 .bf16) (x : Vec Ideal S256x1024 .f32) (g : Vec Ideal S32x1024 .f32)
  (n : Vec Ideal S1x1024 .f32) (wa wb : Vec Ideal S1x512x1024 .f32) (wo : Vec Ideal S1x1024x1024 .f32) (s : Fin 256)

/-- The two halves of the gates, sequence by sequence. -/
theorem gateA_row (l : Fin 1024) : val_main_v5 (F := Ideal) gt (ix3 (seq s) (pos s) l) = gt (ix2 s (⟨0 + l.val, by omega⟩ : Fin 2048)) := by
  refine (val_main_v5_apply _ _).trans ((congrArg _ (funext fun a => Fin.ext ?_)).trans
    (unflat_apply (e := .bf16) gt shapeCasts_S256x2048_S32x8x2048 s (⟨0 + l.val, by omega⟩ : Fin 2048)))
  match a with | ⟨0, _⟩ => rfl | ⟨1, _⟩ => rfl | ⟨2, _⟩ => show l.val = 0 + l.val; omega
theorem gateB_row (l : Fin 1024) : val_main_v6 (F := Ideal) gt (ix3 (seq s) (pos s) l) = gt (ix2 s (⟨1024 + l.val, by omega⟩ : Fin 2048)) := by
  refine (val_main_v6_apply _ _).trans ((congrArg _ (funext fun a => Fin.ext ?_)).trans
    (unflat_apply (e := .bf16) gt shapeCasts_S256x2048_S32x8x2048 s (⟨1024 + l.val, by omega⟩ : Fin 2048)))
  match a with | ⟨0, _⟩ => rfl | ⟨1, _⟩ => rfl | ⟨2, _⟩ => show _ = 1024 + l.val; first | rfl | exact Nat.add_comm ..

/-- The reference's branches through their matrices. -/
theorem branchA_apply (l : Fin 1024) : val_main_v8 (F := Ideal) ya wa (ix3 (seq s) (pos s) l)
    = rowMul (fun k => ya (ix2 s k)) (fun k j => wa (ix3 (0 : Fin 1) k j)) l := by
  refine (val_main_v8_apply ..).trans (Finset.sum_congr rfl fun k _ => ?_)
  refine congrArg₂ (· * ·) ((congrArg _ ?_).trans (unflat_apply (e := .f32) ya shapeCasts_S256x512_S32x8x512 s k)) ((congrArg _ ?_).trans (MG.wa_apply wa k l))
  · exact funext fun a => by match a with | ⟨0, _⟩ => rfl | ⟨1, _⟩ => rfl | ⟨2, _⟩ => rfl
  · exact funext fun a => by match a with | ⟨0, _⟩ => rfl | ⟨1, _⟩ => rfl
theorem branchB_apply (l : Fin 1024) : val_main_v11 (F := Ideal) yb wb (ix3 (seq s) (pos s) l)
    = rowMul (fun k => yb (ix2 s k)) (fun k j => wb (ix3 (0 : Fin 1) k j)) l := branchA_apply yb wb s l

/-- A row of the reference's sum of the branches under their gates. -/
def mixedRow : Fin 1024 → EReal :=
  MG.mixed (fun k => ya (ix2 s k)) (fun k => yb (ix2 s k)) (fun k => gt (ix2 s k)) (fun k j => wa (ix3 (0 : Fin 1) k j)) (fun k j => wb (ix3 (0 : Fin 1) k j))

theorem mixed_apply (l : Fin 1024) : val_main_v13 (F := Ideal) ya yb gt wa wb (ix3 (seq s) (pos s) l) = mixedRow ya yb gt wa wb s l := by
  show val_main_v5 (F := Ideal) gt (ix3 (seq s) (pos s) l) * val_main_v8 (F := Ideal) ya wa (ix3 (seq s) (pos s) l)
    + val_main_v6 (F := Ideal) gt (ix3 (seq s) (pos s) l) * val_main_v11 (F := Ideal) yb wb (ix3 (seq s) (pos s) l) = _
  rw [gateA_row, gateB_row, branchA_apply, branchB_apply]
  rfl

/-- The reference's merged branches. -/
theorem merged_row (l : Fin 1024) : val_main_v16 (F := Ideal) ya yb gt wa wb wo (ix3 (seq s) (pos s) l)
    = rowMul (mixedRow ya yb gt wa wb s) (fun k j => wo (ix3 (0 : Fin 1) k j)) l := by
  refine (val_main_v16_apply ..).trans (Finset.sum_congr rfl fun k _ => ?_)
  refine congrArg₂ (· * ·) ((congrArg _ ?_).trans (mixed_apply ya yb gt wa wb s k)) ((congrArg _ ?_).trans (MG.wo_apply wo k l))
  · exact funext fun a => by match a with | ⟨0, _⟩ => rfl | ⟨1, _⟩ => rfl | ⟨2, _⟩ => rfl
  · exact funext fun a => by match a with | ⟨0, _⟩ => rfl | ⟨1, _⟩ => rfl

/-- The reference's result, a row at a time. -/
theorem result_apply (l : Fin 1024) : val_main_v33 (F := Ideal) ya yb gt x g n wa wb wo (ix3 (seq s) (pos s) l)
    = G ya yb gt x g n wa wb wo (ix2 s l) := by
  show val_main_v2 (F := Ideal) x (ix3 (seq s) (pos s) l) + val_main_v31 (F := Ideal) g (ix3 (seq s) (pos s) l)
    * val_main_v30 (F := Ideal) ya yb gt n wa wb wo (ix3 (seq s) (pos s) l) = _
  have e := rmsHost_apply (val_main_v16 (F := Ideal) ya yb gt wa wb wo) (val_main_v17 (F := Ideal) n) reducesTo_S32x8x1024_S32x8_d2 (by decide) h_S_
    bcast_S32x8_S32x8x1_0_1 bcast_S_S32x8x1 bcast_S32x8x1_S32x8x1024_0_1_2 bcast_S1024_S1x1x1024_2 bcast_S1x1x1024_S32x8x1024_0_1_2 (seq s) (pos s) l
  have e2 := mods_apply (val_main_v14 (F := Ideal) g) bcast_S32x1x1024_S32x8x1024_0_1_2 (seq s) (pos s) l
  have e3 := lifted_apply g bcast_S32x1024_S32x1x1024_0_2 (seq s) l
  refine congrArg₂ (· + ·) (unflat_apply (e := .f32) x shapeCasts_S256x1024_S32x8x1024 s l) (congrArg₂ (· * ·) (e2.trans e3) (e.trans ?_))
  simp only [merged_row]
  exact congrArg (fun f => rms _ f l) (funext fun k => FF.n1_apply n k)

/-- The reference computes the merge of its arguments. -/
theorem ref_eq : val_main_v34 (F := Ideal) ya yb gt x g n wa wb wo = G ya yb gt x g n wa wb wo := by
  funext y
  obtain ⟨s, l, rfl⟩ : ∃ (s : Fin 256) (l : Fin 1024), y = ix2 s l := ⟨_, _, eq_ix2 y⟩
  exact (flat_apply (e := .f32) (val_main_v33 (F := Ideal) ya yb gt x g n wa wb wo) shapeCasts_S32x8x1024_S256x1024 s l).trans
    (result_apply ya yb gt x g n wa wb wo s l)

end Cert.Proof.MS
-- ==== Proof.MergeSampleClaim.lean ====
/-
  The claims of the sample's merging call: the equality of the kernel's and the reference's results, and the reference's frame.
-/
module

public import proofs.«01_k».proof.Defs
public import proofs.«01_k».proof.Proof.MergeSampleRef
public import proofs.«01_k».proof.Proof.Gen.MergeSampleReferenceIdeal.Run

@[expose] public section

set_option maxRecDepth 16384

noncomputable section

open Idealize.ShloMosaic Idealize.ShloMosaic.ValueIdx Idealize.SL.Sem

namespace Cert.Proof.MS

/-- The kernel's and the reference's results are equal, whatever the arguments. -/
theorem algebraic : Cert.algebraic_MergeSampleIdeal_MergeSampleReferenceIdeal (hMergeSampleIdeal := Cert.MergeSampleIdeal.Gen.facts)
    (hMergeSampleReferenceIdeal := Cert.MergeSampleReferenceIdeal.Gen.facts) := fun m ρ m' ρ' _ hag =>
  ⟨fun c => GM m c,
    (θ_run _ _ _).mono (fun _ h c => ⟨(h c).1.trans (by exact final_eq m c), (h c).2⟩) (Cert.MergeSampleIdeal.Value.run_blocks m ρ),
    (θ_run _ _ _).mono (fun _ h c => ⟨(h c).1.trans (by
        obtain ⟨e0, e1, e2, e3, e4, e5, e6, e7, e8⟩ := hag c
        rw [Cert.MergeSampleReferenceIdeal.Read.val_main_v34_eq, e0, e1, e2, e3, e4, e5, e6, e7, e8]
        exact ref_eq (argYa m c) (argYb m c) (argGt m c) (argX m c) (argG m c) (argN m c) (argWa m c) (argWb m c) (argWo m c)), (h c).2⟩)
      (Cert.MergeSampleReferenceIdeal.Value.run m' ρ')⟩

/-- The reference runs, keeps its arguments and ends quiescent. -/
theorem frame_ref : Cert.quiescent_MergeSampleReferenceIdeal (hMergeSampleReferenceIdeal := Cert.MergeSampleReferenceIdeal.Gen.facts) := fun m ρ _ =>
  (θ_run Cert.MergeSampleReferenceIdeal.defs _ _).mono (fun r h => ⟨fun c => (h c).2, sem_eq_zero_of_no_sems (by decide) r.2⟩)
    (Cert.MergeSampleReferenceIdeal.Value.run (F := Ideal) m ρ)

end Cert.Proof.MS
-- ==== Proof.lean ====
/- The proof of the claims stated in Defs.lean: every program's frames and the idealization of its kernel, and the equality of
   each call with its reference (the modules whose names end in Claim). -/
module

public import proofs.«01_k».proof.Defs
public import proofs.«01_k».proof.Proof.SbClaim
public import proofs.«01_k».proof.Proof.FfnClaim
public import proofs.«01_k».proof.Proof.InprojClaim
public import proofs.«01_k».proof.Proof.MergeClaim
public import proofs.«01_k».proof.Proof.FfnSampleClaim
public import proofs.«01_k».proof.Proof.InprojSampleClaim
public import proofs.«01_k».proof.Proof.AdaClaim
public import proofs.«01_k».proof.Proof.MergeSampleClaim
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.Gen.FfnIdeal.Value
public import proofs.«01_k».proof.Proof.Gen.FfnReferenceIdeal.Read
public import proofs.«01_k».proof.Proof.Gen.FfnReferenceIdeal.Run
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojIdeal.Value
public import proofs.«01_k».proof.Proof.Gen.InprojReferenceIdeal
public import proofs.«01_k».proof.Proof.Gen.InprojReferenceIdeal.Read
public import proofs.«01_k».proof.Proof.Gen.InprojReferenceIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Read
public import proofs.«01_k».proof.Proof.Gen.MergeReferenceIdeal.Run
public import proofs.«01_k».proof.Proof.Gen.FfnSample.Frame
public import proofs.«01_k».proof.Proof.Gen.FfnSampleIdeal.Skeleton
public import proofs.«01_k».proof.Proof.Gen.FfnSampleIdeal.Launch
public import proofs.«01_k».proof.Proof.Gen.FfnSampleIdeal.Points
public import proofs.«01_k».proof.Proof.Gen.FfnSampleIdeal.Frame
public import proofs.«01_k».proof.Proof.Gen.FfnSampleIdeal.Value
public import proofs.«01_k».proof.Proof.Gen.FfnSampleReferenceIdeal.Read
public import proofs.«01_k».proof.Proof.Gen.FfnSampleReferenceIdeal.Run
public import proofs.«01_k».proof.Proof.Gen.InprojSample.Frame
public import proofs.«01_k».proof.Proof.Gen.InprojSampleIdeal.Skeleton
public import proofs.«01_k».proof.Proof.Gen.InprojSampleIdeal.Launch
public import proofs.«01_k».proof.Proof.Gen.InprojSampleIdeal.Points
public import proofs.«01_k».proof.Proof.Gen.InprojSampleIdeal.Frame
public import proofs.«01_k».proof.Proof.Gen.InprojSampleIdeal.Value
public import proofs.«01_k».proof.Proof.Gen.InprojSampleReferenceIdeal.Read
public import proofs.«01_k».proof.Proof.Gen.InprojSampleReferenceIdeal.Run
public import proofs.«01_k».proof.Proof.Gen.Ada.Frame
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaIdeal.Value
public import proofs.«01_k».proof.Proof.Gen.AdaReferenceIdeal.Read
public import proofs.«01_k».proof.Proof.Gen.AdaReferenceIdeal.Run
public import proofs.«01_k».proof.Proof.Gen.MergeSample.Frame
public import proofs.«01_k».proof.Proof.Gen.MergeSampleIdeal.Skeleton
public import proofs.«01_k».proof.Proof.Gen.MergeSampleIdeal.Launch
public import proofs.«01_k».proof.Proof.Gen.MergeSampleIdeal.Points
public import proofs.«01_k».proof.Proof.Gen.MergeSampleIdeal.Frame
public import proofs.«01_k».proof.Proof.Gen.MergeSampleIdeal.Value
public import proofs.«01_k».proof.Proof.Gen.MergeSampleReferenceIdeal.Read
public import proofs.«01_k».proof.Proof.Gen.MergeSampleReferenceIdeal.Run
public import Idealize.ShloMosaic.Adequacy
public import Idealize.ShloMosaic.Init

@[expose] public section

noncomputable section

namespace Cert.Proof

open Idealize.ShloMosaic Idealize.SL.Sem Cert.Kernel

/-- Everything claimed, proved. -/
theorem claim : Cert.Claim :=
  ⟨Cert.Kernel.Gen.facts, Cert.KernelIdeal.Gen.facts, Cert.ReferenceIdeal.Gen.facts,
    Cert.Ffn.Gen.facts, Cert.FfnIdeal.Gen.facts, Cert.FfnReferenceIdeal.Gen.facts,
    Cert.Inproj.Gen.facts, Cert.InprojIdeal.Gen.facts, Cert.InprojReferenceIdeal.Gen.facts,
    Cert.Merge.Gen.facts, Cert.MergeIdeal.Gen.facts, Cert.MergeReferenceIdeal.Gen.facts,
    Cert.FfnSample.Gen.facts, Cert.FfnSampleIdeal.Gen.facts, Cert.FfnSampleReferenceIdeal.Gen.facts,
    Cert.InprojSample.Gen.facts, Cert.InprojSampleIdeal.Gen.facts, Cert.InprojSampleReferenceIdeal.Gen.facts,
    Cert.Ada.Gen.facts, Cert.AdaIdeal.Gen.facts, Cert.AdaReferenceIdeal.Gen.facts,
    Cert.MergeSample.Gen.facts, Cert.MergeSampleIdeal.Gen.facts, Cert.MergeSampleReferenceIdeal.Gen.facts,
    SB.pre_facts, IN.pre_facts, IS.pre_facts, AD.pre_facts,
    fun m ρ _ => Cert.Kernel.Gen.frame m ρ, fun m ρ _ => Cert.KernelIdeal.Gen.frame m ρ, fun m ρ _ => Cert.KernelIdeal.Gen.frame m ρ,
    SB.frame_ref, fun m ρ _ => SB.frame_ref m ρ trivial,
    fun m ρ _ => Cert.Ffn.Gen.frame m ρ, fun m ρ _ => Cert.FfnIdeal.Gen.frame m ρ, FF.frame_ref,
    fun m ρ _ => Cert.Inproj.Gen.frame m ρ, fun m ρ _ => Cert.InprojIdeal.Gen.frame m ρ, fun m ρ _ => Cert.InprojIdeal.Gen.frame m ρ,
    IN.frame_ref, fun m ρ _ => IN.frame_ref m ρ trivial,
    fun m ρ _ => Cert.Merge.Gen.frame m ρ, fun m ρ _ => Cert.MergeIdeal.Gen.frame m ρ, MG.frame_ref,
    fun m ρ _ => Cert.FfnSample.Gen.frame m ρ, fun m ρ _ => Cert.FfnSampleIdeal.Gen.frame m ρ, FS.frame_ref,
    fun m ρ _ => Cert.InprojSample.Gen.frame m ρ, fun m ρ _ => Cert.InprojSampleIdeal.Gen.frame m ρ, fun m ρ _ => Cert.InprojSampleIdeal.Gen.frame m ρ,
    IS.frame_ref, fun m ρ _ => IS.frame_ref m ρ trivial,
    fun m ρ _ => Cert.Ada.Gen.frame m ρ, fun m ρ _ => Cert.AdaIdeal.Gen.frame m ρ, fun m ρ _ => Cert.AdaIdeal.Gen.frame m ρ,
    AD.frame_ref, fun m ρ _ => AD.frame_ref m ρ trivial,
    fun m ρ _ => Cert.MergeSample.Gen.frame m ρ, fun m ρ _ => Cert.MergeSampleIdeal.Gen.frame m ρ, MS.frame_ref,
    trivial, SB.algebraic, trivial, FF.algebraic, trivial, IN.algebraic, trivial, MG.algebraic,
    trivial, FS.algebraic, trivial, IS.algebraic, trivial, AD.algebraic, trivial, MS.algebraic⟩

end Cert.Proof

end
